-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulReferenceIdeal (m : (ℓ : Loc Cert.ModulReferenceIdeal.nD Cert.ModulReferenceIdeal.τ Cert.ModulReferenceIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_ctx_finite [hPre_ctx_finite : Cert.Pre_ctx_finite.Facts] (m : (ℓ : Loc Cert.CtxIdeal.nD Cert.CtxIdeal.τ Cert.CtxIdeal.sig) → Buf (Elt Ideal) ℓ) : Prop :=
  ∀ c : Dev Cert.CtxIdeal.nD,
    (Cert.Pre_ctx_finite.fn (F := Ideal) (m ((c.tc : Thread Cert.CtxIdeal.nD Cert.CtxIdeal.τ).loc Cert.CtxIdeal.main_arg0))) = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_ctx_finite [hPre_ctx_finite : Cert.Pre_ctx_finite.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_ctx_finite.fn (F := Ideal) (m ((c.tc : Thread Cert.CtxReferenceIdeal.nD Cert.CtxReferenceIdeal.τ).loc Cert.CtxReferenceIdeal.main_arg0))) = (fun _ => 1#1)

def Pre_Dft (m : (ℓ : Loc Cert.Dft.nD Cert.Dft.τ Cert.Dft.sig) → Buf (Elt Bits) ℓ) : Prop :=
  True

def Pre_DftIdeal (m : (ℓ : Loc Cert.DftIdeal.nD Cert.DftIdeal.τ Cert.DftIdeal.sig) → Buf (Elt Ideal) ℓ) : Prop :=
  True

def Pre_DftReferenceIdeal (m : (ℓ : Loc Cert.DftReferenceIdeal.nD Cert.DftReferenceIdeal.τ Cert.DftReferenceIdeal.sig) → Buf (Elt Ideal) ℓ) : Prop :=
  True

def Pre_MergeFirst (m : (ℓ : Loc Cert.MergeFirst.nD Cert.MergeFirst.τ Cert.MergeFirst.sig) → Buf (Elt Bits) ℓ) : Prop :=
  True

def Pre_MergeFirstIdeal (m : (ℓ : Loc Cert.MergeFirstIdeal.nD Cert.MergeFirstIdeal.τ Cert.MergeFirstIdeal.sig) → Buf (Elt Ideal) ℓ) : Prop :=
  True

def Pre_MergeFirstReferenceIdeal (m : (ℓ : Loc Cert.MergeFirstReferenceIdeal.nD Cert.MergeFirstReferenceIdeal.τ Cert.MergeFirstReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def quiescent_ModulReferenceIdeal [hModulReferenceIdeal : Cert.ModulReferenceIdeal.Facts] : Prop :=
  ∀ (m : (ℓ : Loc Cert.ModulReferenceIdeal.nD Cert.ModulReferenceIdeal.τ Cert.ModulReferenceIdeal.sig) → Buf (Elt Ideal) ℓ) (g : Dev Cert.ModulReferenceIdeal.nD → PrngReg), Pre_ModulReferenceIdeal m →
    θ_run (Cert.ModulReferenceIdeal.defs (F := Ideal)) (onTc (τ := Cert.ModulReferenceIdeal.τ) (Cert.ModulReferenceIdeal.main (F := Ideal))) ⟨m, fun _ => 0, g⟩ (fun r => (∀ c : Dev Cert.ModulReferenceIdeal.nD,
      r.2.mem ((c.tc : Thread Cert.ModulReferenceIdeal.nD Cert.ModulReferenceIdeal.τ).loc Cert.ModulReferenceIdeal.main_arg0) = m ((c.tc : Thread Cert.ModulReferenceIdeal.nD Cert.ModulReferenceIdeal.τ).loc Cert.ModulReferenceIdeal.main_arg0)
      ∧ r.2.mem ((c.tc : Thread Cert.ModulReferenceIdeal.nD Cert.ModulReferenceIdeal.τ).loc Cert.ModulReferenceIdeal.main_arg1) = m ((c.tc : Thread Cert.ModulReferenceIdeal.nD Cert.ModulReferenceIdeal.τ).loc Cert.ModulReferenceIdeal.main_arg1)
      ∧ r.2.mem ((c.tc : Thread Cert.ModulReferenceIdeal.nD Cert.ModulReferenceIdeal.τ).loc Cert.ModulReferenceIdeal.main_arg2) = m ((c.tc : Thread Cert.ModulReferenceIdeal.nD Cert.ModulReferenceIdeal.τ).loc Cert.ModulReferenceIdeal.main_arg2))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxIdeal_pre_ctx_finite [hCtxIdeal : Cert.CtxIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_ctx_finite m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0))
      ∧ r.2.sem = fun _ => 0)

def quiescent_CtxReferenceIdeal_pre_ctx_finite [hCtxReferenceIdeal : Cert.CtxReferenceIdeal.Facts] [hPre_ctx_finite : Cert.Pre_ctx_finite.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_ctx_finite m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0))
      ∧ r.2.sem = fun _ => 0)

def quiescent_Dft [hDft : Cert.Dft.Facts] : Prop :=
  ∀ (m : (ℓ : Loc Cert.Dft.nD Cert.Dft.τ Cert.Dft.sig) → Buf (Elt Bits) ℓ) (g : Dev Cert.Dft.nD → PrngReg), Pre_Dft m →
    θ_run (Cert.Dft.defs (F := Bits)) (onTc (τ := Cert.Dft.τ) (Cert.Dft.main (F := Bits))) ⟨m, fun _ => 0, g⟩ (fun r => (∀ c : Dev Cert.Dft.nD,
      r.2.mem ((c.tc : Thread Cert.Dft.nD Cert.Dft.τ).loc Cert.Dft.main_arg0) = m ((c.tc : Thread Cert.Dft.nD Cert.Dft.τ).loc Cert.Dft.main_arg0)
      ∧ r.2.mem ((c.tc : Thread Cert.Dft.nD Cert.Dft.τ).loc Cert.Dft.main_arg1) = m ((c.tc : Thread Cert.Dft.nD Cert.Dft.τ).loc Cert.Dft.main_arg1)
      ∧ r.2.mem ((c.tc : Thread Cert.Dft.nD Cert.Dft.τ).loc Cert.Dft.main_arg2) = m ((c.tc : Thread Cert.Dft.nD Cert.Dft.τ).loc Cert.Dft.main_arg2)
      ∧ r.2.mem ((c.tc : Thread Cert.Dft.nD Cert.Dft.τ).loc Cert.Dft.main_arg3) = m ((c.tc : Thread Cert.Dft.nD Cert.Dft.τ).loc Cert.Dft.main_arg3))
      ∧ r.2.sem = fun _ => 0)

def quiescent_DftIdeal [hDftIdeal : Cert.DftIdeal.Facts] : Prop :=
  ∀ (m : (ℓ : Loc Cert.DftIdeal.nD Cert.DftIdeal.τ Cert.DftIdeal.sig) → Buf (Elt Ideal) ℓ) (g : Dev Cert.DftIdeal.nD → PrngReg), Pre_DftIdeal m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0)
      ∧ r.2.mem ((c.tc : Thread Cert.DftIdeal.nD Cert.DftIdeal.τ).loc Cert.DftIdeal.main_arg1) = m ((c.tc : Thread Cert.DftIdeal.nD Cert.DftIdeal.τ).loc Cert.DftIdeal.main_arg1)
      ∧ r.2.mem ((c.tc : Thread Cert.DftIdeal.nD Cert.DftIdeal.τ).loc Cert.DftIdeal.main_arg2) = m ((c.tc : Thread Cert.DftIdeal.nD Cert.DftIdeal.τ).loc Cert.DftIdeal.main_arg2)
      ∧ r.2.mem ((c.tc : Thread Cert.DftIdeal.nD Cert.DftIdeal.τ).loc Cert.DftIdeal.main_arg3) = m ((c.tc : Thread Cert.DftIdeal.nD Cert.DftIdeal.τ).loc Cert.DftIdeal.main_arg3))
      ∧ r.2.sem = fun _ => 0)

def quiescent_DftReferenceIdeal [hDftReferenceIdeal : Cert.DftReferenceIdeal.Facts] : Prop :=
  ∀ (m : (ℓ : Loc Cert.DftReferenceIdeal.nD Cert.DftReferenceIdeal.τ Cert.DftReferenceIdeal.sig) → Buf (Elt Ideal) ℓ) (g : Dev Cert.DftReferenceIdeal.nD → PrngReg), Pre_DftReferenceIdeal m →
    θ_run (Cert.DftReferenceIdeal.defs (F := Ideal)) (onTc (τ := Cert.DftReferenceIdeal.τ) (Cert.DftReferenceIdeal.main (F := Ideal))) ⟨m, fun _ => 0, g⟩ (fun r => (∀ c : Dev Cert.DftReferenceIdeal.nD,
      r.2.mem ((c.tc : Thread Cert.DftReferenceIdeal.nD Cert.DftReferenceIdeal.τ).loc Cert.DftReferenceIdeal.main_arg0) = m ((c.tc : Thread Cert.DftReferenceIdeal.nD Cert.DftReferenceIdeal.τ).loc Cert.DftReferenceIdeal.main_arg0)
      ∧ r.2.mem ((c.tc : Thread Cert.DftReferenceIdeal.nD Cert.DftReferenceIdeal.τ).loc Cert.DftReferenceIdeal.main_arg1) = m ((c.tc : Thread Cert.DftReferenceIdeal.nD Cert.DftReferenceIdeal.τ).loc Cert.DftReferenceIdeal.main_arg1)
      ∧ r.2.mem ((c.tc : Thread Cert.DftReferenceIdeal.nD Cert.DftReferenceIdeal.τ).loc Cert.DftReferenceIdeal.main_arg2) = m ((c.tc : Thread Cert.DftReferenceIdeal.nD Cert.DftReferenceIdeal.τ).loc Cert.DftReferenceIdeal.main_arg2)
      ∧ r.2.mem ((c.tc : Thread Cert.DftReferenceIdeal.nD Cert.DftReferenceIdeal.τ).loc Cert.DftReferenceIdeal.main_arg3) = m ((c.tc : Thread Cert.DftReferenceIdeal.nD Cert.DftReferenceIdeal.τ).loc Cert.DftReferenceIdeal.main_arg3))
      ∧ r.2.sem = fun _ => 0)

def quiescent_MergeFirst [hMergeFirst : Cert.MergeFirst.Facts] : Prop :=
  ∀ (m : (ℓ : Loc Cert.MergeFirst.nD Cert.MergeFirst.τ Cert.MergeFirst.sig) → Buf (Elt Bits) ℓ) (g : Dev Cert.MergeFirst.nD → PrngReg), Pre_MergeFirst m →
    θ_run (Cert.MergeFirst.defs (F := Bits)) (onTc (τ := Cert.MergeFirst.τ) (Cert.MergeFirst.main (F := Bits))) ⟨m, fun _ => 0, g⟩ (fun r => (∀ c : Dev Cert.MergeFirst.nD,
      r.2.mem ((c.tc : Thread Cert.MergeFirst.nD Cert.MergeFirst.τ).loc Cert.MergeFirst.main_arg0) = m ((c.tc : Thread Cert.MergeFirst.nD Cert.MergeFirst.τ).loc Cert.MergeFirst.main_arg0)
      ∧ r.2.mem ((c.tc : Thread Cert.MergeFirst.nD Cert.MergeFirst.τ).loc Cert.MergeFirst.main_arg1) = m ((c.tc : Thread Cert.MergeFirst.nD Cert.MergeFirst.τ).loc Cert.MergeFirst.main_arg1)
      ∧ r.2.mem ((c.tc : Thread Cert.MergeFirst.nD Cert.MergeFirst.τ).loc Cert.MergeFirst.main_arg2) = m ((c.tc : Thread Cert.MergeFirst.nD Cert.MergeFirst.τ).loc Cert.MergeFirst.main_arg2)
      ∧ r.2.mem ((c.tc : Thread Cert.MergeFirst.nD Cert.MergeFirst.τ).loc Cert.MergeFirst.main_arg3) = m ((c.tc : Thread Cert.MergeFirst.nD Cert.MergeFirst.τ).loc Cert.MergeFirst.main_arg3)
      ∧ r.2.mem ((c.tc : Thread Cert.MergeFirst.nD Cert.MergeFirst.τ).loc Cert.MergeFirst.main_arg4) = m ((c.tc : Thread Cert.MergeFirst.nD Cert.MergeFirst.τ).loc Cert.MergeFirst.main_arg4)
      ∧ r.2.mem ((c.tc : Thread Cert.MergeFirst.nD Cert.MergeFirst.τ).loc Cert.MergeFirst.main_arg5) = m ((c.tc : Thread Cert.MergeFirst.nD Cert.MergeFirst.τ).loc Cert.MergeFirst.main_arg5)
      ∧ r.2.mem ((c.tc : Thread Cert.MergeFirst.nD Cert.MergeFirst.τ).loc Cert.MergeFirst.main_arg6) = m ((c.tc : Thread Cert.MergeFirst.nD Cert.MergeFirst.τ).loc Cert.MergeFirst.main_arg6)
      ∧ r.2.mem ((c.tc : Thread Cert.MergeFirst.nD Cert.MergeFirst.τ).loc Cert.MergeFirst.main_arg7) = m ((c.tc : Thread Cert.MergeFirst.nD Cert.MergeFirst.τ).loc Cert.MergeFirst.main_arg7)
      ∧ r.2.mem ((c.tc : Thread Cert.MergeFirst.nD Cert.MergeFirst.τ).loc Cert.MergeFirst.main_arg8) = m ((c.tc : Thread Cert.MergeFirst.nD Cert.MergeFirst.τ).loc Cert.MergeFirst.main_arg8)
      ∧ r.2.mem ((c.tc : Thread Cert.MergeFirst.nD Cert.MergeFirst.τ).loc Cert.MergeFirst.main_arg9) = m ((c.tc : Thread Cert.MergeFirst.nD Cert.MergeFirst.τ).loc Cert.MergeFirst.main_arg9)
      ∧ r.2.mem ((c.tc : Thread Cert.MergeFirst.nD Cert.MergeFirst.τ).loc Cert.MergeFirst.main_arg10) = m ((c.tc : Thread Cert.MergeFirst.nD Cert.MergeFirst.τ).loc Cert.MergeFirst.main_arg10)
      ∧ r.2.mem ((c.tc : Thread Cert.MergeFirst.nD Cert.MergeFirst.τ).loc Cert.MergeFirst.main_arg11) = m ((c.tc : Thread Cert.MergeFirst.nD Cert.MergeFirst.τ).loc Cert.MergeFirst.main_arg11)
      ∧ r.2.mem ((c.tc : Thread Cert.MergeFirst.nD Cert.MergeFirst.τ).loc Cert.MergeFirst.main_arg12) = m ((c.tc : Thread Cert.MergeFirst.nD Cert.MergeFirst.τ).loc Cert.MergeFirst.main_arg12)
      ∧ r.2.mem ((c.tc : Thread Cert.MergeFirst.nD Cert.MergeFirst.τ).loc Cert.MergeFirst.main_arg13) = m ((c.tc : Thread Cert.MergeFirst.nD Cert.MergeFirst.τ).loc Cert.MergeFirst.main_arg13)
      ∧ r.2.mem ((c.tc : Thread Cert.MergeFirst.nD Cert.MergeFirst.τ).loc Cert.MergeFirst.main_arg14) = m ((c.tc : Thread Cert.MergeFirst.nD Cert.MergeFirst.τ).loc Cert.MergeFirst.main_arg14))
      ∧ r.2.sem = fun _ => 0)

def quiescent_MergeFirstIdeal [hMergeFirstIdeal : Cert.MergeFirstIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg), Pre_MergeFirstIdeal m →
    θ_run (Cert.MergeFirstIdeal.defs (F := Ideal)) (onTc (τ := Cert.MergeFirstIdeal.τ) (Cert.MergeFirstIdeal.main (F := Ideal))) ⟨m, fun _ => 0, g⟩ (fun r => (∀ c : Dev Cert.MergeFirstIdeal.nD,
      r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
      ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
      ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
      ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
      ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
      ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
      ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
      ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7)
      ∧ r.2.mem ((c.tc : Thread Cert.MergeFirstIdeal.nD Cert.MergeFirstIdeal.τ).loc Cert.MergeFirstIdeal.main_arg8) = m ((c.tc : Thread Cert.MergeFirstIdeal.nD Cert.MergeFirstIdeal.τ).loc Cert.MergeFirstIdeal.main_arg8)
      ∧ r.2.mem ((c.tc : Thread Cert.MergeFirstIdeal.nD Cert.MergeFirstIdeal.τ).loc Cert.MergeFirstIdeal.main_arg9) = m ((c.tc : Thread Cert.MergeFirstIdeal.nD Cert.MergeFirstIdeal.τ).loc Cert.MergeFirstIdeal.main_arg9)
      ∧ r.2.mem ((c.tc : Thread Cert.MergeFirstIdeal.nD Cert.MergeFirstIdeal.τ).loc Cert.MergeFirstIdeal.main_arg10) = m ((c.tc : Thread Cert.MergeFirstIdeal.nD Cert.MergeFirstIdeal.τ).loc Cert.MergeFirstIdeal.main_arg10)
      ∧ r.2.mem ((c.tc : Thread Cert.MergeFirstIdeal.nD Cert.MergeFirstIdeal.τ).loc Cert.MergeFirstIdeal.main_arg11) = m ((c.tc : Thread Cert.MergeFirstIdeal.nD Cert.MergeFirstIdeal.τ).loc Cert.MergeFirstIdeal.main_arg11)
      ∧ r.2.mem ((c.tc : Thread Cert.MergeFirstIdeal.nD Cert.MergeFirstIdeal.τ).loc Cert.MergeFirstIdeal.main_arg12) = m ((c.tc : Thread Cert.MergeFirstIdeal.nD Cert.MergeFirstIdeal.τ).loc Cert.MergeFirstIdeal.main_arg12)
      ∧ r.2.mem ((c.tc : Thread Cert.MergeFirstIdeal.nD Cert.MergeFirstIdeal.τ).loc Cert.MergeFirstIdeal.main_arg13) = m ((c.tc : Thread Cert.MergeFirstIdeal.nD Cert.MergeFirstIdeal.τ).loc Cert.MergeFirstIdeal.main_arg13)
      ∧ r.2.mem ((c.tc : Thread Cert.MergeFirstIdeal.nD Cert.MergeFirstIdeal.τ).loc Cert.MergeFirstIdeal.main_arg14) = m ((c.tc : Thread Cert.MergeFirstIdeal.nD Cert.MergeFirstIdeal.τ).loc Cert.MergeFirstIdeal.main_arg14))
      ∧ r.2.sem = fun _ => 0)

def quiescent_MergeFirstReferenceIdeal [hMergeFirstReferenceIdeal : Cert.MergeFirstReferenceIdeal.Facts] : Prop :=
  ∀ (m : (ℓ : Loc Cert.MergeFirstReferenceIdeal.nD Cert.MergeFirstReferenceIdeal.τ Cert.MergeFirstReferenceIdeal.sig) → Buf (Elt Ideal) ℓ) (g : Dev Cert.MergeFirstReferenceIdeal.nD → PrngReg), Pre_MergeFirstReferenceIdeal m →
    θ_run (Cert.MergeFirstReferenceIdeal.defs (F := Ideal)) (onTc (τ := Cert.MergeFirstReferenceIdeal.τ) (Cert.MergeFirstReferenceIdeal.main (F := Ideal))) ⟨m, fun _ => 0, g⟩ (fun r => (∀ c : Dev Cert.MergeFirstReferenceIdeal.nD,
      r.2.mem ((c.tc : Thread Cert.MergeFirstReferenceIdeal.nD Cert.MergeFirstReferenceIdeal.τ).loc Cert.MergeFirstReferenceIdeal.main_arg0) = m ((c.tc : Thread Cert.MergeFirstReferenceIdeal.nD Cert.MergeFirstReferenceIdeal.τ).loc Cert.MergeFirstReferenceIdeal.main_arg0)
      ∧ r.2.mem ((c.tc : Thread Cert.MergeFirstReferenceIdeal.nD Cert.MergeFirstReferenceIdeal.τ).loc Cert.MergeFirstReferenceIdeal.main_arg1) = m ((c.tc : Thread Cert.MergeFirstReferenceIdeal.nD Cert.MergeFirstReferenceIdeal.τ).loc Cert.MergeFirstReferenceIdeal.main_arg1)
      ∧ r.2.mem ((c.tc : Thread Cert.MergeFirstReferenceIdeal.nD Cert.MergeFirstReferenceIdeal.τ).loc Cert.MergeFirstReferenceIdeal.main_arg2) = m ((c.tc : Thread Cert.MergeFirstReferenceIdeal.nD Cert.MergeFirstReferenceIdeal.τ).loc Cert.MergeFirstReferenceIdeal.main_arg2)
      ∧ r.2.mem ((c.tc : Thread Cert.MergeFirstReferenceIdeal.nD Cert.MergeFirstReferenceIdeal.τ).loc Cert.MergeFirstReferenceIdeal.main_arg3) = m ((c.tc : Thread Cert.MergeFirstReferenceIdeal.nD Cert.MergeFirstReferenceIdeal.τ).loc Cert.MergeFirstReferenceIdeal.main_arg3)
      ∧ r.2.mem ((c.tc : Thread Cert.MergeFirstReferenceIdeal.nD Cert.MergeFirstReferenceIdeal.τ).loc Cert.MergeFirstReferenceIdeal.main_arg4) = m ((c.tc : Thread Cert.MergeFirstReferenceIdeal.nD Cert.MergeFirstReferenceIdeal.τ).loc Cert.MergeFirstReferenceIdeal.main_arg4)
      ∧ r.2.mem ((c.tc : Thread Cert.MergeFirstReferenceIdeal.nD Cert.MergeFirstReferenceIdeal.τ).loc Cert.MergeFirstReferenceIdeal.main_arg5) = m ((c.tc : Thread Cert.MergeFirstReferenceIdeal.nD Cert.MergeFirstReferenceIdeal.τ).loc Cert.MergeFirstReferenceIdeal.main_arg5)
      ∧ r.2.mem ((c.tc : Thread Cert.MergeFirstReferenceIdeal.nD Cert.MergeFirstReferenceIdeal.τ).loc Cert.MergeFirstReferenceIdeal.main_arg6) = m ((c.tc : Thread Cert.MergeFirstReferenceIdeal.nD Cert.MergeFirstReferenceIdeal.τ).loc Cert.MergeFirstReferenceIdeal.main_arg6)
      ∧ r.2.mem ((c.tc : Thread Cert.MergeFirstReferenceIdeal.nD Cert.MergeFirstReferenceIdeal.τ).loc Cert.MergeFirstReferenceIdeal.main_arg7) = m ((c.tc : Thread Cert.MergeFirstReferenceIdeal.nD Cert.MergeFirstReferenceIdeal.τ).loc Cert.MergeFirstReferenceIdeal.main_arg7)
      ∧ r.2.mem ((c.tc : Thread Cert.MergeFirstReferenceIdeal.nD Cert.MergeFirstReferenceIdeal.τ).loc Cert.MergeFirstReferenceIdeal.main_arg8) = m ((c.tc : Thread Cert.MergeFirstReferenceIdeal.nD Cert.MergeFirstReferenceIdeal.τ).loc Cert.MergeFirstReferenceIdeal.main_arg8)
      ∧ r.2.mem ((c.tc : Thread Cert.MergeFirstReferenceIdeal.nD Cert.MergeFirstReferenceIdeal.τ).loc Cert.MergeFirstReferenceIdeal.main_arg9) = m ((c.tc : Thread Cert.MergeFirstReferenceIdeal.nD Cert.MergeFirstReferenceIdeal.τ).loc Cert.MergeFirstReferenceIdeal.main_arg9)
      ∧ r.2.mem ((c.tc : Thread Cert.MergeFirstReferenceIdeal.nD Cert.MergeFirstReferenceIdeal.τ).loc Cert.MergeFirstReferenceIdeal.main_arg10) = m ((c.tc : Thread Cert.MergeFirstReferenceIdeal.nD Cert.MergeFirstReferenceIdeal.τ).loc Cert.MergeFirstReferenceIdeal.main_arg10)
      ∧ r.2.mem ((c.tc : Thread Cert.MergeFirstReferenceIdeal.nD Cert.MergeFirstReferenceIdeal.τ).loc Cert.MergeFirstReferenceIdeal.main_arg11) = m ((c.tc : Thread Cert.MergeFirstReferenceIdeal.nD Cert.MergeFirstReferenceIdeal.τ).loc Cert.MergeFirstReferenceIdeal.main_arg11)
      ∧ r.2.mem ((c.tc : Thread Cert.MergeFirstReferenceIdeal.nD Cert.MergeFirstReferenceIdeal.τ).loc Cert.MergeFirstReferenceIdeal.main_arg12) = m ((c.tc : Thread Cert.MergeFirstReferenceIdeal.nD Cert.MergeFirstReferenceIdeal.τ).loc Cert.MergeFirstReferenceIdeal.main_arg12)
      ∧ r.2.mem ((c.tc : Thread Cert.MergeFirstReferenceIdeal.nD Cert.MergeFirstReferenceIdeal.τ).loc Cert.MergeFirstReferenceIdeal.main_arg13) = m ((c.tc : Thread Cert.MergeFirstReferenceIdeal.nD Cert.MergeFirstReferenceIdeal.τ).loc Cert.MergeFirstReferenceIdeal.main_arg13)
      ∧ r.2.mem ((c.tc : Thread Cert.MergeFirstReferenceIdeal.nD Cert.MergeFirstReferenceIdeal.τ).loc Cert.MergeFirstReferenceIdeal.main_arg14) = m ((c.tc : Thread Cert.MergeFirstReferenceIdeal.nD Cert.MergeFirstReferenceIdeal.τ).loc Cert.MergeFirstReferenceIdeal.main_arg14))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v132) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v4_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v4_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v32) = v0 c
          ∧ r.2.mem ((c.tc : Thread Cert.ProjReferenceIdeal.nD Cert.ProjReferenceIdeal.τ).loc Cert.ProjReferenceIdeal.main_v36) = v1 c
          ∧ r.2.mem ((c.tc : Thread Cert.ProjReferenceIdeal.nD Cert.ProjReferenceIdeal.τ).loc Cert.ProjReferenceIdeal.main_v37) = v2 c
          ∧ r.2.mem ((c.tc : Thread Cert.ProjReferenceIdeal.nD Cert.ProjReferenceIdeal.τ).loc Cert.ProjReferenceIdeal.main_v38) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Modul_ModulIdeal : Prop :=
  True

def algebraic_ModulIdeal_ModulReferenceIdeal [hModulIdeal : Cert.ModulIdeal.Facts] [hModulReferenceIdeal : Cert.ModulReferenceIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulReferenceIdeal.nD Cert.ModulReferenceIdeal.τ Cert.ModulReferenceIdeal.sig) → Buf (Elt Ideal) ℓ) (g' : Dev Cert.ModulReferenceIdeal.nD → PrngReg), Pre_ModulIdeal m →
    (∀ c : Dev Cert.ModulIdeal.nD,
      m' ((c.tc : Thread Cert.ModulReferenceIdeal.nD Cert.ModulReferenceIdeal.τ).loc Cert.ModulReferenceIdeal.main_arg0) = m ((c.tc : Thread Cert.ModulIdeal.nD Cert.ModulIdeal.τ).loc Cert.ModulIdeal.main_arg0)
      ∧ m' ((c.tc : Thread Cert.ModulReferenceIdeal.nD Cert.ModulReferenceIdeal.τ).loc Cert.ModulReferenceIdeal.main_arg1) = m ((c.tc : Thread Cert.ModulIdeal.nD Cert.ModulIdeal.τ).loc Cert.ModulIdeal.main_arg1)
      ∧ m' ((c.tc : Thread Cert.ModulReferenceIdeal.nD Cert.ModulReferenceIdeal.τ).loc Cert.ModulReferenceIdeal.main_arg2) = m ((c.tc : Thread Cert.ModulIdeal.nD Cert.ModulIdeal.τ).loc Cert.ModulIdeal.main_arg2)) →
    ∃ (v0 : (c : Dev Cert.ModulIdeal.nD) → Buf (Elt Ideal) ((c.tc : Thread Cert.ModulIdeal.nD Cert.ModulIdeal.τ).loc Cert.ModulIdeal.main_v1)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v1) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ θ_run (Cert.ModulReferenceIdeal.defs (F := Ideal)) (onTc (τ := Cert.ModulReferenceIdeal.τ) (Cert.ModulReferenceIdeal.main (F := Ideal))) ⟨m', fun _ => 0, g'⟩ (fun r => ∀ c : Dev Cert.ModulReferenceIdeal.nD,
          r.2.mem ((c.tc : Thread Cert.ModulReferenceIdeal.nD Cert.ModulReferenceIdeal.τ).loc Cert.ModulReferenceIdeal.main_v20) = v0 c
          ∧ r.2.mem ((c.tc : Thread Cert.ModulReferenceIdeal.nD Cert.ModulReferenceIdeal.τ).loc Cert.ModulReferenceIdeal.main_arg0) = m' ((c.tc : Thread Cert.ModulReferenceIdeal.nD Cert.ModulReferenceIdeal.τ).loc Cert.ModulReferenceIdeal.main_arg0)
          ∧ r.2.mem ((c.tc : Thread Cert.ModulReferenceIdeal.nD Cert.ModulReferenceIdeal.τ).loc Cert.ModulReferenceIdeal.main_arg1) = m' ((c.tc : Thread Cert.ModulReferenceIdeal.nD Cert.ModulReferenceIdeal.τ).loc Cert.ModulReferenceIdeal.main_arg1)
          ∧ r.2.mem ((c.tc : Thread Cert.ModulReferenceIdeal.nD Cert.ModulReferenceIdeal.τ).loc Cert.ModulReferenceIdeal.main_arg2) = m' ((c.tc : Thread Cert.ModulReferenceIdeal.nD Cert.ModulReferenceIdeal.τ).loc Cert.ModulReferenceIdeal.main_arg2))

def preserves_Ctx_CtxIdeal : Prop :=
  IdealRules.named_const.Statement Cert.CtxIdeal.κ "qscale" .f32 0x3E38AA3B#32 (((1 / 8) * (Real.log 2)⁻¹ : ℝ) : EReal)

def algebraic_CtxIdeal_CtxReferenceIdeal_pre_ctx_finite [hCtxIdeal : Cert.CtxIdeal.Facts] [hCtxReferenceIdeal : Cert.CtxReferenceIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal_ctx_finite m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v24) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0))

def preserves_Dft_DftIdeal : Prop :=
  True

def algebraic_DftIdeal_DftReferenceIdeal [hDftIdeal : Cert.DftIdeal.Facts] [hDftReferenceIdeal : Cert.DftReferenceIdeal.Facts] : Prop :=
  ∀ (m : (ℓ : Loc Cert.DftIdeal.nD Cert.DftIdeal.τ Cert.DftIdeal.sig) → Buf (Elt Ideal) ℓ) (g : Dev Cert.DftIdeal.nD → PrngReg)
    (m' : (ℓ : Loc Cert.DftReferenceIdeal.nD Cert.DftReferenceIdeal.τ Cert.DftReferenceIdeal.sig) → Buf (Elt Ideal) ℓ) (g' : Dev Cert.DftReferenceIdeal.nD → PrngReg), Pre_DftIdeal m →
    (∀ c : Dev Cert.DftIdeal.nD,
      m' ((c.tc : Thread Cert.DftReferenceIdeal.nD Cert.DftReferenceIdeal.τ).loc Cert.DftReferenceIdeal.main_arg0) = m ((c.tc : Thread Cert.DftIdeal.nD Cert.DftIdeal.τ).loc Cert.DftIdeal.main_arg0)
      ∧ m' ((c.tc : Thread Cert.DftReferenceIdeal.nD Cert.DftReferenceIdeal.τ).loc Cert.DftReferenceIdeal.main_arg1) = m ((c.tc : Thread Cert.DftIdeal.nD Cert.DftIdeal.τ).loc Cert.DftIdeal.main_arg1)
      ∧ m' ((c.tc : Thread Cert.DftReferenceIdeal.nD Cert.DftReferenceIdeal.τ).loc Cert.DftReferenceIdeal.main_arg2) = m ((c.tc : Thread Cert.DftIdeal.nD Cert.DftIdeal.τ).loc Cert.DftIdeal.main_arg2)
      ∧ m' ((c.tc : Thread Cert.DftReferenceIdeal.nD Cert.DftReferenceIdeal.τ).loc Cert.DftReferenceIdeal.main_arg3) = m ((c.tc : Thread Cert.DftIdeal.nD Cert.DftIdeal.τ).loc Cert.DftIdeal.main_arg3)) →
    ∃ (v0 : (c : Dev Cert.DftIdeal.nD) → Buf (Elt Ideal) ((c.tc : Thread Cert.DftIdeal.nD Cert.DftIdeal.τ).loc Cert.DftIdeal.main_v9)),
      θ_run (Cert.DftIdeal.defs (F := Ideal)) (onTc (τ := Cert.DftIdeal.τ) (Cert.DftIdeal.main (F := Ideal))) ⟨m, fun _ => 0, g⟩ (fun r => ∀ c : Dev Cert.DftIdeal.nD,
          r.2.mem ((c.tc : Thread Cert.DftIdeal.nD Cert.DftIdeal.τ).loc Cert.DftIdeal.main_v9) = v0 c
          ∧ r.2.mem ((c.tc : Thread Cert.DftIdeal.nD Cert.DftIdeal.τ).loc Cert.DftIdeal.main_arg0) = m ((c.tc : Thread Cert.DftIdeal.nD Cert.DftIdeal.τ).loc Cert.DftIdeal.main_arg0)
          ∧ r.2.mem ((c.tc : Thread Cert.DftIdeal.nD Cert.DftIdeal.τ).loc Cert.DftIdeal.main_arg1) = m ((c.tc : Thread Cert.DftIdeal.nD Cert.DftIdeal.τ).loc Cert.DftIdeal.main_arg1)
          ∧ r.2.mem ((c.tc : Thread Cert.DftIdeal.nD Cert.DftIdeal.τ).loc Cert.DftIdeal.main_arg2) = m ((c.tc : Thread Cert.DftIdeal.nD Cert.DftIdeal.τ).loc Cert.DftIdeal.main_arg2)
          ∧ r.2.mem ((c.tc : Thread Cert.DftIdeal.nD Cert.DftIdeal.τ).loc Cert.DftIdeal.main_arg3) = m ((c.tc : Thread Cert.DftIdeal.nD Cert.DftIdeal.τ).loc Cert.DftIdeal.main_arg3))
      ∧ θ_run (Cert.DftReferenceIdeal.defs (F := Ideal)) (onTc (τ := Cert.DftReferenceIdeal.τ) (Cert.DftReferenceIdeal.main (F := Ideal))) ⟨m', fun _ => 0, g'⟩ (fun r => ∀ c : Dev Cert.DftReferenceIdeal.nD,
          r.2.mem ((c.tc : Thread Cert.DftReferenceIdeal.nD Cert.DftReferenceIdeal.τ).loc Cert.DftReferenceIdeal.main_v24) = v0 c
          ∧ r.2.mem ((c.tc : Thread Cert.DftReferenceIdeal.nD Cert.DftReferenceIdeal.τ).loc Cert.DftReferenceIdeal.main_arg0) = m' ((c.tc : Thread Cert.DftReferenceIdeal.nD Cert.DftReferenceIdeal.τ).loc Cert.DftReferenceIdeal.main_arg0)
          ∧ r.2.mem ((c.tc : Thread Cert.DftReferenceIdeal.nD Cert.DftReferenceIdeal.τ).loc Cert.DftReferenceIdeal.main_arg1) = m' ((c.tc : Thread Cert.DftReferenceIdeal.nD Cert.DftReferenceIdeal.τ).loc Cert.DftReferenceIdeal.main_arg1)
          ∧ r.2.mem ((c.tc : Thread Cert.DftReferenceIdeal.nD Cert.DftReferenceIdeal.τ).loc Cert.DftReferenceIdeal.main_arg2) = m' ((c.tc : Thread Cert.DftReferenceIdeal.nD Cert.DftReferenceIdeal.τ).loc Cert.DftReferenceIdeal.main_arg2)
          ∧ r.2.mem ((c.tc : Thread Cert.DftReferenceIdeal.nD Cert.DftReferenceIdeal.τ).loc Cert.DftReferenceIdeal.main_arg3) = m' ((c.tc : Thread Cert.DftReferenceIdeal.nD Cert.DftReferenceIdeal.τ).loc Cert.DftReferenceIdeal.main_arg3))

def preserves_MergeFirst_MergeFirstIdeal : Prop :=
  True

def algebraic_MergeFirstIdeal_MergeFirstReferenceIdeal [hMergeFirstIdeal : Cert.MergeFirstIdeal.Facts] [hMergeFirstReferenceIdeal : Cert.MergeFirstReferenceIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg)
    (m' : (ℓ : Loc Cert.MergeFirstReferenceIdeal.nD Cert.MergeFirstReferenceIdeal.τ Cert.MergeFirstReferenceIdeal.sig) → Buf (Elt Ideal) ℓ) (g' : Dev Cert.MergeFirstReferenceIdeal.nD → PrngReg), Pre_MergeFirstIdeal m →
    (∀ c : Dev Cert.MergeFirstIdeal.nD,
      m' ((c.tc : Thread Cert.MergeFirstReferenceIdeal.nD Cert.MergeFirstReferenceIdeal.τ).loc Cert.MergeFirstReferenceIdeal.main_arg0) = m ((c.tc : Thread Cert.MergeFirstIdeal.nD Cert.MergeFirstIdeal.τ).loc Cert.MergeFirstIdeal.main_arg0)
      ∧ m' ((c.tc : Thread Cert.MergeFirstReferenceIdeal.nD Cert.MergeFirstReferenceIdeal.τ).loc Cert.MergeFirstReferenceIdeal.main_arg1) = m ((c.tc : Thread Cert.MergeFirstIdeal.nD Cert.MergeFirstIdeal.τ).loc Cert.MergeFirstIdeal.main_arg1)
      ∧ m' ((c.tc : Thread Cert.MergeFirstReferenceIdeal.nD Cert.MergeFirstReferenceIdeal.τ).loc Cert.MergeFirstReferenceIdeal.main_arg2) = m ((c.tc : Thread Cert.MergeFirstIdeal.nD Cert.MergeFirstIdeal.τ).loc Cert.MergeFirstIdeal.main_arg2)
      ∧ m' ((c.tc : Thread Cert.MergeFirstReferenceIdeal.nD Cert.MergeFirstReferenceIdeal.τ).loc Cert.MergeFirstReferenceIdeal.main_arg3) = m ((c.tc : Thread Cert.MergeFirstIdeal.nD Cert.MergeFirstIdeal.τ).loc Cert.MergeFirstIdeal.main_arg3)
      ∧ m' ((c.tc : Thread Cert.MergeFirstReferenceIdeal.nD Cert.MergeFirstReferenceIdeal.τ).loc Cert.MergeFirstReferenceIdeal.main_arg4) = m ((c.tc : Thread Cert.MergeFirstIdeal.nD Cert.MergeFirstIdeal.τ).loc Cert.MergeFirstIdeal.main_arg4)
      ∧ m' ((c.tc : Thread Cert.MergeFirstReferenceIdeal.nD Cert.MergeFirstReferenceIdeal.τ).loc Cert.MergeFirstReferenceIdeal.main_arg5) = m ((c.tc : Thread Cert.MergeFirstIdeal.nD Cert.MergeFirstIdeal.τ).loc Cert.MergeFirstIdeal.main_arg5)
      ∧ m' ((c.tc : Thread Cert.MergeFirstReferenceIdeal.nD Cert.MergeFirstReferenceIdeal.τ).loc Cert.MergeFirstReferenceIdeal.main_arg6) = m ((c.tc : Thread Cert.MergeFirstIdeal.nD Cert.MergeFirstIdeal.τ).loc Cert.MergeFirstIdeal.main_arg6)
      ∧ m' ((c.tc : Thread Cert.MergeFirstReferenceIdeal.nD Cert.MergeFirstReferenceIdeal.τ).loc Cert.MergeFirstReferenceIdeal.main_arg7) = m ((c.tc : Thread Cert.MergeFirstIdeal.nD Cert.MergeFirstIdeal.τ).loc Cert.MergeFirstIdeal.main_arg7)
      ∧ m' ((c.tc : Thread Cert.MergeFirstReferenceIdeal.nD Cert.MergeFirstReferenceIdeal.τ).loc Cert.MergeFirstReferenceIdeal.main_arg8) = m ((c.tc : Thread Cert.MergeFirstIdeal.nD Cert.MergeFirstIdeal.τ).loc Cert.MergeFirstIdeal.main_arg8)
      ∧ m' ((c.tc : Thread Cert.MergeFirstReferenceIdeal.nD Cert.MergeFirstReferenceIdeal.τ).loc Cert.MergeFirstReferenceIdeal.main_arg9) = m ((c.tc : Thread Cert.MergeFirstIdeal.nD Cert.MergeFirstIdeal.τ).loc Cert.MergeFirstIdeal.main_arg9)
      ∧ m' ((c.tc : Thread Cert.MergeFirstReferenceIdeal.nD Cert.MergeFirstReferenceIdeal.τ).loc Cert.MergeFirstReferenceIdeal.main_arg10) = m ((c.tc : Thread Cert.MergeFirstIdeal.nD Cert.MergeFirstIdeal.τ).loc Cert.MergeFirstIdeal.main_arg10)
      ∧ m' ((c.tc : Thread Cert.MergeFirstReferenceIdeal.nD Cert.MergeFirstReferenceIdeal.τ).loc Cert.MergeFirstReferenceIdeal.main_arg11) = m ((c.tc : Thread Cert.MergeFirstIdeal.nD Cert.MergeFirstIdeal.τ).loc Cert.MergeFirstIdeal.main_arg11)
      ∧ m' ((c.tc : Thread Cert.MergeFirstReferenceIdeal.nD Cert.MergeFirstReferenceIdeal.τ).loc Cert.MergeFirstReferenceIdeal.main_arg12) = m ((c.tc : Thread Cert.MergeFirstIdeal.nD Cert.MergeFirstIdeal.τ).loc Cert.MergeFirstIdeal.main_arg12)
      ∧ m' ((c.tc : Thread Cert.MergeFirstReferenceIdeal.nD Cert.MergeFirstReferenceIdeal.τ).loc Cert.MergeFirstReferenceIdeal.main_arg13) = m ((c.tc : Thread Cert.MergeFirstIdeal.nD Cert.MergeFirstIdeal.τ).loc Cert.MergeFirstIdeal.main_arg13)
      ∧ m' ((c.tc : Thread Cert.MergeFirstReferenceIdeal.nD Cert.MergeFirstReferenceIdeal.τ).loc Cert.MergeFirstReferenceIdeal.main_arg14) = m ((c.tc : Thread Cert.MergeFirstIdeal.nD Cert.MergeFirstIdeal.τ).loc Cert.MergeFirstIdeal.main_arg14)) →
    ∃ (v0 : (c : Dev Cert.MergeFirstIdeal.nD) → Buf (Elt Ideal) ((c.tc : Thread Cert.MergeFirstIdeal.nD Cert.MergeFirstIdeal.τ).loc Cert.MergeFirstIdeal.main_v12)),
      θ_run (Cert.MergeFirstIdeal.defs (F := Ideal)) (onTc (τ := Cert.MergeFirstIdeal.τ) (Cert.MergeFirstIdeal.main (F := Ideal))) ⟨m, fun _ => 0, g⟩ (fun r => ∀ c : Dev Cert.MergeFirstIdeal.nD,
          r.2.mem ((c.tc : Thread Cert.MergeFirstIdeal.nD Cert.MergeFirstIdeal.τ).loc Cert.MergeFirstIdeal.main_v12) = v0 c
          ∧ r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
          ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
          ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
          ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
          ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
          ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
          ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
          ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7)
          ∧ r.2.mem ((c.tc : Thread Cert.MergeFirstIdeal.nD Cert.MergeFirstIdeal.τ).loc Cert.MergeFirstIdeal.main_arg8) = m ((c.tc : Thread Cert.MergeFirstIdeal.nD Cert.MergeFirstIdeal.τ).loc Cert.MergeFirstIdeal.main_arg8)
          ∧ r.2.mem ((c.tc : Thread Cert.MergeFirstIdeal.nD Cert.MergeFirstIdeal.τ).loc Cert.MergeFirstIdeal.main_arg9) = m ((c.tc : Thread Cert.MergeFirstIdeal.nD Cert.MergeFirstIdeal.τ).loc Cert.MergeFirstIdeal.main_arg9)
          ∧ r.2.mem ((c.tc : Thread Cert.MergeFirstIdeal.nD Cert.MergeFirstIdeal.τ).loc Cert.MergeFirstIdeal.main_arg10) = m ((c.tc : Thread Cert.MergeFirstIdeal.nD Cert.MergeFirstIdeal.τ).loc Cert.MergeFirstIdeal.main_arg10)
          ∧ r.2.mem ((c.tc : Thread Cert.MergeFirstIdeal.nD Cert.MergeFirstIdeal.τ).loc Cert.MergeFirstIdeal.main_arg11) = m ((c.tc : Thread Cert.MergeFirstIdeal.nD Cert.MergeFirstIdeal.τ).loc Cert.MergeFirstIdeal.main_arg11)
          ∧ r.2.mem ((c.tc : Thread Cert.MergeFirstIdeal.nD Cert.MergeFirstIdeal.τ).loc Cert.MergeFirstIdeal.main_arg12) = m ((c.tc : Thread Cert.MergeFirstIdeal.nD Cert.MergeFirstIdeal.τ).loc Cert.MergeFirstIdeal.main_arg12)
          ∧ r.2.mem ((c.tc : Thread Cert.MergeFirstIdeal.nD Cert.MergeFirstIdeal.τ).loc Cert.MergeFirstIdeal.main_arg13) = m ((c.tc : Thread Cert.MergeFirstIdeal.nD Cert.MergeFirstIdeal.τ).loc Cert.MergeFirstIdeal.main_arg13)
          ∧ r.2.mem ((c.tc : Thread Cert.MergeFirstIdeal.nD Cert.MergeFirstIdeal.τ).loc Cert.MergeFirstIdeal.main_arg14) = m ((c.tc : Thread Cert.MergeFirstIdeal.nD Cert.MergeFirstIdeal.τ).loc Cert.MergeFirstIdeal.main_arg14))
      ∧ θ_run (Cert.MergeFirstReferenceIdeal.defs (F := Ideal)) (onTc (τ := Cert.MergeFirstReferenceIdeal.τ) (Cert.MergeFirstReferenceIdeal.main (F := Ideal))) ⟨m', fun _ => 0, g'⟩ (fun r => ∀ c : Dev Cert.MergeFirstReferenceIdeal.nD,
          r.2.mem ((c.tc : Thread Cert.MergeFirstReferenceIdeal.nD Cert.MergeFirstReferenceIdeal.τ).loc Cert.MergeFirstReferenceIdeal.main_v99) = v0 c
          ∧ r.2.mem ((c.tc : Thread Cert.MergeFirstReferenceIdeal.nD Cert.MergeFirstReferenceIdeal.τ).loc Cert.MergeFirstReferenceIdeal.main_arg0) = m' ((c.tc : Thread Cert.MergeFirstReferenceIdeal.nD Cert.MergeFirstReferenceIdeal.τ).loc Cert.MergeFirstReferenceIdeal.main_arg0)
          ∧ r.2.mem ((c.tc : Thread Cert.MergeFirstReferenceIdeal.nD Cert.MergeFirstReferenceIdeal.τ).loc Cert.MergeFirstReferenceIdeal.main_arg1) = m' ((c.tc : Thread Cert.MergeFirstReferenceIdeal.nD Cert.MergeFirstReferenceIdeal.τ).loc Cert.MergeFirstReferenceIdeal.main_arg1)
          ∧ r.2.mem ((c.tc : Thread Cert.MergeFirstReferenceIdeal.nD Cert.MergeFirstReferenceIdeal.τ).loc Cert.MergeFirstReferenceIdeal.main_arg2) = m' ((c.tc : Thread Cert.MergeFirstReferenceIdeal.nD Cert.MergeFirstReferenceIdeal.τ).loc Cert.MergeFirstReferenceIdeal.main_arg2)
          ∧ r.2.mem ((c.tc : Thread Cert.MergeFirstReferenceIdeal.nD Cert.MergeFirstReferenceIdeal.τ).loc Cert.MergeFirstReferenceIdeal.main_arg3) = m' ((c.tc : Thread Cert.MergeFirstReferenceIdeal.nD Cert.MergeFirstReferenceIdeal.τ).loc Cert.MergeFirstReferenceIdeal.main_arg3)
          ∧ r.2.mem ((c.tc : Thread Cert.MergeFirstReferenceIdeal.nD Cert.MergeFirstReferenceIdeal.τ).loc Cert.MergeFirstReferenceIdeal.main_arg4) = m' ((c.tc : Thread Cert.MergeFirstReferenceIdeal.nD Cert.MergeFirstReferenceIdeal.τ).loc Cert.MergeFirstReferenceIdeal.main_arg4)
          ∧ r.2.mem ((c.tc : Thread Cert.MergeFirstReferenceIdeal.nD Cert.MergeFirstReferenceIdeal.τ).loc Cert.MergeFirstReferenceIdeal.main_arg5) = m' ((c.tc : Thread Cert.MergeFirstReferenceIdeal.nD Cert.MergeFirstReferenceIdeal.τ).loc Cert.MergeFirstReferenceIdeal.main_arg5)
          ∧ r.2.mem ((c.tc : Thread Cert.MergeFirstReferenceIdeal.nD Cert.MergeFirstReferenceIdeal.τ).loc Cert.MergeFirstReferenceIdeal.main_arg6) = m' ((c.tc : Thread Cert.MergeFirstReferenceIdeal.nD Cert.MergeFirstReferenceIdeal.τ).loc Cert.MergeFirstReferenceIdeal.main_arg6)
          ∧ r.2.mem ((c.tc : Thread Cert.MergeFirstReferenceIdeal.nD Cert.MergeFirstReferenceIdeal.τ).loc Cert.MergeFirstReferenceIdeal.main_arg7) = m' ((c.tc : Thread Cert.MergeFirstReferenceIdeal.nD Cert.MergeFirstReferenceIdeal.τ).loc Cert.MergeFirstReferenceIdeal.main_arg7)
          ∧ r.2.mem ((c.tc : Thread Cert.MergeFirstReferenceIdeal.nD Cert.MergeFirstReferenceIdeal.τ).loc Cert.MergeFirstReferenceIdeal.main_arg8) = m' ((c.tc : Thread Cert.MergeFirstReferenceIdeal.nD Cert.MergeFirstReferenceIdeal.τ).loc Cert.MergeFirstReferenceIdeal.main_arg8)
          ∧ r.2.mem ((c.tc : Thread Cert.MergeFirstReferenceIdeal.nD Cert.MergeFirstReferenceIdeal.τ).loc Cert.MergeFirstReferenceIdeal.main_arg9) = m' ((c.tc : Thread Cert.MergeFirstReferenceIdeal.nD Cert.MergeFirstReferenceIdeal.τ).loc Cert.MergeFirstReferenceIdeal.main_arg9)
          ∧ r.2.mem ((c.tc : Thread Cert.MergeFirstReferenceIdeal.nD Cert.MergeFirstReferenceIdeal.τ).loc Cert.MergeFirstReferenceIdeal.main_arg10) = m' ((c.tc : Thread Cert.MergeFirstReferenceIdeal.nD Cert.MergeFirstReferenceIdeal.τ).loc Cert.MergeFirstReferenceIdeal.main_arg10)
          ∧ r.2.mem ((c.tc : Thread Cert.MergeFirstReferenceIdeal.nD Cert.MergeFirstReferenceIdeal.τ).loc Cert.MergeFirstReferenceIdeal.main_arg11) = m' ((c.tc : Thread Cert.MergeFirstReferenceIdeal.nD Cert.MergeFirstReferenceIdeal.τ).loc Cert.MergeFirstReferenceIdeal.main_arg11)
          ∧ r.2.mem ((c.tc : Thread Cert.MergeFirstReferenceIdeal.nD Cert.MergeFirstReferenceIdeal.τ).loc Cert.MergeFirstReferenceIdeal.main_arg12) = m' ((c.tc : Thread Cert.MergeFirstReferenceIdeal.nD Cert.MergeFirstReferenceIdeal.τ).loc Cert.MergeFirstReferenceIdeal.main_arg12)
          ∧ r.2.mem ((c.tc : Thread Cert.MergeFirstReferenceIdeal.nD Cert.MergeFirstReferenceIdeal.τ).loc Cert.MergeFirstReferenceIdeal.main_arg13) = m' ((c.tc : Thread Cert.MergeFirstReferenceIdeal.nD Cert.MergeFirstReferenceIdeal.τ).loc Cert.MergeFirstReferenceIdeal.main_arg13)
          ∧ r.2.mem ((c.tc : Thread Cert.MergeFirstReferenceIdeal.nD Cert.MergeFirstReferenceIdeal.τ).loc Cert.MergeFirstReferenceIdeal.main_arg14) = m' ((c.tc : Thread Cert.MergeFirstReferenceIdeal.nD Cert.MergeFirstReferenceIdeal.τ).loc Cert.MergeFirstReferenceIdeal.main_arg14))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hModul : Cert.Modul.Facts) (hModulIdeal : Cert.ModulIdeal.Facts) (hModulReferenceIdeal : Cert.ModulReferenceIdeal.Facts) (hCtx : Cert.Ctx.Facts) (hCtxIdeal : Cert.CtxIdeal.Facts) (hCtxReferenceIdeal : Cert.CtxReferenceIdeal.Facts) (hDft : Cert.Dft.Facts) (hDftIdeal : Cert.DftIdeal.Facts) (hDftReferenceIdeal : Cert.DftReferenceIdeal.Facts) (hMergeFirst : Cert.MergeFirst.Facts) (hMergeFirstIdeal : Cert.MergeFirstIdeal.Facts) (hMergeFirstReferenceIdeal : Cert.MergeFirstReferenceIdeal.Facts) (hPre_finite : Cert.Pre_finite.Facts) (hPre_ctx_finite : Cert.Pre_ctx_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Modul (hModul := hModul)
    ∧ quiescent_ModulIdeal (hModulIdeal := hModulIdeal)
    ∧ quiescent_ModulReferenceIdeal (hModulReferenceIdeal := hModulReferenceIdeal)
    ∧ quiescent_Ctx (hCtx := hCtx)
    ∧ quiescent_CtxIdeal (hCtxIdeal := hCtxIdeal)
    ∧ quiescent_CtxIdeal_pre_ctx_finite (hCtxIdeal := hCtxIdeal) (hPre_ctx_finite := hPre_ctx_finite)
    ∧ quiescent_CtxReferenceIdeal (hCtxReferenceIdeal := hCtxReferenceIdeal)
    ∧ quiescent_CtxReferenceIdeal_pre_ctx_finite (hCtxReferenceIdeal := hCtxReferenceIdeal) (hPre_ctx_finite := hPre_ctx_finite)
    ∧ quiescent_Dft (hDft := hDft)
    ∧ quiescent_DftIdeal (hDftIdeal := hDftIdeal)
    ∧ quiescent_DftReferenceIdeal (hDftReferenceIdeal := hDftReferenceIdeal)
    ∧ quiescent_MergeFirst (hMergeFirst := hMergeFirst)
    ∧ quiescent_MergeFirstIdeal (hMergeFirstIdeal := hMergeFirstIdeal)
    ∧ quiescent_MergeFirstReferenceIdeal (hMergeFirstReferenceIdeal := hMergeFirstReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Modul_ModulIdeal
    ∧ algebraic_ModulIdeal_ModulReferenceIdeal (hModulIdeal := hModulIdeal) (hModulReferenceIdeal := hModulReferenceIdeal)
    ∧ preserves_Ctx_CtxIdeal
    ∧ algebraic_CtxIdeal_CtxReferenceIdeal_pre_ctx_finite (hCtxIdeal := hCtxIdeal) (hCtxReferenceIdeal := hCtxReferenceIdeal) (hPre_ctx_finite := hPre_ctx_finite)
    ∧ preserves_Dft_DftIdeal
    ∧ algebraic_DftIdeal_DftReferenceIdeal (hDftIdeal := hDftIdeal) (hDftReferenceIdeal := hDftReferenceIdeal)
    ∧ preserves_MergeFirst_MergeFirstIdeal
    ∧ algebraic_MergeFirstIdeal_MergeFirstReferenceIdeal (hMergeFirstIdeal := hMergeFirstIdeal) (hMergeFirstReferenceIdeal := hMergeFirstReferenceIdeal)
-- ==== Pre_ctx_finite.lean ====
abbrev S1024x1536 : Shape := ⟨2, ![1024, 1536]⟩
abbrev S1024x1024 : Shape := ⟨2, ![1024, 1024]⟩
abbrev S_ : Shape := ⟨0, ![]⟩

class Facts : Prop where
  slices_S1024x1536_S1024x1024_0_0 : S1024x1536.Slices ![0, 0] S1024x1024
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1536 .bf16) : IVec S_ 1 :=
  let main_v0 : FVec F S1024x1024 .bf16 := (extractStridedSlice S1024x1024 ![0, 0] · slices_S1024x1536_S1024x1024_0_0) main_arg0
  let main_v1 : FVec F S1024x1024 .f32 := (extf .f32 · bitsLt_bf16_f32) main_v0
  let main_v2 : FVec F S1024x1024 .f32 := Host.absf main_v1
  let main_cst : FVec F S_ .f32 := constant S_ .f32 0x7F800000#32
  let main_v3 : FVec F S1024x1024 .f32 := broadcastInDim S1024x1024 ![] bcast_S_S1024x1024 main_cst
  let main_v4 : IVec S1024x1024 1 := cmpf .olt main_v2 main_v3
  let main_c : IVec S_ 1 := constantI S_ 1 1#1
  let main_v5 : IVec S_ 1 := (fun x v => Host.reduce IntOp.andi x v reducesTo_S1024x1024_S_d0_1 h_S_) main_v4 main_c
  main_v5
-- ==== Pre_finite.lean ====
abbrev S32768x1536 : Shape := ⟨2, ![32768, 1536]⟩
abbrev S1024x1536 : Shape := ⟨2, ![1024, 1536]⟩
abbrev S2x8x15x31 : Shape := ⟨4, ![2, 8, 15, 31]⟩
abbrev S32768x1024 : Shape := ⟨2, ![32768, 1024]⟩
abbrev S_ : Shape := ⟨0, ![]⟩
abbrev S1024x512 : Shape := ⟨2, ![1024, 512]⟩
abbrev S1x8x15x31 : Shape := ⟨4, ![1, 8, 15, 31]⟩
abbrev S8x15x31 : Shape := ⟨3, ![8, 15, 31]⟩

class Facts : Prop where
  slices_S32768x1536_S32768x1024_0_0 : S32768x1536.Slices ![0, 0] S32768x1024
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S1024x1536_S1024x512_0_512 : S1024x1536.Slices ![0, 512] S1024x512
  bcast_S_S1024x512 : S_.BroadcastsInDim S1024x512 (![] : Fin 0 → Fin S1024x512.rank)
  reducesTo_S1024x512_S_d0_1 : S1024x512.ReducesTo [0, 1] S_
  slices_S2x8x15x31_S1x8x15x31_0_0_0_0 : S2x8x15x31.Slices ![0, 0, 0, 0] S1x8x15x31
  shapeCasts_S1x8x15x31_S8x15x31 : S1x8x15x31.ShapeCasts S8x15x31
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_v12 : IVec S_ 1) (main_v17 : IVec S8x15x31 1) (main_c_3 : IVec S_ 1) : IVec S_ 1 :=
  let main_v18 : IVec S_ 1 := (fun x v => Host.reduce IntOp.andi x v reducesTo_S8x15x31_S_d0_1_2 h_S_) main_v17 main_c_3
  let main_v19 : IVec S_ 1 := andi main_v12 main_v18
  main_v19

def fn {F : FTy → Type} [FloatOps F] (main_arg0 : FVec F S32768x1536 .bf16) (main_arg1 : FVec F S1024x1536 .bf16) (main_arg2 : FVec F S2x8x15x31 .f32) : IVec S_ 1 :=
  let main_v0 : FVec F S32768x1024 .bf16 := (extractStridedSlice S32768x1024 ![0, 0] · slices_S32768x1536_S32768x1024_0_0) main_arg0
  let main_v1 : FVec F S32768x1024 .f32 := (extf .f32 · bitsLt_bf16_f32) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_c : IVec S_ 1 := constantI S_ 1 1#1
  let main_v5 : IVec S_ 1 := (fun x v => Host.reduce IntOp.andi x v reducesTo_S32768x1024_S_d0_1 h_S_) main_v4 main_c
  let main_v6 : FVec F S1024x512 .bf16 := (extractStridedSlice S1024x512 ![0, 512] · slices_S1024x1536_S1024x512_0_512) main_arg1
  let main_v7 : FVec F S1024x512 .f32 := (extf .f32 · bitsLt_bf16_f32) main_v6
  let main_v8 : FVec F S1024x512 .f32 := Host.absf main_v7
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_c_1 : IVec S_ 1 := constantI S_ 1 1#1
  let main_v11 : IVec S_ 1 := (fun x v => Host.reduce IntOp.andi x v reducesTo_S1024x512_S_d0_1 h_S_) main_v10 main_c_1
  let main_v12 : IVec S_ 1 := andi main_v5 main_v11
  let main_v13 : FVec F S1x8x15x31 .f32 := (extractStridedSlice S1x8x15x31 ![0, 0, 0, 0] · slices_S2x8x15x31_S1x8x15x31_0_0_0_0) main_arg2
  let main_v14 : FVec F S8x15x31 .f32 := shapeCast S8x15x31 main_v13 shapeCasts_S1x8x15x31_S8x15x31
  let main_v15 : FVec F S8x15x31 .f32 := Host.absf main_v14
  let main_cst_2 : FVec F S_ .f32 := constant S_ .f32 0x7F800000#32
  let main_v16 : FVec F S8x15x31 .f32 := broadcastInDim S8x15x31 ![] bcast_S_S8x15x31 main_cst_2
  let main_v17 : IVec S8x15x31 1 := cmpf .olt main_v15 main_v16
  let main_c_3 : IVec S_ 1 := constantI S_ 1 1#1
  fn_part1 (F := F) main_v12 main_v17 main_c_3
-- ==== Kernel.lean ====
abbrev S32768x1536 : Shape := ⟨2, ![32768, 1536]⟩
abbrev S1024x1536 : Shape := ⟨2, ![1024, 1536]⟩
abbrev S2x8x15x31 : Shape := ⟨4, ![2, 8, 15, 31]⟩
abbrev S2x8x15x1 : Shape := ⟨4, ![2, 8, 15, 1]⟩
abbrev S2x8x15x48 : Shape := ⟨4, ![2, 8, 15, 48]⟩
abbrev S_ : Shape := ⟨0, ![]⟩
abbrev S2x8x15x128 : Shape := ⟨4, ![2, 8, 15, 128]⟩
abbrev S2x3x8x256x768 : Shape := ⟨5, ![2, 3, 8, 256, 768]⟩
abbrev S1x1x15x128 : Shape := ⟨4, ![1, 1, 15, 128]⟩
abbrev S1x3x1x256x768 : Shape := ⟨5, ![1, 3, 1, 256, 768]⟩
abbrev S64x128 : Shape := ⟨2, ![64, 128]⟩
abbrev S1x1x1x128 : Shape := ⟨4, ![1, 1, 1, 128]⟩
abbrev S1x128 : Shape := ⟨2, ![1, 128]⟩
abbrev S1x1x1x64x128 : Shape := ⟨5, ![1, 1, 1, 64, 128]⟩
abbrev S32768x512 : Shape := ⟨2, ![32768, 512]⟩
abbrev S512x512 : Shape := ⟨2, ![512, 512]⟩
abbrev S256x512 : Shape := ⟨2, ![256, 512]⟩
abbrev S1x1x8x256x768 : Shape := ⟨5, ![1, 1, 8, 256, 768]⟩
abbrev S256x128 : Shape := ⟨2, ![256, 128]⟩
abbrev S256x256 : Shape := ⟨2, ![256, 256]⟩
abbrev S1x1x1x256x256 : Shape := ⟨5, ![1, 1, 1, 256, 256]⟩
abbrev S256 : Shape := ⟨1, ![256]⟩
abbrev S256x1 : Shape := ⟨2, ![256, 1]⟩
abbrev S256x1024 : Shape := ⟨2, ![256, 1024]⟩
abbrev S1024x128 : Shape := ⟨2, ![1024, 128]⟩

abbrev nBuf : Space → Nat
  | .hbm => 12
  | .vmem => 40
  | .smem => 0
  | _ => 0

abbrev bufTy : (tb : Table) → Fin (tcTables nBuf tb) → BufTy
  | .hbm, ⟨0, _⟩ => ⟨S32768x1536, .bf16⟩
  | .hbm, ⟨1, _⟩ => ⟨S1024x1536, .bf16⟩
  | .hbm, ⟨2, _⟩ => ⟨S2x8x15x31, .f32⟩
  | .hbm, ⟨3, _⟩ => ⟨S2x8x15x1, .f32⟩
  | .hbm, ⟨4, _⟩ => ⟨S2x8x15x48, .f32⟩
  | .hbm, ⟨5, _⟩ => ⟨S2x8x15x1, .f32⟩
  | .hbm, ⟨6, _⟩ => ⟨S2x8x15x48, .f32⟩
  | .hbm, ⟨7, _⟩ => ⟨S_, .f32⟩
  | .hbm, ⟨8, _⟩ => ⟨S2x8x15x1, .f32⟩
  | .hbm, ⟨9, _⟩ => ⟨S2x8x15x128, .f32⟩
  | .hbm, ⟨10, _⟩ => ⟨S2x3x8x256x768, .f32⟩
  | .hbm, ⟨11, _⟩ => ⟨S32768x512, .bf16⟩
  | .local _ .vmem, ⟨0, _⟩ => ⟨S1x1x15x128, .f32⟩
  | .local _ .vmem, ⟨1, _⟩ => ⟨S1x1x15x128, .f32⟩
  | .local _ .vmem, ⟨2, _⟩ => ⟨S1x3x1x256x768, .f32⟩
  | .local _ .vmem, ⟨3, _⟩ => ⟨S1x3x1x256x768, .f32⟩
  | .local _ .vmem, ⟨4, _⟩ => ⟨S512x512, .bf16⟩
  | .local _ .vmem, ⟨5, _⟩ => ⟨S512x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S1x1x8x256x768, .f32⟩
  | .local _ .vmem, ⟨35, _⟩ => ⟨S1x1x8x256x768, .f32⟩
  | .local _ .vmem, ⟨36, _⟩ => ⟨S1x1x8x256x768, .f32⟩
  | .local _ .vmem, ⟨37, _⟩ => ⟨S1x1x8x256x768, .f32⟩
  | .local _ .vmem, ⟨38, _⟩ => ⟨S512x512, .bf16⟩
  | .local _ .vmem, ⟨39, _⟩ => ⟨S512x512, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc1_stg14_0 : Ref sig .tc := ⟨.vmem, 32, rfl⟩
abbrev cc1_stg14_1 : Ref sig .tc := ⟨.vmem, 33, rfl⟩
abbrev cc1_stg15_0 : Ref sig .tc := ⟨.vmem, 34, rfl⟩
abbrev cc1_stg15_1 : Ref sig .tc := ⟨.vmem, 35, rfl⟩
abbrev cc1_stg16_0 : Ref sig .tc := ⟨.vmem, 36, rfl⟩
abbrev cc1_stg16_1 : Ref sig .tc := ⟨.vmem, 37, rfl⟩
abbrev cc1_stg17_0 : Ref sig .tc := ⟨.vmem, 38, rfl⟩
abbrev cc1_stg17_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31
abbrev cc1_sem14_0 : DmaSem sig := 32
abbrev cc1_sem14_1 : DmaSem sig := 33
abbrev cc1_sem15_0 : DmaSem sig := 34
abbrev cc1_sem15_1 : DmaSem sig := 35
abbrev cc1_sem16_0 : DmaSem sig := 36
abbrev cc1_sem16_1 : DmaSem sig := 37
abbrev cc1_sem17_0 : DmaSem sig := 38
abbrev cc1_sem17_1 : DmaSem sig := 39

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x15x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let c29_i32 : BitVec 32 := 29#32
  let v4 : BitVec 32 := Scalar.maxsi c0_i32_0 v3
  let v5 : BitVec 32 := Scalar.minsi c29_i32 v4
  let v6 : BitVec 32 := Scalar.addi v0 v5
  let c0_i32_1 : BitVec 32 := 0#32
  let v7 : BitVec 32 := Scalar.addi v6 c0_i32_1
  let c1_i32_2 : BitVec 32 := 1#32
  let c0_i32_3 : BitVec 32 := 0#32
  ![v7.toNat, c1_i32_2.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let c29_i32 : BitVec 32 := 29#32
  let v4 : BitVec 32 := Scalar.maxsi c0_i32_0 v3
  let v5 : BitVec 32 := Scalar.minsi c29_i32 v4
  let v6 : BitVec 32 := Scalar.addi v0 v5
  let c1_i32_1 : BitVec 32 := 1#32
  let v7 : BitVec 32 := Scalar.addi v6 c1_i32_1
  let c1_i32_2 : BitVec 32 := 1#32
  let c0_i32_3 : BitVec 32 := 0#32
  ![v7.toNat, c1_i32_2.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let c29_i32 : BitVec 32 := 29#32
  let v4 : BitVec 32 := Scalar.maxsi c0_i32_0 v3
  let v5 : BitVec 32 := Scalar.minsi c29_i32 v4
  let v6 : BitVec 32 := Scalar.addi v0 v5
  let c2_i32_1 : BitVec 32 := 2#32
  let v7 : BitVec 32 := Scalar.addi v6 c2_i32_1
  let c1_i32_2 : BitVec 32 := 1#32
  let c0_i32_3 : BitVec 32 := 0#32
  ![v7.toNat, c1_i32_2.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let c29_i32 : BitVec 32 := 29#32
  let v4 : BitVec 32 := Scalar.maxsi c0_i32_0 v3
  let v5 : BitVec 32 := Scalar.minsi c29_i32 v4
  let v6 : BitVec 32 := Scalar.addi v0 v5
  let c0_i32_1 : BitVec 32 := 0#32
  let v7 : BitVec 32 := Scalar.addi v6 c0_i32_1
  let c2_i32_2 : BitVec 32 := 2#32
  let c0_i32_3 : BitVec 32 := 0#32
  ![v7.toNat, c2_i32_2.toNat]

def cc1_transform_5 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let c29_i32 : BitVec 32 := 29#32
  let v4 : BitVec 32 := Scalar.maxsi c0_i32_0 v3
  let v5 : BitVec 32 := Scalar.minsi c29_i32 v4
  let v6 : BitVec 32 := Scalar.addi v0 v5
  let c1_i32_1 : BitVec 32 := 1#32
  let v7 : BitVec 32 := Scalar.addi v6 c1_i32_1
  let c2_i32_2 : BitVec 32 := 2#32
  let c0_i32_3 : BitVec 32 := 0#32
  ![v7.toNat, c2_i32_2.toNat]

def cc1_transform_6 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let c29_i32 : BitVec 32 := 29#32
  let v4 : BitVec 32 := Scalar.maxsi c0_i32_0 v3
  let v5 : BitVec 32 := Scalar.minsi c29_i32 v4
  let v6 : BitVec 32 := Scalar.addi v0 v5
  let c2_i32_1 : BitVec 32 := 2#32
  let v7 : BitVec 32 := Scalar.addi v6 c2_i32_1
  let c2_i32_2 : BitVec 32 := 2#32
  let c0_i32_3 : BitVec 32 := 0#32
  ![v7.toNat, c2_i32_2.toNat]

def cc1_transform_7 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let c29_i32 : BitVec 32 := 29#32
  let v4 : BitVec 32 := Scalar.maxsi c0_i32 v3
  let v5 : BitVec 32 := Scalar.minsi c29_i32 v4
  let v6 : BitVec 32 := Scalar.addi v0 v5
  let c0_i32_1 : BitVec 32 := 0#32
  let v7 : BitVec 32 := Scalar.addi v6 c0_i32_1
  let c1_i32_2 : BitVec 32 := 1#32
  let c0_i32_3 : BitVec 32 := 0#32
  ![v7.toNat, c1_i32_2.toNat]

def cc1_transform_8 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let c29_i32 : BitVec 32 := 29#32
  let v4 : BitVec 32 := Scalar.maxsi c0_i32 v3
  let v5 : BitVec 32 := Scalar.minsi c29_i32 v4
  let v6 : BitVec 32 := Scalar.addi v0 v5
  let c1_i32_1 : BitVec 32 := 1#32
  let v7 : BitVec 32 := Scalar.addi v6 c1_i32_1
  let c1_i32_2 : BitVec 32 := 1#32
  let c0_i32_3 : BitVec 32 := 0#32
  ![v7.toNat, c1_i32_2.toNat]

def cc1_transform_9 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let c29_i32 : BitVec 32 := 29#32
  let v4 : BitVec 32 := Scalar.maxsi c0_i32 v3
  let v5 : BitVec 32 := Scalar.minsi c29_i32 v4
  let v6 : BitVec 32 := Scalar.addi v0 v5
  let c2_i32_1 : BitVec 32 := 2#32
  let v7 : BitVec 32 := Scalar.addi v6 c2_i32_1
  let c1_i32_2 : BitVec 32 := 1#32
  let c0_i32_3 : BitVec 32 := 0#32
  ![v7.toNat, c1_i32_2.toNat]

def cc1_transform_10 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let c29_i32 : BitVec 32 := 29#32
  let v4 : BitVec 32 := Scalar.maxsi c0_i32 v3
  let v5 : BitVec 32 := Scalar.minsi c29_i32 v4
  let v6 : BitVec 32 := Scalar.addi v0 v5
  let c0_i32_1 : BitVec 32 := 0#32
  let v7 : BitVec 32 := Scalar.addi v6 c0_i32_1
  let c2_i32_2 : BitVec 32 := 2#32
  let c0_i32_3 : BitVec 32 := 0#32
  ![v7.toNat, c2_i32_2.toNat]

def cc1_transform_11 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let c29_i32 : BitVec 32 := 29#32
  let v4 : BitVec 32 := Scalar.maxsi c0_i32 v3
  let v5 : BitVec 32 := Scalar.minsi c29_i32 v4
  let v6 : BitVec 32 := Scalar.addi v0 v5
  let c1_i32_1 : BitVec 32 := 1#32
  let v7 : BitVec 32 := Scalar.addi v6 c1_i32_1
  let c2_i32_2 : BitVec 32 := 2#32
  let c0_i32_3 : BitVec 32 := 0#32
  ![v7.toNat, c2_i32_2.toNat]

def cc1_transform_12 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli c2_i32 arg1
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let c29_i32 : BitVec 32 := 29#32
  let v4 : BitVec 32 := Scalar.maxsi c0_i32 v3
  let v5 : BitVec 32 := Scalar.minsi c29_i32 v4
  let v6 : BitVec 32 := Scalar.addi v0 v5
  let c2_i32_1 : BitVec 32 := 2#32
  let v7 : BitVec 32 := Scalar.addi v6 c2_i32_1
  let c2_i32_2 : BitVec 32 := 2#32
  let c0_i32_3 : BitVec 32 := 0#32
  ![v7.toNat, c2_i32_2.toNat]

def cc1_transform_13 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc1_transform_14 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc1_transform_15 (i : grid1.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let v2 : BitVec 1 := Scalar.cmpi .eq v1 c0_i32_0
  let c31_i32 : BitVec 32 := 31#32
  let v3 : BitVec 1 := Scalar.cmpi .eq v1 c31_i32
  let c2_i32_1 : BitVec 32 := 2#32
  let c1_i32 : BitVec 32 := 1#32
  let v4 : BitVec 32 := Scalar.select v3 c2_i32_1 c1_i32
  let c0_i32_2 : BitVec 32 := 0#32
  let v5 : BitVec 32 := Scalar.select v2 c0_i32_2 v4
  let c0_i32_3 : BitVec 32 := 0#32
  let c0_i32_4 : BitVec 32 := 0#32
  let c0_i32_5 : BitVec 32 := 0#32
  let c0_i32_6 : BitVec 32 := 0#32
  let c0_i32_7 : BitVec 32 := 0#32
  ![c0_i32_3.toNat, v5.toNat, c0_i32_4.toNat, c0_i32_5.toNat, c0_i32_6.toNat]

def cc1_transform_16 (i : grid1.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let v2 : BitVec 1 := Scalar.cmpi .eq v1 c0_i32
  let c31_i32 : BitVec 32 := 31#32
  let v3 : BitVec 1 := Scalar.cmpi .eq v1 c31_i32
  let c2_i32_0 : BitVec 32 := 2#32
  let c1_i32_1 : BitVec 32 := 1#32
  let v4 : BitVec 32 := Scalar.select v3 c2_i32_0 c1_i32_1
  let c0_i32_2 : BitVec 32 := 0#32
  let v5 : BitVec 32 := Scalar.select v2 c0_i32_2 v4
  let c0_i32_3 : BitVec 32 := 0#32
  let c0_i32_4 : BitVec 32 := 0#32
  let c0_i32_5 : BitVec 32 := 0#32
  let c0_i32_6 : BitVec 32 := 0#32
  let c0_i32_7 : BitVec 32 := 0#32
  ![c0_i32_3.toNat, v5.toNat, c0_i32_4.toNat, c0_i32_5.toNat, c0_i32_6.toNat]

def cc1_transform_17 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S256x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S256x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S1x1x8x256x768 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![false, true]

abbrev stage1_16 : Fin 2 → Memref sig .tc .vmem S1x1x8x256x768 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![false, true]

abbrev stage1_17 : Fin 2 → Memref sig .tc .vmem S512x512 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== ReferenceIdeal.lean ====
abbrev S32768x1536 : Shape := ⟨2, ![32768, 1536]⟩
abbrev S1024x1536 : Shape := ⟨2, ![1024, 1536]⟩
abbrev S2x8x15x31 : Shape := ⟨4, ![2, 8, 15, 31]⟩
abbrev S4x8192x1536 : Shape := ⟨3, ![4, 8192, 1536]⟩
abbrev S4x256x1536 : Shape := ⟨3, ![4, 256, 1536]⟩
abbrev S4x8192x512 : Shape := ⟨3, ![4, 8192, 512]⟩
abbrev S4x256x512 : Shape := ⟨3, ![4, 256, 512]⟩
abbrev S4x256x8x64 : Shape := ⟨4, ![4, 256, 8, 64]⟩
abbrev S1x8x15x31 : Shape := ⟨4, ![1, 8, 15, 31]⟩
abbrev S8x15x31 : Shape := ⟨3, ![8, 15, 31]⟩
abbrev S4x128x64x8x64 : Shape := ⟨5, ![4, 128, 64, 8, 64]⟩
abbrev S4x8192x8x64 : Shape := ⟨4, ![4, 8192, 8, 64]⟩
abbrev S128 : Shape := ⟨1, ![128]⟩
abbrev S_ : Shape := ⟨0, ![]⟩
abbrev S8x64 : Shape := ⟨2, ![8, 64]⟩
abbrev S512 : Shape := ⟨1, ![512]⟩
abbrev S128x1 : Shape := ⟨2, ![128, 1]⟩
abbrev S1x512 : Shape := ⟨2, ![1, 512]⟩
abbrev S128x512 : Shape := ⟨2, ![128, 512]⟩
abbrev S128x512x1 : Shape := ⟨3, ![128, 512, 1]⟩
abbrev S4x128x512x8x64 : Shape := ⟨5, ![4, 128, 512, 8, 64]⟩
abbrev S64 : Shape := ⟨1, ![64]⟩
abbrev S64x1 : Shape := ⟨2, ![64, 1]⟩
abbrev S64x512 : Shape := ⟨2, ![64, 512]⟩
abbrev S128x1x512 : Shape := ⟨3, ![128, 1, 512]⟩
abbrev S1x64x512 : Shape := ⟨3, ![1, 64, 512]⟩
abbrev S128x64x512 : Shape := ⟨3, ![128, 64, 512]⟩
abbrev S128x64x512x1 : Shape := ⟨4, ![128, 64, 512, 1]⟩
abbrev S128x64x512x2 : Shape := ⟨4, ![128, 64, 512, 2]⟩
abbrev S8x128x64x512 : Shape := ⟨4, ![8, 128, 64, 512]⟩
abbrev S4x8x128x64x512 : Shape := ⟨5, ![4, 8, 128, 64, 512]⟩
abbrev S1x8x128x64x512 : Shape := ⟨5, ![1, 8, 128, 64, 512]⟩
abbrev S1x1x1x64x512 : Shape := ⟨5, ![1, 1, 1, 64, 512]⟩
abbrev S4x8x128x64x256 : Shape := ⟨5, ![4, 8, 128, 64, 256]⟩
abbrev S4x8x128x64x768 : Shape := ⟨5, ![4, 8, 128, 64, 768]⟩
abbrev S4x8x128x64 : Shape := ⟨4, ![4, 8, 128, 64]⟩
abbrev S4x8x128x64x1 : Shape := ⟨5, ![4, 8, 128, 64, 1]⟩
abbrev S4x128x8x64x64 : Shape := ⟨5, ![4, 128, 8, 64, 64]⟩
abbrev S4x8x64x128x64 : Shape := ⟨5, ![4, 8, 64, 128, 64]⟩
abbrev S32768x512 : Shape := ⟨2, ![32768, 512]⟩

abbrev nBuf : Space → Nat
  | .hbm => 175
  | .vmem => 0
  | .smem => 0
  | _ => 0

abbrev hbmTy0_0 (i : Nat) : BufTy := match i % 128 with
  | 0 => ⟨S32768x1536, .bf16⟩
  | 1 => ⟨S1024x1536, .bf16⟩
  | 2 => ⟨S2x8x15x31, .f32⟩
  | 3 => ⟨S32768x1536, .f32⟩
  | 4 => ⟨S4x8192x1536, .f32⟩
  | 5 => ⟨S1024x1536, .f32⟩
  | 6 => ⟨S4x256x1536, .f32⟩
  | 7 => ⟨S4x8192x512, .f32⟩
  | 8 => ⟨S4x8192x512, .f32⟩
  | 9 => ⟨S4x8192x512, .f32⟩
  | 10 => ⟨S4x256x512, .f32⟩
  | 11 => ⟨S4x256x8x64, .f32⟩
  | 12 => ⟨S4x256x512, .f32⟩
  | 13 => ⟨S4x256x8x64, .f32⟩
  | 14 => ⟨S1x8x15x31, .f32⟩
  | 15 => ⟨S8x15x31, .f32⟩
  | 16 => ⟨S4x128x64x8x64, .f32⟩
  | 17 => ⟨S4x8192x8x64, .f32⟩
  | 18 => ⟨S4x8192x8x64, .f32⟩
  | 19 => ⟨S128, .i32⟩
  | 20 => ⟨S_, .i32⟩
  | 21 => ⟨S128, .i32⟩
  | 22 => ⟨S128, .i32⟩
  | 23 => ⟨S_, .i32⟩
  | 24 => ⟨S_, .i32⟩
  | 25 => ⟨S_, .i32⟩
  | 26 => ⟨S128, .i32⟩
  | 27 => ⟨S128, .i32⟩
  | 28 => ⟨S_, .i32⟩
  | 29 => ⟨S128, .i32⟩
  | 30 => ⟨S128, .i32⟩
  | 31 => ⟨S8x64, .i32⟩
  | 32 => ⟨S512, .i32⟩
  | 33 => ⟨S8x64, .i32⟩
  | 34 => ⟨S512, .i32⟩
  | 35 => ⟨S128x1, .i32⟩
  | 36 => ⟨S1x512, .i32⟩
  | 37 => ⟨S128x512, .i32⟩
  | 38 => ⟨S128x512, .i32⟩
  | 39 => ⟨S128x512, .i32⟩
  | 40 => ⟨S_, .i32⟩
  | 41 => ⟨S128x512, .i32⟩
  | 42 => ⟨S128x512, .i32⟩
  | 43 => ⟨S1x512, .i32⟩
  | 44 => ⟨S128x512, .i32⟩
  | 45 => ⟨S128x512, .i32⟩
  | 46 => ⟨S_, .i32⟩
  | 47 => ⟨S128x512, .i32⟩
  | 48 => ⟨S128x512, .i1⟩
  | 49 => ⟨S_, .i32⟩
  | 50 => ⟨S128x512, .i32⟩
  | 51 => ⟨S128x512, .i32⟩
  | 52 => ⟨S128x512, .i32⟩
  | 53 => ⟨S128x512x1, .i32⟩
  | 54 => ⟨S4x128x512x8x64, .f32⟩
  | 55 => ⟨S_, .i32⟩
  | 56 => ⟨S128x512, .i32⟩
  | 57 => ⟨S128x512, .i1⟩
  | 58 => ⟨S_, .i32⟩
  | 59 => ⟨S128x512, .i32⟩
  | 60 => ⟨S128x512, .i32⟩
  | 61 => ⟨S128x512, .i32⟩
  | 62 => ⟨S128x512x1, .i32⟩
  | 63 => ⟨S4x128x512x8x64, .f32⟩
  | 64 => ⟨S64, .i32⟩
  | 65 => ⟨S_, .i32⟩
  | 66 => ⟨S64, .i32⟩
  | 67 => ⟨S64, .i32⟩
  | 68 => ⟨S_, .i32⟩
  | 69 => ⟨S_, .i32⟩
  | 70 => ⟨S_, .i32⟩
  | 71 => ⟨S64, .i32⟩
  | 72 => ⟨S64, .i32⟩
  | 73 => ⟨S_, .i32⟩
  | 74 => ⟨S64, .i32⟩
  | 75 => ⟨S64, .i32⟩
  | 76 => ⟨S1x512, .i32⟩
  | 77 => ⟨S64x1, .i32⟩
  | 78 => ⟨S64x512, .i32⟩
  | 79 => ⟨S64x512, .i32⟩
  | 80 => ⟨S64x512, .i1⟩
  | 81 => ⟨S1x512, .i32⟩
  | 82 => ⟨S64x1, .i32⟩
  | 83 => ⟨S_, .i32⟩
  | 84 => ⟨S64x1, .i32⟩
  | 85 => ⟨S64x1, .i32⟩
  | 86 => ⟨S64x512, .i32⟩
  | 87 => ⟨S64x512, .i32⟩
  | 88 => ⟨S64x512, .i1⟩
  | 89 => ⟨S64x512, .i1⟩
  | 90 => ⟨S128x1, .i32⟩
  | 91 => ⟨S128x512, .i32⟩
  | 92 => ⟨S128x512, .i32⟩
  | 93 => ⟨S_, .i32⟩
  | 94 => ⟨S128x512, .i32⟩
  | 95 => ⟨S128x512, .i32⟩
  | 96 => ⟨S1x512, .i32⟩
  | 97 => ⟨S64x1, .i32⟩
  | 98 => ⟨S64x512, .i32⟩
  | 99 => ⟨S64x512, .i32⟩
  | 100 => ⟨S64x512, .i32⟩
  | 101 => ⟨S_, .i32⟩
  | 102 => ⟨S_, .i32⟩
  | 103 => ⟨S_, .i32⟩
  | 104 => ⟨S64x512, .i32⟩
  | 105 => ⟨S64x512, .i32⟩
  | 106 => ⟨S_, .i32⟩
  | 107 => ⟨S64x512, .i32⟩
  | 108 => ⟨S64x512, .i32⟩
  | 109 => ⟨S_, .i32⟩
  | 110 => ⟨S64x512, .i32⟩
  | 111 => ⟨S64x512, .i32⟩
  | 112 => ⟨S128x1x512, .i32⟩
  | 113 => ⟨S1x64x512, .i32⟩
  | 114 => ⟨S_, .i32⟩
  | 115 => ⟨S128x1x512, .i32⟩
  | 116 => ⟨S128x1x512, .i1⟩
  | 117 => ⟨S_, .i32⟩
  | 118 => ⟨S128x1x512, .i32⟩
  | 119 => ⟨S128x1x512, .i32⟩
  | 120 => ⟨S128x1x512, .i32⟩
  | 121 => ⟨S_, .i32⟩
  | 122 => ⟨S1x64x512, .i32⟩
  | 123 => ⟨S1x64x512, .i1⟩
  | 124 => ⟨S_, .i32⟩
  | 125 => ⟨S1x64x512, .i32⟩
  | 126 => ⟨S1x64x512, .i32⟩
  | 127 => ⟨S1x64x512, .i32⟩
  | _ => ⟨S32768x1536, .bf16⟩

abbrev hbmTy0_1 (i : Nat) : BufTy := match i % 128 with
  | 0 => ⟨S128x64x512, .i32⟩
  | 1 => ⟨S128x64x512, .i32⟩
  | 2 => ⟨S128x64x512x1, .i32⟩
  | 3 => ⟨S128x64x512x1, .i32⟩
  | 4 => ⟨S128x64x512x2, .i32⟩
  | 5 => ⟨S8x128x64x512, .f32⟩
  | 6 => ⟨S4x8x128x64x512, .f32⟩
  | 7 => ⟨S_, .f32⟩
  | 8 => ⟨S4x8x128x64x512, .f32⟩
  | 9 => ⟨S4x8x128x64x512, .f32⟩
  | 10 => ⟨S1x8x128x64x512, .f32⟩
  | 11 => ⟨S4x8x128x64x512, .f32⟩
  | 12 => ⟨S4x8x128x64x512, .f32⟩
  | 13 => ⟨S1x1x1x64x512, .i1⟩
  | 14 => ⟨S_, .f32⟩
  | 15 => ⟨S_, .f32⟩
  | 16 => ⟨S4x8x128x64x512, .i1⟩
  | 17 => ⟨S4x8x128x64x512, .f32⟩
  | 18 => ⟨S4x8x128x64x512, .f32⟩
  | 19 => ⟨S4x8x128x64x256, .f32⟩
  | 20 => ⟨S_, .f32⟩
  | 21 => ⟨S4x8x128x64x256, .f32⟩
  | 22 => ⟨S4x8x128x64x256, .f32⟩
  | 23 => ⟨S4x8x128x64x768, .f32⟩
  | 24 => ⟨S_, .f32⟩
  | 25 => ⟨S4x8x128x64, .f32⟩
  | 26 => ⟨S_, .f32⟩
  | 27 => ⟨S4x8x128x64, .f32⟩
  | 28 => ⟨S4x8x128x64, .f32⟩
  | 29 => ⟨S4x8x128x64x1, .f32⟩
  | 30 => ⟨S4x8x128x64x768, .f32⟩
  | 31 => ⟨S4x8x128x64x768, .f32⟩
  | 32 => ⟨S4x8x128x64x768, .f32⟩
  | 33 => ⟨S_, .f32⟩
  | 34 => ⟨S4x8x128x64, .f32⟩
  | 35 => ⟨S4x8x128x64x1, .f32⟩
  | 36 => ⟨S4x8x128x64x768, .f32⟩
  | 37 => ⟨S4x8x128x64x768, .f32⟩
  | 38 => ⟨S4x8x128x64x512, .f32⟩
  | 39 => ⟨S4x128x8x64x64, .f32⟩
  | 40 => ⟨S4x128x64x8x64, .f32⟩
  | 41 => ⟨S4x8x128x64x256, .f32⟩
  | 42 => ⟨S4x8x64x128x64, .f32⟩
  | 43 => ⟨S4x128x64x8x64, .f32⟩
  | 44 => ⟨S4x128x64x8x64, .f32⟩
  | 45 => ⟨S32768x512, .f32⟩
  | 46 => ⟨S32768x512, .bf16⟩
  | _ => ⟨S32768x1536, .bf16⟩

abbrev hbmTy (i : Nat) : BufTy := match i / 128 with
  | 0 => hbmTy0_0 i
  | 1 => hbmTy0_1 i
  | _ => ⟨S32768x1536, .bf16⟩

abbrev bufTy : (tb : Table) → Fin (tcTables nBuf tb) → BufTy
  | .hbm, ⟨i, _⟩ => hbmTy i
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_c_9 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_c_13 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v75 : Ref sig .tc := ⟨.hbm, 108, rfl⟩
abbrev main_c_14 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_15 : Ref sig .tc := ⟨.hbm, 114, rfl⟩
abbrev main_v80 : Ref sig .tc := ⟨.hbm, 115, rfl⟩
abbrev main_v81 : Ref sig .tc := ⟨.hbm, 116, rfl⟩
abbrev main_c_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_17 : Ref sig .tc := ⟨.hbm, 121, rfl⟩
abbrev main_v85 : Ref sig .tc := ⟨.hbm, 122, rfl⟩
abbrev main_v86 : Ref sig .tc := ⟨.hbm, 123, rfl⟩
abbrev main_c_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_19 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v103 : Ref sig .tc := ⟨.hbm, 146, rfl⟩
abbrev main_v104 : Ref sig .tc := ⟨.hbm, 147, rfl⟩
abbrev main_cst_20 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_21 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_23 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩

abbrev nD : Nat := 1
abbrev τ : Topo := Topo.v7x

variable {F : FTy → Type} [FloatOps F]
-- ==== Merge.lean ====
abbrev S32768x1024 : Shape := ⟨2, ![32768, 1024]⟩
abbrev S4x6x1024 : Shape := ⟨3, ![4, 6, 1024]⟩
abbrev S32768x256 : Shape := ⟨2, ![32768, 256]⟩
abbrev S32768x768 : Shape := ⟨2, ![32768, 768]⟩
abbrev S32768x512 : Shape := ⟨2, ![32768, 512]⟩
abbrev S32768x3072 : Shape := ⟨2, ![32768, 3072]⟩
abbrev S2x3x256 : Shape := ⟨3, ![2, 3, 256]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S1x3x256 : Shape := ⟨3, ![1, 3, 256]⟩
abbrev S3x256 : Shape := ⟨2, ![3, 256]⟩
abbrev S512x1024 : Shape := ⟨2, ![512, 1024]⟩
abbrev S1x6x1024 : Shape := ⟨3, ![1, 6, 1024]⟩
abbrev S512x256 : Shape := ⟨2, ![512, 256]⟩
abbrev S512x768 : Shape := ⟨2, ![512, 768]⟩
abbrev S16x768 : Shape := ⟨2, ![16, 768]⟩
abbrev S512x512 : Shape := ⟨2, ![512, 512]⟩
abbrev S512x3072 : Shape := ⟨2, ![512, 3072]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256 : Shape := ⟨2, ![1, 256]⟩
abbrev S1x1x1024 : Shape := ⟨3, ![1, 1, 1024]⟩
abbrev S256x256 : Shape := ⟨2, ![256, 256]⟩
abbrev S256x1024 : Shape := ⟨2, ![256, 1024]⟩
abbrev S256x512 : Shape := ⟨2, ![256, 512]⟩
abbrev S1024x1024 : Shape := ⟨2, ![1024, 1024]⟩
abbrev S512 : Shape := ⟨1, ![512]⟩
abbrev S512x1 : Shape := ⟨2, ![512, 1]⟩

abbrev nBuf : Space → Nat
  | .hbm => 28
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S32768x256, .f32⟩
  | .hbm, ⟨3, _⟩ => ⟨S32768x768, .bf16⟩
  | .hbm, ⟨4, _⟩ => ⟨S32768x512, .bf16⟩
  | .hbm, ⟨5, _⟩ => ⟨S32768x3072, .bf16⟩
  | .hbm, ⟨6, _⟩ => ⟨S2x3x256, .f32⟩
  | .hbm, ⟨7, _⟩ => ⟨S2x256x1024, .f32⟩
  | .hbm, ⟨8, _⟩ => ⟨S2x256x1024, .f32⟩
  | .hbm, ⟨9, _⟩ => ⟨S2x512x1024, .f32⟩
  | .hbm, ⟨10, _⟩ => ⟨S2x1024x1024, .f32⟩
  | .hbm, ⟨11, _⟩ => ⟨S2x1024, .f32⟩
  | .hbm, ⟨12, _⟩ => ⟨S2x1024x4096, .f32⟩
  | .hbm, ⟨13, _⟩ => ⟨S2x4096x1024, .f32⟩
  | .hbm, ⟨14, _⟩ => ⟨S1024, .f32⟩
  | .hbm, ⟨15, _⟩ => ⟨S1x1024, .f32⟩
  | .hbm, ⟨16, _⟩ => ⟨S2x256x1024, .bf16⟩
  | .hbm, ⟨17, _⟩ => ⟨S2x256x1024, .bf16⟩
  | .hbm, ⟨18, _⟩ => ⟨S2x512x1024, .bf16⟩
  | .hbm, ⟨19, _⟩ => ⟨S2x1024x1024, .bf16⟩
  | .hbm, ⟨20, _⟩ => ⟨S2x1024x4096, .bf16⟩
  | .hbm, ⟨21, _⟩ => ⟨S2x4096x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x3x256, .f32⟩
  | .hbm, ⟨26, _⟩ => ⟨S3x256, .f32⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x256, .f32⟩
  | .local _ .vmem, ⟨5, _⟩ => ⟨S512x256, .f32⟩
  | .local _ .vmem, ⟨6, _⟩ => ⟨S512x768, .bf16⟩
  | .local _ .vmem, ⟨7, _⟩ => ⟨S512x768, .bf16⟩
  | .local _ .vmem, ⟨8, _⟩ => ⟨S16x768, .bf16⟩
  | .local _ .vmem, ⟨9, _⟩ => ⟨S16x768, .bf16⟩
  | .local _ .vmem, ⟨10, _⟩ => ⟨S16x768, .bf16⟩
  | .local _ .vmem, ⟨11, _⟩ => ⟨S16x768, .bf16⟩
  | .local _ .vmem, ⟨12, _⟩ => ⟨S512x512, .bf16⟩
  | .local _ .vmem, ⟨13, _⟩ => ⟨S512x512, .bf16⟩
  | .local _ .vmem, ⟨14, _⟩ => ⟨S512x3072, .bf16⟩
  | .local _ .vmem, ⟨15, _⟩ => ⟨S512x3072, .bf16⟩
  | .local _ .vmem, ⟨16, _⟩ => ⟨S3x256, .f32⟩
  | .local _ .vmem, ⟨17, _⟩ => ⟨S1x256x1024, .bf16⟩
  | .local _ .vmem, ⟨18, _⟩ => ⟨S1x256x1024, .bf16⟩
  | .local _ .vmem, ⟨19, _⟩ => ⟨S1x512x1024, .bf16⟩
  | .local _ .vmem, ⟨20, _⟩ => ⟨S1x1024x1024, .bf16⟩
  | .local _ .vmem, ⟨21, _⟩ => ⟨S1x1024, .f32⟩
  | .local _ .vmem, ⟨22, _⟩ => ⟨S1x1024x4096, .bf16⟩
  | .local _ .vmem, ⟨23, _⟩ => ⟨S1x4096x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x256, .bf16⟩
  | .local _ .vmem, ⟨28, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeReferenceIdeal.lean ====
abbrev S32768x1024 : Shape := ⟨2, ![32768, 1024]⟩
abbrev S4x6x1024 : Shape := ⟨3, ![4, 6, 1024]⟩
abbrev S32768x256 : Shape := ⟨2, ![32768, 256]⟩
abbrev S32768x768 : Shape := ⟨2, ![32768, 768]⟩
abbrev S32768x512 : Shape := ⟨2, ![32768, 512]⟩
abbrev S32768x3072 : Shape := ⟨2, ![32768, 3072]⟩
abbrev S2x3x256 : Shape := ⟨3, ![2, 3, 256]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S4x8192x1024 : Shape := ⟨3, ![4, 8192, 1024]⟩
abbrev S4x8192x256 : Shape := ⟨3, ![4, 8192, 256]⟩
abbrev S4x8192x768 : Shape := ⟨3, ![4, 8192, 768]⟩
abbrev S4x8192x512 : Shape := ⟨3, ![4, 8192, 512]⟩
abbrev S4x8192x3072 : Shape := ⟨3, ![4, 8192, 3072]⟩
abbrev S4x1x1024 : Shape := ⟨3, ![4, 1, 1024]⟩
abbrev S4x1024 : Shape := ⟨2, ![4, 1024]⟩
abbrev S_ : Shape := ⟨0, ![]⟩
abbrev S4x8194x256 : Shape := ⟨3, ![4, 8194, 256]⟩
abbrev S1x1x256 : Shape := ⟨3, ![1, 1, 256]⟩
abbrev S256 : Shape := ⟨1, ![256]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S1x4096x1024 : Shape := ⟨3, ![1, 4096, 1024]⟩
abbrev S4096x1024 : Shape := ⟨2, ![4096, 1024]⟩

abbrev nBuf : Space → Nat
  | .hbm => 165
  | .vmem => 0
  | .smem => 0
  | _ => 0

abbrev hbmTy0_0 (i : Nat) : BufTy := match i % 128 with
  | 0 => ⟨S32768x1024, .f32⟩
  | 1 => ⟨S4x6x1024, .f32⟩
  | 2 => ⟨S32768x256, .f32⟩
  | 3 => ⟨S32768x768, .bf16⟩
  | 4 => ⟨S32768x512, .bf16⟩
  | 5 => ⟨S32768x3072, .bf16⟩
  | 6 => ⟨S2x3x256, .f32⟩
  | 7 => ⟨S2x256x1024, .f32⟩
  | 8 => ⟨S2x256x1024, .f32⟩
  | 9 => ⟨S2x512x1024, .f32⟩
  | 10 => ⟨S2x1024x1024, .f32⟩
  | 11 => ⟨S2x1024, .f32⟩
  | 12 => ⟨S2x1024x4096, .f32⟩
  | 13 => ⟨S2x4096x1024, .f32⟩
  | 14 => ⟨S1024, .f32⟩
  | 15 => ⟨S4x8192x1024, .f32⟩
  | 16 => ⟨S4x8192x256, .f32⟩
  | 17 => ⟨S32768x768, .f32⟩
  | 18 => ⟨S4x8192x768, .f32⟩
  | 19 => ⟨S32768x512, .f32⟩
  | 20 => ⟨S4x8192x512, .f32⟩
  | 21 => ⟨S32768x3072, .f32⟩
  | 22 => ⟨S4x8192x3072, .f32⟩
  | 23 => ⟨S4x1x1024, .f32⟩
  | 24 => ⟨S4x1024, .f32⟩
  | 25 => ⟨S4x1x1024, .f32⟩
  | 26 => ⟨S4x1x1024, .f32⟩
  | 27 => ⟨S4x1024, .f32⟩
  | 28 => ⟨S4x1x1024, .f32⟩
  | 29 => ⟨S4x1x1024, .f32⟩
  | 30 => ⟨S4x1024, .f32⟩
  | 31 => ⟨S4x1x1024, .f32⟩
  | 32 => ⟨S4x1x1024, .f32⟩
  | 33 => ⟨S4x1024, .f32⟩
  | 34 => ⟨S4x1x1024, .f32⟩
  | 35 => ⟨S4x8192x256, .f32⟩
  | 36 => ⟨S4x8192x256, .f32⟩
  | 37 => ⟨S4x8192x256, .f32⟩
  | 38 => ⟨S4x8192x256, .f32⟩
  | 39 => ⟨S_, .i32⟩
  | 40 => ⟨S_, .f32⟩
  | 41 => ⟨S4x8194x256, .f32⟩
  | 42 => ⟨S1x1x256, .f32⟩
  | 43 => ⟨S256, .f32⟩
  | 44 => ⟨S4x8192x256, .f32⟩
  | 45 => ⟨S1x1x256, .f32⟩
  | 46 => ⟨S4x8192x256, .f32⟩
  | 47 => ⟨S4x8192x256, .f32⟩
  | 48 => ⟨S1x1x256, .f32⟩
  | 49 => ⟨S256, .f32⟩
  | 50 => ⟨S4x8192x256, .f32⟩
  | 51 => ⟨S1x1x256, .f32⟩
  | 52 => ⟨S4x8192x256, .f32⟩
  | 53 => ⟨S4x8192x256, .f32⟩
  | 54 => ⟨S4x8192x256, .f32⟩
  | 55 => ⟨S1x1x256, .f32⟩
  | 56 => ⟨S256, .f32⟩
  | 57 => ⟨S4x8192x256, .f32⟩
  | 58 => ⟨S1x1x256, .f32⟩
  | 59 => ⟨S4x8192x256, .f32⟩
  | 60 => ⟨S4x8192x256, .f32⟩
  | 61 => ⟨S4x8192x256, .f32⟩
  | 62 => ⟨S4x8192x256, .f32⟩
  | 63 => ⟨S4x8192x1024, .f32⟩
  | 64 => ⟨S4x8192x1024, .f32⟩
  | 65 => ⟨S4x8192x1024, .f32⟩
  | 66 => ⟨S_, .f32⟩
  | 67 => ⟨S4x8192x1024, .f32⟩
  | 68 => ⟨S4x8192x1024, .f32⟩
  | 69 => ⟨S_, .f32⟩
  | 70 => ⟨S4x8192x1024, .f32⟩
  | 71 => ⟨S4x8192x1024, .f32⟩
  | 72 => ⟨S1x256x1024, .f32⟩
  | 73 => ⟨S256x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S4x8192x1024, .f32⟩
  | 79 => ⟨S_, .f32⟩
  | 80 => ⟨S4x8192x1024, .f32⟩
  | 81 => ⟨S4x8192x1024, .f32⟩
  | 82 => ⟨S_, .f32⟩
  | 83 => ⟨S4x8192x1024, .f32⟩
  | 84 => ⟨S4x8192x1024, .f32⟩
  | 85 => ⟨S1x256x1024, .f32⟩
  | 86 => ⟨S256x1024, .f32⟩
  | 87 => ⟨S4x8192x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S4x8192x1024, .f32⟩
  | 93 => ⟨S_, .f32⟩
  | 94 => ⟨S4x8192x1024, .f32⟩
  | 95 => ⟨S4x8192x1024, .f32⟩
  | 96 => ⟨S_, .f32⟩
  | 97 => ⟨S4x8192x1024, .f32⟩
  | 98 => ⟨S4x8192x1024, .f32⟩
  | 99 => ⟨S1x512x1024, .f32⟩
  | 100 => ⟨S512x1024, .f32⟩
  | 101 => ⟨S4x8192x1024, .f32⟩
  | 102 => ⟨S4x8192x1024, .f32⟩
  | 103 => ⟨S4x8192x1024, .f32⟩
  | 104 => ⟨S1x1024x1024, .f32⟩
  | 105 => ⟨S1024x1024, .f32⟩
  | 106 => ⟨S4x8192x1024, .f32⟩
  | 107 => ⟨S4x8192x1024, .f32⟩
  | 108 => ⟨S4x8192x1024, .f32⟩
  | 109 => ⟨S4x8192x1024, .f32⟩
  | 110 => ⟨S1x1024, .f32⟩
  | 111 => ⟨S1024, .f32⟩
  | 112 => ⟨S4x8192x1024, .f32⟩
  | 113 => ⟨S_, .f32⟩
  | 114 => ⟨S4x8192, .f32⟩
  | 115 => ⟨S4x8192x1, .f32⟩
  | 116 => ⟨S_, .f32⟩
  | 117 => ⟨S4x8192x1, .f32⟩
  | 118 => ⟨S4x8192x1, .f32⟩
  | 119 => ⟨S_, .f32⟩
  | 120 => ⟨S4x8192x1, .f32⟩
  | 121 => ⟨S4x8192x1, .f32⟩
  | 122 => ⟨S4x8192x1, .f32⟩
  | 123 => ⟨S4x8192x1024, .f32⟩
  | 124 => ⟨S4x8192x1024, .f32⟩
  | 125 => ⟨S1x1x1024, .f32⟩
  | 126 => ⟨S4x8192x1024, .f32⟩
  | 127 => ⟨S4x8192x1024, .f32⟩
  | _ => ⟨S32768x1024, .f32⟩

abbrev hbmTy0_1 (i : Nat) : BufTy := match i % 128 with
  | 0 => ⟨S_, .f32⟩
  | 1 => ⟨S4x1x1024, .f32⟩
  | 2 => ⟨S4x1x1024, .f32⟩
  | 3 => ⟨S4x8192x1024, .f32⟩
  | 4 => ⟨S4x8192x1024, .f32⟩
  | 5 => ⟨S4x8192x1024, .f32⟩
  | 6 => ⟨S4x8192x1024, .f32⟩
  | 7 => ⟨S1x1024x4096, .f32⟩
  | 8 => ⟨S1024x4096, .f32⟩
  | 9 => ⟨S4x8192x4096, .f32⟩
  | 10 => ⟨S_, .f32⟩
  | 11 => ⟨S4x8192x4096, .f32⟩
  | 12 => ⟨S4x8192x4096, .f32⟩
  | 13 => ⟨S4x8192x4096, .f32⟩
  | 14 => ⟨S1x4096x1024, .f32⟩
  | 15 => ⟨S4096x1024, .f32⟩
  | 16 => ⟨S4x8192x1024, .f32⟩
  | 17 => ⟨S4x8192x1024, .f32⟩
  | 18 => ⟨S4x8192x1024, .f32⟩
  | 19 => ⟨S4x8192x1024, .f32⟩
  | 20 => ⟨S4x8192x1024, .f32⟩
  | 21 => ⟨S_, .f32⟩
  | 22 => ⟨S4x8192, .f32⟩
  | 23 => ⟨S4x8192x1, .f32⟩
  | 24 => ⟨S_, .f32⟩
  | 25 => ⟨S4x8192x1, .f32⟩
  | 26 => ⟨S4x8192x1, .f32⟩
  | 27 => ⟨S_, .f32⟩
  | 28 => ⟨S4x8192x1, .f32⟩
  | 29 => ⟨S4x8192x1, .f32⟩
  | 30 => ⟨S4x8192x1, .f32⟩
  | 31 => ⟨S4x8192x1024, .f32⟩
  | 32 => ⟨S4x8192x1024, .f32⟩
  | 33 => ⟨S1x1x1024, .f32⟩
  | 34 => ⟨S4x8192x1024, .f32⟩
  | 35 => ⟨S4x8192x1024, .f32⟩
  | 36 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst : Ref sig .tc := ⟨.hbm, 66, rfl⟩
abbrev main_v49 : Ref sig .tc := ⟨.hbm, 67, rfl⟩
abbrev main_v50 : Ref sig .tc := ⟨.hbm, 68, rfl⟩
abbrev main_cst_0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_1 : Ref sig .tc := ⟨.hbm, 79, rfl⟩
abbrev main_v60 : Ref sig .tc := ⟨.hbm, 80, rfl⟩
abbrev main_v61 : Ref sig .tc := ⟨.hbm, 81, rfl⟩
abbrev main_cst_2 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_3 : Ref sig .tc := ⟨.hbm, 93, rfl⟩
abbrev main_v72 : Ref sig .tc := ⟨.hbm, 94, rfl⟩
abbrev main_v73 : Ref sig .tc := ⟨.hbm, 95, rfl⟩
abbrev main_cst_4 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_5 : Ref sig .tc := ⟨.hbm, 113, rfl⟩
abbrev main_v90 : Ref sig .tc := ⟨.hbm, 114, rfl⟩
abbrev main_v91 : Ref sig .tc := ⟨.hbm, 115, rfl⟩
abbrev main_cst_6 : Ref sig .tc := ⟨.hbm, 116, rfl⟩
abbrev main_v92 : Ref sig .tc := ⟨.hbm, 117, rfl⟩
abbrev main_v93 : Ref sig .tc := ⟨.hbm, 118, rfl⟩
abbrev main_cst_7 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_8 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_call1_cst : Ref sig .tc := ⟨.hbm, 138, rfl⟩
abbrev main_call1_v0 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_9 : Ref sig .tc := ⟨.hbm, 149, rfl⟩
abbrev main_v120 : Ref sig .tc := ⟨.hbm, 150, rfl⟩
abbrev main_v121 : Ref sig .tc := ⟨.hbm, 151, rfl⟩
abbrev main_cst_10 : Ref sig .tc := ⟨.hbm, 152, rfl⟩
abbrev main_v122 : Ref sig .tc := ⟨.hbm, 153, rfl⟩
abbrev main_v123 : Ref sig .tc := ⟨.hbm, 154, rfl⟩
abbrev main_cst_11 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩

abbrev nD : Nat := 1
abbrev τ : Topo := Topo.v7x

variable {F : FTy → Type} [FloatOps F]
-- ==== Proj.lean ====
abbrev S32768x1024 : Shape := ⟨2, ![32768, 1024]⟩
abbrev S4x6x1024 : Shape := ⟨3, ![4, 6, 1024]⟩
abbrev S2x1024 : Shape := ⟨2, ![2, 1024]⟩
abbrev S2x1024x5632 : Shape := ⟨3, ![2, 1024, 5632]⟩
abbrev S1x1024 : Shape := ⟨2, ![1, 1024]⟩
abbrev S1024 : Shape := ⟨1, ![1024]⟩
abbrev S32768x256 : Shape := ⟨2, ![32768, 256]⟩
abbrev S32768x768 : Shape := ⟨2, ![32768, 768]⟩
abbrev S32768x1536 : Shape := ⟨2, ![32768, 1536]⟩
abbrev S32768x3072 : Shape := ⟨2, ![32768, 3072]⟩
abbrev S1024x1024 : Shape := ⟨2, ![1024, 1024]⟩
abbrev S1x6x1024 : Shape := ⟨3, ![1, 6, 1024]⟩
abbrev S1x1024x5632 : Shape := ⟨3, ![1, 1024, 5632]⟩
abbrev S1024x256 : Shape := ⟨2, ![1024, 256]⟩
abbrev S1024x768 : Shape := ⟨2, ![1024, 768]⟩
abbrev S1024x1536 : Shape := ⟨2, ![1024, 1536]⟩
abbrev S1024x3072 : Shape := ⟨2, ![1024, 3072]⟩
abbrev S1x1x1024 : Shape := ⟨3, ![1, 1, 1024]⟩
abbrev S1024x1 : Shape := ⟨2, ![1024, 1]⟩
abbrev S1x1024x256 : Shape := ⟨3, ![1, 1024, 256]⟩
abbrev S1x1024x512 : Shape := ⟨3, ![1, 1024, 512]⟩
abbrev S1024x512 : Shape := ⟨2, ![1024, 512]⟩

abbrev nBuf : Space → Nat
  | .hbm => 12
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S2x1024, .f32⟩
  | .hbm, ⟨3, _⟩ => ⟨S2x1024x5632, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S2x1024x5632, .bf16⟩
  | .hbm, ⟨8, _⟩ => ⟨S32768x256, .f32⟩
  | .hbm, ⟨9, _⟩ => ⟨S32768x768, .bf16⟩
  | .hbm, ⟨10, _⟩ => ⟨S32768x1536, .bf16⟩
  | .hbm, ⟨11, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x5632, .bf16⟩
  | .local _ .vmem, ⟨6, _⟩ => ⟨S1024x256, .f32⟩
  | .local _ .vmem, ⟨7, _⟩ => ⟨S1024x256, .f32⟩
  | .local _ .vmem, ⟨8, _⟩ => ⟨S1024x768, .bf16⟩
  | .local _ .vmem, ⟨9, _⟩ => ⟨S1024x768, .bf16⟩
  | .local _ .vmem, ⟨10, _⟩ => ⟨S1024x1536, .bf16⟩
  | .local _ .vmem, ⟨11, _⟩ => ⟨S1024x1536, .bf16⟩
  | .local _ .vmem, ⟨12, _⟩ => ⟨S1024x3072, .bf16⟩
  | .local _ .vmem, ⟨13, _⟩ => ⟨S1024x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjReferenceIdeal.lean ====
abbrev S32768x1024 : Shape := ⟨2, ![32768, 1024]⟩
abbrev S4x6x1024 : Shape := ⟨3, ![4, 6, 1024]⟩
abbrev S2x1024 : Shape := ⟨2, ![2, 1024]⟩
abbrev S2x1024x5632 : Shape := ⟨3, ![2, 1024, 5632]⟩
abbrev S4x8192x1024 : Shape := ⟨3, ![4, 8192, 1024]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x8192x5632 : Shape := ⟨3, ![4, 8192, 5632]⟩
abbrev S32768x5632 : Shape := ⟨2, ![32768, 5632]⟩
abbrev S32768x256 : Shape := ⟨2, ![32768, 256]⟩
abbrev S32768x768 : Shape := ⟨2, ![32768, 768]⟩
abbrev S32768x1536 : Shape := ⟨2, ![32768, 1536]⟩
abbrev S32768x3072 : Shape := ⟨2, ![32768, 3072]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S2x1024, .f32⟩
  | .hbm, ⟨3, _⟩ => ⟨S2x1024x5632, .f32⟩
  | .hbm, ⟨4, _⟩ => ⟨S4x8192x1024, .f32⟩
  | .hbm, ⟨5, _⟩ => ⟨S4x1x1024, .f32⟩
  | .hbm, ⟨6, _⟩ => ⟨S4x1024, .f32⟩
  | .hbm, ⟨7, _⟩ => ⟨S4x1x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S1x1024x5632, .f32⟩
  | .hbm, ⟨37, _⟩ => ⟨S1024x5632, .f32⟩
  | .hbm, ⟨38, _⟩ => ⟨S4x8192x5632, .f32⟩
  | .hbm, ⟨39, _⟩ => ⟨S32768x5632, .f32⟩
  | .hbm, ⟨40, _⟩ => ⟨S32768x256, .f32⟩
  | .hbm, ⟨41, _⟩ => ⟨S32768x768, .f32⟩
  | .hbm, ⟨42, _⟩ => ⟨S32768x1536, .f32⟩
  | .hbm, ⟨43, _⟩ => ⟨S32768x3072, .f32⟩
  | .hbm, ⟨44, _⟩ => ⟨S32768x768, .bf16⟩
  | .hbm, ⟨45, _⟩ => ⟨S32768x1536, .bf16⟩
  | .hbm, ⟨46, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Modul.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulReferenceIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Ctx.lean ====
abbrev S1024x1536 : Shape := ⟨2, ![1024, 1536]⟩
abbrev S1024x512 : Shape := ⟨2, ![1024, 512]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S1024x1536, .bf16⟩
  | .hbm, ⟨1, _⟩ => ⟨S1024x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | _, _ => ⟨S1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CtxIdeal.lean ====
variable {F : FTy → Type} [FloatOps F] [Named F]
def κ : String → Option EReal := fun
  | "qscale" => some (((1 / 8) * (Real.log 2)⁻¹ : ℝ) : EReal)
  | _ => none
-- ==== CtxReferenceIdeal.lean ====
abbrev S1024x1536 : Shape := ⟨2, ![1024, 1536]⟩
abbrev S1024x512 : Shape := ⟨2, ![1024, 512]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩

abbrev nBuf : Space → Nat
  | .hbm => 30
  | .vmem => 0
  | .smem => 0
  | _ => 0

abbrev bufTy : (tb : Table) → Fin (tcTables nBuf tb) → BufTy
  | .hbm, ⟨0, _⟩ => ⟨S1024x1536, .bf16⟩
  | .hbm, ⟨1, _⟩ => ⟨S1024x1536, .f32⟩
  | .hbm, ⟨2, _⟩ => ⟨S1024x512, .f32⟩
  | .hbm, ⟨3, _⟩ => ⟨S4x256x8x64, .f32⟩
  | .hbm, ⟨4, _⟩ => ⟨S1024x512, .f32⟩
  | .hbm, ⟨5, _⟩ => ⟨S4x256x8x64, .f32⟩
  | .hbm, ⟨6, _⟩ => ⟨S1024x512, .f32⟩
  | .hbm, ⟨7, _⟩ => ⟨S4x256x8x64, .f32⟩
  | .hbm, ⟨8, _⟩ => ⟨S4x8x256x256, .f32⟩
  | .hbm, ⟨9, _⟩ => ⟨S_, .f32⟩
  | .hbm, ⟨10, _⟩ => ⟨S4x8x256x256, .f32⟩
  | .hbm, ⟨11, _⟩ => ⟨S4x8x256x256, .f32⟩
  | .hbm, ⟨12, _⟩ => ⟨S_, .f32⟩
  | .hbm, ⟨13, _⟩ => ⟨S4x8x256, .f32⟩
  | .hbm, ⟨14, _⟩ => ⟨S_, .f32⟩
  | .hbm, ⟨15, _⟩ => ⟨S4x8x256, .f32⟩
  | .hbm, ⟨16, _⟩ => ⟨S4x8x256, .f32⟩
  | .hbm, ⟨17, _⟩ => ⟨S4x8x256x1, .f32⟩
  | .hbm, ⟨18, _⟩ => ⟨S4x8x256x256, .f32⟩
  | .hbm, ⟨19, _⟩ => ⟨S4x8x256x256, .f32⟩
  | .hbm, ⟨20, _⟩ => ⟨S4x8x256x256, .f32⟩
  | .hbm, ⟨21, _⟩ => ⟨S_, .f32⟩
  | .hbm, ⟨22, _⟩ => ⟨S4x8x256, .f32⟩
  | .hbm, ⟨23, _⟩ => ⟨S4x8x256x1, .f32⟩
  | .hbm, ⟨24, _⟩ => ⟨S4x8x256x256, .f32⟩
  | .hbm, ⟨25, _⟩ => ⟨S4x8x256x256, .f32⟩
  | .hbm, ⟨26, _⟩ => ⟨S4x8x64x256, .f32⟩
  | .hbm, ⟨27, _⟩ => ⟨S4x256x8x64, .f32⟩
  | .hbm, ⟨28, _⟩ => ⟨S1024x512, .f32⟩
  | .hbm, ⟨29, _⟩ => ⟨S1024x512, .bf16⟩
  | _, _ => ⟨S1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Dft.lean ====
abbrev S32768x256 : Shape := ⟨2, ![32768, 256]⟩
abbrev S128x64 : Shape := ⟨2, ![128, 64]⟩
abbrev S64x256x256 : Shape := ⟨3, ![64, 256, 256]⟩
abbrev S2x256x256 : Shape := ⟨3, ![2, 256, 256]⟩
abbrev S8x8 : Shape := ⟨2, ![8, 8]⟩
abbrev S_ : Shape := ⟨0, ![]⟩
abbrev S128x1x64x1 : Shape := ⟨4, ![128, 1, 64, 1]⟩
abbrev S1x8x1x8 : Shape := ⟨4, ![1, 8, 1, 8]⟩
abbrev S128x8x64x8 : Shape := ⟨4, ![128, 8, 64, 8]⟩
abbrev S1024x512 : Shape := ⟨2, ![1024, 512]⟩
abbrev S4x64x128x256 : Shape := ⟨4, ![4, 64, 128, 256]⟩
abbrev S2x64x8x512 : Shape := ⟨4, ![2, 64, 8, 512]⟩
abbrev S4x128x64x256 : Shape := ⟨4, ![4, 128, 64, 256]⟩
abbrev S1x64x128x256 : Shape := ⟨4, ![1, 64, 128, 256]⟩
abbrev S2x16x8x512 : Shape := ⟨4, ![2, 16, 8, 512]⟩
abbrev S16x256x256 : Shape := ⟨3, ![16, 256, 256]⟩
abbrev S1x128x16x256 : Shape := ⟨4, ![1, 128, 16, 256]⟩
abbrev S2x16x128x256 : Shape := ⟨4, ![2, 16, 128, 256]⟩
abbrev S256x512 : Shape := ⟨2, ![256, 512]⟩
abbrev S1x64x8x256 : Shape := ⟨4, ![1, 64, 8, 256]⟩
abbrev S64x8x256 : Shape := ⟨3, ![64, 8, 256]⟩
abbrev S512x256 : Shape := ⟨2, ![512, 256]⟩
abbrev S256x256 : Shape := ⟨2, ![256, 256]⟩
abbrev S2x16x8x256 : Shape := ⟨4, ![2, 16, 8, 256]⟩
abbrev S1x256x256 : Shape := ⟨3, ![1, 256, 256]⟩
abbrev S2x1x128x256 : Shape := ⟨4, ![2, 1, 128, 256]⟩
abbrev S2x128x256 : Shape := ⟨3, ![2, 128, 256]⟩
abbrev S128x256 : Shape := ⟨2, ![128, 256]⟩
abbrev S1x128x1x256 : Shape := ⟨4, ![1, 128, 1, 256]⟩

abbrev nBuf : Space → Nat
  | .hbm => 20
  | .vmem => 10
  | .smem => 0
  | _ => 0

abbrev bufTy : (tb : Table) → Fin (tcTables nBuf tb) → BufTy
  | .hbm, ⟨0, _⟩ => ⟨S32768x256, .f32⟩
  | .hbm, ⟨1, _⟩ => ⟨S128x64, .f32⟩
  | .hbm, ⟨2, _⟩ => ⟨S64x256x256, .f32⟩
  | .hbm, ⟨3, _⟩ => ⟨S2x256x256, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S128x1x64x1, .f32⟩
  | .hbm, ⟨12, _⟩ => ⟨S1x8x1x8, .f32⟩
  | .hbm, ⟨13, _⟩ => ⟨S128x8x64x8, .f32⟩
  | .hbm, ⟨14, _⟩ => ⟨S128x8x64x8, .f32⟩
  | .hbm, ⟨15, _⟩ => ⟨S128x8x64x8, .f32⟩
  | .hbm, ⟨16, _⟩ => ⟨S1024x512, .f32⟩
  | .hbm, ⟨17, _⟩ => ⟨S4x64x128x256, .f32⟩
  | .hbm, ⟨18, _⟩ => ⟨S2x64x8x512, .f32⟩
  | .hbm, ⟨19, _⟩ => ⟨S4x128x64x256, .f32⟩
  | .local _ .vmem, ⟨0, _⟩ => ⟨S1x64x128x256, .f32⟩
  | .local _ .vmem, ⟨1, _⟩ => ⟨S1x64x128x256, .f32⟩
  | .local _ .vmem, ⟨2, _⟩ => ⟨S2x16x8x512, .f32⟩
  | .local _ .vmem, ⟨3, _⟩ => ⟨S2x16x8x512, .f32⟩
  | .local _ .vmem, ⟨4, _⟩ => ⟨S16x256x256, .f32⟩
  | .local _ .vmem, ⟨5, _⟩ => ⟨S16x256x256, .f32⟩
  | .local _ .vmem, ⟨6, _⟩ => ⟨S2x256x256, .f32⟩
  | .local _ .vmem, ⟨7, _⟩ => ⟨S1x128x16x256, .f32⟩
  | .local _ .vmem, ⟨8, _⟩ => ⟨S1x128x16x256, .f32⟩
  | .local _ .vmem, ⟨9, _⟩ => ⟨S2x16x128x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x16x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DftReferenceIdeal.lean ====
abbrev S32768x256 : Shape := ⟨2, ![32768, 256]⟩
abbrev S128x64 : Shape := ⟨2, ![128, 64]⟩
abbrev S64x256x256 : Shape := ⟨3, ![64, 256, 256]⟩
abbrev S2x256x256 : Shape := ⟨3, ![2, 256, 256]⟩
abbrev S4x64x128x256 : Shape := ⟨4, ![4, 64, 128, 256]⟩
abbrev S64x64 : Shape := ⟨2, ![64, 64]⟩
abbrev S64x4x128x256 : Shape := ⟨4, ![64, 4, 128, 256]⟩
abbrev S64x256x128 : Shape := ⟨3, ![64, 256, 128]⟩
abbrev S64x256x4x256 : Shape := ⟨4, ![64, 256, 4, 256]⟩
abbrev S4x64x256x256 : Shape := ⟨4, ![4, 64, 256, 256]⟩
abbrev S1x256x256 : Shape := ⟨3, ![1, 256, 256]⟩
abbrev S256x256 : Shape := ⟨2, ![256, 256]⟩
abbrev S256x4x64x128 : Shape := ⟨4, ![256, 4, 64, 128]⟩
abbrev S4x128x64x256 : Shape := ⟨4, ![4, 128, 64, 256]⟩

abbrev nBuf : Space → Nat
  | .hbm => 29
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S128x64, .f32⟩
  | .hbm, ⟨2, _⟩ => ⟨S64x256x256, .f32⟩
  | .hbm, ⟨3, _⟩ => ⟨S2x256x256, .f32⟩
  | .hbm, ⟨4, _⟩ => ⟨S4x64x128x256, .f32⟩
  | .hbm, ⟨5, _⟩ => ⟨S64x64, .f32⟩
  | .hbm, ⟨6, _⟩ => ⟨S64x4x128x256, .f32⟩
  | .hbm, ⟨7, _⟩ => ⟨S4x64x128x256, .f32⟩
  | .hbm, ⟨8, _⟩ => ⟨S64x64, .f32⟩
  | .hbm, ⟨9, _⟩ => ⟨S64x4x128x256, .f32⟩
  | .hbm, ⟨10, _⟩ => ⟨S4x64x128x256, .f32⟩
  | .hbm, ⟨11, _⟩ => ⟨S64x256x128, .f32⟩
  | .hbm, ⟨12, _⟩ => ⟨S64x256x4x256, .f32⟩
  | .hbm, ⟨13, _⟩ => ⟨S4x64x256x256, .f32⟩
  | .hbm, ⟨14, _⟩ => ⟨S64x256x128, .f32⟩
  | .hbm, ⟨15, _⟩ => ⟨S64x256x4x256, .f32⟩
  | .hbm, ⟨16, _⟩ => ⟨S4x64x256x256, .f32⟩
  | .hbm, ⟨17, _⟩ => ⟨S4x64x256x256, .f32⟩
  | .hbm, ⟨18, _⟩ => ⟨S4x64x128x256, .f32⟩
  | .hbm, ⟨19, _⟩ => ⟨S1x256x256, .f32⟩
  | .hbm, ⟨20, _⟩ => ⟨S256x256, .f32⟩
  | .hbm, ⟨21, _⟩ => ⟨S256x4x64x128, .f32⟩
  | .hbm, ⟨22, _⟩ => ⟨S4x128x64x256, .f32⟩
  | .hbm, ⟨23, _⟩ => ⟨S4x64x128x256, .f32⟩
  | .hbm, ⟨24, _⟩ => ⟨S1x256x256, .f32⟩
  | .hbm, ⟨25, _⟩ => ⟨S256x256, .f32⟩
  | .hbm, ⟨26, _⟩ => ⟨S256x4x64x128, .f32⟩
  | .hbm, ⟨27, _⟩ => ⟨S4x128x64x256, .f32⟩
  | .hbm, ⟨28, _⟩ => ⟨S4x128x64x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== MergeFirst.lean ====
abbrev S32768x1024 : Shape := ⟨2, ![32768, 1024]⟩
abbrev S4x6x1024 : Shape := ⟨3, ![4, 6, 1024]⟩
abbrev S32768x256 : Shape := ⟨2, ![32768, 256]⟩
abbrev S32768x768 : Shape := ⟨2, ![32768, 768]⟩
abbrev S32768x512 : Shape := ⟨2, ![32768, 512]⟩
abbrev S32768x3072 : Shape := ⟨2, ![32768, 3072]⟩
abbrev S2x3x256 : Shape := ⟨3, ![2, 3, 256]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S1x3x256 : Shape := ⟨3, ![1, 3, 256]⟩
abbrev S3x256 : Shape := ⟨2, ![3, 256]⟩
abbrev S512x1024 : Shape := ⟨2, ![512, 1024]⟩
abbrev S1x6x1024 : Shape := ⟨3, ![1, 6, 1024]⟩
abbrev S512x256 : Shape := ⟨2, ![512, 256]⟩
abbrev S512x768 : Shape := ⟨2, ![512, 768]⟩
abbrev S16x768 : Shape := ⟨2, ![16, 768]⟩
abbrev S512x512 : Shape := ⟨2, ![512, 512]⟩
abbrev S512x3072 : Shape := ⟨2, ![512, 3072]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256 : Shape := ⟨2, ![1, 256]⟩
abbrev S1x1x1024 : Shape := ⟨3, ![1, 1, 1024]⟩
abbrev S256x256 : Shape := ⟨2, ![256, 256]⟩
abbrev S256x1024 : Shape := ⟨2, ![256, 1024]⟩
abbrev S256x512 : Shape := ⟨2, ![256, 512]⟩
abbrev S1024x1024 : Shape := ⟨2, ![1024, 1024]⟩
abbrev S512 : Shape := ⟨1, ![512]⟩
abbrev S512x1 : Shape := ⟨2, ![512, 1]⟩

abbrev nBuf : Space → Nat
  | .hbm => 28
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S32768x256, .f32⟩
  | .hbm, ⟨3, _⟩ => ⟨S32768x768, .bf16⟩
  | .hbm, ⟨4, _⟩ => ⟨S32768x512, .bf16⟩
  | .hbm, ⟨5, _⟩ => ⟨S32768x3072, .bf16⟩
  | .hbm, ⟨6, _⟩ => ⟨S2x3x256, .f32⟩
  | .hbm, ⟨7, _⟩ => ⟨S2x256x1024, .f32⟩
  | .hbm, ⟨8, _⟩ => ⟨S2x256x1024, .f32⟩
  | .hbm, ⟨9, _⟩ => ⟨S2x512x1024, .f32⟩
  | .hbm, ⟨10, _⟩ => ⟨S2x1024x1024, .f32⟩
  | .hbm, ⟨11, _⟩ => ⟨S2x1024, .f32⟩
  | .hbm, ⟨12, _⟩ => ⟨S2x1024x4096, .f32⟩
  | .hbm, ⟨13, _⟩ => ⟨S2x4096x1024, .f32⟩
  | .hbm, ⟨14, _⟩ => ⟨S1024, .f32⟩
  | .hbm, ⟨15, _⟩ => ⟨S1x1024, .f32⟩
  | .hbm, ⟨16, _⟩ => ⟨S2x256x1024, .bf16⟩
  | .hbm, ⟨17, _⟩ => ⟨S2x256x1024, .bf16⟩
  | .hbm, ⟨18, _⟩ => ⟨S2x512x1024, .bf16⟩
  | .hbm, ⟨19, _⟩ => ⟨S2x1024x1024, .bf16⟩
  | .hbm, ⟨20, _⟩ => ⟨S2x1024x4096, .bf16⟩
  | .hbm, ⟨21, _⟩ => ⟨S2x4096x1024, .bf16⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x3x256, .f32⟩
  | .hbm, ⟨26, _⟩ => ⟨S3x256, .f32⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x256, .f32⟩
  | .local _ .vmem, ⟨5, _⟩ => ⟨S512x256, .f32⟩
  | .local _ .vmem, ⟨6, _⟩ => ⟨S512x768, .bf16⟩
  | .local _ .vmem, ⟨7, _⟩ => ⟨S512x768, .bf16⟩
  | .local _ .vmem, ⟨8, _⟩ => ⟨S16x768, .bf16⟩
  | .local _ .vmem, ⟨9, _⟩ => ⟨S16x768, .bf16⟩
  | .local _ .vmem, ⟨10, _⟩ => ⟨S16x768, .bf16⟩
  | .local _ .vmem, ⟨11, _⟩ => ⟨S16x768, .bf16⟩
  | .local _ .vmem, ⟨12, _⟩ => ⟨S512x512, .bf16⟩
  | .local _ .vmem, ⟨13, _⟩ => ⟨S512x512, .bf16⟩
  | .local _ .vmem, ⟨14, _⟩ => ⟨S512x3072, .bf16⟩
  | .local _ .vmem, ⟨15, _⟩ => ⟨S512x3072, .bf16⟩
  | .local _ .vmem, ⟨16, _⟩ => ⟨S3x256, .f32⟩
  | .local _ .vmem, ⟨17, _⟩ => ⟨S1x256x1024, .bf16⟩
  | .local _ .vmem, ⟨18, _⟩ => ⟨S1x256x1024, .bf16⟩
  | .local _ .vmem, ⟨19, _⟩ => ⟨S1x512x1024, .bf16⟩
  | .local _ .vmem, ⟨20, _⟩ => ⟨S1x1024x1024, .bf16⟩
  | .local _ .vmem, ⟨21, _⟩ => ⟨S1x1024, .f32⟩
  | .local _ .vmem, ⟨22, _⟩ => ⟨S1x1024x4096, .bf16⟩
  | .local _ .vmem, ⟨23, _⟩ => ⟨S1x4096x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x256, .bf16⟩
  | .local _ .vmem, ⟨28, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeFirstReferenceIdeal.lean ====
abbrev S32768x1024 : Shape := ⟨2, ![32768, 1024]⟩
abbrev S4x6x1024 : Shape := ⟨3, ![4, 6, 1024]⟩
abbrev S32768x256 : Shape := ⟨2, ![32768, 256]⟩
abbrev S32768x768 : Shape := ⟨2, ![32768, 768]⟩
abbrev S32768x512 : Shape := ⟨2, ![32768, 512]⟩
abbrev S32768x3072 : Shape := ⟨2, ![32768, 3072]⟩
abbrev S2x3x256 : Shape := ⟨3, ![2, 3, 256]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S4x8192x1024 : Shape := ⟨3, ![4, 8192, 1024]⟩
abbrev S4x8192x256 : Shape := ⟨3, ![4, 8192, 256]⟩
abbrev S4x8192x768 : Shape := ⟨3, ![4, 8192, 768]⟩
abbrev S4x8192x512 : Shape := ⟨3, ![4, 8192, 512]⟩
abbrev S4x8192x3072 : Shape := ⟨3, ![4, 8192, 3072]⟩
abbrev S_ : Shape := ⟨0, ![]⟩
abbrev S4x1x1024 : Shape := ⟨3, ![4, 1, 1024]⟩
abbrev S4x8194x256 : Shape := ⟨3, ![4, 8194, 256]⟩
abbrev S1x1x256 : Shape := ⟨3, ![1, 1, 256]⟩
abbrev S256 : Shape := ⟨1, ![256]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S1x4096x1024 : Shape := ⟨3, ![1, 4096, 1024]⟩
abbrev S4096x1024 : Shape := ⟨2, ![4096, 1024]⟩

abbrev nBuf : Space → Nat
  | .hbm => 125
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x6x1024, .f32⟩
  | .hbm, ⟨2, _⟩ => ⟨S32768x256, .f32⟩
  | .hbm, ⟨3, _⟩ => ⟨S32768x768, .bf16⟩
  | .hbm, ⟨4, _⟩ => ⟨S32768x512, .bf16⟩
  | .hbm, ⟨5, _⟩ => ⟨S32768x3072, .bf16⟩
  | .hbm, ⟨6, _⟩ => ⟨S2x3x256, .f32⟩
  | .hbm, ⟨7, _⟩ => ⟨S2x256x1024, .f32⟩
  | .hbm, ⟨8, _⟩ => ⟨S2x256x1024, .f32⟩
  | .hbm, ⟨9, _⟩ => ⟨S2x512x1024, .f32⟩
  | .hbm, ⟨10, _⟩ => ⟨S2x1024x1024, .f32⟩
  | .hbm, ⟨11, _⟩ => ⟨S2x1024, .f32⟩
  | .hbm, ⟨12, _⟩ => ⟨S2x1024x4096, .f32⟩
  | .hbm, ⟨13, _⟩ => ⟨S2x4096x1024, .f32⟩
  | .hbm, ⟨14, _⟩ => ⟨S1024, .f32⟩
  | .hbm, ⟨15, _⟩ => ⟨S4x8192x1024, .f32⟩
  | .hbm, ⟨16, _⟩ => ⟨S4x8192x256, .f32⟩
  | .hbm, ⟨17, _⟩ => ⟨S32768x768, .f32⟩
  | .hbm, ⟨18, _⟩ => ⟨S4x8192x768, .f32⟩
  | .hbm, ⟨19, _⟩ => ⟨S32768x512, .f32⟩
  | .hbm, ⟨20, _⟩ => ⟨S4x8192x512, .f32⟩
  | .hbm, ⟨21, _⟩ => ⟨S32768x3072, .f32⟩
  | .hbm, ⟨22, _⟩ => ⟨S4x8192x3072, .f32⟩
  | .hbm, ⟨23, _⟩ => ⟨S4x8192x3072, .f32⟩
  | .hbm, ⟨24, _⟩ => ⟨S4x8192x3072, .f32⟩
  | .hbm, ⟨25, _⟩ => ⟨S_, .f32⟩
  | .hbm, ⟨26, _⟩ => ⟨S4x8192x3072, .f32⟩
  | .hbm, ⟨27, _⟩ => ⟨S4x8192x3072, .f32⟩
  | .hbm, ⟨28, _⟩ => ⟨S_, .f32⟩
  | .hbm, ⟨29, _⟩ => ⟨S4x8192x3072, .f32⟩
  | .hbm, ⟨30, _⟩ => ⟨S4x8192x3072, .f32⟩
  | .hbm, ⟨31, _⟩ => ⟨S4x1x1024, .f32⟩
  | .hbm, ⟨32, _⟩ => ⟨S4x1x1024, .f32⟩
  | .hbm, ⟨33, _⟩ => ⟨S4x1x1024, .f32⟩
  | .hbm, ⟨34, _⟩ => ⟨S4x1x1024, .f32⟩
  | .hbm, ⟨35, _⟩ => ⟨S4x8192x256, .f32⟩
  | .hbm, ⟨36, _⟩ => ⟨S4x8192x256, .f32⟩
  | .hbm, ⟨37, _⟩ => ⟨S4x8192x256, .f32⟩
  | .hbm, ⟨38, _⟩ => ⟨S4x8192x256, .f32⟩
  | .hbm, ⟨39, _⟩ => ⟨S_, .i32⟩
  | .hbm, ⟨40, _⟩ => ⟨S_, .f32⟩
  | .hbm, ⟨41, _⟩ => ⟨S4x8194x256, .f32⟩
  | .hbm, ⟨42, _⟩ => ⟨S1x1x256, .f32⟩
  | .hbm, ⟨43, _⟩ => ⟨S256, .f32⟩
  | .hbm, ⟨44, _⟩ => ⟨S4x8192x256, .f32⟩
  | .hbm, ⟨45, _⟩ => ⟨S1x1x256, .f32⟩
  | .hbm, ⟨46, _⟩ => ⟨S4x8192x256, .f32⟩
  | .hbm, ⟨47, _⟩ => ⟨S4x8192x256, .f32⟩
  | .hbm, ⟨48, _⟩ => ⟨S1x1x256, .f32⟩
  | .hbm, ⟨49, _⟩ => ⟨S256, .f32⟩
  | .hbm, ⟨50, _⟩ => ⟨S4x8192x256, .f32⟩
  | .hbm, ⟨51, _⟩ => ⟨S1x1x256, .f32⟩
  | .hbm, ⟨52, _⟩ => ⟨S4x8192x256, .f32⟩
  | .hbm, ⟨53, _⟩ => ⟨S4x8192x256, .f32⟩
  | .hbm, ⟨54, _⟩ => ⟨S4x8192x256, .f32⟩
  | .hbm, ⟨55, _⟩ => ⟨S1x1x256, .f32⟩
  | .hbm, ⟨56, _⟩ => ⟨S256, .f32⟩
  | .hbm, ⟨57, _⟩ => ⟨S4x8192x256, .f32⟩
  | .hbm, ⟨58, _⟩ => ⟨S1x1x256, .f32⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S4x8192x1024, .f32⟩
  | .hbm, ⟨64, _⟩ => ⟨S1x256x1024, .f32⟩
  | .hbm, ⟨65, _⟩ => ⟨S256x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S1x256x1024, .f32⟩
  | .hbm, ⟨70, _⟩ => ⟨S256x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S1x512x1024, .f32⟩
  | .hbm, ⟨76, _⟩ => ⟨S512x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S1x1024x1024, .f32⟩
  | .hbm, ⟨81, _⟩ => ⟨S1024x1024, .f32⟩
  | .hbm, ⟨82, _⟩ => ⟨S4x8192x1024, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S1x1024, .f32⟩
  | .hbm, ⟨87, _⟩ => ⟨S1024, .f32⟩
  | .hbm, ⟨88, _⟩ => ⟨S4x8192x1024, .f32⟩
  | .hbm, ⟨89, _⟩ => ⟨S_, .f32⟩
  | .hbm, ⟨90, _⟩ => ⟨S4x8192, .f32⟩
  | .hbm, ⟨91, _⟩ => ⟨S4x8192x1, .f32⟩
  | .hbm, ⟨92, _⟩ => ⟨S_, .f32⟩
  | .hbm, ⟨93, _⟩ => ⟨S4x8192x1, .f32⟩
  | .hbm, ⟨94, _⟩ => ⟨S4x8192x1, .f32⟩
  | .hbm, ⟨95, _⟩ => ⟨S_, .f32⟩
  | .hbm, ⟨96, _⟩ => ⟨S4x8192x1, .f32⟩
  | .hbm, ⟨97, _⟩ => ⟨S4x8192x1, .f32⟩
  | .hbm, ⟨98, _⟩ => ⟨S4x8192x1, .f32⟩
  | .hbm, ⟨99, _⟩ => ⟨S4x8192x1024, .f32⟩
  | .hbm, ⟨100, _⟩ => ⟨S4x8192x1024, .f32⟩
  | .hbm, ⟨101, _⟩ => ⟨S1x1x1024, .f32⟩
  | .hbm, ⟨102, _⟩ => ⟨S4x8192x1024, .f32⟩
  | .hbm, ⟨103, _⟩ => ⟨S4x8192x1024, .f32⟩
  | .hbm, ⟨104, _⟩ => ⟨S_, .f32⟩
  | .hbm, ⟨105, _⟩ => ⟨S4x1x1024, .f32⟩
  | .hbm, ⟨106, _⟩ => ⟨S4x1x1024, .f32⟩
  | .hbm, ⟨107, _⟩ => ⟨S4x8192x1024, .f32⟩
  | .hbm, ⟨108, _⟩ => ⟨S4x8192x1024, .f32⟩
  | .hbm, ⟨109, _⟩ => ⟨S4x8192x1024, .f32⟩
  | .hbm, ⟨110, _⟩ => ⟨S4x8192x1024, .f32⟩
  | .hbm, ⟨111, _⟩ => ⟨S1x1024x4096, .f32⟩
  | .hbm, ⟨112, _⟩ => ⟨S1024x4096, .f32⟩
  | .hbm, ⟨113, _⟩ => ⟨S4x8192x4096, .f32⟩
  | .hbm, ⟨114, _⟩ => ⟨S_, .f32⟩
  | .hbm, ⟨115, _⟩ => ⟨S4x8192x4096, .f32⟩
  | .hbm, ⟨116, _⟩ => ⟨S4x8192x4096, .f32⟩
  | .hbm, ⟨117, _⟩ => ⟨S4x8192x4096, .f32⟩
  | .hbm, ⟨118, _⟩ => ⟨S1x4096x1024, .f32⟩
  | .hbm, ⟨119, _⟩ => ⟨S4096x1024, .f32⟩
  | .hbm, ⟨120, _⟩ => ⟨S4x8192x1024, .f32⟩
  | .hbm, ⟨121, _⟩ => ⟨S4x8192x1024, .f32⟩
  | .hbm, ⟨122, _⟩ => ⟨S4x8192x1024, .f32⟩
  | .hbm, ⟨123, _⟩ => ⟨S4x8192x1024, .f32⟩
  | .hbm, ⟨124, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call0_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_1 : Ref sig .tc := ⟨.hbm, 89, rfl⟩
abbrev main_v70 : Ref sig .tc := ⟨.hbm, 90, rfl⟩
abbrev main_v71 : Ref sig .tc := ⟨.hbm, 91, rfl⟩
abbrev main_cst_2 : Ref sig .tc := ⟨.hbm, 92, rfl⟩
abbrev main_v72 : Ref sig .tc := ⟨.hbm, 93, rfl⟩
abbrev main_v73 : Ref sig .tc := ⟨.hbm, 94, rfl⟩
abbrev main_cst_3 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_4 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_call1_cst : Ref sig .tc := ⟨.hbm, 114, rfl⟩
abbrev main_call1_v0 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩

abbrev nD : Nat := 1
abbrev τ : Topo := Topo.v7x

variable {F : FTy → Type} [FloatOps F]
-- ==== Proof.Soft.lean ====
module

public import Idealize.ShloMosaic.PureOps.Ideal.Laws
public import Idealize.ShloMosaic.Lib.Pointwise

@[expose] public section

set_option maxRecDepth 16384

/-! The softmax-weighted sum over the extended reals, and the two ways the programs compute it. -/

noncomputable section

namespace Cert.Soft

open Idealize.ShloMosaic

/-- A logit's weight: `e ^ x`, and zero for the masked logit. -/
def wt (x : EReal) : ℝ := (Ideal.exp x).toReal

/-- The sum of `V` weighted by the softmax of `x`. -/
def soft {ι : Type} [Fintype ι] (x V : ι → EReal) : EReal :=
  ∑ i, ((wt (x i) / ∑ j, wt (x j) : ℝ) : EReal) * V i

theorem exp_bot : Ideal.exp ⊥ = 0 := rfl
theorem exp2_bot : Ideal.exp2 ⊥ = 0 := rfl
theorem wt_bot : wt ⊥ = 0 := by rw [wt, exp_bot, EReal.toReal_zero]
theorem wt_coe (r : ℝ) : wt (r : EReal) = Real.exp r := by
  show (Ideal.exp ((r : ℝ) : EReal)).toReal = _
  rw [show Ideal.exp ((r : ℝ) : EReal) = ((Real.exp r : ℝ) : EReal) from rfl, EReal.toReal_coe]

/-- A logit is the mask value or a real number. -/
theorem cases_of_ne_top {x : EReal} (h : x ≠ ⊤) : x = ⊥ ∨ ∃ r : ℝ, x = r := by
  induction x with
  | bot => exact Or.inl rfl
  | top => exact absurd rfl h
  | coe r => exact Or.inr ⟨r, rfl⟩

theorem wt_nonneg {x : EReal} (h : x ≠ ⊤) : 0 ≤ wt x := by
  rcases cases_of_ne_top h with rfl | ⟨r, rfl⟩
  · rw [wt_bot]
  · rw [wt_coe]; exact (Real.exp_pos r).le

theorem wt_pos {x : EReal} (h : x ≠ ⊤) (h' : x ≠ ⊥) : 0 < wt x := by
  rcases cases_of_ne_top h with rfl | ⟨r, rfl⟩
  · exact absurd rfl h'
  · rw [wt_coe]; exact Real.exp_pos r

/-- Shifting a logit by a real number multiplies its weight. -/
theorem exp_sub {x : EReal} (h : x ≠ ⊤) (M : ℝ) :
    Ideal.exp (x - (M : EReal)) = ((wt x * Real.exp (-M) : ℝ) : EReal) := by
  rcases cases_of_ne_top h with rfl | ⟨r, rfl⟩
  · rw [wt_bot, EReal.bot_sub, exp_bot, zero_mul, EReal.coe_zero]
  · rw [wt_coe, ← EReal.coe_sub, ← Real.exp_add, ← sub_eq_add_neg]; rfl

/-- The same in base two, of a logit scaled by `1 / log 2`. -/
theorem exp2_sub {x : EReal} (h : x ≠ ⊤) (m : ℝ) :
    Ideal.exp2 (x * (((Real.log 2)⁻¹ : ℝ) : EReal) - (m : EReal)) = ((wt x * (2 : ℝ) ^ (-m) : ℝ) : EReal) := by
  have hl : 0 < Real.log 2 := Real.log_pos (by norm_num)
  rcases cases_of_ne_top h with rfl | ⟨r, rfl⟩
  · rw [wt_bot, EReal.bot_mul_coe_of_pos (inv_pos.mpr hl), EReal.bot_sub, exp2_bot, zero_mul, EReal.coe_zero]
  · rw [wt_coe, ← EReal.coe_mul, ← EReal.coe_sub]
    show ((Real.rpow 2 (r * (Real.log 2)⁻¹ - m) : ℝ) : EReal) = _
    congr 1
    show (2 : ℝ) ^ (r * (Real.log 2)⁻¹ - m) = _
    rw [sub_eq_add_neg, Real.rpow_add (by norm_num), Real.rpow_def_of_pos (by norm_num : (0:ℝ) < 2) (r * _)]
    congr 2
    field_simp

/-- A nonnegative real factor distributes over a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section
variable {ι : Type} [Fintype ι] {x : ι → EReal} (V : ι → EReal)

theorem total_pos (hx : ∀ i, x i ≠ ⊤) (hb : ∃ i, x i ≠ ⊥) : 0 < ∑ i, wt (x i) := by
  obtain ⟨i, hi⟩ := hb
  exact Finset.sum_pos' (fun i _ => wt_nonneg (hx i)) ⟨i, Finset.mem_univ i, wt_pos (hx i) hi⟩

theorem div_pos_coe {a z : ℝ} (hz : 0 < z) : Ideal.div (a : EReal) (z : EReal) = ((a / z : ℝ) : EReal) := by
  rw [Ideal.div, if_neg (by exact_mod_cast hz.ne'), ← EReal.coe_inv, ← EReal.coe_mul, div_eq_mul_inv]

/-- Base-two weights of shifted scaled logits, summed against `V` and divided by their own sum at the end. -/
theorem late_eq (hx : ∀ i, x i ≠ ⊤) (hb : ∃ i, x i ≠ ⊥) (m : ℝ) :
    (∑ i, Ideal.exp2 (x i * (((Real.log 2)⁻¹ : ℝ) : EReal) - (m : EReal)) * V i) *
      Ideal.div 1 (∑ i, Ideal.exp2 (x i * (((Real.log 2)⁻¹ : ℝ) : EReal) - (m : EReal))) = soft x V := by
  have hZ := total_pos hx hb
  have hc : 0 < (2 : ℝ) ^ (-m) := Real.rpow_pos_of_pos (by norm_num) _
  simp only [fun i => exp2_sub (hx i) m]
  rw [coe_sum, ← Finset.sum_mul, show (1 : EReal) = ((1 : ℝ) : EReal) from rfl, div_pos_coe (mul_pos hZ hc),
    sum_mul_coe _ _ (by positivity)]
  refine Finset.sum_congr rfl fun i _ => ?_
  rw [mul_right_comm, ← EReal.coe_mul]
  congr 2
  field_simp

/-- Base-e weights of shifted logits, each divided by their sum before they meet `V`. -/
theorem early_eq (hx : ∀ i, x i ≠ ⊤) (hb : ∃ i, x i ≠ ⊥) (M : ℝ) (i : ι) :
    Ideal.div (Ideal.exp (x i - (M : EReal))) (∑ j, Ideal.exp (x j - (M : EReal)))
      = ((wt (x i) / ∑ j, wt (x j) : ℝ) : EReal) := by
  have hZ := total_pos hx hb
  have hc : 0 < Real.exp (-M) := Real.exp_pos _
  simp only [fun i => exp_sub (hx i) M]
  rw [coe_sum, ← Finset.sum_mul, div_pos_coe (mul_pos hZ hc)]
  congr 1
  field_simp

/-- Masked logits may be left out of the sum. -/
theorem soft_of_injective {κ : Type} [Fintype κ] {y W : κ → EReal} (φ : ι → κ) (hφ : Function.Injective φ)
    (h : ∀ i, y (φ i) = x i) (hV : ∀ i, W (φ i) = V i) (h0 : ∀ k, k ∉ Set.range φ → y k = ⊥) :
    soft y W = soft x V := by
  have hZ : ∑ j, wt (y j) = ∑ j, wt (x j) :=
    (Fintype.sum_of_injective φ hφ _ _ (fun k hk => by rw [h0 k hk, wt_bot]) (fun i => by rw [h i])).symm
  unfold soft
  rw [hZ]
  refine (Fintype.sum_of_injective φ hφ _ _ (fun k hk => by rw [h0 k hk, wt_bot]; simp) (fun i => ?_)).symm
  rw [h i, hV i]
end

/-- A fold of `max` from the bottom over logits none of which is `⊤` and one of which is real is real. -/
theorem fold_max_real {ι : Type} [Fintype ι] {s : ι → EReal} (hs : ∀ i, s i ≠ ⊤) (hb : ∃ i, s i ≠ ⊥) :
    ∃ m : ℝ, Finset.fold max (⊥ : EReal) s Finset.univ = m := by
  have h1 : Finset.fold max (⊥ : EReal) s Finset.univ = Finset.univ.sup s := rfl
  rw [h1]
  have ht : Finset.univ.sup s ≠ ⊤ := by
    refine (lt_of_le_of_ne le_top ?_).ne
    intro h
    have : Finset.univ.sup s < ⊤ := (Finset.sup_lt_iff (by exact bot_lt_top)).mpr fun i _ => lt_of_le_of_ne le_top (hs i)
    exact this.ne h
  have hbb : Finset.univ.sup s ≠ ⊥ := by
    obtain ⟨i, hi⟩ := hb
    intro h
    exact hi (le_bot_iff.mp (h ▸ Finset.le_sup (f := s) (Finset.mem_univ i)))
  rcases cases_of_ne_top ht with h | ⟨r, h⟩
  · exact absurd h hbb
  · exact ⟨r, h⟩

end Cert.Soft

end
-- ==== Proof.Spec.lean ====
module

public import Idealize.ShloMosaic.Lib.Pointwise
public import Idealize.ShloMosaic.Lib.ValueIdx
public import proofs.«01_k».proof.Proof.Soft

@[expose] public section

set_option maxRecDepth 16384

/-! The neighbourhood attention as one formula over the extended reals: what both programs are shown to compute. -/

noncomputable section

namespace Cert.Spec

open Idealize.ShloMosaic

/-- The first key column a query column attends to. -/
def fc (c : ℕ) : ℕ := min (c - 8) 48

/-- The first key row a query row attends to. -/
def rs (r : ℕ) : ℕ := min (r - 4) 120

section
variable (X0 : (⟨2, ![32768, 1536]⟩ : Shape).Idx → EReal) (X1 : (⟨2, ![1024, 1536]⟩ : Shape).Idx → EReal) (X2 : (⟨4, ![2, 8, 15, 31]⟩ : Shape).Idx → EReal)
variable (b : Fin 4) (r : Fin 128) (c : Fin 64) (h : Fin 8)

/-- The query times a window's key, over one head's lanes. -/
def winDot (j : ℕ) (hj : j < 512) : EReal :=
  ∑ d : Fin 64, X0 (ix2 ⟨b.val * 8192 + r.val * 64 + c.val, by omega⟩ ⟨h.val * 64 + d.val, by omega⟩)
    * X0 (ix2 ⟨b.val * 8192 + rs r.val * 64 + j, by unfold rs; omega⟩ ⟨512 + (h.val * 64 + d.val), by omega⟩)

/-- The query times a context key, over one head's lanes. -/
def ctxDot (j : ℕ) (hj : j < 256) : EReal :=
  ∑ d : Fin 64, X0 (ix2 ⟨b.val * 8192 + r.val * 64 + c.val, by omega⟩ ⟨h.val * 64 + d.val, by omega⟩)
    * X1 (ix2 ⟨b.val * 256 + j, by omega⟩ ⟨512 + (h.val * 64 + d.val), by omega⟩)

/-- The relative bias of a window's key. -/
def bias (j : ℕ) (hj : j < 512) : EReal :=
  X2 (ix4 0 h ⟨rs r.val + j / 64 + 7 - r.val, by unfold rs; omega⟩ ⟨min (j % 64 + 15 - c.val) 30, by omega⟩)

/-- The logits: 512 keys of the window (8 rows of 64 columns, those outside the 16 columns masked), then 256 context keys. -/
def logit (j : Fin 768) : EReal :=
  if hj : j.val < 512 then
    if fc c.val ≤ j.val % 64 ∧ j.val % 64 < fc c.val + 16 then
      winDot X0 b r c h j.val hj * ((1 / 8 : ℝ) : EReal) + bias X2 r c h j.val hj
    else ⊥
  else ctxDot X0 X1 b r c h (j.val - 512) (by omega) * ((1 / 8 : ℝ) : EReal)

/-- The values beside them. -/
def value (d : Fin 64) (j : Fin 768) : EReal :=
  if hj : j.val < 512 then X0 (ix2 ⟨b.val * 8192 + rs r.val * 64 + j.val, by unfold rs; omega⟩ ⟨1024 + (h.val * 64 + d.val), by omega⟩)
  else X1 (ix2 ⟨b.val * 256 + (j.val - 512), by omega⟩ ⟨1024 + (h.val * 64 + d.val), by omega⟩)

/-- One output element. -/
def attn (d : Fin 64) : EReal := Soft.soft (logit X0 X1 X2 b r c h) (value X0 X1 b r h d)
end

/-- The whole output, a row for each query and a lane for each head and depth. -/
def out (X0 : (⟨2, ![32768, 1536]⟩ : Shape).Idx → EReal) (X1 : (⟨2, ![1024, 1536]⟩ : Shape).Idx → EReal) (X2 : (⟨4, ![2, 8, 15, 31]⟩ : Shape).Idx → EReal)
    (i : (⟨2, ![32768, 512]⟩ : Shape).Idx) : EReal :=
  have h0 : (i 0).val < 32768 := (i 0).isLt
  have h1 : (i 1).val < 512 := (i 1).isLt
  attn X0 X1 X2 ⟨(i 0).val / 8192, by omega⟩ ⟨(i 0).val % 8192 / 64, by omega⟩ ⟨(i 0).val % 64, by omega⟩ ⟨(i 1).val / 64, by omega⟩
    ⟨(i 1).val % 64, by omega⟩

/-- The arrays' entries that the precondition keeps finite are real numbers. -/
structure Real' (X0 : (⟨2, ![32768, 1536]⟩ : Shape).Idx → EReal) (X1 : (⟨2, ![1024, 1536]⟩ : Shape).Idx → EReal) (X2 : (⟨4, ![2, 8, 15, 31]⟩ : Shape).Idx → EReal) : Prop where
  qk : ∀ (n : Fin 32768) (l : Fin 1536), l.val < 1024 → ∃ x : ℝ, X0 (ix2 n l) = x
  kc : ∀ (n : Fin 1024) (l : Fin 1536), 512 ≤ l.val → l.val < 1024 → ∃ x : ℝ, X1 (ix2 n l) = x
  bias : ∀ (h : Fin 8) (d : Fin 15) (e : Fin 31), ∃ x : ℝ, X2 (ix4 0 h d e) = x

section
variable {X0 : (⟨2, ![32768, 1536]⟩ : Shape).Idx → EReal} {X1 : (⟨2, ![1024, 1536]⟩ : Shape).Idx → EReal} {X2 : (⟨4, ![2, 8, 15, 31]⟩ : Shape).Idx → EReal}

theorem sum_real {f g : Fin 64 → EReal} (hf : ∀ d, ∃ x : ℝ, f d = x) (hg : ∀ d, ∃ x : ℝ, g d = x) : ∃ x : ℝ, ∑ d, f d * g d = x := by
  choose a ha using hf
  choose b hb using hg
  simp only [ha, hb, ← EReal.coe_mul]
  exact ⟨_, Soft.coe_sum _ _⟩

/-- No logit is `⊤`. -/
theorem logit_ne_top (hX : Real' X0 X1 X2) (b : Fin 4) (r : Fin 128) (c : Fin 64) (h : Fin 8) (j : Fin 768) : logit X0 X1 X2 b r c h j ≠ ⊤ := by
  unfold logit
  split
  · rename_i hj
    split
    · obtain ⟨x, hx⟩ := sum_real (fun d : Fin 64 => hX.qk ⟨b.val * 8192 + r.val * 64 + c.val, by omega⟩ ⟨h.val * 64 + d.val, by omega⟩ (by show h.val * 64 + d.val < 1024; omega))
        (fun d : Fin 64 => hX.qk ⟨b.val * 8192 + rs r.val * 64 + j.val, by unfold rs; omega⟩ ⟨512 + (h.val * 64 + d.val), by omega⟩ (by show 512 + (h.val * 64 + d.val) < 1024; omega))
      obtain ⟨y, hy⟩ := hX.bias h ⟨rs r.val + j.val / 64 + 7 - r.val, by unfold rs; omega⟩ ⟨min (j.val % 64 + 15 - c.val) 30, by omega⟩
      rw [winDot, hx, bias, hy, ← EReal.coe_mul, ← EReal.coe_add]
      exact EReal.coe_ne_top _
    · exact bot_ne_top
  · obtain ⟨x, hx⟩ := sum_real (fun d : Fin 64 => hX.qk ⟨b.val * 8192 + r.val * 64 + c.val, by omega⟩ ⟨h.val * 64 + d.val, by omega⟩ (by show h.val * 64 + d.val < 1024; omega))
        (fun d : Fin 64 => hX.kc ⟨b.val * 256 + (j.val - 512), by omega⟩ ⟨512 + (h.val * 64 + d.val), by omega⟩ (by show 512 ≤ 512 + (h.val * 64 + d.val); omega) (by show 512 + (h.val * 64 + d.val) < 1024; omega))
    rw [ctxDot, hx, ← EReal.coe_mul]
    exact EReal.coe_ne_top _

/-- A context key's logit is a real number. -/
theorem logit_ne_bot (hX : Real' X0 X1 X2) (b : Fin 4) (r : Fin 128) (c : Fin 64) (h : Fin 8) : ∃ j, logit X0 X1 X2 b r c h j ≠ ⊥ := by
  refine ⟨⟨512, by decide⟩, ?_⟩
  unfold logit
  rw [dif_neg (by decide)]
  obtain ⟨x, hx⟩ := sum_real (fun d : Fin 64 => hX.qk ⟨b.val * 8192 + r.val * 64 + c.val, by omega⟩ ⟨h.val * 64 + d.val, by omega⟩ (by show h.val * 64 + d.val < 1024; omega))
        (fun d : Fin 64 => hX.kc ⟨b.val * 256 + (512 - 512), by omega⟩ ⟨512 + (h.val * 64 + d.val), by omega⟩ (by show 512 ≤ 512 + (h.val * 64 + d.val); omega) (by show 512 + (h.val * 64 + d.val) < 1024; omega))
  rw [ctxDot, hx, ← EReal.coe_mul]
  exact EReal.coe_ne_bot _
end

end Cert.Spec

end
-- ==== Proof.Finite.lean ====
module

public import proofs.«01_k».proof.Proof.Gen.Pre_finite
public import proofs.«01_k».proof.Proof.Spec
public import Idealize.ShloMosaic.Lib.ReduceAll

@[expose] public section

set_option maxRecDepth 16384

noncomputable section

namespace Cert.Finite

open Idealize.ShloMosaic Cert.Pre_finite

/-- A value whose absolute value is below infinity is a real number. -/
theorem real_of_lt (x : EReal) (h : FloatOps.cmpf .olt (FloatOps.hostAbsf (F := Ideal) (φ := .f32) x) (FloatOps.ofBits (F := Ideal) .f32 0x7F800000#32) = 1#1) :
    ∃ r : ℝ, x = r := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  induction x using EReal.rec with
  | bot => simp at h'
  | top => simp at h'
  | coe r => exact ⟨r, rfl⟩

theorem one (a b : BitVec 1) : IntOp.andi a b = 1#1 ↔ a = 1#1 ∧ b = 1#1 := by revert a b; decide

instance : Subsingleton S_.Idx := ⟨fun a b => funext fun i => i.elim0⟩

theorem elt {s : Shape} (v : FVec Ideal s .f32) (hb : S_.BroadcastsInDim s ![]) (i : s.Idx)
    (h : cmpf .olt (Host.absf v) (broadcastInDim s ![] hb (constant S_ .f32 0x7F800000#32)) i = 1#1) : ∃ r : ℝ, v i = r :=
  real_of_lt (v i) h

theorem q0 (v : FVec Ideal S32768x1536 .bf16) (n : Fin 32768) (l : Fin 1536) (hl : l.val < 1024) :
    extf .f32 (extractStridedSlice S32768x1024 ![0, 0] v Facts.slices_S32768x1536_S32768x1024_0_0) Facts.bitsLt_bf16_f32 (ix2 n ⟨l.val, hl⟩) = v (ix2 n l) := by
  pointwise

theorem q1 (v : FVec Ideal S1024x1536 .bf16) (n : Fin 1024) (l : Fin 1536) (hl : 512 ≤ l.val) (hl' : l.val < 1024) :
    extf .f32 (extractStridedSlice S1024x512 ![0, 512] v Facts.slices_S1024x1536_S1024x512_0_512) Facts.bitsLt_bf16_f32 (ix2 n ⟨l.val - 512, by omega⟩) = v (ix2 n l) := by
  pointwise
  all_goals exact congrArg v (congrArg (ix2 n) (Fin.ext (by dsimp only; omega)))

theorem q2 (v : FVec Ideal S2x8x15x31 .f32) (a : Fin 8) (b : Fin 15) (d : Fin 31) :
    shapeCast S8x15x31 (extractStridedSlice S1x8x15x31 ![0, 0, 0, 0] v Facts.slices_S2x8x15x31_S1x8x15x31_0_0_0_0) Facts.shapeCasts_S1x8x15x31_S8x15x31 (ix3 a b d) = v (ix4 0 a b d) := by
  pointwise

/-- What the precondition says: the queries, the keys and the first layer's biases are real numbers. -/
theorem real {x0 : FVec Ideal S32768x1536 .bf16} {x1 : FVec Ideal S1024x1536 .bf16} {x2 : FVec Ideal S2x8x15x31 .f32}
    (h : fn (F := Ideal) x0 x1 x2 = fun _ => 1#1) : Spec.Real' x0 x1 x2 := by
  have h0 := congrFun h (fun i => i.elim0)
  simp only [fn, fn_part1] at h0
  obtain ⟨h01, h2⟩ := (one _ _).1 h0
  obtain ⟨h0, h1⟩ := (one _ _).1 h01
  refine ⟨fun n l hl => ?_, fun n l hl hl' => ?_, fun a b d => ?_⟩
  · exact (q0 x0 n l hl) ▸ elt _ _ _ (Host.reduce_andi_all _ _ _ _ _ h0 (ix2 n ⟨l.val, hl⟩))
  · exact (q1 x1 n l hl hl') ▸ elt _ _ _ (Host.reduce_andi_all _ _ _ _ _ h1 (ix2 n ⟨l.val - 512, by omega⟩))
  · exact (q2 x2 a b d) ▸ elt _ _ _ (Host.reduce_andi_all _ _ _ _ _ h2 (ix3 a b d))

end Cert.Finite

end
-- ==== Proof.Run.lean ====
module

public import proofs.«01_k».proof.Proof.Gen.KernelIdeal.Frame
public import Idealize.ShloMosaic.Adequacy

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the attention's output array as its launch leaves it, and the arguments as they were. -/
theorem run : θ_run defs (onTc (τ := τ) (main (F := F))) ⟨m, fun _ => 0, ρ⟩ (fun r => ∀ c : Dev nD,
      r.2.mem ((c.tc : Thread nD τ).loc main_v7) = (dat1 (V2 m ρ) c).arrAt 17 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v7 (by decide))).trans (W3_arr m ρ c 17),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Run

end
-- ==== Proof.Table.lean ====
module

public import proofs.«01_k».proof.Proof.Gen.KernelIdeal.Frame
public import Idealize.ShloMosaic.Lib.Pointwise
public import Idealize.ShloMosaic.Lib.Pipeline.ValueKit

@[expose] public section

set_option maxRecDepth 16384

/-! The block of the bias table that one grid point writes, read at an index. -/

noncomputable section

namespace Cert.KernelIdeal.Table

open Cert.KernelIdeal Cert.KernelIdeal.Gen Idealize.ShloMosaic Idealize.ShloMosaic.TcCoe Idealize.SL.Sem

variable {F : FTy → Type} [FloatOps F] [Named F]

/-- The lane numbers of a tile. -/
def lanes : IVec S64x128 32 := iota .tc S64x128 32 [1] iota_S64x128_d1_w32

/-- The rectangle of one row of the extended bias block. -/
abbrev rowRect (d : Fin 15) : Rect S1x1x15x128 :=
  Rect.unit (s := S1x1x15x128) ![0, 0, d.val, 0] S1x1x1x128.size (by
    intro a; have := d.isLt; fin_cases a <;> simp <;> omega)

/-- One row of the extended bias times log2 e, on every row of a tile. -/
def scaled (r : Vec F S1x1x1x128 .f32) : FVec F S64x128 .f32 :=
  broadcastTo S64x128 (shapeCast S1x128 (mulf (shapeCast S1x128 r shapeCasts_S1x1x1x128_S1x128)
    (broadcast S1x128 (Named.named κ "log2e" 0x3FB8AA3B#32))) shapeCasts_S1x128_S1x128) broadcasts_S1x128_S64x128

/-- The tile whose left half holds a bias row's window, masked. -/
def left (r : Vec F S1x1x1x128 .f32) : FVec F S64x128 .f32 :=
  select (andi (cmpi .sge lanes k0_pay2) (cmpi .slt lanes (addi k0_pay2 (broadcast S64x128 16#32))))
    (dynamicRotate 1 65#32 (some (1, 0)) (scaled r) rotates_S64x128_d1s1a0) k0_pay3

/-- The tile whose right half holds a bias row's window, masked. -/
def right (r : Vec F S1x1x1x128 .f32) : FVec F S64x128 .f32 :=
  select (andi (cmpi .sge (subi lanes (broadcast S64x128 64#32)) k0_pay2)
      (cmpi .slt (subi lanes (broadcast S64x128 64#32)) (addi k0_pay2 (broadcast S64x128 16#32))))
    (dynamicRotate 1 1#32 (some (1, 0)) (scaled r) rotates_S64x128_d1s1a0) k0_pay3

/-- The half tile of key row `kj`: the bias row `d0 + kj - lead` if `kj` is in the window, the mask value otherwise. -/
def slab (side : Vec F S1x1x1x128 .f32 → FVec F S64x128 .f32) (x0 : Vec F S1x1x15x128 .f32) (lead d0 kj : ℕ) :
    FVec F S64x128 .f32 :=
  bif Nat.ble lead kj && Nat.blt kj (lead + 8) then
    side (View.ld x0 (rowRect ⟨(d0 + kj - lead) % 15, Nat.mod_lt _ (by decide)⟩)) else k0_pay3

/-- The window's first key row of a variant's query row, from the variant's first key row. -/
def lead (v qi : ℕ) : ℕ := match v with | 0 => 0 | 1 => qi | _ => 4
/-- The bias row of the window's first key row. -/
def d0 (v qi : ℕ) : ℕ := match v with | 0 => 7 - qi | 1 => 3 | _ => 3 - qi

/-- The tile stored for variant `v`, query row `qi`, key rows `2p` and `2p + 1`. -/
def tile (x0 : Vec F S1x1x15x128 .f32) (v qi p : ℕ) : Vec F S1x1x1x64x128 .f32 :=
  shapeCast S1x1x1x64x128 (select (cmpi .slt lanes (broadcast S64x128 64#32))
    (slab left x0 (lead v qi) (d0 v qi) (2 * p)) (slab right x0 (lead v qi) (d0 v qi) (2 * p + 1)))
    shapeCasts_S64x128_S1x1x1x64x128

/-- The rectangle of that tile. -/
abbrev tileRect (v : Fin 3) (qi : Fin 4) (p : Fin 6) : Rect S1x3x1x256x768 :=
  Rect.unit (s := S1x3x1x256x768) ![0, v.val, 0, 64 * qi.val, 128 * p.val] S1x1x1x64x128.size (by
    intro a; have := v.isLt; have := qi.isLt; have := p.isLt; fin_cases a <;> simp <;> omega)

/-- The piece of that tile. -/
def piece (x0 : Vec F S1x1x15x128 .f32) (n : Fin 72) : View.Piece (Elt F) S1x3x1x256x768 .f32 :=
  ⟨tileRect ⟨n.val / 24, by omega⟩ ⟨n.val / 6 % 4, by omega⟩ ⟨n.val % 6, by omega⟩,
    tile x0 (n.val / 24) (n.val / 6 % 4) (n.val % 6)⟩

/-- The grid point's block is the 72 tiles. -/
theorem out_eq (x0 : Vec F S1x1x15x128 .f32) :
    out0_1 x0 = View.canon ((List.finRange 72).reverse.map (piece x0)) := by
  unfold out0_1
  rfl

/-- The first key column in a query column's window. -/
def fc (q : ℕ) : ℕ := min (q - 8) 48

/-- The first window column as a word. -/
def fcw (q : BitVec 32) : BitVec 32 := IntOp.minsi 48#32 (IntOp.maxsi 0#32 (IntOp.subi q 8#32))

theorem left_mask : ∀ (q : Fin 64) (t : Fin 128),
    IntOp.andi (IntOp.cmpi .sge (BitVec.ofNat 32 t.val) (fcw (BitVec.ofNat 32 q.val)))
      (IntOp.cmpi .slt (BitVec.ofNat 32 t.val) (IntOp.addi (fcw (BitVec.ofNat 32 q.val)) 16#32))
      = BitVec.ofBool (decide (fc q.val ≤ t.val ∧ t.val < fc q.val + 16)) := by
  decide +kernel

theorem right_mask : ∀ (q : Fin 64) (t : Fin 128), 64 ≤ t.val →
    IntOp.andi (IntOp.cmpi .sge (IntOp.subi (BitVec.ofNat 32 t.val) 64#32) (fcw (BitVec.ofNat 32 q.val)))
      (IntOp.cmpi .slt (IntOp.subi (BitVec.ofNat 32 t.val) 64#32) (IntOp.addi (fcw (BitVec.ofNat 32 q.val)) 16#32))
      = BitVec.ofBool (decide (fc q.val ≤ t.val - 64 ∧ t.val - 64 < fc q.val + 16)) := by
  decide +kernel

theorem lane_mask : ∀ t : Fin 128, IntOp.cmpi .slt (BitVec.ofNat 32 t.val) 64#32 = BitVec.ofBool (decide (t.val < 64)) := by
  decide +kernel

theorem log2e_eq (b : BitVec 32) (hb : b = 0x3FB8AA3B#32) :
    (Named.named κ "log2e" b : Ideal .f32) = (((Real.log 2)⁻¹ : ℝ) : EReal) := by
  subst hb; exact IdealRules.named_const.ideal_named_scalar _ _ _ _ rfl

theorem mask_eq (b : BitVec 32) (hb : b = 0xF149F2CA#32) : (Named.named κ "mask" b : Ideal .f32) = (⊥ : EReal) := by
  subst hb; exact IdealRules.named_const.ideal_named_scalar _ _ _ _ rfl

theorem select_ofBool {α : Type} (p : Prop) [Decidable p] (a b : α) :
    Scalar.select (BitVec.ofBool (decide p)) a b = if p then a else b := by
  by_cases h : p <;> simp [Scalar.select, h]

/-- A left half tile at an index: the bias entry of the column distance inside the window, the mask outside. -/
theorem left_apply (r : Vec Ideal S1x1x1x128 .f32) (q : Fin 64) (t : Fin 128) (ht : t.val < 64) :
    left r (ix2 q t) = if fc q.val ≤ t.val ∧ t.val < fc q.val + 16 then
      r (ix4 0 0 0 ⟨t.val + 63 - q.val, by omega⟩) * (((Real.log 2)⁻¹ : ℝ) : EReal) else ⊥ := by
  pointwise [left, scaled, lanes, k0_pay2, k0_pay3]
  rw [log2e_eq _ rfl, mask_eq _ rfl]
  have h := left_mask q t
  unfold fcw at h
  rw [h, select_ofBool]
  have e : (t.val + 128 - (65 + q.val) % 128) % 128 = t.val + 63 - q.val := by omega
  simp only [e]

/-- A right half tile at an index. -/
theorem right_apply (r : Vec Ideal S1x1x1x128 .f32) (q : Fin 64) (t : Fin 128) (ht : 64 ≤ t.val) :
    right r (ix2 q t) = if fc q.val ≤ t.val - 64 ∧ t.val - 64 < fc q.val + 16 then
      r (ix4 0 0 0 ⟨t.val - 64 + 63 - q.val, by omega⟩) * (((Real.log 2)⁻¹ : ℝ) : EReal) else ⊥ := by
  pointwise [right, scaled, lanes, k0_pay2, k0_pay3]
  rw [log2e_eq _ rfl, mask_eq _ rfl]
  have h := right_mask q t ht
  unfold fcw at h
  rw [h, select_ofBool]
  have e : (t.val + 128 - (1 + q.val) % 128) % 128 = t.val - 64 + 63 - q.val := by omega
  simp only [e]

/-- The bias block's value for key row `kj`, key column `c` at query column `q`. -/
def entry (x0 : Vec Ideal S1x1x15x128 .f32) (l d kj q c : ℕ) : EReal :=
  if (l ≤ kj ∧ kj < l + 8) ∧ (fc q ≤ c ∧ c < fc q + 16) then
    x0 (ix4 0 0 ⟨(d + kj - l) % 15, Nat.mod_lt _ (by decide)⟩ ⟨(c + 63 - q) % 128, Nat.mod_lt _ (by decide)⟩)
      * (((Real.log 2)⁻¹ : ℝ) : EReal) else ⊥

theorem slab_apply (side : Vec Ideal S1x1x1x128 .f32 → FVec Ideal S64x128 .f32) (x0 : Vec Ideal S1x1x15x128 .f32)
    (l d kj : ℕ) (q : Fin 64) (t : Fin 128) (c : ℕ) (hc : c < 64)
    (hs : ∀ r, side r (ix2 q t) = if fc q.val ≤ c ∧ c < fc q.val + 16 then
      r (ix4 0 0 0 ⟨c + 63 - q.val, by omega⟩) * (((Real.log 2)⁻¹ : ℝ) : EReal) else ⊥) :
    slab side x0 l d kj (ix2 q t) = entry x0 l d kj q.val c := by
  unfold slab entry
  by_cases h : l ≤ kj ∧ kj < l + 8
  · have hb : (Nat.ble l kj && Nat.blt kj (l + 8)) = true := by
      rw [Bool.and_eq_true]; exact ⟨Nat.ble_eq.mpr h.1, Nat.ble_eq.mpr h.2⟩
    rw [hb, cond_true, hs]
    by_cases h2 : fc q.val ≤ c ∧ c < fc q.val + 16
    · rw [if_pos h2, if_pos ⟨h, h2⟩]
      pointwise []
      have e : (c + 63 - q.val) % 128 = c + 63 - q.val := Nat.mod_eq_of_lt (by omega)
      simp only [e]
    · rw [if_neg h2, if_neg (fun h' => h2 h'.2)]
  · have hb : (Nat.ble l kj && Nat.blt kj (l + 8)) = false := by
      rw [← Bool.not_eq_true, Bool.and_eq_true]; exact fun h' => h ⟨Nat.ble_eq.mp h'.1, Nat.ble_eq.mp h'.2⟩
    rw [hb, cond_false, if_neg (fun h' => h h'.1)]
    pointwise [k0_pay3]
    exact mask_eq _ rfl

/-- A stored tile at an index. -/
theorem tile_apply (x0 : Vec Ideal S1x1x15x128 .f32) (v qi p : ℕ) (q : Fin 64) (t : Fin 128) :
    tile x0 v qi p (ix5 0 0 0 q t) = entry x0 (lead v qi) (d0 v qi) (2 * p + t.val / 64) q.val (t.val % 64) := by
  pointwise [tile, lanes]
  rw [lane_mask t, select_ofBool]
  by_cases ht : t.val < 64
  · rw [if_pos ht, show 2 * p + t.val / 64 = 2 * p by omega, show t.val % 64 = t.val by omega]
    exact slab_apply _ _ _ _ _ _ _ _ ht fun r => left_apply r q t ht
  · rw [if_neg ht, show 2 * p + t.val / 64 = 2 * p + 1 by omega, show t.val % 64 = t.val - 64 by omega]
    exact slab_apply _ _ _ _ _ _ _ _ (by omega) fun r => right_apply r q t (by omega)

/-- The grid point's whole block at an index. -/
def blockVal (x0 : Vec Ideal S1x1x15x128 .f32) : S1x3x1x256x768.Idx → Elt Ideal .f32 := fun y =>
  entry x0 (lead (y 1).val ((y 3).val / 64)) (d0 (y 1).val ((y 3).val / 64)) ((y 4).val / 64) ((y 3).val % 64) ((y 4).val % 64)

theorem out_apply (x0 : Vec Ideal S1x1x15x128 .f32) (y : S1x3x1x256x768.Idx) :
    out0_1 x0 y = blockVal x0 y := by
  rw [out_eq]
  refine View.canon_apply_of_pieces (Val := Elt Ideal) (e := .f32) (blockVal x0) _ ?_ y ?_
  · intro pc hpc
    obtain ⟨n, -, rfl⟩ := List.mem_map.mp hpc
    intro x
    change S1x1x1x64x128.Idx at x
    obtain ⟨a, b, c, q, t, rfl⟩ : ∃ a b c q t, x = ix5 a b c q t := ⟨_, _, _, _, _, eq_ix5 x⟩
    obtain rfl : a = 0 := Subsingleton.elim (α := Fin 1) _ _
    obtain rfl : b = 0 := Subsingleton.elim (α := Fin 1) _ _
    obtain rfl : c = 0 := Subsingleton.elim (α := Fin 1) _ _
    change Fin 64 at q
    change Fin 128 at t
    refine (tile_apply x0 _ _ _ q t).trans ?_
    have hq := q.isLt
    have ht := t.isLt
    have hn := n.isLt
    show entry x0 _ _ _ _ _ = entry x0 (lead (n.val / 24 + 1 * 0) ((64 * (n.val / 6 % 4) + 1 * q.val) / 64))
      (d0 (n.val / 24 + 1 * 0) ((64 * (n.val / 6 % 4) + 1 * q.val) / 64)) ((128 * (n.val % 6) + 1 * t.val) / 64)
      ((64 * (n.val / 6 % 4) + 1 * q.val) % 64) ((128 * (n.val % 6) + 1 * t.val) % 64)
    rw [show n.val / 24 + 1 * 0 = n.val / 24 by omega, show (64 * (n.val / 6 % 4) + 1 * q.val) / 64 = n.val / 6 % 4 by omega,
      show (128 * (n.val % 6) + 1 * t.val) / 64 = 2 * (n.val % 6) + t.val / 64 by omega,
      show (64 * (n.val / 6 % 4) + 1 * q.val) % 64 = q.val by omega,
      show (128 * (n.val % 6) + 1 * t.val) % 64 = t.val % 64 by omega]
  · have h1 : (y 1).val < 3 := (y 1).isLt
    have h3 : (y 3).val < 256 := (y 3).isLt
    have h4 : (y 4).val < 768 := (y 4).isLt
    have h0 : (y 0).val < 1 := (y 0).isLt
    have h2 : (y 2).val < 1 := (y 2).isLt
    refine ⟨piece x0 ⟨(y 1).val * 24 + (y 3).val / 64 * 6 + (y 4).val / 128, by omega⟩,
      List.mem_map.mpr ⟨_, by simp, rfl⟩, ?_⟩
    unfold piece
    rw [Rect.mem_set_unit]
    intro a
    fin_cases a <;> simp <;> omega

end Cert.KernelIdeal.Table

end
-- ==== Proof.Attn.lean ====
module

public import proofs.«01_k».proof.Proof.Gen.KernelIdeal.Frame
public import Idealize.ShloMosaic.Lib.Pointwise
public import Idealize.ShloMosaic.Lib.Pipeline.ValueKit
public import proofs.«01_k».proof.Proof.Soft
public import proofs.«01_k».proof.Proof.Table

@[expose] public section

set_option maxRecDepth 16384

/-! The block that one grid point of the attention writes, read at an index. -/

noncomputable section

namespace Cert.KernelIdeal.Attn

open Cert.KernelIdeal Cert.KernelIdeal.Gen Idealize.ShloMosaic Idealize.ShloMosaic.TcCoe Idealize.SL.Sem

section
variable {F : FTy → Type} [FloatOps F] [Named F]

/-- The lanes of an even head, or of an odd one, of a query or output block. -/
def ownQ (hi : Bool) : IVec S256x128 1 :=
  bif hi then xori (cmpi .slt (iota .tc S256x128 32 [1] iota_S256x128_d1_w32) (broadcast S256x128 64#32)) (constantI S256x128 1 1#1)
  else cmpi .slt (iota .tc S256x128 32 [1] iota_S256x128_d1_w32) (broadcast S256x128 64#32)

/-- The same of the joined value blocks. -/
def ownV (hi : Bool) : IVec S1024x128 1 :=
  bif hi then xori (cmpi .slt (iota .tc S1024x128 32 [1] iota_S1024x128_d1_w32) (broadcast S1024x128 64#32)) (constantI S1024x128 1 1#1)
  else cmpi .slt (iota .tc S1024x128 32 [1] iota_S1024x128_d1_w32) (broadcast S1024x128 64#32)

/-- The scaled queries of one head, zero on the other head's lanes. -/
def qm (hi : Bool) (q : Vec F S256x128 .bf16) : FVec F S256x128 .bf16 :=
  select (ownQ hi) (truncf .bf16 (mulf (extf .f32 q bitsLt_bf16_f32) (broadcast S256x128 (Named.named κ "qscale" 0x3E38AA3B#32))) bitsLt_bf16_f32)
    (broadcast S256x128 (Scalar.ofBits .bf16 0x0000#16))

/-- The logits against a key block, without a bias. -/
def lc (hi : Bool) (q k : Vec F S256x128 .bf16) : FVec F S256x256 .f32 :=
  matmul dot_S256x128_S256x128_S256x256_1_1_0_0_n_n none (qm hi q) k (constant S256x256 .f32 0x00000000#32)

/-- The logits against a key block, with its bias. -/
def lb (hi : Bool) (q k : Vec F S256x128 .bf16) (b : Vec F S1x1x1x256x256 .f32) : FVec F S256x256 .f32 :=
  addf (lc hi q k) (shapeCast S256x256 b shapeCasts_S1x1x1x256x256_S256x256)

/-- The row maxima of four logit blocks. -/
def mx (s0 s1 s2 s3 : FVec F S256x256 .f32) : FVec F S256x1 .f32 :=
  shapeCast S256x1 (multiReduction .maximumf [1] S256 (maximumf (maximumf (maximumf s0 s1) s2) s3) 0xFF800000#32 reduces_S256x256_S256 (.inl rfl) rfl)
    shapeCasts_S256_S256x1

/-- The base-two weights of one logit block. -/
def pw (m : FVec F S256x1 .f32) (s : FVec F S256x256 .f32) : FVec F S256x256 .bf16 :=
  truncf .bf16 (exp2 (subf s (broadcastTo S256x256 m broadcasts_S256x1_S256x256))) bitsLt_bf16_f32

/-- The weights times the values, and (on the other head's lanes) times one. -/
def acc (hi : Bool) (s0 s1 s2 s3 : FVec F S256x256 .f32) (v0 v1 v2 v3 : Vec F S256x128 .bf16) : FVec F S256x128 .f32 :=
  matmul dot_S256x1024_S1024x128_S256x128_1_0_0_1_n_n none
    (concatenate S256x1024 1 [⟨S256x256, pw (mx s0 s1 s2 s3) s0⟩, ⟨S256x256, pw (mx s0 s1 s2 s3) s1⟩, ⟨S256x256, pw (mx s0 s1 s2 s3) s2⟩, ⟨S256x256, pw (mx s0 s1 s2 s3) s3⟩] concatenates_S256x256_S256x256_S256x256_S256x256_S256x1024_d1)
    (select (ownV hi) (concatenate S1024x128 0 [⟨S256x128, v0⟩, ⟨S256x128, v1⟩, ⟨S256x128, v2⟩, ⟨S256x128, v3⟩] concatenates_S256x128_S256x128_S256x128_S256x128_S1024x128_d0)
      (broadcast S1024x128 (Scalar.ofBits .bf16 0x3F80#16)))
    (constant S256x128 .f32 0x00000000#32)

/-- The accumulator divided by the other half's lanes. -/
def quot (a : FVec F S256x128 .f32) : FVec F S256x128 .f32 :=
  mulf a (divf (broadcast S256x128 (Scalar.ofBits .f32 0x3F800000#32)) (dynamicRotate 1 64#32 none a rotates_S256x128_d1))

/-- One head's output on its own lanes. -/
def head (hi : Bool) (q k0 k1 k2 k3 v0 v1 v2 v3 : Vec F S256x128 .bf16) (b0 b1 b2 : Vec F S1x1x1x256x256 .f32) : FVec F S256x128 .f32 :=
  quot (acc hi (lb hi q k0 b0) (lb hi q k1 b1) (lb hi q k2 b2) (lc hi q k3) v0 v1 v2 v3)

/-- The rectangle of a head pair's lanes in a key, value or context block. -/
abbrev kvRect (p : Fin 4) : Rect S256x512 :=
  Rect.unit (s := S256x512) ![0, 128 * p.val] S256x128.size (by
    intro a; have := p.isLt; fin_cases a <;> simp <;> omega)
/-- The rectangle of a row group's and a head pair's lanes in a query or output block. -/
abbrev qRect (g : Fin 2) (p : Fin 4) : Rect S512x512 :=
  Rect.unit (s := S512x512) ![256 * g.val, 128 * p.val] S256x128.size (by
    intro a; have := p.isLt; have := g.isLt; fin_cases a <;> simp <;> omega)
/-- The rectangle of a head's bias against one key block. -/
abbrev bRect (h : Fin 8) (j : Fin 3) : Rect S1x1x8x256x768 :=
  Rect.unit (s := S1x1x8x256x768) ![0, 0, h.val, 0, 256 * j.val] S1x1x1x256x256.size (by
    intro a; have := h.isLt; have := j.isLt; fin_cases a <;> simp <;> omega)

/-- A head of one row group, from the queries and the blocks. -/
def headOf (hi : Bool) (p : Fin 4) (q : Vec F S256x128 .bf16) (k0 k1 k2 k3 v0 v1 v2 v3 : Vec F S256x512 .bf16)
    (b : Vec F S1x1x8x256x768 .f32) : FVec F S256x128 .f32 :=
  head hi q (View.ld k0 (kvRect p)) (View.ld k1 (kvRect p)) (View.ld k2 (kvRect p)) (View.ld k3 (kvRect p))
    (View.ld v0 (kvRect p)) (View.ld v1 (kvRect p)) (View.ld v2 (kvRect p)) (View.ld v3 (kvRect p))
    (View.ld b (bRect ⟨2 * p.val + bif hi then 1 else 0, by cases hi <;> simp <;> omega⟩ 0))
    (View.ld b (bRect ⟨2 * p.val + bif hi then 1 else 0, by cases hi <;> simp <;> omega⟩ 1))
    (View.ld b (bRect ⟨2 * p.val + bif hi then 1 else 0, by cases hi <;> simp <;> omega⟩ 2))

/-- A head pair of one row group. -/
def pairOf (p : Fin 4) (q : Vec F S256x128 .bf16) (k0 k1 k2 k3 v0 v1 v2 v3 : Vec F S256x512 .bf16)
    (b : Vec F S1x1x8x256x768 .f32) : Vec F S256x128 .bf16 :=
  truncf .bf16 (select (ownQ false) (headOf false p q k0 k1 k2 k3 v0 v1 v2 v3 b) (headOf true p q k0 k1 k2 k3 v0 v1 v2 v3 b)) bitsLt_bf16_f32

/-- The piece of a head pair: the first row group reads its own key, value and bias blocks, the second its own. -/
def piece (Q : Fin 2 → Fin 4 → Vec F S256x128 .bf16) (x1 x2 x3 x4 x5 x6 x7 x8 x9 x10 x11 x12 x13 x14 : Vec F S256x512 .bf16)
    (x15 x16 : Vec F S1x1x8x256x768 .f32) (n : Fin 8) : View.Piece (Elt F) S512x512 .bf16 :=
  ⟨qRect ⟨n.val % 2, by omega⟩ ⟨n.val / 2, by omega⟩,
    bif Nat.beq (n.val % 2) 0 then pairOf ⟨n.val / 2, by omega⟩ (Q ⟨n.val % 2, by omega⟩ ⟨n.val / 2, by omega⟩) x1 x2 x3 x13 x4 x5 x6 x14 x15
    else pairOf ⟨n.val / 2, by omega⟩ (Q ⟨n.val % 2, by omega⟩ ⟨n.val / 2, by omega⟩) x7 x8 x9 x13 x10 x11 x12 x14 x16⟩

/-- The queries of a row group and a head pair, loaded through a slice of the block's rows. -/
def qLoad (v : View sig .tc .vmem S512x512 .bf16) (f : v.ty.Contents (Elt F)) (g : Fin 2) (p : Fin 4) : Vec F S256x128 .bf16 :=
  v.readAt (Elt F) ((Rect.unit (s := S512x512) ![256 * g.val, 0] S256x512.size (by
      intro a; have := g.isLt; fin_cases a <;> simp <;> omega)).withinL (kvRect p).toLoadRect (fun _ => rfl)) f

/-- That load is a load of the block's rectangle. -/
theorem qLoad_eq (v : View sig .tc .vmem S512x512 .bf16) (f : v.ty.Contents (Elt F)) (g : Fin 2) (p : Fin 4) :
    qLoad v f g p = View.ld (v.read (Elt F) f) (qRect g p) := by
  funext y
  refine congrArg (v.read (Elt F) f) (funext fun a => Fin.ext ?_)
  fin_cases a <;> simp [Rect.withinL, LoadRect.idx, Rect.unit]

variable (V : (c : Dev nD) → (b : Ref sig .tc) → Buf (Elt F) ((c : Thread nD τ).loc b))

/-- The grid point's block is the eight head pairs. -/
theorem out_eq (c : Dev nD) (t : Fin cfg1.N) :
    outsAt1 V c t = View.canon ((List.finRange 8).reverse.map (piece (fun g p => View.ld (iblk1 V c 0 t) (qRect g p))
      (iblk1 V c 1 t) (iblk1 V c 2 t) (iblk1 V c 3 t) (iblk1 V c 4 t) (iblk1 V c 5 t) (iblk1 V c 6 t) (iblk1 V c 7 t) (iblk1 V c 8 t)
      (iblk1 V c 9 t) (iblk1 V c 10 t) (iblk1 V c 11 t) (iblk1 V c 12 t) (iblk1 V c 13 t) (iblk1 V c 14 t) (iblk1 V c 15 t) (iblk1 V c 16 t))) := by
  unfold outsAt1 out1_A_17
  rw [View.read_writes_junk_eq_canon]
  refine (show _ = View.canon ((List.finRange 8).reverse.map (piece (qLoad (ms1_0 t).view ((hs1_0 t).unread (iblk1 V c 0 t)))
      ((ms1_1 t).view.read (Elt F) ((hs1_1 t).unread (iblk1 V c 1 t))) ((ms1_2 t).view.read (Elt F) ((hs1_2 t).unread (iblk1 V c 2 t))) ((ms1_3 t).view.read (Elt F) ((hs1_3 t).unread (iblk1 V c 3 t))) ((ms1_4 t).view.read (Elt F) ((hs1_4 t).unread (iblk1 V c 4 t)))
      ((ms1_5 t).view.read (Elt F) ((hs1_5 t).unread (iblk1 V c 5 t))) ((ms1_6 t).view.read (Elt F) ((hs1_6 t).unread (iblk1 V c 6 t))) ((ms1_7 t).view.read (Elt F) ((hs1_7 t).unread (iblk1 V c 7 t))) ((ms1_8 t).view.read (Elt F) ((hs1_8 t).unread (iblk1 V c 8 t)))
      ((ms1_9 t).view.read (Elt F) ((hs1_9 t).unread (iblk1 V c 9 t))) ((ms1_10 t).view.read (Elt F) ((hs1_10 t).unread (iblk1 V c 10 t))) ((ms1_11 t).view.read (Elt F) ((hs1_11 t).unread (iblk1 V c 11 t))) ((ms1_12 t).view.read (Elt F) ((hs1_12 t).unread (iblk1 V c 12 t)))
      ((ms1_13 t).view.read (Elt F) ((hs1_13 t).unread (iblk1 V c 13 t))) ((ms1_14 t).view.read (Elt F) ((hs1_14 t).unread (iblk1 V c 14 t))) ((ms1_15 t).view.read (Elt F) ((hs1_15 t).unread (iblk1 V c 15 t))) ((ms1_16 t).view.read (Elt F) ((hs1_16 t).unread (iblk1 V c 16 t))))) from rfl).trans ?_
  simp only [Memref.IsWhole.read_unread]
  have hq : (qLoad (ms1_0 t).view ((hs1_0 t).unread (iblk1 V c 0 t))) = fun g p => View.ld (iblk1 V c 0 t) (qRect g p) := by
    funext g p
    rw [qLoad_eq, Memref.IsWhole.read_unread]
    rfl
  rw [hq]
end

end Cert.KernelIdeal.Attn

end
-- ==== Proof.AttnValue.lean ====
module

public import proofs.«01_k».proof.Proof.Gen.KernelIdeal.Frame
public import Idealize.ShloMosaic.Lib.Pointwise
public import Idealize.ShloMosaic.Lib.Pipeline.ValueKit
public import proofs.«01_k».proof.Proof.Soft
public import proofs.«01_k».proof.Proof.Table
public import proofs.«01_k».proof.Proof.Attn

@[expose] public section

set_option maxRecDepth 16384

/-! One head of one row group, read at an index over the extended reals. -/

noncomputable section

namespace Cert.KernelIdeal.Attn

open Cert.KernelIdeal Cert.KernelIdeal.Gen Idealize.ShloMosaic Idealize.ShloMosaic.TcCoe Idealize.SL.Sem

/-- The lanes of a head within its pair. -/
def own (hi : Bool) (l : ℕ) : Bool := bif hi then decide (64 ≤ l) else decide (l < 64)

/-- The first lane of a head within its pair. -/
def off (hi : Bool) : ℕ := bif hi then 64 else 0

theorem hi_mask : ∀ t : Fin 128, IntOp.xori (IntOp.cmpi .slt (BitVec.ofNat 32 t.val) 64#32) 1#1 = BitVec.ofBool (decide (64 ≤ t.val)) := by
  decide +kernel

theorem ownQ_apply (hi : Bool) (i : Fin 256) (l : Fin 128) : ownQ hi (ix2 i l) = BitVec.ofBool (own hi l.val) := by
  cases hi
  · unfold ownQ; simp only [cond_false]
    pointwise
    exact Table.lane_mask l
  · unfold ownQ; simp only [cond_true]
    pointwise
    exact hi_mask l

theorem ownV_apply (hi : Bool) (i : Fin 1024) (l : Fin 128) : ownV hi (ix2 i l) = BitVec.ofBool (own hi l.val) := by
  cases hi
  · unfold ownV; simp only [cond_false]
    pointwise
    exact Table.lane_mask l
  · unfold ownV; simp only [cond_true]
    pointwise
    exact hi_mask l

theorem select_ofBool {α : Type} (p : Bool) (a b : α) :
    Scalar.select (BitVec.ofBool p) a b = if p then a else b := by
  cases p <;> rfl

theorem qscale_eq : (Named.named κ "qscale" 0x3E38AA3B#32 : Ideal .f32) = (((1 / 8) * (Real.log 2)⁻¹ : ℝ) : EReal) :=
  IdealRules.named_const.ideal_named_scalar _ _ _ _ rfl

theorem qm_apply (hi : Bool) (q : Vec Ideal S256x128 .bf16) (i : Fin 256) (l : Fin 128) :
    qm hi q (ix2 i l) = if own hi l.val then q (ix2 i l) * (((1 / 8) * (Real.log 2)⁻¹ : ℝ) : EReal) else 0 := by
  pointwise [qm]
  rw [ownQ_apply, select_ofBool, ← qscale_eq]

/-- A sum over a pair's lanes of terms vanishing off one head's lanes is a sum over the head's lanes. -/
theorem sum_own (hi : Bool) (f : Fin 128 → ℝ) :
    (∑ l, if own hi l.val then f l else 0) = ∑ d : Fin 64, f ⟨off hi + d.val, by cases hi <;> simp [off] <;> omega⟩ := by
  rw [Fin.sum_univ_add (a := 64) (b := 64) (fun l : Fin 128 => if own hi l.val then f l else 0)]
  cases hi
  · rw [Finset.sum_congr rfl (g := fun d : Fin 64 => f ⟨off false + d.val, by simp [off]; omega⟩) (fun d _ => by
      have : own false (Fin.castAdd 64 d).val = true := by simp [own]
      rw [if_pos this]; congr 1; exact Fin.ext (by simp [off]))]
    rw [Finset.sum_eq_zero (f := fun d : Fin 64 => if own false (Fin.natAdd 64 d).val then f (Fin.natAdd 64 d) else 0), add_zero]
    intro d _
    simp [own]
  · rw [Finset.sum_eq_zero (f := fun d : Fin 64 => if own true (Fin.castAdd 64 d).val then f (Fin.castAdd 64 d) else 0), zero_add]
    · refine Finset.sum_congr rfl fun d _ => ?_
      have : own true (Fin.natAdd 64 d).val = true := by simp [own]
      rw [if_pos this]; congr 1
    · intro d _
      simp [own]

/-- The dot product of a query and a key over one head's lanes. -/
def dot (hi : Bool) (q k : Vec Ideal S256x128 .bf16) (i j : Fin 256) : EReal :=
  ∑ d : Fin 64, q (ix2 i ⟨off hi + d.val, by cases hi <;> simp [off] <;> omega⟩) * k (ix2 j ⟨off hi + d.val, by cases hi <;> simp [off] <;> omega⟩)

/-- A block all of whose entries are real numbers. -/
def Fin' (q : Vec Ideal S256x128 .bf16) : Prop := ∀ i, ∃ r : ℝ, q i = (r : EReal)

theorem dot_real (hi : Bool) {q k : Vec Ideal S256x128 .bf16} (hq : Fin' q) (hk : Fin' k) (i j : Fin 256) :
    ∃ r : ℝ, dot hi q k i j = r := by
  choose a ha using hq
  choose b hb using hk
  unfold dot
  simp only [ha, hb, ← EReal.coe_mul]
  exact ⟨_, Soft.coe_sum _ _⟩

theorem lc_apply (hi : Bool) {q k : Vec Ideal S256x128 .bf16} (hq : Fin' q) (hk : Fin' k) (i j : Fin 256) :
    lc hi q k (ix2 i j) = dot hi q k i j * ((1 / 8 : ℝ) : EReal) * (((Real.log 2)⁻¹ : ℝ) : EReal) := by
  choose a ha using hq
  choose b hb using hk
  pointwise [lc]
  have h : ∀ x : Fin 128, qm hi q (ix2 i x) * k (ix2 j x)
      = ((if own hi x.val then a (ix2 i x) * ((1 / 8) * (Real.log 2)⁻¹) * b (ix2 j x) else 0 : ℝ) : EReal) := by
    intro x
    rw [qm_apply, ha, hb]
    split
    · rw [← EReal.coe_mul, ← EReal.coe_mul]
    · rw [zero_mul, EReal.coe_zero]
  simp only [h]
  unfold dot
  simp only [ha, hb, ← EReal.coe_mul]
  rw [Soft.coe_sum, Soft.coe_sum, sum_own hi (fun x => a (ix2 i x) * ((1 / 8) * (Real.log 2)⁻¹) * b (ix2 j x)), ← EReal.coe_mul, ← EReal.coe_mul,
    Finset.sum_mul, Finset.sum_mul]
  congr 1
  refine Finset.sum_congr rfl fun d _ => ?_
  ring

theorem mul_right_distrib {r : ℝ} (x y : EReal) (hx : ∃ a : ℝ, x = a) (hy : y ≠ ⊤) (hr : 0 < r) :
    (x + y) * (r : EReal) = x * r + y * r := by
  obtain ⟨a, rfl⟩ := hx
  rcases Soft.cases_of_ne_top hy with rfl | ⟨b, rfl⟩
  · rw [EReal.add_bot, EReal.bot_mul_coe_of_pos hr, EReal.add_bot]
  · rw [← EReal.coe_add, ← EReal.coe_mul, ← EReal.coe_mul, ← EReal.coe_mul, ← EReal.coe_add, add_mul]

theorem lb_apply (hi : Bool) {q k : Vec Ideal S256x128 .bf16} (hq : Fin' q) (hk : Fin' k) (b : Vec Ideal S1x1x1x256x256 .f32)
    (B : Fin 256 → Fin 256 → EReal) (hB : ∀ i j, B i j ≠ ⊤) (hb : ∀ i j, b (ix5 0 0 0 i j) = B i j * (((Real.log 2)⁻¹ : ℝ) : EReal)) (i j : Fin 256) :
    lb hi q k b (ix2 i j) = (dot hi q k i j * ((1 / 8 : ℝ) : EReal) + B i j) * (((Real.log 2)⁻¹ : ℝ) : EReal) := by
  pointwise [lb]
  rw [lc_apply hi hq hk, hb, mul_right_distrib _ _ _ (hB i j) (inv_pos.mpr (Real.log_pos (by norm_num)))]
  obtain ⟨r, hr⟩ := dot_real hi hq hk i j
  exact ⟨r * (1 / 8), by rw [hr, EReal.coe_mul]⟩

theorem mx_apply (s0 s1 s2 s3 : FVec Ideal S256x256 .f32) (i : Fin 256)
    (h0 : ∀ j, s0 (ix2 i j) ≠ ⊤) (h1 : ∀ j, s1 (ix2 i j) ≠ ⊤) (h2 : ∀ j, s2 (ix2 i j) ≠ ⊤) (h3 : ∀ j, ∃ r : ℝ, s3 (ix2 i j) = r) :
    ∃ m : ℝ, mx s0 s1 s2 s3 (ix2 i 0) = m := by
  pointwise [mx]
  rw [show Ideal.ofBits FTy.f32 4286578688#32 = (⊥ : EReal) from by decide +kernel]
  refine Soft.fold_max_real (fun j => ?_) ⟨0, ?_⟩
  · obtain ⟨r, hr⟩ := h3 j
    rw [hr]
    exact (max_lt (max_lt (max_lt (lt_top_iff_ne_top.mpr (h0 j)) (lt_top_iff_ne_top.mpr (h1 j))) (lt_top_iff_ne_top.mpr (h2 j))) (EReal.coe_lt_top r)).ne
  · obtain ⟨r, hr⟩ := h3 0
    rw [hr]
    exact (lt_max_of_lt_right (EReal.bot_lt_coe r)).ne'

theorem pw_apply (m : FVec Ideal S256x1 .f32) (s : FVec Ideal S256x256 .f32) (i k : Fin 256) :
    pw m s (ix2 i k) = Ideal.exp2 (s (ix2 i k) - m (ix2 i 0)) := by
  pointwise [pw]
  rfl

/-- A choice among four blocks by a joined index. -/
theorem pick (f : Fin 4 → Fin 256 → EReal) (x : Fin 1024) :
    (if h : x.val < 256 then f 0 ⟨x.val, h⟩ else if h : x.val - 256 < 256 then f 1 ⟨x.val - 256, h⟩
      else if h : x.val - 256 - 256 < 256 then f 2 ⟨x.val - 256 - 256, h⟩ else f 3 ⟨x.val - 256 - 256 - 256, by have := x.isLt; omega⟩)
      = f ⟨x.val / 256, by have := x.isLt; omega⟩ ⟨x.val % 256, by omega⟩ := by
  have := x.isLt
  split
  · congr 1 <;> apply Fin.ext <;> simp <;> omega
  split
  · congr 1 <;> apply Fin.ext <;> simp <;> omega
  split
  · congr 1 <;> apply Fin.ext <;> simp <;> omega
  · congr 1 <;> apply Fin.ext <;> simp <;> omega

theorem acc_apply (hi : Bool) (s : Fin 4 → FVec Ideal S256x256 .f32) (v : Fin 4 → Vec Ideal S256x128 .bf16) (i : Fin 256) (l : Fin 128) :
    acc hi (s 0) (s 1) (s 2) (s 3) (v 0) (v 1) (v 2) (v 3) (ix2 i l) =
      ∑ x : Fin 1024, Ideal.exp2 (s ⟨x.val / 256, by have := x.isLt; omega⟩ (ix2 i ⟨x.val % 256, by omega⟩) - mx (s 0) (s 1) (s 2) (s 3) (ix2 i 0)) *
        (if own hi l.val then v ⟨x.val / 256, by have := x.isLt; omega⟩ (ix2 ⟨x.val % 256, by omega⟩ l) else 1) := by
  pointwise [acc]
  refine Finset.sum_congr rfl fun x _ => ?_
  rw [ownV_apply, select_ofBool]
  simp only [pw_apply]
  rw [pick (fun j k => Ideal.exp2 (s j (ix2 i k) - mx (s 0) (s 1) (s 2) (s 3) (ix2 i 0))) x, pick (fun j k => v j (ix2 k l)) x]

theorem quot_apply (a : FVec Ideal S256x128 .f32) (i : Fin 256) (l : Fin 128) :
    quot a (ix2 i l) = a (ix2 i l) * Ideal.div 1 (a (ix2 i ⟨(l.val + 128 - 64) % 128, by omega⟩)) := by
  pointwise [quot]

/-- The logit of a joined key index: a third of the keys has a bias in each of three blocks, the fourth block none. -/
def logit (hi : Bool) (q : Vec Ideal S256x128 .bf16) (k : Fin 4 → Vec Ideal S256x128 .bf16) (B : Fin 3 → Fin 256 → Fin 256 → EReal) (i : Fin 256)
    (x : Fin 1024) : EReal :=
  dot hi q (k ⟨x.val / 256, by have := x.isLt; omega⟩) i ⟨x.val % 256, by omega⟩ * ((1 / 8 : ℝ) : EReal) +
    if h : x.val / 256 < 3 then B ⟨x.val / 256, h⟩ i ⟨x.val % 256, by omega⟩ else 0

/-- A head's output on its own lanes is the softmax-weighted sum of the values. -/
theorem head_apply (hi : Bool) (q : Vec Ideal S256x128 .bf16) (k v : Fin 4 → Vec Ideal S256x128 .bf16) (b : Fin 3 → Vec Ideal S1x1x1x256x256 .f32)
    (hq : Fin' q) (hk : ∀ j, Fin' (k j))
    (B : Fin 3 → Fin 256 → Fin 256 → EReal) (hB : ∀ a i j, B a i j ≠ ⊤) (hb : ∀ a i j, b a (ix5 0 0 0 i j) = B a i j * (((Real.log 2)⁻¹ : ℝ) : EReal))
    (i : Fin 256) (l : Fin 128) (hl : own hi l.val = true) :
    head hi q (k 0) (k 1) (k 2) (k 3) (v 0) (v 1) (v 2) (v 3) (b 0) (b 1) (b 2) (ix2 i l) =
      Soft.soft (logit hi q k B i) (fun x : Fin 1024 => v ⟨x.val / 256, by have := x.isLt; omega⟩ (ix2 ⟨x.val % 256, by omega⟩ l)) := by
  have ht : ∀ x, logit hi q k B i x ≠ ⊤ := by
    intro x
    unfold logit
    obtain ⟨r, hr⟩ := dot_real hi hq (hk ⟨x.val / 256, by have := x.isLt; omega⟩) i ⟨x.val % 256, by omega⟩
    rw [hr, ← EReal.coe_mul]
    split
    · rename_i h
      exact (EReal.add_lt_top (EReal.coe_ne_top _) (hB _ _ _)).ne
    · rw [add_zero]; exact EReal.coe_ne_top _
  have hne : logit hi q k B i 768 ≠ ⊥ := by
    unfold logit
    obtain ⟨r, hr⟩ := dot_real hi hq (hk ⟨(768 : Fin 1024).val / 256, by decide⟩) i ⟨(768 : Fin 1024).val % 256, by decide⟩
    rw [hr, dif_neg (by decide), add_zero, ← EReal.coe_mul]
    exact EReal.coe_ne_bot _
  have hL : 0 < (Real.log 2)⁻¹ := inv_pos.mpr (Real.log_pos (by norm_num))
  let s : Fin 4 → FVec Ideal S256x256 .f32 := ![lb hi q (k 0) (b 0), lb hi q (k 1) (b 1), lb hi q (k 2) (b 2), lc hi q (k 3)]
  have hs : ∀ x : Fin 1024, s ⟨x.val / 256, by have := x.isLt; omega⟩ (ix2 i ⟨x.val % 256, by omega⟩) = logit hi q k B i x * (((Real.log 2)⁻¹ : ℝ) : EReal) := by
    intro x
    unfold logit
    have hx := x.isLt
    generalize hj : (⟨x.val / 256, by omega⟩ : Fin 4) = j
    generalize (⟨x.val % 256, by omega⟩ : Fin 256) = c
    have hj' : x.val / 256 = j.val := by rw [← hj]
    simp only [hj']
    fin_cases j
    · exact lb_apply hi hq (hk 0) (b 0) (B 0) (hB 0) (hb 0) i c
    · exact lb_apply hi hq (hk 1) (b 1) (B 1) (hB 1) (hb 1) i c
    · exact lb_apply hi hq (hk 2) (b 2) (B 2) (hB 2) (hb 2) i c
    · refine (lc_apply hi hq (hk 3) i c).trans ?_
      rw [dif_neg (by decide), add_zero]
      rfl
  have hlt : ∀ (y : EReal), y ≠ ⊤ → y * (((Real.log 2)⁻¹ : ℝ) : EReal) ≠ ⊤ := by
    intro y hy
    rcases Soft.cases_of_ne_top hy with rfl | ⟨r, rfl⟩
    · rw [EReal.bot_mul_coe_of_pos hL]; exact bot_ne_top
    · rw [← EReal.coe_mul]; exact EReal.coe_ne_top _
  have hst : ∀ (a : Fin 3) (c : Fin 256), (dot hi q (k a.castSucc) i c * ((1 / 8 : ℝ) : EReal) + B a i c) * (((Real.log 2)⁻¹ : ℝ) : EReal) ≠ ⊤ := by
    intro a c
    apply hlt
    obtain ⟨r, hr⟩ := dot_real hi hq (hk a.castSucc) i c
    rw [hr, ← EReal.coe_mul]
    exact (EReal.add_lt_top (EReal.coe_ne_top _) (hB _ _ _)).ne
  obtain ⟨m, hm⟩ := mx_apply (s 0) (s 1) (s 2) (s 3) i
    (fun c => ne_of_eq_of_ne (lb_apply hi hq (hk 0) (b 0) (B 0) (hB 0) (hb 0) i c) (hst 0 c))
    (fun c => ne_of_eq_of_ne (lb_apply hi hq (hk 1) (b 1) (B 1) (hB 1) (hb 1) i c) (hst 1 c))
    (fun c => ne_of_eq_of_ne (lb_apply hi hq (hk 2) (b 2) (B 2) (hB 2) (hb 2) i c) (hst 2 c))
    (fun c => by
      obtain ⟨r, hr⟩ := dot_real hi hq (hk 3) i c
      exact ⟨r * (1 / 8) * (Real.log 2)⁻¹, by rw [show s 3 = lc hi q (k 3) from rfl, lc_apply hi hq (hk 3), hr, EReal.coe_mul, EReal.coe_mul]⟩)
  have hl' : own hi ((l.val + 128 - 64) % 128) = false := by
    have := l.isLt
    cases hi
    · simp [own] at hl ⊢; omega
    · simp [own] at hl ⊢; omega
  unfold head
  rw [quot_apply]
  rw [show acc hi (lb hi q (k 0) (b 0)) (lb hi q (k 1) (b 1)) (lb hi q (k 2) (b 2)) (lc hi q (k 3)) (v 0) (v 1) (v 2) (v 3)
    = acc hi (s 0) (s 1) (s 2) (s 3) (v 0) (v 1) (v 2) (v 3) from rfl, acc_apply, acc_apply, hm]
  simp only [hs, hl, hl', if_true, Bool.false_eq_true, if_false, mul_one]
  exact Soft.late_eq _ ht ⟨_, hne⟩ m

end Cert.KernelIdeal.Attn

end
-- ==== Proof.Blocks.lean ====
module

public import proofs.«01_k».proof.Proof.Gen.KernelIdeal.Frame
public import Idealize.ShloMosaic.Lib.Pointwise
public import Idealize.ShloMosaic.Lib.Pipeline.ValueKit

@[expose] public section

set_option maxRecDepth 16384

/-! The blocks of the attention's windows, read from the arrays. -/

noncomputable section

namespace Cert.KernelIdeal.Blocks

open Cert.KernelIdeal Cert.KernelIdeal.Gen Idealize.ShloMosaic Idealize.ShloMosaic.TcCoe Idealize.SL.Sem

/-- The first key block of the row block of group `g` at a grid point's second coordinate. -/
def ks (g r : ℕ) : ℕ := min (2 * r + g - 1) 29

/-- The bias table's variant of that row block. -/
def variant (g r : ℕ) : ℕ := if 2 * r + g = 0 then 0 else if 2 * r + g = 31 then 2 else 1

/-- The windows' block indices. -/
theorem idx : ∀ t : Fin cfg1.N,
    win1_0.index t = ![t.val / 16 * 16 + t.val % 16, 0] ∧
    win1_1.index t = ![t.val / 16 * 32 + ks 0 (t.val % 16) + 0, 1] ∧
    win1_2.index t = ![t.val / 16 * 32 + ks 0 (t.val % 16) + 1, 1] ∧
    win1_3.index t = ![t.val / 16 * 32 + ks 0 (t.val % 16) + 2, 1] ∧
    win1_4.index t = ![t.val / 16 * 32 + ks 0 (t.val % 16) + 0, 2] ∧
    win1_5.index t = ![t.val / 16 * 32 + ks 0 (t.val % 16) + 1, 2] ∧
    win1_6.index t = ![t.val / 16 * 32 + ks 0 (t.val % 16) + 2, 2] ∧
    win1_7.index t = ![t.val / 16 * 32 + ks 1 (t.val % 16) + 0, 1] ∧
    win1_8.index t = ![t.val / 16 * 32 + ks 1 (t.val % 16) + 1, 1] ∧
    win1_9.index t = ![t.val / 16 * 32 + ks 1 (t.val % 16) + 2, 1] ∧
    win1_10.index t = ![t.val / 16 * 32 + ks 1 (t.val % 16) + 0, 2] ∧
    win1_11.index t = ![t.val / 16 * 32 + ks 1 (t.val % 16) + 1, 2] ∧
    win1_12.index t = ![t.val / 16 * 32 + ks 1 (t.val % 16) + 2, 2] ∧
    win1_13.index t = ![t.val / 16, 1] ∧
    win1_14.index t = ![t.val / 16, 2] ∧
    win1_15.index t = ![0, variant 0 (t.val % 16), 0, 0, 0] ∧
    win1_16.index t = ![0, variant 1 (t.val % 16), 0, 0, 0] ∧
    win1_17.index t = ![t.val / 16 * 16 + t.val % 16, 0] := by
  decide +kernel

section
variable {F : FTy → Type} [FloatOps F] [Named F]
variable (V : (c : Dev nD) → (b : Ref sig .tc) → Buf (Elt F) ((c : Thread nD τ).loc b))

theorem lt64 (t : Fin cfg1.N) : t.val < 64 := t.isLt

theorem ks_le (g r : ℕ) : ks g r ≤ 29 := Nat.min_le_right _ _

/-- The queries' block. -/
theorem q_apply (c : Dev nD) (t : Fin cfg1.N) (i l : Fin 512) :
    iblk1 V c 0 t (ix2 i l) = V c main_arg0 (ix2 ⟨t.val * 512 + i.val, by have := lt64 t; omega⟩ ⟨l.val, by omega⟩) := by
  have h := lt64 t
  have e := (idx t).1
  blk_ext [iblk1, e]

/-- The four key blocks of a row group: three of the image, one of the context. -/
def kB (c : Dev nD) (t : Fin cfg1.N) : Fin 2 → Fin 4 → Vec F S256x512 .bf16
  | 0 => ![iblk1 V c 1 t, iblk1 V c 2 t, iblk1 V c 3 t, iblk1 V c 13 t]
  | 1 => ![iblk1 V c 7 t, iblk1 V c 8 t, iblk1 V c 9 t, iblk1 V c 13 t]

/-- The four value blocks of a row group. -/
def vB (c : Dev nD) (t : Fin cfg1.N) : Fin 2 → Fin 4 → Vec F S256x512 .bf16
  | 0 => ![iblk1 V c 4 t, iblk1 V c 5 t, iblk1 V c 6 t, iblk1 V c 14 t]
  | 1 => ![iblk1 V c 10 t, iblk1 V c 11 t, iblk1 V c 12 t, iblk1 V c 14 t]

/-- The bias block of a row group. -/
def bB (c : Dev nD) (t : Fin cfg1.N) : Fin 2 → Vec F S1x1x8x256x768 .f32
  | 0 => iblk1 V c 15 t
  | 1 => iblk1 V c 16 t

theorem kB_apply (c : Dev nD) (t : Fin cfg1.N) (g : Fin 2) (a : Fin 3) (i : Fin 256) (l : Fin 512) :
    kB V c t g a.castSucc (ix2 i l) = V c main_arg0 (ix2 ⟨(t.val / 16 * 32 + ks g.val (t.val % 16) + a.val) * 256 + i.val, by
      have := lt64 t; have := ks_le g.val (t.val % 16); omega⟩ ⟨512 + l.val, by omega⟩) := by
  have h := lt64 t
  obtain ⟨-, e1, e2, e3, -, -, -, e7, e8, e9, -⟩ := idx t
  fin_cases g <;> fin_cases a
  · show iblk1 V c 1 t (ix2 i l) = _; blk_ext [iblk1, e1]
  · show iblk1 V c 2 t (ix2 i l) = _; blk_ext [iblk1, e2]
  · show iblk1 V c 3 t (ix2 i l) = _; blk_ext [iblk1, e3]
  · show iblk1 V c 7 t (ix2 i l) = _; blk_ext [iblk1, e7]
  · show iblk1 V c 8 t (ix2 i l) = _; blk_ext [iblk1, e8]
  · show iblk1 V c 9 t (ix2 i l) = _; blk_ext [iblk1, e9]

theorem kB_ctx (c : Dev nD) (t : Fin cfg1.N) (g : Fin 2) (i : Fin 256) (l : Fin 512) :
    kB V c t g 3 (ix2 i l) = V c main_arg1 (ix2 ⟨t.val / 16 * 256 + i.val, by have := lt64 t; omega⟩ ⟨512 + l.val, by omega⟩) := by
  have h := lt64 t
  obtain ⟨-, -, -, -, -, -, -, -, -, -, -, -, -, e, -⟩ := idx t
  fin_cases g <;> (show iblk1 V c 13 t (ix2 i l) = _; blk_ext [iblk1, e])

theorem vB_apply (c : Dev nD) (t : Fin cfg1.N) (g : Fin 2) (a : Fin 3) (i : Fin 256) (l : Fin 512) :
    vB V c t g a.castSucc (ix2 i l) = V c main_arg0 (ix2 ⟨(t.val / 16 * 32 + ks g.val (t.val % 16) + a.val) * 256 + i.val, by
      have := lt64 t; have := ks_le g.val (t.val % 16); omega⟩ ⟨1024 + l.val, by omega⟩) := by
  have h := lt64 t
  obtain ⟨-, -, -, -, e4, e5, e6, -, -, -, e10, e11, e12, -⟩ := idx t
  fin_cases g <;> fin_cases a
  · show iblk1 V c 4 t (ix2 i l) = _; blk_ext [iblk1, e4]
  · show iblk1 V c 5 t (ix2 i l) = _; blk_ext [iblk1, e5]
  · show iblk1 V c 6 t (ix2 i l) = _; blk_ext [iblk1, e6]
  · show iblk1 V c 10 t (ix2 i l) = _; blk_ext [iblk1, e10]
  · show iblk1 V c 11 t (ix2 i l) = _; blk_ext [iblk1, e11]
  · show iblk1 V c 12 t (ix2 i l) = _; blk_ext [iblk1, e12]

theorem vB_ctx (c : Dev nD) (t : Fin cfg1.N) (g : Fin 2) (i : Fin 256) (l : Fin 512) :
    vB V c t g 3 (ix2 i l) = V c main_arg1 (ix2 ⟨t.val / 16 * 256 + i.val, by have := lt64 t; omega⟩ ⟨1024 + l.val, by omega⟩) := by
  have h := lt64 t
  obtain ⟨-, -, -, -, -, -, -, -, -, -, -, -, -, -, e, -⟩ := idx t
  fin_cases g <;> (show iblk1 V c 14 t (ix2 i l) = _; blk_ext [iblk1, e])

theorem variant_lt (g r : ℕ) : variant g r < 3 := by
  unfold variant
  split <;> [skip; split] <;> omega

theorem bB_apply (c : Dev nD) (t : Fin cfg1.N) (g : Fin 2) (h : Fin 8) (i : Fin 256) (k : Fin 768) :
    bB V c t g (ix5 0 0 h i k) = V c main_v6 (ix5 0 ⟨variant g.val (t.val % 16), variant_lt _ _⟩ h i k) := by
  obtain ⟨-, -, -, -, -, -, -, -, -, -, -, -, -, -, -, e, e', -⟩ := idx t
  fin_cases g
  · show iblk1 V c 15 t (ix5 0 0 h i k) = _; blk_ext [iblk1, e]
  · show iblk1 V c 16 t (ix5 0 0 h i k) = _; blk_ext [iblk1, e']
end

end Cert.KernelIdeal.Blocks

end
-- ==== Proof.AttnBlock.lean ====
module

public import proofs.«01_k».proof.Proof.AttnValue
public import proofs.«01_k».proof.Proof.Blocks

@[expose] public section

set_option maxRecDepth 16384

/-! The output block of a grid point of the attention, read at an index. -/

noncomputable section

namespace Cert.KernelIdeal.Attn

open Cert.KernelIdeal Cert.KernelIdeal.Gen Cert.KernelIdeal.Blocks Idealize.ShloMosaic Idealize.ShloMosaic.TcCoe Idealize.SL.Sem

section
variable {F : FTy → Type} [FloatOps F] [Named F]
variable (V : (c : Dev nD) → (b : Ref sig .tc) → Buf (Elt F) ((c : Thread nD τ).loc b)) (c : Dev nD) (t : Fin cfg1.N)

/-- A head pair of a row group from the grid point's blocks. -/
def pair (g : Fin 2) (p : Fin 4) : Vec F S256x128 .bf16 :=
  pairOf p (View.ld (iblk1 V c 0 t) (qRect g p)) (kB V c t g 0) (kB V c t g 1) (kB V c t g 2) (kB V c t g 3)
    (vB V c t g 0) (vB V c t g 1) (vB V c t g 2) (vB V c t g 3) (bB V c t g)

/-- The whole block. -/
def whole : S512x512.Idx → Elt F .bf16 := fun y =>
  have h0 : (y 0).val < 512 := (y 0).isLt
  have h1 : (y 1).val < 512 := (y 1).isLt
  pair V c t ⟨(y 0).val / 256, by omega⟩ ⟨(y 1).val / 128, by omega⟩ (ix2 ⟨(y 0).val % 256, by omega⟩ ⟨(y 1).val % 128, by omega⟩)

theorem pair_eq (g : Fin 2) (p : Fin 4) (q : Vec F S256x128 .bf16) :
    (bif Nat.beq g.val 0 then pairOf p q (iblk1 V c 1 t) (iblk1 V c 2 t) (iblk1 V c 3 t) (iblk1 V c 13 t) (iblk1 V c 4 t) (iblk1 V c 5 t) (iblk1 V c 6 t) (iblk1 V c 14 t) (iblk1 V c 15 t)
      else pairOf p q (iblk1 V c 7 t) (iblk1 V c 8 t) (iblk1 V c 9 t) (iblk1 V c 13 t) (iblk1 V c 10 t) (iblk1 V c 11 t) (iblk1 V c 12 t) (iblk1 V c 14 t) (iblk1 V c 16 t))
    = pairOf p q (kB V c t g 0) (kB V c t g 1) (kB V c t g 2) (kB V c t g 3) (vB V c t g 0) (vB V c t g 1) (vB V c t g 2) (vB V c t g 3) (bB V c t g) := by
  fin_cases g <;> rfl

theorem piece_eq (n : Fin 8) : piece (fun g p => View.ld (iblk1 V c 0 t) (qRect g p))
      (iblk1 V c 1 t) (iblk1 V c 2 t) (iblk1 V c 3 t) (iblk1 V c 4 t) (iblk1 V c 5 t) (iblk1 V c 6 t) (iblk1 V c 7 t) (iblk1 V c 8 t)
      (iblk1 V c 9 t) (iblk1 V c 10 t) (iblk1 V c 11 t) (iblk1 V c 12 t) (iblk1 V c 13 t) (iblk1 V c 14 t) (iblk1 V c 15 t) (iblk1 V c 16 t) n
    = ⟨qRect ⟨n.val % 2, by omega⟩ ⟨n.val / 2, by omega⟩, pair V c t ⟨n.val % 2, by omega⟩ ⟨n.val / 2, by omega⟩⟩ := by
  unfold piece pair
  rw [← pair_eq V c t ⟨n.val % 2, by omega⟩]

theorem pair_at {g g' : Fin 2} {p p' : Fin 4} {i i' : Fin 256} {l l' : Fin 128} (hg : g.val = g'.val) (hp : p.val = p'.val) (hi : i.val = i'.val) (hl : l.val = l'.val) :
    pair V c t g p (ix2 i l) = pair V c t g' p' (ix2 i' l') := by
  rw [Fin.ext hg, Fin.ext hp, Fin.ext hi, Fin.ext hl]

theorem outs_whole (y : S512x512.Idx) : outsAt1 V c t y = whole V c t y := by
  rw [out_eq, show piece _ _ _ _ _ _ _ _ _ _ _ _ _ _ _ _ _ = _ from funext (piece_eq V c t)]
  refine View.canon_apply_of_pieces (Val := Elt F) (e := .bf16) (whole V c t) _ ?_ y ?_
  · intro pc hpc
    obtain ⟨n, -, rfl⟩ := List.mem_map.mp hpc
    intro x
    change S256x128.Idx at x
    obtain ⟨i, l, rfl⟩ : ∃ i l, x = ix2 i l := ⟨_, _, eq_ix2 x⟩
    change Fin 256 at i
    change Fin 128 at l
    have hi := i.isLt
    have hl := l.isLt
    have hn := n.isLt
    show pair V c t ⟨n.val % 2, by omega⟩ ⟨n.val / 2, by omega⟩ (ix2 i l) = pair V c t ⟨(256 * (n.val % 2) + 1 * i.val) / 256, by omega⟩ ⟨(128 * (n.val / 2) + 1 * l.val) / 128, by omega⟩
      (ix2 ⟨(256 * (n.val % 2) + 1 * i.val) % 256, by omega⟩ ⟨(128 * (n.val / 2) + 1 * l.val) % 128, by omega⟩)
    exact pair_at V c t (by dsimp only; omega) (by dsimp only; omega) (by dsimp only; omega) (by dsimp only; omega)
  · have h0 : (y 0).val < 512 := (y 0).isLt
    have h1 : (y 1).val < 512 := (y 1).isLt
    refine ⟨_, List.mem_map.mpr ⟨⟨(y 1).val / 128 * 2 + (y 0).val / 256, by omega⟩, by simp, rfl⟩, ?_⟩
    dsimp only
    rw [Rect.mem_set_unit]
    intro a
    fin_cases a <;> simp <;> omega
end

section
variable (V : (c : Dev nD) → (b : Ref sig .tc) → Buf (Elt Ideal) ((c : Thread nD τ).loc b)) (c : Dev nD) (t : Fin cfg1.N)

theorem kv_ld (X : Vec Ideal S256x512 .bf16) (p : Fin 4) (i : Fin 256) (l : Fin 128) :
    View.ld X (kvRect p) (ix2 i l) = X (ix2 i ⟨128 * p.val + l.val, by omega⟩) := by
  refine View.ld_unit_apply_of X _ _ _ _ _ fun a => ?_
  fin_cases a <;> simp

theorem q_ld (X : Vec Ideal S512x512 .bf16) (g : Fin 2) (p : Fin 4) (i : Fin 256) (l : Fin 128) :
    View.ld X (qRect g p) (ix2 i l) = X (ix2 ⟨256 * g.val + i.val, by omega⟩ ⟨128 * p.val + l.val, by omega⟩) := by
  refine View.ld_unit_apply_of X _ _ _ _ _ fun a => ?_
  fin_cases a <;> simp

theorem b_ld (X : Vec Ideal S1x1x8x256x768 .f32) (h : Fin 8) (a : Fin 3) (i j : Fin 256) :
    View.ld X (bRect h a) (ix5 0 0 0 i j) = X (ix5 0 0 h i ⟨256 * a.val + j.val, by omega⟩) := by
  refine View.ld_unit_apply_of X _ _ _ _ _ fun a => ?_
  fin_cases a <;> simp

/-- The head of a pair's half. -/
def headIx (p : Fin 4) (hi : Bool) : Fin 8 := ⟨2 * p.val + bif hi then 1 else 0, by cases hi <;> simp <;> omega⟩

/-- An output element: the softmax of its row's logits over the blocks' keys, weighting the blocks' values. -/
theorem outs_apply (g : Fin 2) (p : Fin 4) (i : Fin 256) (l : Fin 128) (hi : Bool) (hl : own hi l.val = true)
    (B : Fin 3 → Fin 256 → Fin 256 → EReal) (hB : ∀ a i j, B a i j ≠ ⊤)
    (hb : ∀ (a : Fin 3) (i j : Fin 256), bB V c t g (ix5 0 0 (headIx p hi) i ⟨256 * a.val + j.val, by omega⟩) = B a i j * (((Real.log 2)⁻¹ : ℝ) : EReal))
    (hq : Fin' (View.ld (iblk1 V c 0 t) (qRect g p))) (hk : ∀ a, Fin' (View.ld (kB V c t g a) (kvRect p))) :
    outsAt1 V c t (ix2 ⟨256 * g.val + i.val, by omega⟩ ⟨128 * p.val + l.val, by omega⟩) =
      Soft.soft (logit hi (View.ld (iblk1 V c 0 t) (qRect g p)) (fun a => View.ld (kB V c t g a) (kvRect p)) B i)
        (fun x => vB V c t g ⟨x.val / 256, by have := x.isLt; omega⟩ (ix2 ⟨x.val % 256, by omega⟩ ⟨128 * p.val + l.val, by omega⟩)) := by
  have hh := head_apply hi (View.ld (iblk1 V c 0 t) (qRect g p)) (fun a => View.ld (kB V c t g a) (kvRect p)) (fun a => View.ld (vB V c t g a) (kvRect p))
    (fun a => View.ld (bB V c t g) (bRect (headIx p hi) a)) hq hk B hB (fun a i j => (b_ld _ _ _ _ _).trans (hb a i j)) i l hl
  rw [outs_whole]
  have e : whole V c t (ix2 ⟨256 * g.val + i.val, by omega⟩ ⟨128 * p.val + l.val, by omega⟩) = pair V c t g p (ix2 i l) := by
    show pair V c t ⟨(256 * g.val + i.val) / 256, by omega⟩ ⟨(128 * p.val + l.val) / 128, by omega⟩
      (ix2 ⟨(256 * g.val + i.val) % 256, by omega⟩ ⟨(128 * p.val + l.val) % 128, by omega⟩) = _
    exact pair_at V c t (by dsimp only; omega) (by dsimp only; omega) (by dsimp only; omega) (by dsimp only; omega)
  rw [e]
  refine Eq.trans ?_ (hh.trans (congrArg _ (funext fun x => kv_ld _ _ _ _)))
  show Scalar.select (ownQ false (ix2 i l)) _ _ = _
  rw [ownQ_apply, select_ofBool]
  cases hi
  · rw [if_pos hl]; rfl
  · rw [if_neg (by simp [own] at hl ⊢; omega)]; rfl
end

end Cert.KernelIdeal.Attn

end
-- ==== Proof.Bias.lean ====
module

public import proofs.«01_k».proof.Proof.Table
public import Idealize.ShloMosaic.Lib.Pipeline.ValueKit

@[expose] public section

set_option maxRecDepth 16384

/-! The whole bias table, which the first launch leaves for the attention. -/

noncomputable section

namespace Cert.KernelIdeal.Bias

open Cert.KernelIdeal Cert.KernelIdeal.Gen Cert.KernelIdeal.Table Idealize.ShloMosaic Idealize.ShloMosaic.TcCoe Idealize.SL.Sem

variable (m : (ℓ : Loc nD τ sig) → Buf (Elt Ideal) ℓ) (ρ : Dev nD → PrngReg)

theorem idx : ∀ t : Fin cfg0.N, win0_0.index t = ![t.val / 8, t.val % 8, 0, 0] ∧ win0_1.index t = ![t.val / 8, 0, t.val % 8, 0, 0] := by decide +kernel

theorem lt16 (t : Fin cfg0.N) : t.val < 16 := t.isLt

/-- The rows of biases, continued by their end values: 48 lanes of the first, the 31 biases, 48 of the last, one of zero. -/
def ext (b : Vec Ideal S2x8x15x31 .f32) : Vec Ideal S2x8x15x128 .f32 :=
  concatenate S2x8x15x128 3 [⟨S2x8x15x48, broadcastInDim S2x8x15x48 ![0, 1, 2, 3] bcast_S2x8x15x1_S2x8x15x48_0_1_2_3 (extractStridedSlice S2x8x15x1 ![0, 0, 0, 0] b slices_S2x8x15x31_S2x8x15x1_0_0_0_0)⟩,
    ⟨S2x8x15x31, b⟩,
    ⟨S2x8x15x48, broadcastInDim S2x8x15x48 ![0, 1, 2, 3] bcast_S2x8x15x1_S2x8x15x48_0_1_2_3 (extractStridedSlice S2x8x15x1 ![0, 0, 0, 30] b slices_S2x8x15x31_S2x8x15x1_0_0_0_30)⟩,
    ⟨S2x8x15x1, broadcastInDim S2x8x15x1 ![] bcast_S_S2x8x15x1 (constant (F := Ideal) S_ .f32 0x00000000#32)⟩] concatenates_S2x8x15x48_S2x8x15x31_S2x8x15x48_S2x8x15x1_S2x8x15x128_d3

theorem v5_eq (c : Dev nD) : V1 m ρ c main_v5 = ext (m ((c : Thread nD τ).loc main_arg2)) := by
  unfold_abbrev_sides
  after_results
  rfl

theorem ext_apply (b : Vec Ideal S2x8x15x31 .f32) (ly : Fin 2) (h : Fin 8) (r : Fin 15) (j : Fin 31) :
    ext b (ix4 ly h r ⟨j.val + 48, by omega⟩) = b (ix4 ly h r j) := by
  pointwise [ext]
  rw [dif_neg (by omega), dif_pos (by omega)]
  congr 1

theorem blk_eq (V : (c : Dev nD) → (b : Ref sig .tc) → Buf (Elt Ideal) ((c : Thread nD τ).loc b)) (c : Dev nD) (t : Fin cfg0.N) (a b : Fin 1) (r : Fin 15) (l : Fin 128) :
    iblk0 V c 0 t (ix4 a b r l) = V c main_v5 (ix4 ⟨t.val / 8, by have := lt16 t; omega⟩ ⟨t.val % 8, by omega⟩ r l) := by
  have h := lt16 t
  have e := (idx t).1
  blk_ext [iblk0, e]

/-- The table as a function of the rows of biases. -/
def table (X : Vec Ideal S2x8x15x128 .f32) : S2x3x8x256x768.Idx → Elt Ideal .f32 := fun y =>
  blockVal (fun z => X (ix4 (y 0) (y 2) (z 2) (z 3))) (ix5 0 (y 1) 0 (y 3) (y 4))

theorem arr_eq (V : (c : Dev nD) → (b : Ref sig .tc) → Buf (Elt Ideal) ((c : Thread nD τ).loc b)) (c : Dev nD) :
    (dat0 V c).arrAt 1 cfg0.N = table (V c main_v5) := by
  refine (dat0 V c).arrAt_eq_of_covers 1 _ (by decide +kernel) fun t hf y => ?_
  blk_simp
  rw [after0_1, out_apply]
  have h := lt16 t
  have e := (idx t).2
  change S1x3x1x256x768.Idx at y
  obtain ⟨a, v, b, i, x, rfl⟩ : ∃ a v b i x, y = ix5 a v b i x := ⟨_, _, _, _, _, eq_ix5 y⟩
  have E : (win0_1.blk t).view.emb (ix5 a v b i x) = ix5 ⟨t.val / 8, by omega⟩ v ⟨t.val % 8, by omega⟩ i x := by
    blk_ext [e]
  rw [E]
  show blockVal _ _ = blockVal _ _
  obtain rfl : a = 0 := Subsingleton.elim (α := Fin 1) _ _
  obtain rfl : b = 0 := Subsingleton.elim (α := Fin 1) _ _
  have hz : iblk0 V c 0 t = fun z => V c main_v5 (ix4 ⟨t.val / 8, by omega⟩ ⟨t.val % 8, by omega⟩ (z 2) (z 3)) := by
    funext z
    change S1x1x15x128.Idx at z
    obtain ⟨a, b, r, l, rfl⟩ : ∃ a b r l, z = ix4 a b r l := ⟨_, _, _, _, eq_ix4 z⟩
    exact blk_eq V c t a b r l
  rw [hz]
  rfl

/-- The table the attention reads, at an entry. -/
theorem v6_apply (c : Dev nD) (ly : Fin 2) (v : Fin 3) (h : Fin 8) (i : Fin 256) (x : Fin 768) :
    V2 m ρ c main_v6 (ix5 ly v h i x) = entry (fun z => ext (m ((c : Thread nD τ).loc main_arg2)) (ix4 ly h (z 2) (z 3)))
      (lead v.val (i.val / 64)) (d0 v.val (i.val / 64)) (x.val / 64) (i.val % 64) (x.val % 64) := by
  have e : V2 m ρ c main_v6 = table (V1 m ρ c main_v5) := (W2_arr m ρ c 1).trans (arr_eq (V1 m ρ) c)
  rw [e, v5_eq]
  rfl

/-- The first launch leaves the arguments alone. -/
theorem V2_arg (c : Dev nD) (a : Ref sig .tc) (ha : a ∈ argRefs) : V2 m ρ c a = m ((c : Thread nD τ).loc a) := W2_args m ρ c a ha

/-- The relative bias against a window's key, or the mask. -/
def rel (b : Vec Ideal S2x8x15x31 .f32) (h : Fin 8) (v : ℕ) (i x : ℕ) : EReal :=
  if (lead v (i / 64) ≤ x / 64 ∧ x / 64 < lead v (i / 64) + 8) ∧ (fc (i % 64) ≤ x % 64 ∧ x % 64 < fc (i % 64) + 16) then
    b (ix4 0 h ⟨(d0 v (i / 64) + x / 64 - lead v (i / 64)) % 15, Nat.mod_lt _ (by decide)⟩ ⟨min (x % 64 + 15 - i % 64) 30, by omega⟩) else ⊥

theorem v6_rel (c : Dev nD) (v : Fin 3) (h : Fin 8) (i : Fin 256) (x : Fin 768) :
    V2 m ρ c main_v6 (ix5 0 v h i x) = rel (m ((c : Thread nD τ).loc main_arg2)) h v.val i.val x.val * (((Real.log 2)⁻¹ : ℝ) : EReal) := by
  rw [v6_apply]
  unfold entry rel
  split
  · rename_i hc
    obtain ⟨-, h1, h2⟩ := hc
    congr 1
    refine Eq.trans ?_ (ext_apply _ 0 h _ ⟨min (x.val % 64 + 15 - i.val % 64) 30, by omega⟩)
    show ext _ _ = ext _ _
    congr 1
    unfold Table.fc at h1 h2
    refine congrArg (ix4 0 h _) (Fin.ext ?_)
    show (x.val % 64 + 63 - i.val % 64) % 128 = min (x.val % 64 + 15 - i.val % 64) 30 + 48
    omega
  · rw [EReal.bot_mul_coe_of_pos (inv_pos.mpr (Real.log_pos (by norm_num)))]

end Cert.KernelIdeal.Bias

end
-- ==== Proof.Join.lean ====
module

public import proofs.«01_k».proof.Proof.AttnBlock
public import proofs.«01_k».proof.Proof.Bias
public import proofs.«01_k».proof.Proof.Spec

@[expose] public section

set_option maxRecDepth 16384

/-! The attention's output block is the formula's: its keys are the formula's keys, spread over the blocks, the rest masked. -/

noncomputable section

namespace Cert.KernelIdeal.Join

open Cert.KernelIdeal Cert.KernelIdeal.Gen Cert.KernelIdeal.Blocks Cert.KernelIdeal.Attn Cert.KernelIdeal.Bias Cert.KernelIdeal.Table
open Idealize.ShloMosaic Idealize.ShloMosaic.TcCoe Idealize.SL.Sem

/-- The window's first key row is `lead` rows into the blocks of its row group. -/
theorem rs_eq : ∀ (g : Fin 2) (r : Fin 16) (qi : Fin 4),
    Spec.rs (4 * (2 * r.val + g.val) + qi.val) = 4 * ks g.val r.val + lead (variant g.val r.val) qi.val ∧ lead (variant g.val r.val) qi.val ≤ 4 ∧
    d0 (variant g.val r.val) qi.val + (4 * (2 * r.val + g.val) + qi.val) = Spec.rs (4 * (2 * r.val + g.val) + qi.val) + 7 ∧
    d0 (variant g.val r.val) qi.val ≤ 7 := by
  decide +kernel

section
variable (V : (c : Dev nD) → (b : Ref sig .tc) → Buf (Elt Ideal) ((c : Thread nD τ).loc b)) (c : Dev nD) (t : Fin cfg1.N)

theorem kB_img (g : Fin 2) (x : Fin 1024) (hx : x.val < 768) (l : Fin 512) :
    kB V c t g ⟨x.val / 256, by omega⟩ (ix2 ⟨x.val % 256, by omega⟩ l) = V c main_arg0 (ix2 ⟨(t.val / 16 * 32 + ks g.val (t.val % 16)) * 256 + x.val, by
      have := lt64 t; have := ks_le g.val (t.val % 16); omega⟩ ⟨512 + l.val, by omega⟩) := by
  refine (kB_apply V c t g ⟨x.val / 256, by omega⟩ ⟨x.val % 256, by omega⟩ l).trans ?_
  congr 2
  exact Fin.ext (by dsimp only; omega)

theorem vB_img (g : Fin 2) (x : Fin 1024) (hx : x.val < 768) (l : Fin 512) :
    vB V c t g ⟨x.val / 256, by omega⟩ (ix2 ⟨x.val % 256, by omega⟩ l) = V c main_arg0 (ix2 ⟨(t.val / 16 * 32 + ks g.val (t.val % 16)) * 256 + x.val, by
      have := lt64 t; have := ks_le g.val (t.val % 16); omega⟩ ⟨1024 + l.val, by omega⟩) := by
  refine (vB_apply V c t g ⟨x.val / 256, by omega⟩ ⟨x.val % 256, by omega⟩ l).trans ?_
  congr 2
  exact Fin.ext (by dsimp only; omega)

theorem block3 (x : Fin 1024) (hx : ¬ x.val < 768) : (⟨x.val / 256, by omega⟩ : Fin 4) = 3 := Fin.ext (by show x.val / 256 = 3; omega)

theorem kB_tail (g : Fin 2) (x : Fin 1024) (hx : ¬ x.val < 768) (l : Fin 512) :
    kB V c t g ⟨x.val / 256, by omega⟩ (ix2 ⟨x.val % 256, by omega⟩ l) = V c main_arg1 (ix2 ⟨t.val / 16 * 256 + (x.val - 768), by
      have := lt64 t; omega⟩ ⟨512 + l.val, by omega⟩) := by
  rw [block3 x hx]
  refine (kB_ctx V c t g ⟨x.val % 256, by omega⟩ l).trans ?_
  congr 2
  exact Fin.ext (by dsimp only; omega)

theorem vB_tail (g : Fin 2) (x : Fin 1024) (hx : ¬ x.val < 768) (l : Fin 512) :
    vB V c t g ⟨x.val / 256, by omega⟩ (ix2 ⟨x.val % 256, by omega⟩ l) = V c main_arg1 (ix2 ⟨t.val / 16 * 256 + (x.val - 768), by
      have := lt64 t; omega⟩ ⟨1024 + l.val, by omega⟩) := by
  rw [block3 x hx]
  refine (vB_ctx V c t g ⟨x.val % 256, by omega⟩ l).trans ?_
  congr 2
  exact Fin.ext (by dsimp only; omega)
end

section
variable (m : (ℓ : Loc nD τ sig) → Buf (Elt Ideal) ℓ) (ρ : Dev nD → PrngReg) (c : Dev nD) (t : Fin cfg1.N)

/-- The image's queries, keys and values; the context's; the biases. -/
abbrev A0 : Vec Ideal S32768x1536 .bf16 := m ((c : Thread nD τ).loc main_arg0)
@[inherit_doc A0] abbrev A1 : Vec Ideal S1024x1536 .bf16 := m ((c : Thread nD τ).loc main_arg1)
@[inherit_doc A0] abbrev A2 : Vec Ideal S2x8x15x31 .f32 := m ((c : Thread nD τ).loc main_arg2)

theorem arg0 : V2 m ρ c main_arg0 = A0 m c := V2_arg m ρ c main_arg0 (by decide)
theorem arg1 : V2 m ρ c main_arg1 = A1 m c := V2_arg m ρ c main_arg1 (by decide)

variable (g : Fin 2) (p : Fin 4) (hi : Bool) (i : Fin 256)

theorem query (l : Fin 128) : View.ld (iblk1 (V2 m ρ) c 0 t) (qRect g p) (ix2 i l) =
    A0 m c (ix2 ⟨t.val * 512 + (256 * g.val + i.val), by have := lt64 t; omega⟩ ⟨128 * p.val + l.val, by omega⟩) := by
  rw [q_ld, q_apply, arg0]

/-- The key positions of the formula, in the blocks. -/
def pos (j : Fin 768) : Fin 1024 :=
  if j.val < 512 then ⟨min (lead (variant g.val (t.val % 16)) (i.val / 64)) 4 * 64 + j.val, by omega⟩ else ⟨256 + j.val, by omega⟩

theorem lead_le : lead (variant g.val (t.val % 16)) (i.val / 64) ≤ 4 := (rs_eq g ⟨t.val % 16, by omega⟩ ⟨i.val / 64, by omega⟩).2.1

theorem pos_inj : Function.Injective (pos t g i) := by
  intro a b h
  have h := congrArg Fin.val h
  unfold pos at h
  have := lead_le t g i
  refine Fin.ext ?_
  split at h <;> split at h <;> dsimp only at h <;> omega

theorem lane (d : Fin 64) : 128 * p.val + (off hi + d.val) = (headIx p hi).val * 64 + d.val := by
  cases hi <;> simp [off, headIx] <;> omega

/-- The logit of a key of the image. -/
theorem logit_img (x : Fin 1024) (hx : x.val < 768) :
    Attn.logit hi (View.ld (iblk1 (V2 m ρ) c 0 t) (qRect g p)) (fun a => View.ld (kB (V2 m ρ) c t g a) (kvRect p))
      (fun a i j => rel (A2 m c) (headIx p hi) (variant g.val (t.val % 16)) i.val (256 * a.val + j.val)) i x =
    (∑ d : Fin 64, A0 m c (ix2 ⟨t.val * 512 + (256 * g.val + i.val), by have := lt64 t; omega⟩ ⟨(headIx p hi).val * 64 + d.val, by omega⟩) *
      A0 m c (ix2 ⟨(t.val / 16 * 32 + ks g.val (t.val % 16)) * 256 + x.val, by have := lt64 t; have := ks_le g.val (t.val % 16); omega⟩
        ⟨512 + ((headIx p hi).val * 64 + d.val), by omega⟩)) * ((1 / 8 : ℝ) : EReal) + rel (A2 m c) (headIx p hi) (variant g.val (t.val % 16)) i.val x.val := by
  unfold Attn.logit
  rw [dif_pos (by omega)]
  refine congrArg₂ (· + ·) (congrArg (· * _) ?_) (congrArg (rel (A2 m c) (headIx p hi) (variant g.val (t.val % 16)) i.val) (by dsimp only; omega))
  · unfold dot
    refine Finset.sum_congr rfl fun d _ => ?_
    refine congrArg₂ (· * ·) ((query m ρ c t g p i _).trans (congrArg (A0 m c) ?_))
      ((kv_ld _ _ _ _).trans ((kB_img _ _ _ _ x hx _).trans ((congrFun (arg0 m ρ c) _).trans (congrArg (A0 m c) ?_))))
    · exact congrArg _ (Fin.ext (lane p hi d))
    · exact congrArg _ (Fin.ext (congrArg (512 + ·) (lane p hi d)))

theorem logit_tail (x : Fin 1024) (hx : ¬ x.val < 768) (B) :
    Attn.logit hi (View.ld (iblk1 (V2 m ρ) c 0 t) (qRect g p)) (fun a => View.ld (kB (V2 m ρ) c t g a) (kvRect p)) B i x =
    (∑ d : Fin 64, A0 m c (ix2 ⟨t.val * 512 + (256 * g.val + i.val), by have := lt64 t; omega⟩ ⟨(headIx p hi).val * 64 + d.val, by omega⟩) *
      A1 m c (ix2 ⟨t.val / 16 * 256 + (x.val - 768), by have := lt64 t; omega⟩
        ⟨512 + ((headIx p hi).val * 64 + d.val), by omega⟩)) * ((1 / 8 : ℝ) : EReal) := by
  unfold Attn.logit
  rw [dif_neg (by omega), add_zero]
  congr 1
  unfold dot
  refine Finset.sum_congr rfl fun d _ => ?_
  refine congrArg₂ (· * ·) ((query m ρ c t g p i _).trans (congrArg (A0 m c) ?_))
    ((kv_ld _ _ _ _).trans ((kB_tail _ _ _ _ x hx _).trans ((congrFun (arg1 m ρ c) _).trans (congrArg (A1 m c) ?_))))
  · exact congrArg _ (Fin.ext (lane p hi d))
  · exact congrArg _ (Fin.ext (congrArg (512 + ·) (lane p hi d)))

/-- The query's row of the image, its column, and its batch. -/
def bat : Fin 4 := ⟨t.val / 16, by have := lt64 t; omega⟩
@[inherit_doc bat] def row : Fin 128 := ⟨4 * (2 * (t.val % 16) + g.val) + i.val / 64, by omega⟩
@[inherit_doc bat] def col : Fin 64 := ⟨i.val % 64, by omega⟩

theorem row_facts : Spec.rs (row t g i).val = 4 * ks g.val (t.val % 16) + lead (variant g.val (t.val % 16)) (i.val / 64) ∧
    lead (variant g.val (t.val % 16)) (i.val / 64) ≤ 4 ∧
    d0 (variant g.val (t.val % 16)) (i.val / 64) + (row t g i).val = Spec.rs (row t g i).val + 7 ∧ d0 (variant g.val (t.val % 16)) (i.val / 64) ≤ 7 :=
  rs_eq g ⟨t.val % 16, by omega⟩ ⟨i.val / 64, by omega⟩

theorem pos_win (j : Fin 768) (hj : j.val < 512) : (pos t g i j).val = lead (variant g.val (t.val % 16)) (i.val / 64) * 64 + j.val := by
  have := lead_le t g i
  unfold pos
  rw [if_pos hj]
  dsimp only
  omega

theorem pos_ctx (j : Fin 768) (hj : ¬ j.val < 512) : (pos t g i j).val = 256 + j.val := by
  unfold pos
  rw [if_neg hj]

theorem q_index : t.val * 512 + (256 * g.val + i.val) = (bat t).val * 8192 + (row t g i).val * 64 + (col i).val := by
  have := lt64 t
  unfold bat row col
  dsimp only
  omega

theorem key_index (j : ℕ) : (t.val / 16 * 32 + ks g.val (t.val % 16)) * 256 + (lead (variant g.val (t.val % 16)) (i.val / 64) * 64 + j)
    = (bat t).val * 8192 + Spec.rs (row t g i).val * 64 + j := by
  have := (row_facts t g i).1
  unfold bat
  dsimp only
  omega

theorem rel_pos (h : Fin 8) (j : ℕ) (hj : j < 512) (x : ℕ) (hx : x = lead (variant g.val (t.val % 16)) (i.val / 64) * 64 + j) :
    rel (A2 m c) h (variant g.val (t.val % 16)) i.val x =
      if Spec.fc (col i).val ≤ j % 64 ∧ j % 64 < Spec.fc (col i).val + 16 then Spec.bias (A2 m c) (row t g i) (col i) h j hj else ⊥ := by
  obtain ⟨h1, h2, h3, h4⟩ := row_facts t g i
  have e1 : x / 64 = lead (variant g.val (t.val % 16)) (i.val / 64) + j / 64 := by omega
  have e2 : x % 64 = j % 64 := by omega
  unfold rel
  by_cases hc : Spec.fc (col i).val ≤ j % 64 ∧ j % 64 < Spec.fc (col i).val + 16
  · rw [if_pos ⟨⟨by omega, by omega⟩, by rw [e2]; exact hc⟩, if_pos hc]
    unfold Spec.bias
    refine congrArg (A2 m c) (congrArg₂ (ix4 0 h) (Fin.ext ?_) (Fin.ext ?_))
    · dsimp only
      rw [e1]
      omega
    · dsimp only
      rw [e2]
      rfl
  · rw [if_neg (fun h => hc (by have := h.2; rwa [e2] at this)), if_neg hc]

variable {m c}

theorem logit_pos (j : Fin 768) :
    Attn.logit hi (View.ld (iblk1 (V2 m ρ) c 0 t) (qRect g p)) (fun a => View.ld (kB (V2 m ρ) c t g a) (kvRect p))
      (fun a i j => rel (A2 m c) (headIx p hi) (variant g.val (t.val % 16)) i.val (256 * a.val + j.val)) i (pos t g i j) =
    Spec.logit (A0 m c) (A1 m c) (A2 m c) (bat t) (row t g i) (col i) (headIx p hi) j := by
  unfold Spec.logit
  by_cases hj : j.val < 512
  · have hp := pos_win t g i j hj
    have hl := lead_le t g i
    rw [dif_pos hj, logit_img m ρ c t g p hi i _ (by omega), rel_pos m c t g i _ j.val hj _ hp]
    split
    · refine congrArg (· + _) (congrArg (· * _) ?_)
      unfold Spec.winDot
      refine Finset.sum_congr rfl fun d _ => congrArg₂ (· * ·) (congrArg (A0 m c) (congrArg₂ ix2 (Fin.ext ?_) rfl)) (congrArg (A0 m c) (congrArg₂ ix2 (Fin.ext ?_) rfl))
      · exact q_index t g i
      · refine Eq.trans ?_ (key_index t g i j.val)
        rw [← hp]
    · exact EReal.add_bot _
  · have hp := pos_ctx t g i j hj
    rw [dif_neg hj, logit_tail m ρ c t g p hi i _ (by omega)]
    refine congrArg (· * _) ?_
    unfold Spec.ctxDot
    refine Finset.sum_congr rfl fun d _ => congrArg₂ (· * ·) (congrArg (A0 m c) (congrArg₂ ix2 (Fin.ext ?_) rfl)) (congrArg (A1 m c) (congrArg₂ ix2 (Fin.ext ?_) rfl))
    · exact q_index t g i
    · show t.val / 16 * 256 + ((pos t g i j).val - 768) = t.val / 16 * 256 + (j.val - 512)
      omega

theorem logit_rest (x : Fin 1024) (hx : x ∉ Set.range (pos t g i)) :
    Attn.logit hi (View.ld (iblk1 (V2 m ρ) c 0 t) (qRect g p)) (fun a => View.ld (kB (V2 m ρ) c t g a) (kvRect p))
      (fun a i j => rel (A2 m c) (headIx p hi) (variant g.val (t.val % 16)) i.val (256 * a.val + j.val)) i x = ⊥ := by
  have hl := lead_le t g i
  have hx1 : x.val < 768 := by
    by_contra h
    refine hx ⟨⟨x.val - 256, by omega⟩, Fin.ext ?_⟩
    rw [pos_ctx t g i _ (by dsimp only; omega)]
    dsimp only
    omega
  rw [logit_img m ρ c t g p hi i x hx1]
  have hr : rel (A2 m c) (headIx p hi) (variant g.val (t.val % 16)) i.val x.val = ⊥ := by
    unfold rel
    refine if_neg fun h => hx ⟨⟨x.val - lead (variant g.val (t.val % 16)) (i.val / 64) * 64, by omega⟩, Fin.ext ?_⟩
    have h1 := h.1
    rw [pos_win t g i _ (by dsimp only; omega)]
    dsimp only
    omega
  rw [hr]
  exact EReal.add_bot _

/-- An output element of a grid point is the formula's. -/
theorem outs_eq (hX : Spec.Real' (A0 m c) (A1 m c) (A2 m c)) (l : Fin 128) (hl : own hi l.val = true) :
    outsAt1 (V2 m ρ) c t (ix2 ⟨256 * g.val + i.val, by omega⟩ ⟨128 * p.val + l.val, by omega⟩) =
      Spec.attn (A0 m c) (A1 m c) (A2 m c) (bat t) (row t g i) (col i) (headIx p hi) ⟨l.val % 64, by omega⟩ := by
  have ht := lt64 t
  refine (outs_apply (V2 m ρ) c t g p i l hi hl (fun a i j => rel (A2 m c) (headIx p hi) (variant g.val (t.val % 16)) i.val (256 * a.val + j.val)) ?_ ?_ ?_ ?_).trans ?_
  · intro a i j
    unfold rel
    split
    · obtain ⟨x, hx⟩ := hX.bias (headIx p hi) _ _
      rw [hx]
      exact EReal.coe_ne_top x
    · exact bot_ne_top
  · intro a i j
    exact (bB_apply (V2 m ρ) c t g (headIx p hi) i _).trans (v6_rel m ρ c _ _ _ _)
  · intro y
    obtain ⟨y0, y1, rfl⟩ : ∃ y0 y1, y = ix2 y0 y1 := ⟨_, _, eq_ix2 y⟩
    rw [query m ρ c t g p y0 y1]
    exact hX.qk _ _ (by dsimp only; omega)
  · intro a y
    obtain ⟨y0, y1, rfl⟩ : ∃ y0 y1, y = ix2 y0 y1 := ⟨_, _, eq_ix2 y⟩
    change Fin 256 at y0
    change Fin 128 at y1
    by_cases ha : a.val < 3
    · obtain ⟨r, hr⟩ := hX.qk ⟨(t.val / 16 * 32 + ks g.val (t.val % 16) + a.val) * 256 + y0.val, by have := ks_le g.val (t.val % 16); omega⟩
        ⟨512 + (128 * p.val + y1.val), by omega⟩ (by dsimp only; omega)
      exact ⟨r, (kv_ld _ _ _ _).trans ((kB_apply (V2 m ρ) c t g ⟨a.val, ha⟩ y0 _).trans ((congrFun (arg0 m ρ c) _).trans hr))⟩
    · obtain ⟨r, hr⟩ := hX.kc ⟨t.val / 16 * 256 + y0.val, by omega⟩ ⟨512 + (128 * p.val + y1.val), by omega⟩ (by dsimp only; omega) (by dsimp only; omega)
      obtain rfl : a = 3 := Fin.ext (by show a.val = 3; omega)
      exact ⟨r, (kv_ld _ _ _ _).trans ((kB_ctx (V2 m ρ) c t g y0 _).trans ((congrFun (arg1 m ρ c) _).trans hr))⟩
  · refine Soft.soft_of_injective _ (pos t g i) (pos_inj t g i) (logit_pos ρ t g p hi i) (fun j => ?_) (logit_rest ρ t g p hi i)
    have hlane : 128 * p.val + l.val = (headIx p hi).val * 64 + l.val % 64 := by
      cases hi <;> simp [own, headIx] at hl ⊢ <;> omega
    have hll := lead_le t g i
    unfold Spec.value
    by_cases hj : j.val < 512
    · have hp := pos_win t g i j hj
      rw [dif_pos hj]
      refine (vB_img (V2 m ρ) c t g (pos t g i j) (by omega) _).trans ((congrFun (arg0 m ρ c) _).trans
        (congrArg (A0 m c) (congrArg₂ ix2 (Fin.ext ?_) (Fin.ext (congrArg (1024 + ·) hlane)))))
      refine Eq.trans ?_ (key_index t g i j.val)
      rw [← hp]
    · have hp := pos_ctx t g i j hj
      rw [dif_neg hj]
      refine (vB_tail (V2 m ρ) c t g (pos t g i j) (by omega) _).trans ((congrFun (arg1 m ρ c) _).trans
        (congrArg (A1 m c) (congrArg₂ ix2 (Fin.ext ?_) (Fin.ext (congrArg (1024 + ·) hlane)))))
      show t.val / 16 * 256 + ((pos t g i j).val - 768) = t.val / 16 * 256 + (j.val - 512)
      omega

theorem attn_at {Y0 Y1 Y2} {b b' : Fin 4} {r r' : Fin 128} {k k' : Fin 64} {h h' : Fin 8} {d d' : Fin 64} (hb : b.val = b'.val) (hr : r.val = r'.val)
    (hk : k.val = k'.val) (hh : h.val = h'.val) (hd : d.val = d'.val) : Spec.attn Y0 Y1 Y2 b r k h d = Spec.attn Y0 Y1 Y2 b' r' k' h' d' := by
  rw [Fin.ext hb, Fin.ext hr, Fin.ext hk, Fin.ext hh, Fin.ext hd]

/-- The attention leaves the formula's output. -/
theorem arr_eq (hX : Spec.Real' (A0 m c) (A1 m c) (A2 m c)) : (dat1 (V2 m ρ) c).arrAt 17 cfg1.N = Spec.out (A0 m c) (A1 m c) (A2 m c) := by
  refine (dat1 (V2 m ρ) c).arrAt_eq_of_covers 17 _ (by decide +kernel) fun t hf y => ?_
  blk_simp
  rw [after1_17]
  have ht := lt64 t
  have e := (idx t).2.2.2.2.2.2.2.2.2.2.2.2.2.2.2.2.2
  change S512x512.Idx at y
  obtain ⟨y0, y1, rfl⟩ : ∃ y0 y1, y = ix2 y0 y1 := ⟨_, _, eq_ix2 y⟩
  change Fin 512 at y0
  change Fin 512 at y1
  have E : (win1_17.blk t).view.emb (ix2 y0 y1) = ix2 ⟨t.val * 512 + y0.val, by omega⟩ ⟨y1.val, by omega⟩ := by
    blk_ext [e]
  rw [E]
  have h := outs_eq ρ t ⟨y0.val / 256, by omega⟩ ⟨y1.val / 128, by omega⟩ (decide (64 ≤ y1.val % 128)) ⟨y0.val % 256, by omega⟩ hX ⟨y1.val % 128, by omega⟩
    (by unfold own; by_cases h : 64 ≤ y1.val % 128 <;> simp [h] <;> omega)
  have e0 : (ix2 ⟨256 * (y0.val / 256) + y0.val % 256, by omega⟩ ⟨128 * (y1.val / 128) + y1.val % 128, by omega⟩ : S512x512.Idx) = ix2 y0 y1 :=
    congrArg₂ ix2 (Fin.ext (by dsimp only; omega)) (Fin.ext (by dsimp only; omega))
  rw [← e0]
  refine h.trans (attn_at ?_ ?_ ?_ ?_ ?_)
  · show t.val / 16 = (t.val * 512 + y0.val) / 8192
    omega
  · show 4 * (2 * (t.val % 16) + y0.val / 256) + y0.val % 256 / 64 = (t.val * 512 + y0.val) % 8192 / 64
    omega
  · show y0.val % 256 % 64 = (t.val * 512 + y0.val) % 64
    omega
  · show 2 * (y1.val / 128) + (bif decide (64 ≤ y1.val % 128) then 1 else 0) = y1.val / 64
    by_cases h : 64 ≤ y1.val % 128 <;> simp [h] <;> omega
  · show y1.val % 128 % 64 = y1.val % 64
    omega

end

end Cert.KernelIdeal.Join

end
-- ==== Proof.RefIndex.lean ====
module

public import proofs.«01_k».proof.Proof.Gen.ReferenceIdeal.Read
public import Idealize.ShloMosaic.Lib.Pointwise
public import proofs.«01_k».proof.Proof.Spec

@[expose] public section

set_option maxRecDepth 16384

/-! The reference's operands and index words, read at an index. -/

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable (x0 : Vec Ideal S32768x1536 .bf16) (x1 : Vec Ideal S1024x1536 .bf16) (x2 : Vec Ideal S2x8x15x31 .f32)

/-! ## The operands -/

theorem q_apply (b : Fin 4) (r : Fin 128) (c : Fin 64) (h : Fin 8) (d : Fin 64) :
    val_main_v13 (F := Ideal) x0 (ix5 b r c h d) = x0 (ix2 ⟨b.val * 8192 + r.val * 64 + c.val, by omega⟩ ⟨h.val * 64 + d.val, by omega⟩) := by
  pointwise [val_main_v13, val_main_v4, val_main_v1, val_main_v0]
  simp only [Nat.add_assoc]

theorem k_apply (b : Fin 4) (n : Fin 8192) (h : Fin 8) (d : Fin 64) :
    val_main_v14 (F := Ideal) x0 (ix4 b n h d) = x0 (ix2 ⟨b.val * 8192 + n.val, by omega⟩ ⟨512 + (h.val * 64 + d.val), by omega⟩) := by
  pointwise [val_main_v14, val_main_v5, val_main_v1, val_main_v0]

theorem v_apply (b : Fin 4) (n : Fin 8192) (h : Fin 8) (d : Fin 64) :
    val_main_v15 (F := Ideal) x0 (ix4 b n h d) = x0 (ix2 ⟨b.val * 8192 + n.val, by omega⟩ ⟨1024 + (h.val * 64 + d.val), by omega⟩) := by
  pointwise [val_main_v15, val_main_v6, val_main_v1, val_main_v0]

theorem kc_apply (b : Fin 4) (n : Fin 256) (h : Fin 8) (d : Fin 64) :
    val_main_v8 (F := Ideal) x1 (ix4 b n h d) = x1 (ix2 ⟨b.val * 256 + n.val, by omega⟩ ⟨512 + (h.val * 64 + d.val), by omega⟩) := by
  pointwise [val_main_v8, val_main_v7, val_main_v3, val_main_v2]

theorem vc_apply (b : Fin 4) (n : Fin 256) (h : Fin 8) (d : Fin 64) :
    val_main_v10 (F := Ideal) x1 (ix4 b n h d) = x1 (ix2 ⟨b.val * 256 + n.val, by omega⟩ ⟨1024 + (h.val * 64 + d.val), by omega⟩) := by
  pointwise [val_main_v10, val_main_v9, val_main_v3, val_main_v2]

theorem rb_apply (h : Fin 8) (d : Fin 15) (e : Fin 31) : val_main_v12 (F := Ideal) x2 (ix3 h d e) = x2 (ix4 0 h d e) := by
  pointwise [val_main_v12, val_main_v11]

/-! ## The index words -/

theorem clip_row4 : ∀ r : Fin 128, IntOp.minsi 120#32 (IntOp.maxsi 0#32 (IntOp.subi (BitVec.ofNat 32 r.val) 4#32)) = BitVec.ofNat 32 (min (r.val - 4) 120) := by
  decide +kernel

theorem rowStart (r : Fin 128) : val_main_v19 (F := Ideal) (ix1 r) = BitVec.ofNat 32 (Spec.rs r.val) := by
  pointwise [val_main_v19, val_main_call0_v4, val_main_call0_v3, val_main_call0_v2, val_main_call0_v1, val_main_call0_v0, val_main_v18, val_main_v17, val_main_v16, val_main_c, val_main_c_0, val_main_c_1]
  exact clip_row4 r

theorem winRow (j : Fin 512) : val_main_v21 (F := Ideal) (ix1 j) = BitVec.ofNat 32 (j.val / 64) := by
  pointwise [val_main_v21, val_main_v20]

theorem winCol (j : Fin 512) : val_main_v23 (F := Ideal) (ix1 j) = BitVec.ofNat 32 (j.val % 64) := by
  pointwise [val_main_v23, val_main_v22]

theorem keyRow (r : Fin 128) (j : Fin 512) : val_main_v28 (F := Ideal) (ix2 r j) = BitVec.ofNat 32 (Spec.rs r.val + j.val / 64) := by
  pointwise [val_main_v28, val_main_v26, val_main_v24, val_main_v27, val_main_v25]
  rw [rowStart, winRow]
  exact (BitVec.ofNat_add _ _).symm

theorem keyIdx (r : Fin 128) (j : Fin 512) : val_main_v33 (F := Ideal) (ix2 r j) = BitVec.ofNat 32 (Spec.rs r.val * 64 + j.val) := by
  pointwise [val_main_v33, val_main_v30, val_main_v32, val_main_v31, val_main_v29, val_main_c_2]
  rw [keyRow, winCol]
  have e : Spec.rs r.val * 64 + j.val = (Spec.rs r.val + j.val / 64) * 64 + j.val % 64 := by omega
  rw [e, BitVec.ofNat_add ((Spec.rs r.val + j.val / 64) * 64) (j.val % 64), BitVec.ofNat_mul]
  rfl

/-- A small number's word is not negative. -/
theorem not_neg (n : ℕ) (hn : n < 2 ^ 31) : IntOp.cmpi .slt (BitVec.ofNat 32 n) 0#32 = 0#1 := by
  have : (BitVec.ofNat 32 n).slt 0#32 = false := by
    rw [BitVec.slt_eq_decide, BitVec.toInt_eq_toNat_of_lt (by simp; omega)]
    simp
    omega
  unfold IntOp.cmpi
  simp [this]

theorem rs_le (r : ℕ) : Spec.rs r ≤ 120 := Nat.min_le_right _ _

theorem keyIdxK (r : Fin 128) (j : Fin 512) : val_main_v39 (F := Ideal) (ix3 r j 0) = BitVec.ofNat 32 (Spec.rs r.val * 64 + j.val) := by
  have := rs_le r.val
  pointwise [val_main_v39, val_main_v38, val_main_v35, val_main_v34, val_main_c_3]
  rw [keyIdx, not_neg _ (by omega)]
  rfl

theorem keyIdxV (r : Fin 128) (j : Fin 512) : val_main_v46 (F := Ideal) (ix3 r j 0) = BitVec.ofNat 32 (Spec.rs r.val * 64 + j.val) := by
  have := rs_le r.val
  pointwise [val_main_v46, val_main_v45, val_main_v42, val_main_v41, val_main_c_5]
  rw [keyIdx, not_neg _ (by omega)]
  rfl

theorem col_words : ∀ c k : Fin 64,
    IntOp.andi (IntOp.cmpi .sge (BitVec.ofNat 32 k.val) (IntOp.minsi 48#32 (IntOp.maxsi 0#32 (IntOp.subi (BitVec.ofNat 32 c.val) 8#32))))
      (IntOp.cmpi .slt (BitVec.ofNat 32 k.val) (IntOp.addi (IntOp.minsi 48#32 (IntOp.maxsi 0#32 (IntOp.subi (BitVec.ofNat 32 c.val) 8#32))) 16#32))
      = BitVec.ofBool (decide (Spec.fc c.val ≤ k.val ∧ k.val < Spec.fc c.val + 16)) := by
  decide +kernel

theorem colIn (c : Fin 64) (j : Fin 512) :
    val_main_v64 (F := Ideal) (ix2 c j) = BitVec.ofBool (decide (Spec.fc c.val ≤ j.val % 64 ∧ j.val % 64 < Spec.fc c.val + 16)) := by
  pointwise [val_main_v64, val_main_v56, val_main_v63, val_main_v54, val_main_v52, val_main_v55, val_main_v53, val_main_v61, val_main_v57, val_main_v62, val_main_v60, val_main_v58,
    val_main_v59, val_main_c_10, val_main_v51, val_main_call1_v4, val_main_call1_v3, val_main_call1_v2, val_main_call1_v1, val_main_call1_v0, val_main_v50, val_main_v49, val_main_v48, val_main_c_7, val_main_c_8, val_main_c_9]
  rw [winCol]
  exact col_words c ⟨j.val % 64, by omega⟩

theorem dr_words : ∀ (r : Fin 128) (a : Fin 8),
    IntOp.addi (IntOp.subi (BitVec.ofNat 32 (Spec.rs r.val + a.val)) (BitVec.ofNat 32 r.val)) 7#32 = BitVec.ofNat 32 (Spec.rs r.val + a.val + 7 - r.val) := by
  decide +kernel

theorem drWord (r : Fin 128) (j : Fin 512) : val_main_v69 (F := Ideal) (ix2 r j) = BitVec.ofNat 32 (Spec.rs r.val + j.val / 64 + 7 - r.val) := by
  pointwise [val_main_v69, val_main_v68, val_main_v67, val_main_v66, val_main_v65, val_main_v16, val_main_c_11]
  rw [keyRow]
  exact dr_words r ⟨j.val / 64, by omega⟩

theorem dc_words : ∀ c k : Fin 64,
    IntOp.addi (IntOp.minsi 15#32 (IntOp.maxsi 4294967281#32 (IntOp.subi (BitVec.ofNat 32 k.val) (BitVec.ofNat 32 c.val)))) 15#32
      = BitVec.ofNat 32 (min (k.val + 15 - c.val) 30) := by
  decide +kernel

theorem dcWord (c : Fin 64) (j : Fin 512) : val_main_v77 (F := Ideal) (ix2 c j) = BitVec.ofNat 32 (min (j.val % 64 + 15 - c.val) 30) := by
  pointwise [val_main_v77, val_main_v76, val_main_v75, val_main_call2_v4, val_main_call2_v3, val_main_call2_v2, val_main_call2_v1, val_main_call2_v0, val_main_v74, val_main_v72, val_main_v70,
    val_main_v73, val_main_v71, val_main_v48, val_main_c_12, val_main_c_13, val_main_c_14]
  rw [winCol]
  exact dc_words c ⟨j.val % 64, by omega⟩

theorem biasRow (r : Fin 128) (c : Fin 64) (j : Fin 512) : val_main_v94 (F := Ideal) (ix4 r c j 0) = BitVec.ofNat 32 (Spec.rs r.val + j.val / 64 + 7 - r.val) := by
  have := rs_le r.val
  pointwise [val_main_v94, val_main_v92, val_main_v90, val_main_v84, val_main_v81, val_main_v78, val_main_v80, val_main_c_15]
  rw [drWord, not_neg _ (by omega)]
  rfl

theorem biasCol (r : Fin 128) (c : Fin 64) (j : Fin 512) : val_main_v94 (F := Ideal) (ix4 r c j 1) = BitVec.ofNat 32 (min (j.val % 64 + 15 - c.val) 30) := by
  pointwise [val_main_v94, val_main_v93, val_main_v91, val_main_v89, val_main_v86, val_main_v79, val_main_v85, val_main_c_17]
  rw [dcWord, not_neg _ (by omega)]
  rfl

/-! ## The gathers -/

/-- The word of a number within a gather's range is read as that number. -/
theorem clamp_word (n N : ℕ) (hn : n ≤ N) (hN : N < 2 ^ 31) : min (BitVec.ofNat 32 n).toInt.toNat N = n := by
  rw [BitVec.toInt_eq_toNat_of_lt (by simp; omega)]
  simp only [BitVec.toNat_ofNat, Int.toNat_natCast]
  omega

theorem gather_key (y : Vec Ideal S4x8192x8x64 .f32) (idx : IVec S128x512x1 32) (n : Fin 8192) (b : Fin 4) (r : Fin 128) (j : Fin 512) (h : Fin 8) (d : Fin 64)
    (hn : idx (ix3 r j 0) = BitVec.ofNat 32 n.val) :
    Host.gather gather_S4x8192x8x64_S128x512x1_S4x128x512x8x64_034_1_n_n_1_2_41864 y idx (ix5 b r j h d) = y (ix4 b n h d) := by
  have hlt := n.isLt
  unfold Host.gather
  congr 1
  funext a
  refine Fin.ext ?_
  show GatherDims.start _ (ix5 b r j h d) idx a + GatherDims.batchCoord _ (ix5 b r j h d) a + GatherDims.offCoord _ (ix5 b r j h d) a = _
  rw [GatherDims.batchCoord_eq_zero _ _ _ List.not_mem_nil]
  obtain rfl | rfl | rfl | rfl : a = (0 : Fin 4) ∨ a = (1 : Fin 4) ∨ a = (2 : Fin 4) ∨ a = (3 : Fin 4) := by
    have : ∀ a : Fin 4, a = 0 ∨ a = 1 ∨ a = 2 ∨ a = 3 := by decide
    exact this a
  · unfold GatherDims.start
    rw [dif_neg (by decide), Nat.zero_add]
    rfl
  · rw [GatherDims.offCoord_eq_zero _ _ _ (by decide)]
    unfold GatherDims.start
    rw [dif_pos (by decide)]
    refine Eq.trans ?_ (clamp_word n.val 8191 (by omega) (by decide))
    rw [← hn]
    simp only [Nat.add_zero]
    congr 4
    funext b'
    refine Fin.ext ?_
    match b' with
    | ⟨0, _⟩ => rfl
    | ⟨1, _⟩ => rfl
    | ⟨2, _⟩ => rfl
  · unfold GatherDims.start
    rw [dif_neg (by decide), Nat.zero_add]
    rfl
  · unfold GatherDims.start
    rw [dif_neg (by decide), Nat.zero_add]
    rfl

theorem gather_bias (y : Vec Ideal S8x15x31 .f32) (idx : IVec S128x64x512x2 32) (n : Fin 15) (n' : Fin 31) (r : Fin 128) (c : Fin 64) (j : Fin 512) (h : Fin 8)
    (hn : idx (ix4 r c j 0) = BitVec.ofNat 32 n.val) (hn' : idx (ix4 r c j 1) = BitVec.ofNat 32 n'.val) :
    Host.gather gather_S8x15x31_S128x64x512x2_S8x128x64x512_0_12_n_n_12_3_811 y idx (ix4 h r c j) = y (ix3 h n n') := by
  have hlt := n.isLt
  have hlt' := n'.isLt
  unfold Host.gather
  congr 1
  funext a
  refine Fin.ext ?_
  show GatherDims.start _ (ix4 h r c j) idx a + GatherDims.batchCoord _ (ix4 h r c j) a + GatherDims.offCoord _ (ix4 h r c j) a = _
  rw [GatherDims.batchCoord_eq_zero _ _ _ List.not_mem_nil]
  obtain rfl | rfl | rfl : a = (0 : Fin 3) ∨ a = (1 : Fin 3) ∨ a = (2 : Fin 3) := by
    have : ∀ a : Fin 3, a = 0 ∨ a = 1 ∨ a = 2 := by decide
    exact this a
  · unfold GatherDims.start
    rw [dif_neg (by decide), Nat.zero_add]
    rfl
  · rw [GatherDims.offCoord_eq_zero _ _ _ (by decide)]
    unfold GatherDims.start
    rw [dif_pos (by decide)]
    refine Eq.trans ?_ (clamp_word n.val 14 (by omega) (by decide))
    rw [← hn]
    simp only [Nat.add_zero]
    congr 4
    funext b'
    refine Fin.ext ?_
    match b' with
    | ⟨0, _⟩ => rfl
    | ⟨1, _⟩ => rfl
    | ⟨2, _⟩ => rfl
    | ⟨3, _⟩ => rfl
  · rw [GatherDims.offCoord_eq_zero _ _ _ (by decide)]
    unfold GatherDims.start
    rw [dif_pos (by decide)]
    refine Eq.trans ?_ (clamp_word n'.val 30 (by omega) (by decide))
    rw [← hn']
    simp only [Nat.add_zero]
    congr 4
    funext b'
    refine Fin.ext ?_
    match b' with
    | ⟨0, _⟩ => rfl
    | ⟨1, _⟩ => rfl
    | ⟨2, _⟩ => rfl
    | ⟨3, _⟩ => rfl

end Cert.ReferenceIdeal.Value

end
-- ==== Proof.RefValue.lean ====
module

public import proofs.«01_k».proof.Proof.RefIndex

@[expose] public section

set_option maxRecDepth 16384

/-! The reference's result, read at an index: the neighbourhood attention's formula. -/

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable (x0 : Vec Ideal S32768x1536 .bf16) (x1 : Vec Ideal S1024x1536 .bf16) (x2 : Vec Ideal S2x8x15x31 .f32)
variable (b : Fin 4) (r : Fin 128) (c : Fin 64) (h : Fin 8)

theorem kWin (j : Fin 512) (d : Fin 64) : val_main_v40 (F := Ideal) x0 (ix5 b r j h d) =
    x0 (ix2 ⟨b.val * 8192 + Spec.rs r.val * 64 + j.val, by have := rs_le r.val; omega⟩ ⟨512 + (h.val * 64 + d.val), by omega⟩) := by
  have := rs_le r.val
  unfold val_main_v40
  rw [gather_key _ _ ⟨Spec.rs r.val * 64 + j.val, by omega⟩ b r j h d (keyIdxK r j), k_apply]
  simp only [Nat.add_assoc]

theorem vWin (j : Fin 512) (d : Fin 64) : val_main_v47 (F := Ideal) x0 (ix5 b r j h d) =
    x0 (ix2 ⟨b.val * 8192 + Spec.rs r.val * 64 + j.val, by have := rs_le r.val; omega⟩ ⟨1024 + (h.val * 64 + d.val), by omega⟩) := by
  have := rs_le r.val
  unfold val_main_v47
  rw [gather_key _ _ ⟨Spec.rs r.val * 64 + j.val, by omega⟩ b r j h d (keyIdxV r j), v_apply]
  simp only [Nat.add_assoc]

theorem biasWin (j : Fin 512) : val_main_v95 (F := Ideal) x2 (ix4 h r c j) = Spec.bias x2 r c h j.val j.isLt := by
  unfold val_main_v95
  rw [gather_bias _ _ ⟨Spec.rs r.val + j.val / 64 + 7 - r.val, by unfold Spec.rs; omega⟩ ⟨min (j.val % 64 + 15 - c.val) 30, by omega⟩ r c j h (biasRow r c j) (biasCol r c j),
    rb_apply]
  rfl

theorem eighth : Ideal.ofBits .f32 0x3E000000#32 = ((1 / 8 : ℝ) : EReal) := by
  simp [Ideal.ofBits, Ideal.ieee, -EReal.coe_mul]; norm_num

theorem bottom : Ideal.ofBits FTy.f32 4286578688#32 = (⊥ : EReal) := by decide +kernel

theorem select_ofBool {α : Type} (p : Prop) [Decidable p] (a b : α) :
    Scalar.select (BitVec.ofBool (decide p)) a b = if p then a else b := by
  by_cases h : p <;> simp [h, Scalar.select]

theorem logit_win (j : Fin 512) : val_main_v103 (F := Ideal) x0 x2 (ix5 b h r c j) =
    if Spec.fc c.val ≤ j.val % 64 ∧ j.val % 64 < Spec.fc c.val + 16 then
      Spec.winDot x0 b r c h j.val j.isLt * ((1 / 8 : ℝ) : EReal) + Spec.bias x2 r c h j.val j.isLt else ⊥ := by
  pointwise [val_main_v103, val_main_v101, val_main_v98, val_main_v97, val_main_cst, val_main_v100, val_main_v99, val_main_call3_v1, val_main_call3_v2, val_main_call3_v0,
    val_main_cst_19, val_main_v102, val_main_v96]
  rw [colIn, select_ofBool, biasWin, eighth, show (id (constant (F := Ideal) S_ FTy.f32 4286578688#32) ix0) = (⊥ : EReal) from bottom]
  simp only [q_apply, kWin, Spec.winDot, Spec.bias]

theorem logit_ctx (j : Fin 256) : val_main_v106 (F := Ideal) x0 x1 (ix5 b h r c j) = Spec.ctxDot x0 x1 b r c h j.val j.isLt * ((1 / 8 : ℝ) : EReal) := by
  pointwise [val_main_v106, val_main_v105, val_main_v104, val_main_cst_20]
  rw [eighth]
  simp only [q_apply, kc_apply, Spec.ctxDot]

theorem logit_all (j : Fin 768) : val_main_v107 (F := Ideal) x0 x1 x2 (ix5 b h r c j) = Spec.logit x0 x1 x2 b r c h j := by
  have e : val_main_v107 (F := Ideal) x0 x1 x2 (ix5 b h r c j) = if h_1 : j.val < 512 then val_main_v103 (F := Ideal) x0 x2 (ix5 b h r c ⟨j.val, h_1⟩)
      else val_main_v106 (F := Ideal) x0 x1 (ix5 b h r c ⟨j.val - 512, by omega⟩) := by
    pointwise [val_main_v107]
  rw [e]
  unfold Spec.logit
  split
  · rw [logit_win]
  · rw [logit_ctx]

theorem fold_maximumf {ι : Type} (s : Finset ι) (z : EReal) (f : ι → EReal) :
    Finset.fold (FloatOps.maximumf (F := Ideal) (φ := .f32)) z f s = Finset.fold max z f s := rfl

theorem rowMax (v : FVec Ideal S4x8x128x64x768 .f32) (z : FVec Ideal S_ .f32) :
    Host.reduce FloatOps.maximumf v z reducesTo_S4x8x128x64x768_S4x8x128x64_d4 h_S_ (ix4 b h r c)
      = Finset.fold max (z (Shape.Idx.first h_S_)) (fun x => v (ix5 b h r c x)) Finset.univ := by
  rw [Host.reduce_eq_fold, Shape.ReducesTo.fold_fiber_r5_a4]
  exact fold_maximumf _ _ _

variable {x0 x1 x2}

theorem max_at (a v : FVec Ideal S4x8x128x64 .f32) (i : S4x8x128x64.Idx) (m : EReal) (ha : a i = (⊥ : EReal)) (hv : v i = m) :
    maximumf a v i = m := by
  have : maximumf a v i = max (a i : EReal) (v i : EReal) := rfl
  rw [this, ha, hv]
  exact max_eq_right bot_le

theorem v109 (i : S4x8x128x64.Idx) : val_main_v109 (F := Ideal) i = (⊥ : EReal) := by
  unfold val_main_v109 val_main_cst_22
  exact bottom

theorem fold_eq {n : ℕ} {w z z' : EReal} {f f' : Fin n → EReal} (hw : w = Finset.fold max z f Finset.univ) (hz : z = z') (hf : ∀ x, f x = f' x) :
    w = Finset.fold max z' f' Finset.univ := by
  rw [hw, hz, funext hf]

theorem v108 : val_main_v108 (F := Ideal) x0 x1 x2 (ix4 b h r c) = Finset.fold max (⊥ : EReal) (Spec.logit x0 x1 x2 b r c h) Finset.univ := by
  refine fold_eq (rowMax b r c h (val_main_v107 (F := Ideal) x0 x1 x2) (val_main_cst_21 (F := Ideal))) ?_ ?_
  · exact bottom
  · exact fun x => logit_all x0 x1 x2 b r c h x

theorem max_all (hX : Spec.Real' x0 x1 x2) : ∃ m : ℝ, val_main_v110 (F := Ideal) x0 x1 x2 (ix4 b h r c) = m := by
  obtain ⟨m, hm⟩ := Soft.fold_max_real (Spec.logit_ne_top hX b r c h) (Spec.logit_ne_bot hX b r c h)
  exact ⟨m, max_at _ _ _ _ (v109 _) ((v108 b r c h).trans hm)⟩

theorem prob (hX : Spec.Real' x0 x1 x2) (j : Fin 768) : val_main_v118 (F := Ideal) x0 x1 x2 (ix5 b h r c j) =
    ((Soft.wt (Spec.logit x0 x1 x2 b r c h j) / ∑ i, Soft.wt (Spec.logit x0 x1 x2 b r c h i) : ℝ) : EReal) := by
  obtain ⟨m, hm⟩ := max_all b r c h hX
  pointwise [val_main_v118, val_main_v117, val_main_v116, val_main_v115, val_main_v114, val_main_v113, val_main_v112, val_main_v111, val_main_cst_23]
  simp only [logit_all, hm]
  rw [← Soft.early_eq (Spec.logit_ne_top hX b r c h) (Spec.logit_ne_bot hX b r c h) m j]

theorem split_sum (f : Fin 768 → EReal) : ∑ i, f i = (∑ i : Fin 512, f ⟨i.val, by omega⟩) + ∑ i : Fin 256, f ⟨512 + i.val, by omega⟩ :=
  Fin.sum_univ_add (a := 512) (b := 256) f

theorem out_apply (hX : Spec.Real' x0 x1 x2) (d : Fin 64) : val_main_v125 (F := Ideal) x0 x1 x2 (ix5 b r c h d) = Spec.attn x0 x1 x2 b r c h d := by
  pointwise [val_main_v125, val_main_v124, val_main_v123, val_main_v122, val_main_v121, val_main_v120, val_main_v119]
  simp only [prob b r c h hX, vWin, vc_apply]
  unfold Spec.attn Soft.soft
  rw [split_sum (fun i => _ * Spec.value x0 x1 b r h d i)]
  congr 1
  · refine Finset.sum_congr rfl fun j _ => ?_
    rw [mul_comm]
    unfold Spec.value
    rw [dif_pos j.isLt]
  · refine Finset.sum_congr rfl fun j _ => ?_
    rw [mul_comm]
    unfold Spec.value
    rw [dif_neg (by simp)]
    simp only [Nat.add_sub_cancel_left]

theorem result (hX : Spec.Real' x0 x1 x2) : val_main_v127 (F := Ideal) x0 x1 x2 = Spec.out x0 x1 x2 := by
  funext i
  idx_vars i
  have e : val_main_v127 (F := Ideal) x0 x1 x2 (ix2 i0 i1) = val_main_v125 (F := Ideal) x0 x1 x2 (ix5 ⟨i0.val / 8192, by omega⟩ ⟨i0.val / 64 % 128, by omega⟩ ⟨i0.val % 64, by omega⟩
      ⟨i1.val / 64, by omega⟩ ⟨i1.val % 64, by omega⟩) := by
    pointwise [val_main_v127, val_main_v126]
  rw [e, out_apply _ _ _ _ hX]
  have e' : (⟨i0.val / 64 % 128, by omega⟩ : Fin 128) = ⟨i0.val % 8192 / 64, by omega⟩ := Fin.ext (by show i0.val / 64 % 128 = i0.val % 8192 / 64; omega)
  rw [e']
  rfl

end Cert.ReferenceIdeal.Value

end
-- ==== Proof.MergeBlk.lean ====
module

public import proofs.«01_k».proof.Proof.Gen.MergeIdeal.Frame
public import Idealize.ShloMosaic.Lib.Pipeline.ValueKit

@[expose] public section

set_option maxRecDepth 16384

/-! What a grid point leaves in its output block, as a term over the point's input blocks. -/

noncomputable section

namespace Cert.MergeIdeal.Blk

open Cert.MergeIdeal Cert.MergeIdeal.Gen Idealize.ShloMosaic Idealize.ShloMosaic.TcCoe Idealize.SL.Sem Idealize.ShloMosaic.StableHlo

/-- The grid point's position in its sequence. -/
def inSeq (n : ℕ) : BitVec 32 :=
  let a : BitVec 32 := BitVec.ofNat 32 n
  let d : BitVec 32 := Scalar.select (Scalar.cmpi .eq 16#32 0#32) 1#32 16#32
  let r : BitVec 32 := Scalar.remsi a d
  Scalar.select (Scalar.andi (Scalar.xori (Scalar.cmpi .slt r 0#32) (Scalar.cmpi .slt d 0#32)) (Scalar.cmpi .ne r 0#32)) (Scalar.addi r d) r

def hasPrev (n : ℕ) : BitVec 1 := Scalar.cmpi .ne (inSeq n) 0#32
def hasNext (n : ℕ) : BitVec 1 := Scalar.cmpi .ne (inSeq n) 15#32

variable {F : FTy → Type} [FloatOps F]

/-- The 256 rows of a block of 512 from row 256 `g`, at the given columns. -/
abbrev halfRect (C w o : ℕ) (h : o + w ≤ C) (g : Fin 2) : Rect (⟨2, ![512, C]⟩ : Shape) :=
  Rect.unit ![256 * g.val, o] ![256, w] (by
    intro a; have := g.isLt
    match a with
    | ⟨0, _⟩ => show 256 * g.val + 256 ≤ 512; omega
    | ⟨1, _⟩ => exact h)

/-- The short convolution's block. -/
def conv (n : ℕ) (x3 : Vec F S512x768 .bf16) (x4 x5 : Vec F S16x768 .bf16) (x8 : Vec F S3x256 .f32) : FVec F S512x256 .bf16 :=
  k0_pay5 (hasPrev n) (hasNext n) (k0_pay2 (View.ld x3 (Rect.unit (s := S512x768) ![0, 256] S512x256.size inb_S512x768_S512x256_0_256)))
    (k0_pay3 (View.ld x3 (Rect.unit (s := S512x768) ![0, 0] S512x256.size inb_S512x768_S512x256_0_0)) (View.ld x3 (Rect.unit (s := S512x768) ![0, 512] S512x256.size inb_S512x768_S512x256_0_512)))
    (k0_pay4 (View.ld x4 (Rect.unit (s := S16x768) ![15, 512] S1x256.size inb_S16x768_S1x256_15_512)) (View.ld x4 (Rect.unit (s := S16x768) ![15, 0] S1x256.size inb_S16x768_S1x256_15_0)))
    (View.ld x5 (Rect.unit (s := S16x768) ![0, 512] S1x256.size inb_S16x768_S1x256_0_512)) (View.ld x5 (Rect.unit (s := S16x768) ![0, 0] S1x256.size inb_S16x768_S1x256_0_0))
    (View.ld x8 (Rect.unit (s := S3x256) ![0, 0] S1x256.size inb_S3x256_S1x256_0_0)) (View.ld x8 (Rect.unit (s := S3x256) ![1, 0] S1x256.size inb_S3x256_S1x256_1_0))
    (View.ld x8 (Rect.unit (s := S3x256) ![2, 0] S1x256.size inb_S3x256_S1x256_2_0))

/-- Half of the stream after the mixers. -/
def half (x0 : Vec F S512x1024 .f32) (x1 : Vec F S1x6x1024 .f32) (x2 : Vec F S512x256 .f32) (cv : Vec F S512x256 .bf16) (x6 : Vec F S512x512 .bf16) (x7 : Vec F S512x3072 .bf16)
    (x9 x10 : Vec F S1x256x1024 .bf16) (x11 : Vec F S1x512x1024 .bf16) (x12 : Vec F S1x1024x1024 .bf16) (g : Fin 2) : FVec F S256x1024 .f32 :=
  k0_pay14 (View.ld x0 (halfRect 1024 1024 0 (by decide) g))
    (k0_pay13 (k0_pay6 (View.ld x1 (Rect.unit (s := S1x6x1024) ![0, 2, 0] S1x1x1024.size inb_S1x6x1024_S1x1x1024_0_2_0)))
      (k0_pay7 (View.ld x2 (halfRect 256 256 0 (by decide) g)) (View.ld x9 (Rect.unit (s := S1x256x1024) ![0, 0, 0] S1x256x1024.size inb_S1x256x1024_S1x256x1024_0_0_0)))
      (k0_pay8 (View.ld cv (halfRect 256 256 0 (by decide) g)) (View.ld x10 (Rect.unit (s := S1x256x1024) ![0, 0, 0] S1x256x1024.size inb_S1x256x1024_S1x256x1024_0_0_0)))
      (k0_pay9 (View.ld x6 (halfRect 512 512 0 (by decide) g)) (View.ld x11 (Rect.unit (s := S1x512x1024) ![0, 0, 0] S1x512x1024.size inb_S1x512x1024_S1x512x1024_0_0_0)))
      (View.ld x7 (halfRect 3072 1024 0 (by decide) g)) (View.ld x7 (halfRect 3072 1024 1024 (by decide) g)) (View.ld x7 (halfRect 3072 1024 2048 (by decide) g))
      (View.ld x12 (Rect.unit (s := S1x1024x1024) ![0, 0, 0] S1x1024x1024.size inb_S1x1024x1024_S1x1024x1024_0_0_0)))

/-- The perceptron's input. -/
def hidden (x1 : Vec F S1x6x1024 .f32) (x13 : Vec F S1x1024 .f32) (v : Vec F S512x1024 .f32) : FVec F S512x1024 .bf16 :=
  k0_pay18 v (View.ld x13 (Rect.unit (s := S1x1024) ![0, 0] S1x1024.size inb_S1x1024_S1x1024_0_0))
    (View.ld x1 (Rect.unit (s := S1x6x1024) ![0, 3, 0] S1x1x1024.size inb_S1x6x1024_S1x1x1024_0_3_0))
    (View.ld x1 (Rect.unit (s := S1x6x1024) ![0, 4, 0] S1x1x1024.size inb_S1x6x1024_S1x1x1024_0_4_0))

/-- The first three quarters of the perceptron's sum. -/
def three (x1 : Vec F S1x6x1024 .f32) (x13 : Vec F S1x1024 .f32) (x14 : Vec F S1x1024x4096 .bf16) (x15 : Vec F S1x4096x1024 .bf16) (v : Vec F S512x1024 .f32) : FVec F S512x1024 .f32 :=
  k0_pay20 (hidden x1 x13 v)
    (k0_pay19 v (View.ld x13 (Rect.unit (s := S1x1024) ![0, 0] S1x1024.size inb_S1x1024_S1x1024_0_0))
      (View.ld x1 (Rect.unit (s := S1x6x1024) ![0, 3, 0] S1x1x1024.size inb_S1x6x1024_S1x1x1024_0_3_0))
      (View.ld x1 (Rect.unit (s := S1x6x1024) ![0, 4, 0] S1x1x1024.size inb_S1x6x1024_S1x1x1024_0_4_0))
      (View.ld x14 (Rect.unit (s := S1x1024x4096) ![0, 0, 0] S1x1024x1024.size inb_S1x1024x4096_S1x1024x1024_0_0_0)))
    (View.ld x15 (Rect.unit (s := S1x4096x1024) ![0, 0, 0] S1x1024x1024.size inb_S1x4096x1024_S1x1024x1024_0_0_0))
    (View.ld x14 (Rect.unit (s := S1x1024x4096) ![0, 0, 1024] S1x1024x1024.size inb_S1x1024x4096_S1x1024x1024_0_0_1024))
    (View.ld x15 (Rect.unit (s := S1x4096x1024) ![0, 1024, 0] S1x1024x1024.size inb_S1x4096x1024_S1x1024x1024_0_1024_0))
    (View.ld x14 (Rect.unit (s := S1x1024x4096) ![0, 0, 2048] S1x1024x1024.size inb_S1x1024x4096_S1x1024x1024_0_0_2048))
    (View.ld x15 (Rect.unit (s := S1x4096x1024) ![0, 2048, 0] S1x1024x1024.size inb_S1x4096x1024_S1x1024x1024_0_2048_0))

/-- The hidden units of the last quarter. -/
def fourth (x1 : Vec F S1x6x1024 .f32) (x13 : Vec F S1x1024 .f32) (x14 : Vec F S1x1024x4096 .bf16) (v : Vec F S512x1024 .f32) : FVec F S512x1024 .bf16 :=
  k0_pay21 (hidden x1 x13 v) (View.ld x14 (Rect.unit (s := S1x1024x4096) ![0, 0, 3072] S1x1024x1024.size inb_S1x1024x4096_S1x1024x1024_0_0_3072))

/-- The perceptron and the last norm, from the stream after the mixers. -/
def fin (x1 : Vec F S1x6x1024 .f32) (x13 : Vec F S1x1024 .f32) (x14 : Vec F S1x1024x4096 .bf16) (x15 : Vec F S1x4096x1024 .bf16) (x16 : Vec F S1x1024 .f32) (v : Vec F S512x1024 .f32) : FVec F S512x1024 .f32 :=
  k0_pay1 v (three x1 x13 x14 x15 v) (fourth x1 x13 x14 v)
    (View.ld x15 (Rect.unit (s := S1x4096x1024) ![0, 3072, 0] S1x1024x1024.size inb_S1x4096x1024_S1x1024x1024_0_3072_0))
    (View.ld x1 (Rect.unit (s := S1x6x1024) ![0, 5, 0] S1x1x1024.size inb_S1x6x1024_S1x1x1024_0_5_0))
    (View.ld x16 (Rect.unit (s := S1x1024) ![0, 0] S1x1024.size inb_S1x1024_S1x1024_0_0))

/-- The two halves stored one after the other. -/
def both (h : Fin 2 → FVec F S256x1024 .f32) : Vec F S512x1024 .f32 :=
  View.canon [(⟨Rect.unit (s := S512x1024) ![256, 0] S256x1024.size inb_S512x1024_S256x1024_256_0, h 1⟩ : View.Piece (Elt F) S512x1024 .f32),
    ⟨Rect.unit (s := S512x1024) ![0, 0] S256x1024.size inb_S512x1024_S256x1024_0_0, h 0⟩]

/-- The stream after the mixers. -/
def stream (n : ℕ) (x0 : Vec F S512x1024 .f32) (x1 : Vec F S1x6x1024 .f32) (x2 : Vec F S512x256 .f32) (x3 : Vec F S512x768 .bf16) (x4 x5 : Vec F S16x768 .bf16) (x6 : Vec F S512x512 .bf16)
    (x7 : Vec F S512x3072 .bf16) (x8 : Vec F S3x256 .f32) (x9 x10 : Vec F S1x256x1024 .bf16) (x11 : Vec F S1x512x1024 .bf16) (x12 : Vec F S1x1024x1024 .bf16) : Vec F S512x1024 .f32 :=
  View.ld (both (half x0 x1 x2
      (View.canon [(⟨Rect.unit (s := S512x256) ![0, 0] S512x256.size inb_S512x256_S512x256_0_0, conv n x3 x4 x5 x8⟩ : View.Piece (Elt F) S512x256 .bf16)])
      x6 x7 x9 x10 x11 x12))
    (Rect.unit (s := S512x1024) ![0, 0] S512x1024.size inb_S512x1024_S512x1024_0_0)

theorem load_eq {sg : RefSig} {ι : Kind} {sp : Space} {s : Shape} {e : EltTy} (a : Memref sg ι sp s e) (h : a.IsWhole) (x : s.Idx → Elt F e) (r : Rect s) :
    View.readAt (Elt F) a.view r.toLoadRect (h.unread x) = View.ld x r := by
  have e1 : View.readAt (Elt F) a.view r.toLoadRect (h.unread x) = View.ld (a.view.read (Elt F) (h.unread x)) r := rfl
  rw [e1, Memref.IsWhole.read_unread]

theorem back_eq {sg : RefSig} {ι : Kind} {sp : Space} {s : Shape} {e : EltTy} (v : View sg ι sp s e) (L : List (View.Piece (Elt F) s e)) (r : Rect s) :
    View.readCov v L r.toLoadRect = View.ld (View.canon L) r := View.readCov_eq_canon' v L r.toLoadRect

theorem pay10 (v77 : Vec F S256x256 .f32) (v79 : Vec F S1x256x1024 .bf16) : k0_pay10 v77 v79 = k0_pay7 v77 v79 := rfl
theorem pay11 (v82 : Vec F S256x256 .bf16) (v83 : Vec F S1x256x1024 .bf16) : k0_pay11 v82 v83 = k0_pay8 v82 v83 := rfl
theorem pay12 (v86 : Vec F S256x512 .bf16) (v87 : Vec F S1x512x1024 .bf16) : k0_pay12 v86 v87 = k0_pay9 v86 v87 := rfl

theorem second_half (v76 : FVec F S1x1024 .f32) (v81 v85 v89 : FVec F S256x1024 .f32) (v103 v111 v120 : Vec F S256x1024 .bf16) (v130 : Vec F S1x1024x1024 .bf16)
    (v133 : Vec F S256x1024 .f32) : k0_pay17 (k0_pay15 v81 v85 v89 v103 v111 v120 v130) v133 (k0_pay16 v76) = k0_pay14 v133 (k0_pay13 v76 v81 v85 v89 v103 v111 v120 v130) := rfl

/-- The block a grid point leaves, from its input blocks. -/
def leaves (n : ℕ) (x0 : Vec F S512x1024 .f32) (x1 : Vec F S1x6x1024 .f32) (x2 : Vec F S512x256 .f32) (x3 : Vec F S512x768 .bf16) (x4 x5 : Vec F S16x768 .bf16) (x6 : Vec F S512x512 .bf16)
    (x7 : Vec F S512x3072 .bf16) (x8 : Vec F S3x256 .f32) (x9 x10 : Vec F S1x256x1024 .bf16) (x11 : Vec F S1x512x1024 .bf16) (x12 : Vec F S1x1024x1024 .bf16)
    (x13 : Vec F S1x1024 .f32) (x14 : Vec F S1x1024x4096 .bf16) (x15 : Vec F S1x4096x1024 .bf16) (x16 : Vec F S1x1024 .f32) : Vec F S512x1024 .f32 :=
  View.canon [(⟨Rect.unit (s := S512x1024) ![0, 0] S512x1024.size inb_S512x1024_S512x1024_0_0,
    fin x1 x13 x14 x15 x16 (stream n x0 x1 x2 x3 x4 x5 x6 x7 x8 x9 x10 x11 x12)⟩ : View.Piece (Elt F) S512x1024 .f32)]

variable (m : (ℓ : Loc nD τ sig) → Buf (Elt F) ℓ) (c : Dev nD) (t : Fin cfg0.N)

theorem out_eq : outsAt0 m c t = leaves ((grid0.coords t) 0).val (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) (iblk m c 16 t) := by
  unfold outsAt0 out0_A_17
  rw [View.read_writes_junk_eq_canon]
  unfold kernelRun0_A
  dsimp only
  simp only [kernelRun0_A.sl.v181, kernelRun0_A.sl.r_18, kernelRun0_A.sl.r_19, kernelRun0_A.sl.HS1_2, kernelRun0_A.sl.HS0_1, kernelRun0_A.sl.r_16, kernelRun0_A.sl.r_17,
    kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8,
    kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r,
    kernelRun0_A.sl.v82, kernelRun0_A.sl.v95, load_eq, back_eq, pay10, pay11, pay12, second_half]
  rfl

end Cert.MergeIdeal.Blk

end
-- ==== Proof.MergeSpec.lean ====
module

public import Idealize.ShloMosaic.Lib.ValueIdx
public import Idealize.ShloMosaic.PureOps.Ideal.Laws

@[expose] public section

set_option maxRecDepth 16384

/-! The layer's end, one row (one grid position) at a time: the short convolution, the gated sum of the three mixers,
the output projection, and the two-layer perceptron between its norms. -/

noncomputable section

namespace Cert.Layer

open Idealize.ShloMosaic

/-- What one row's result depends on. -/
@[ext] structure Row where
  /-- the residual stream -/
  x : Fin 1024 → EReal
  /-- the Fourier mixer's output -/
  f : Fin 256 → EReal
  /-- the attention's output -/
  at' : Fin 512 → EReal
  /-- the convolution's gated input at the row before, here, and after -/
  zp : Fin 256 → EReal
  z : Fin 256 → EReal
  zn : Fin 256 → EReal
  /-- the convolution's output gate -/
  gb : Fin 256 → EReal
  /-- the three taps -/
  k0 : Fin 256 → EReal
  k1 : Fin 256 → EReal
  k2 : Fin 256 → EReal
  /-- the three branch gates before their sigmoid -/
  gf : Fin 1024 → EReal
  gc : Fin 1024 → EReal
  ga : Fin 1024 → EReal
  wf : Fin 256 → Fin 1024 → EReal
  wc : Fin 256 → Fin 1024 → EReal
  wa : Fin 512 → Fin 1024 → EReal
  wo : Fin 1024 → Fin 1024 → EReal
  /-- the modulation: gate of the mixer, shift and scale of the second norm, gate of the perceptron -/
  g1 : Fin 1024 → EReal
  sh : Fin 1024 → EReal
  sc : Fin 1024 → EReal
  g2 : Fin 1024 → EReal
  n2 : Fin 1024 → EReal
  w1 : Fin 1024 → Fin 4096 → EReal
  w2 : Fin 4096 → Fin 1024 → EReal
  nf : Fin 1024 → EReal

/-- The small number under the norm's square root. -/
def eps : EReal := Ideal.ofBits .f32 0x358637BD#32

/-- A row over its root mean square. -/
def nrm (v : Fin 1024 → EReal) (j : Fin 1024) : EReal :=
  v j * Ideal.rsqrt (Ideal.div (∑ k, v k * v k) ((1024 : ℝ) : EReal) + eps)

def sig (g : EReal) : EReal := Ideal.div 1 (1 + Ideal.exp (-g))

namespace Row

variable (R : Row)

def conv (k : Fin 256) : EReal := R.gb k * ((R.k0 k * R.zp k + R.k1 k * R.z k) + R.k2 k * R.zn k)

def df (j : Fin 1024) : EReal := ∑ k, R.f k * R.wf k j
def dc (j : Fin 1024) : EReal := ∑ k, R.conv k * R.wc k j
def da (j : Fin 1024) : EReal := ∑ k, R.at' k * R.wa k j

def mix (j : Fin 1024) : EReal := (sig (R.gf j) * R.df j + sig (R.gc j) * R.dc j) + sig (R.ga j) * R.da j

/-- The stream after the mixers. -/
def mid (j : Fin 1024) : EReal := R.x j + R.g1 j * ∑ k, R.mix k * R.wo k j

/-- The perceptron's input. -/
def hid (j : Fin 1024) : EReal := nrm R.mid j * R.n2 j * (1 + R.sc j) + R.sh j

/-- A hidden unit before its activation. -/
def up (m : Fin 4096) : EReal := ∑ k, R.hid k * R.w1 k m

/-- A hidden unit: the square of its positive part. -/
def act (m : Fin 4096) : EReal := max (R.up m) 0 * max (R.up m) 0

def last (j : Fin 1024) : EReal := R.mid j + R.g2 j * ∑ m, R.act m * R.w2 m j

def out (j : Fin 1024) : EReal := nrm R.last j * R.nf j

end Row

end Cert.Layer

end
-- ==== Proof.MergeHalf.lean ====
module

public import proofs.«01_k».proof.Proof.MergeSpec
public import Idealize.ShloMosaic.Lib.Pointwise

@[expose] public section

set_option maxRecDepth 16384

/-! The kernel sums twice the sigmoid gates, as a hyperbolic tangent plus one, and halves the result in the mixer's gate. -/

noncomputable section

namespace Cert.Layer

open Idealize.ShloMosaic

theorem half_word16 : Ideal.ofBits .bf16 0x3F00#16 = ((1 / 2 : ℝ) : EReal) := by
  simp [Ideal.ofBits, Ideal.ieee, -EReal.coe_mul]; norm_num

theorem half_word : Ideal.ofBits .f32 0x3F000000#32 = ((1 / 2 : ℝ) : EReal) := by
  simp [Ideal.ofBits, Ideal.ieee, -EReal.coe_mul]; norm_num

theorem width_word : Ideal.ofBits .f32 0x44800000#32 = ((1024 : ℝ) : EReal) := by
  simp [Ideal.ofBits, Ideal.ieee, -EReal.coe_mul]; norm_num

theorem tanh_half (r : ℝ) : Real.tanh (r * (1 / 2)) + 1 = 2 * (1 / (1 + Real.exp (-r))) := by
  have h : Real.exp (-r) = Real.exp (-(r * (1 / 2))) / Real.exp (r * (1 / 2)) := by
    rw [← Real.exp_sub]; congr 1; ring
  rw [Real.tanh_eq_sinh_div_cosh, Real.sinh_eq, Real.cosh_eq, h]
  have a := Real.exp_pos (r * (1 / 2))
  have b := Real.exp_pos (-(r * (1 / 2)))
  field_simp
  ring

theorem two_sig (g : EReal) : Ideal.tanh (g * ((1 / 2 : ℝ) : EReal)) + 1 = ((2 : ℝ) : EReal) * sig g := by
  induction g using EReal.rec with
  | bot =>
    rw [EReal.bot_mul_coe_of_pos (by norm_num)]
    have e : sig ⊥ = 0 := by
      show Ideal.div 1 (1 + ⊤) = 0
      rw [show (1 : EReal) + ⊤ = ⊤ from rfl, Ideal.div, if_neg (by simp), EReal.inv_top, mul_zero]
    rw [e, Ideal.tanh_bot, mul_zero, ← EReal.coe_one, ← EReal.coe_neg, ← EReal.coe_add]
    norm_num
  | top =>
    rw [EReal.top_mul_coe_of_pos (by norm_num)]
    have e : sig ⊤ = 1 := by
      show Ideal.div 1 (1 + 0) = 1
      rw [add_zero, Ideal.div, if_neg one_ne_zero, inv_one, mul_one]
    rw [e, Ideal.tanh_top, mul_one, ← EReal.coe_one, ← EReal.coe_add]
    norm_num
  | coe r =>
    have p : (1 + Real.exp (-r)) ≠ 0 := (by positivity : (0 : ℝ) < 1 + Real.exp (-r)).ne'
    have e : sig (r : EReal) = ((1 / (1 + Real.exp (-r)) : ℝ) : EReal) := by
      unfold sig
      rw [← EReal.coe_neg, Ideal.exp_coe, ← EReal.coe_one, ← EReal.coe_add, Ideal.div_coe p, ← EReal.coe_mul, one_mul]
    rw [e, ← EReal.coe_mul, Ideal.tanh_coe, ← EReal.coe_one, ← EReal.coe_add, tanh_half, EReal.coe_mul]

theorem two_add (x y : EReal) : ((2 : ℝ) : EReal) * (x + y) = ((2 : ℝ) : EReal) * x + ((2 : ℝ) : EReal) * y :=
  EReal.left_distrib_of_nonneg_of_ne_top (by exact_mod_cast (by norm_num : (0 : ℝ) ≤ 2)) (EReal.coe_ne_top _) x y

theorem two_sum {ι : Type} (s : Finset ι) (f : ι → EReal) : ((2 : ℝ) : EReal) * ∑ k ∈ s, f k = ∑ k ∈ s, ((2 : ℝ) : EReal) * f k := by
  classical
  induction s using Finset.induction with
  | empty => simp
  | insert a s h ih => rw [Finset.sum_insert h, Finset.sum_insert h, two_add, ih]

/-- Doubled terms under a halved factor. -/
theorem half_two {n : ℕ} (g : EReal) (a w : Fin n → EReal) :
    ((1 / 2 : ℝ) : EReal) * g * ∑ k, ((2 : ℝ) : EReal) * a k * w k = g * ∑ k, a k * w k := by
  simp only [mul_assoc]
  rw [← two_sum, mul_left_comm g, ← mul_assoc, ← EReal.coe_mul, show (1 / 2 * 2 : ℝ) = 1 by norm_num, EReal.coe_one, one_mul]

/-- The kernel's gated sum is twice the reference's. -/
theorem two_mix (a b c x y z : EReal) :
    (Ideal.tanh (a * ((1 / 2 : ℝ) : EReal)) + 1) * x + (Ideal.tanh (b * ((1 / 2 : ℝ) : EReal)) + 1) * y + (Ideal.tanh (c * ((1 / 2 : ℝ) : EReal)) + 1) * z
      = ((2 : ℝ) : EReal) * ((sig a * x + sig b * y) + sig c * z) := by
  rw [two_sig, two_sig, two_sig, two_add, two_add, mul_assoc, mul_assoc, mul_assoc]

/-- A sum over the hidden units in four parts. -/
theorem four_parts (f : Fin 4096 → EReal) :
    ∑ m, f m = (((∑ m : Fin 1024, f ⟨m.val, by omega⟩) + ∑ m : Fin 1024, f ⟨1024 + m.val, by omega⟩) + ∑ m : Fin 1024, f ⟨2048 + m.val, by omega⟩)
      + ∑ m : Fin 1024, f ⟨3072 + m.val, by omega⟩ := by
  rw [Fin.sum_univ_add (a := 3072) (b := 1024) f, Fin.sum_univ_add (a := 2048) (b := 1024) (fun m : Fin 3072 => f (Fin.castAdd 1024 m)),
    Fin.sum_univ_add (a := 1024) (b := 1024) (fun m : Fin 2048 => f (Fin.castAdd 1024 (Fin.castAdd 1024 m)))]
  rfl

end Cert.Layer

end
-- ==== Proof.MergePay.lean ====
module

public import proofs.«01_k».proof.Proof.MergeHalf
public import proofs.«01_k».proof.Proof.Gen.MergeIdeal.Frame
public import Idealize.ShloMosaic.Lib.Pointwise
public import Idealize.ShloMosaic.Lib.Pipeline.ValueKit

@[expose] public section

set_option maxRecDepth 16384

/-! The kernel's arithmetic on one block of 512 rows, read at an index. -/

noncomputable section

namespace Cert.MergeIdeal.Pay

open Cert.MergeIdeal Cert.MergeIdeal.Gen Idealize.ShloMosaic Idealize.ShloMosaic.TcCoe Idealize.SL.Sem Idealize.ShloMosaic.StableHlo

theorem pay2 (v24 : Vec Ideal S512x256 .bf16) (i : Fin 512) (k : Fin 256) : k0_pay2 v24 (ix2 i k) = v24 (ix2 i k) := by
  pointwise [k0_pay2]

theorem pay3 (v22 v26 : Vec Ideal S512x256 .bf16) (i : Fin 512) (k : Fin 256) : k0_pay3 v22 v26 (ix2 i k) = v26 (ix2 i k) * v22 (ix2 i k) := by
  pointwise [k0_pay3]

theorem pay4 (v29 v31 : Vec Ideal S1x256 .bf16) (k : Fin 256) : k0_pay4 v29 v31 (ix2 0 k) = v29 (ix2 0 k) * v31 (ix2 0 k) := by
  pointwise [k0_pay4]

theorem row_first : ∀ i : Fin 512, IntOp.cmpi CmpIPredicate.eq (BitVec.ofNat 32 i.val) 0#32 = BitVec.ofBool (decide (i.val = 0)) := by decide +kernel
theorem row_last : ∀ i : Fin 512, IntOp.cmpi CmpIPredicate.eq (BitVec.ofNat 32 i.val) 511#32 = BitVec.ofBool (decide (i.val = 511)) := by decide +kernel

theorem select_ofBool {α : Type} (p : Prop) [Decidable p] (a b : α) : Scalar.select (BitVec.ofBool (decide p)) a b = if p then a else b := by
  by_cases h : p <;> simp [h, Scalar.select]

theorem pay5 (v10 v21 : BitVec 1) (v25 v28 : FVec Ideal S512x256 .f32) (v33 : FVec Ideal S1x256 .f32) (v34 v36 : Vec Ideal S1x256 .bf16) (v56 v60 v65 : Vec Ideal S1x256 .f32)
    (i : Fin 512) (k : Fin 256) : k0_pay5 v10 v21 v25 v28 v33 v34 v36 v56 v60 v65 (ix2 i k) = v25 (ix2 i k) *
      ((v56 (ix2 0 k) * (if i.val = 0 then Scalar.select v10 (v33 (ix2 0 k)) 0 else v28 (ix2 ⟨(i.val + 511) % 512, by omega⟩ k)) + v60 (ix2 0 k) * v28 (ix2 i k))
        + v65 (ix2 0 k) * (if i.val = 511 then Scalar.select v21 (v34 (ix2 0 k) * v36 (ix2 0 k) : EReal) 0 else v28 (ix2 ⟨(i.val + 1) % 512, by omega⟩ k))) := by
  pointwise [k0_pay5]
  rw [row_first, row_last, select_ofBool, select_ofBool]
  have e1 : (⟨(i.val + 512 - 511) % 512, by omega⟩ : Fin 512) = ⟨(i.val + 1) % 512, by omega⟩ := Fin.ext (by show (i.val + 512 - 511) % 512 = (i.val + 1) % 512; omega)
  rw [e1]
  rfl

theorem pay6 (v75 : Vec Ideal S1x1x1024 .f32) (j : Fin 1024) : k0_pay6 v75 (ix2 0 j) = v75 (ix3 0 0 j) := by
  pointwise [k0_pay6]

theorem pay7 (v77 : Vec Ideal S256x256 .f32) (v79 : Vec Ideal S1x256x1024 .bf16) (i : Fin 256) (j : Fin 1024) :
    k0_pay7 v77 v79 (ix2 i j) = ∑ k : Fin 256, (v77 (ix2 i k) * v79 (ix3 0 k j) : EReal) := by
  pointwise [k0_pay7]

theorem pay8 (v82 : Vec Ideal S256x256 .bf16) (v83 : Vec Ideal S1x256x1024 .bf16) (i : Fin 256) (j : Fin 1024) :
    k0_pay8 v82 v83 (ix2 i j) = ∑ k : Fin 256, (v82 (ix2 i k) * v83 (ix3 0 k j) : EReal) := by
  pointwise [k0_pay8]

theorem pay9 (v86 : Vec Ideal S256x512 .bf16) (v87 : Vec Ideal S1x512x1024 .bf16) (i : Fin 256) (j : Fin 1024) :
    k0_pay9 v86 v87 (ix2 i j) = ∑ k : Fin 512, (v86 (ix2 i k) * v87 (ix3 0 k j) : EReal) := by
  pointwise [k0_pay9]

theorem pay13 (v76 : FVec Ideal S1x1024 .f32) (v81 v85 v89 : FVec Ideal S256x1024 .f32) (v103 v111 v120 : Vec Ideal S256x1024 .bf16) (v130 : Vec Ideal S1x1024x1024 .bf16)
    (i : Fin 256) (j : Fin 1024) : k0_pay13 v76 v81 v85 v89 v103 v111 v120 v130 (ix2 i j) =
      v76 (ix2 0 j) * ∑ x : Fin 1024, ((Layer.sig (v103 (ix2 i x)) * v81 (ix2 i x) + Layer.sig (v111 (ix2 i x)) * v85 (ix2 i x)) + Layer.sig (v120 (ix2 i x)) * v89 (ix2 i x)) * v130 (ix3 0 x j) := by
  pointwise [k0_pay13]
  simp only [Layer.half_word, Layer.half_word16, Layer.two_mix]
  exact Layer.half_two _ _ _

theorem pay14 (v133 : Vec Ideal S256x1024 .f32) (v137 : FVec Ideal S256x1024 .f32) (i : Fin 256) (j : Fin 1024) :
    k0_pay14 v133 v137 (ix2 i j) = v133 (ix2 i j) + v137 (ix2 i j) := by
  pointwise [k0_pay14]

theorem pay18 (v181 : Vec Ideal S512x1024 .f32) (v182 : Vec Ideal S1x1024 .f32) (v184 v186 : Vec Ideal S1x1x1024 .f32) (i : Fin 512) (j : Fin 1024) :
    k0_pay18 v181 v182 v184 v186 (ix2 i j) = Layer.nrm (fun k => v181 (ix2 i k)) j * v182 (ix2 0 j) * (1 + v186 (ix3 0 0 j)) + v184 (ix3 0 0 j) := by
  pointwise [k0_pay18]
  rw [Layer.width_word, ← mul_assoc]
  rfl

theorem pay21 (v205 : FVec Ideal S512x1024 .bf16) (v238 : Vec Ideal S1x1024x1024 .bf16) (i : Fin 512) (m : Fin 1024) :
    k0_pay21 v205 v238 (ix2 i m) = (max (∑ k : Fin 1024, (v205 (ix2 i k) * v238 (ix3 0 k m) : EReal)) 0 * max (∑ k : Fin 1024, (v205 (ix2 i k) * v238 (ix3 0 k m) : EReal)) 0) := by
  pointwise [k0_pay21]

theorem pay19 (v181 : Vec Ideal S512x1024 .f32) (v182 : Vec Ideal S1x1024 .f32) (v184 v186 : Vec Ideal S1x1x1024 .f32) (v206 : Vec Ideal S1x1024x1024 .bf16) :
    k0_pay19 v181 v182 v184 v186 v206 = k0_pay21 (k0_pay18 v181 v182 v184 v186) v206 := rfl

theorem pay20 (v205 v212 : FVec Ideal S512x1024 .bf16) (v213 v216 v223 v227 v234 : Vec Ideal S1x1024x1024 .bf16) (i : Fin 512) (j : Fin 1024) :
    k0_pay20 v205 v212 v213 v216 v223 v227 v234 (ix2 i j) = ((∑ m : Fin 1024, (v212 (ix2 i m) * v213 (ix3 0 m j) : EReal)) + ∑ m : Fin 1024, (k0_pay21 v205 v216 (ix2 i m) * v223 (ix3 0 m j) : EReal))
      + ∑ m : Fin 1024, (k0_pay21 v205 v227 (ix2 i m) * v234 (ix3 0 m j) : EReal) := by
  simp only [pay21]
  pointwise [k0_pay20]

theorem pay1 (v181 : Vec Ideal S512x1024 .f32) (v237 : FVec Ideal S512x1024 .f32) (v244 : FVec Ideal S512x1024 .bf16) (v245 : Vec Ideal S1x1024x1024 .bf16) (v249 : Vec Ideal S1x1x1024 .f32)
    (v264 : Vec Ideal S1x1024 .f32) (i : Fin 512) (j : Fin 1024) : k0_pay1 v181 v237 v244 v245 v249 v264 (ix2 i j) =
      Layer.nrm (fun k => v181 (ix2 i k) + v249 (ix3 0 0 k) * (v237 (ix2 i k) + ∑ m : Fin 1024, (v244 (ix2 i m) * v245 (ix3 0 m k) : EReal))) j * v264 (ix2 0 j) := by
  pointwise [k0_pay1]
  rw [Layer.width_word]
  rfl

end Cert.MergeIdeal.Pay

end
-- ==== Proof.Loads.lean ====
module

public import Idealize.ShloMosaic.Lib.Pointwise
public import Idealize.ShloMosaic.Lib.Pipeline.ValueKit

@[expose] public section

/-! Loads of a piece of a block, read at an index. -/

noncomputable section

namespace Cert.Layer

open Idealize.ShloMosaic

/-- A load of a piece of a two-axis block, at an index. -/
theorem ld2 {C D H W : ℕ} {e : EltTy} (X : Vec Ideal (⟨2, ![C, D]⟩ : Shape) e) (o p : ℕ) (inb) (i : Fin H) (j : Fin W) (a : Fin C) (b : Fin D)
    (ha : a.val = o + i.val) (hb : b.val = p + j.val) :
    View.ld X (Rect.unit (s := (⟨2, ![C, D]⟩ : Shape)) ![o, p] ![H, W] inb) (ix2 i j) = X (ix2 a b) := by
  refine View.ld_unit_apply_of X _ _ _ _ _ fun x => ?_
  fin_cases x
  · exact ha
  · exact hb

/-- A load of a piece of a three-axis block, at an index. -/
theorem ld3 {B C D G H W : ℕ} {e : EltTy} (X : Vec Ideal (⟨3, ![B, C, D]⟩ : Shape) e) (n o p : ℕ) (inb) (g : Fin G) (i : Fin H) (j : Fin W) (z : Fin B) (a : Fin C) (b : Fin D)
    (hz : z.val = n + g.val) (ha : a.val = o + i.val) (hb : b.val = p + j.val) :
    View.ld X (Rect.unit (s := (⟨3, ![B, C, D]⟩ : Shape)) ![n, o, p] ![G, H, W] inb) (ix3 g i j) = X (ix3 z a b) := by
  refine View.ld_unit_apply_of X _ _ _ _ _ fun x => ?_
  fin_cases x
  · exact hz
  · exact ha
  · exact hb

/-- A load of a piece of a four-axis block, at an index. -/
theorem ld4 {A B C D E G H W : ℕ} {e : EltTy} (X : Vec Ideal (⟨4, ![A, B, C, D]⟩ : Shape) e) (l n o p : ℕ) (inb) (f : Fin E) (g : Fin G) (i : Fin H) (j : Fin W)
    (y : Fin A) (z : Fin B) (a : Fin C) (b : Fin D) (hy : y.val = l + f.val) (hz : z.val = n + g.val) (ha : a.val = o + i.val) (hb : b.val = p + j.val) :
    View.ld X (Rect.unit (s := (⟨4, ![A, B, C, D]⟩ : Shape)) ![l, n, o, p] ![E, G, H, W] inb) (ix4 f g i j) = X (ix4 y z a b) := by
  refine View.ld_unit_apply_of X _ _ _ _ _ fun x => ?_
  fin_cases x
  · exact hy
  · exact hz
  · exact ha
  · exact hb

end Cert.Layer

end
-- ==== Proof.MergeBlock.lean ====
module

public import proofs.«01_k».proof.Proof.MergeBlk
public import proofs.«01_k».proof.Proof.MergePay
public import proofs.«01_k».proof.Proof.Loads

@[expose] public section

set_option maxRecDepth 16384

/-! A grid point's block, row by row: each row is the layer's end on the row's data among the point's input blocks. -/

noncomputable section

namespace Cert.MergeIdeal.Blk

open Cert.MergeIdeal Cert.MergeIdeal.Gen Cert.Layer Idealize.ShloMosaic Idealize.ShloMosaic.TcCoe Idealize.SL.Sem Idealize.ShloMosaic.StableHlo

/-- The input blocks of one grid point. -/
structure Ins where
  x : Vec Ideal S512x1024 .f32
  mod : Vec Ideal S1x6x1024 .f32
  f : Vec Ideal S512x256 .f32
  cv : Vec Ideal S512x768 .bf16
  pr : Vec Ideal S16x768 .bf16
  nx : Vec Ideal S16x768 .bf16
  at' : Vec Ideal S512x512 .bf16
  gt : Vec Ideal S512x3072 .bf16
  cw : Vec Ideal S3x256 .f32
  wf : Vec Ideal S1x256x1024 .bf16
  wc : Vec Ideal S1x256x1024 .bf16
  wa : Vec Ideal S1x512x1024 .bf16
  wo : Vec Ideal S1x1024x1024 .bf16
  n2 : Vec Ideal S1x1024 .f32
  w1 : Vec Ideal S1x1024x4096 .bf16
  w2 : Vec Ideal S1x4096x1024 .bf16
  nf : Vec Ideal S1x1024 .f32

/-- The convolution's gated input at a row of the block. -/
def Ins.z (B : Ins) (i : Fin 512) (k : Fin 256) : EReal := B.cv (ix2 i ⟨512 + k.val, by omega⟩) * B.cv (ix2 i ⟨k.val, by omega⟩)

/-- A row's data among the blocks; the rows before and after the block come from the neighbours' rows. -/
def Ins.row (B : Ins) (n : ℕ) (i : Fin 512) : Layer.Row where
  x j := B.x (ix2 i j)
  f k := B.f (ix2 i k)
  at' k := B.at' (ix2 i k)
  zp k := if i.val = 0 then (if n % 16 ≠ 0 then B.pr (ix2 15 ⟨512 + k.val, by omega⟩) * B.pr (ix2 15 ⟨k.val, by omega⟩) else 0) else B.z ⟨(i.val + 511) % 512, by omega⟩ k
  z k := B.z i k
  zn k := if i.val = 511 then (if n % 16 ≠ 15 then B.nx (ix2 0 ⟨512 + k.val, by omega⟩) * B.nx (ix2 0 ⟨k.val, by omega⟩) else 0) else B.z ⟨(i.val + 1) % 512, by omega⟩ k
  gb k := B.cv (ix2 i ⟨256 + k.val, by omega⟩)
  k0 k := B.cw (ix2 0 k)
  k1 k := B.cw (ix2 1 k)
  k2 k := B.cw (ix2 2 k)
  gf j := B.gt (ix2 i ⟨j.val, by omega⟩)
  gc j := B.gt (ix2 i ⟨1024 + j.val, by omega⟩)
  ga j := B.gt (ix2 i ⟨2048 + j.val, by omega⟩)
  wf k j := B.wf (ix3 0 k j)
  wc k j := B.wc (ix3 0 k j)
  wa k j := B.wa (ix3 0 k j)
  wo k j := B.wo (ix3 0 k j)
  g1 j := B.mod (ix3 0 2 j)
  sh j := B.mod (ix3 0 3 j)
  sc j := B.mod (ix3 0 4 j)
  g2 j := B.mod (ix3 0 5 j)
  n2 j := B.n2 (ix2 0 j)
  w1 k m := B.w1 (ix3 0 k m)
  w2 m j := B.w2 (ix3 0 m j)
  nf j := B.nf (ix2 0 j)

theorem prev_eq : ∀ n : Fin 64, hasPrev n.val = BitVec.ofBool (decide (n.val % 16 ≠ 0)) := by decide +kernel
theorem next_eq : ∀ n : Fin 64, hasNext n.val = BitVec.ofBool (decide (n.val % 16 ≠ 15)) := by decide +kernel

variable (B : Ins) (n : Fin 64)

theorem conv_at (i : Fin 512) (k : Fin 256) : conv n.val B.cv B.pr B.nx B.cw (ix2 i k) = (B.row n.val i).conv k := by
  have hz (r : Fin 512) : k0_pay3 (View.ld B.cv (Rect.unit (s := S512x768) ![0, 0] S512x256.size inb_S512x768_S512x256_0_0))
      (View.ld B.cv (Rect.unit (s := S512x768) ![0, 512] S512x256.size inb_S512x768_S512x256_0_512)) (ix2 r k) = B.z r k := by
    rw [Pay.pay3]
    exact congrArg₂ (fun a b : EReal => a * b) (ld2 B.cv 0 512 _ r k r _ (by omega) rfl) (ld2 B.cv 0 0 _ r k r _ (by omega) (by dsimp only; omega))
  unfold conv
  rw [Pay.pay5, Pay.pay2, Pay.pay4, hz, hz, hz, prev_eq, next_eq, Pay.select_ofBool, Pay.select_ofBool,
    ld2 B.cv 0 256 _ i k i ⟨256 + k.val, by omega⟩ (by omega) rfl,
    ld2 B.pr 15 512 _ 0 k 15 ⟨512 + k.val, by omega⟩ rfl rfl, ld2 B.pr 15 0 _ 0 k 15 ⟨k.val, by omega⟩ rfl (by dsimp only; omega),
    ld2 B.nx 0 512 _ 0 k 0 ⟨512 + k.val, by omega⟩ rfl rfl, ld2 B.nx 0 0 _ 0 k 0 ⟨k.val, by omega⟩ rfl (by dsimp only; omega),
    ld2 B.cw 0 0 _ 0 k 0 k rfl (by omega), ld2 B.cw 1 0 _ 0 k 1 k rfl (by omega), ld2 B.cw 2 0 _ 0 k 2 k rfl (by omega)]
  rfl

/-- The rows of a half. -/
abbrev up (g : Fin 2) (i : Fin 256) : Fin 512 := ⟨256 * g.val + i.val, by omega⟩

theorem ldh {C W : ℕ} {e : EltTy} (X : Vec Ideal (⟨2, ![512, C]⟩ : Shape) e) (o : ℕ) (h : o + W ≤ C) (g : Fin 2) (i : Fin 256) (j : Fin W) (b : Fin C) (hb : b.val = o + j.val) :
    View.ld X (halfRect C W o h g) (ix2 i j) = X (ix2 (up g i) b) := ld2 X (256 * g.val) o _ i j _ b rfl hb

theorem half_at (cv : Vec Ideal S512x256 .bf16) (hc : ∀ i k, cv (ix2 i k) = (B.row n.val i).conv k) (g : Fin 2) (i : Fin 256) (j : Fin 1024) :
    half B.x B.mod B.f cv B.at' B.gt B.wf B.wc B.wa B.wo g (ix2 i j) = (B.row n.val (up g i)).mid j := by
  unfold half
  rw [Pay.pay14, Pay.pay13, Pay.pay6, ldh B.x 0 _ g i j j (by omega), ld3 B.mod 0 2 0 _ 0 0 j 0 2 j rfl rfl (by omega)]
  have e7 (x : Fin 1024) : k0_pay7 (View.ld B.f (halfRect 256 256 0 (by decide) g)) (View.ld B.wf (Rect.unit (s := S1x256x1024) ![0, 0, 0] S1x256x1024.size inb_S1x256x1024_S1x256x1024_0_0_0)) (ix2 i x)
      = (B.row n.val (up g i)).df x := by
    rw [Pay.pay7]
    exact Finset.sum_congr rfl fun k _ => congrArg₂ (fun a b : EReal => a * b) (ldh B.f 0 _ g i k k (by omega)) (ld3 B.wf 0 0 0 _ 0 k x 0 k x rfl (by omega) (by omega))
  have e8 (x : Fin 1024) : k0_pay8 (View.ld cv (halfRect 256 256 0 (by decide) g)) (View.ld B.wc (Rect.unit (s := S1x256x1024) ![0, 0, 0] S1x256x1024.size inb_S1x256x1024_S1x256x1024_0_0_0)) (ix2 i x)
      = (B.row n.val (up g i)).dc x := by
    rw [Pay.pay8]
    exact Finset.sum_congr rfl fun k _ => congrArg₂ (fun a b : EReal => a * b) ((ldh cv 0 _ g i k k (by omega)).trans (hc _ _)) (ld3 B.wc 0 0 0 _ 0 k x 0 k x rfl (by omega) (by omega))
  have e9 (x : Fin 1024) : k0_pay9 (View.ld B.at' (halfRect 512 512 0 (by decide) g)) (View.ld B.wa (Rect.unit (s := S1x512x1024) ![0, 0, 0] S1x512x1024.size inb_S1x512x1024_S1x512x1024_0_0_0)) (ix2 i x)
      = (B.row n.val (up g i)).da x := by
    rw [Pay.pay9]
    exact Finset.sum_congr rfl fun k _ => congrArg₂ (fun a b : EReal => a * b) (ldh B.at' 0 _ g i k k (by omega)) (ld3 B.wa 0 0 0 _ 0 k x 0 k x rfl (by omega) (by omega))
  refine congrArg (fun s : EReal => B.x (ix2 (up g i) j) + B.mod (ix3 0 2 j) * s) (Finset.sum_congr rfl fun x _ => ?_)
  rw [e7, e8, e9, ldh B.gt 0 _ g i x ⟨x.val, by omega⟩ (by dsimp only; omega), ldh B.gt 1024 _ g i x ⟨1024 + x.val, by omega⟩ rfl, ldh B.gt 2048 _ g i x ⟨2048 + x.val, by omega⟩ rfl,
    ld3 B.wo 0 0 0 _ 0 x j 0 x j rfl (by omega) (by omega)]
  rfl

theorem both_at (h : Fin 2 → FVec Ideal S256x1024 .f32) (G : Fin 512 → Fin 1024 → EReal) (hG : ∀ g i j, h g (ix2 i j) = G (up g i) j) (y : S512x1024.Idx) : both h y = G (y 0) (y 1) := by
  unfold both
  refine View.canon_apply_of_pieces (Val := Elt Ideal) (e := .f32) (fun y => G (y 0) (y 1)) _ ?_ y ?_
  · intro pc hpc
    simp only [List.mem_cons, List.not_mem_nil, or_false] at hpc
    rcases hpc with rfl | rfl
    all_goals
      intro x
      change S256x1024.Idx at x
      obtain ⟨i, l, rfl⟩ : ∃ i l, x = ix2 i l := ⟨_, _, eq_ix2 x⟩
      refine (hG _ i l).trans (congrArg₂ G (Fin.ext ?_) (Fin.ext ?_))
    · show 256 * 1 + i.val = 256 + 1 * i.val; omega
    · show l.val = 0 + 1 * l.val; omega
    · show 256 * 0 + i.val = 0 + 1 * i.val; omega
    · show l.val = 0 + 1 * l.val; omega
  · have h0 : (y 0).val < 512 := (y 0).isLt
    have h1 : (y 1).val < 1024 := (y 1).isLt
    by_cases hy : 256 ≤ (y 0).val
    · refine ⟨_, List.mem_cons_self, ?_⟩
      dsimp only
      rw [Rect.mem_set_unit]
      intro a
      fin_cases a <;> simp <;> omega
    · refine ⟨_, List.mem_cons_of_mem _ List.mem_cons_self, ?_⟩
      dsimp only
      rw [Rect.mem_set_unit]
      intro a
      fin_cases a <;> simp <;> omega

/-- The perceptron's sum over its four quarters, on a row known after the mixers. -/
theorem sum_at (v : Vec Ideal S512x1024 .f32) (i : Fin 512) (hv : ∀ j, v (ix2 i j) = (B.row n.val i).mid j) (k : Fin 1024) :
    (three B.mod B.n2 B.w1 B.w2 v (ix2 i k) + ∑ m : Fin 1024, (fourth B.mod B.n2 B.w1 v (ix2 i m)
      * View.ld B.w2 (Rect.unit (s := S1x4096x1024) ![0, 3072, 0] S1x1024x1024.size inb_S1x4096x1024_S1x1024x1024_0_3072_0) (ix3 0 m k) : EReal) : EReal)
      = ∑ m, (B.row n.val i).act m * (B.row n.val i).w2 m k := by
  have hv' : (fun k => v (ix2 i k)) = (B.row n.val i).mid := funext hv
  unfold three fourth hidden
  rw [Pay.pay19]
  have e18 (k : Fin 1024) : k0_pay18 v (View.ld B.n2 (Rect.unit (s := S1x1024) ![0, 0] S1x1024.size inb_S1x1024_S1x1024_0_0))
      (View.ld B.mod (Rect.unit (s := S1x6x1024) ![0, 3, 0] S1x1x1024.size inb_S1x6x1024_S1x1x1024_0_3_0))
      (View.ld B.mod (Rect.unit (s := S1x6x1024) ![0, 4, 0] S1x1x1024.size inb_S1x6x1024_S1x1x1024_0_4_0)) (ix2 i k) = (B.row n.val i).hid k := by
    rw [Pay.pay18, hv', ld2 B.n2 0 0 _ 0 k 0 k rfl (by omega), ld3 B.mod 0 3 0 _ 0 0 k 0 3 k rfl rfl (by omega), ld3 B.mod 0 4 0 _ 0 0 k 0 4 k rfl rfl (by omega)]
    rfl
  generalize k0_pay18 v _ _ _ = hid at e18
  have e21 (o : ℕ) (inb) (m : Fin 1024) (b : Fin 4096) (hb : b.val = o + m.val) :
      k0_pay21 hid (View.ld B.w1 (Rect.unit (s := S1x1024x4096) ![0, 0, o] S1x1024x1024.size inb)) (ix2 i m) = (B.row n.val i).act b := by
    rw [Pay.pay21]
    have s : (∑ k : Fin 1024, (hid (ix2 i k) * View.ld B.w1 (Rect.unit (s := S1x1024x4096) ![0, 0, o] S1x1024x1024.size inb) (ix3 0 k m) : EReal)) = (B.row n.val i).up b :=
      Finset.sum_congr rfl fun k _ => congrArg₂ (fun a b : EReal => a * b) (e18 k) (ld3 B.w1 0 0 o _ 0 k m 0 k b rfl (by omega) hb)
    rw [s]
    rfl
  have e2 (o : ℕ) (inb1) (inb) (ho : o + 1024 ≤ 4096) (k : Fin 1024) :
      (∑ m : Fin 1024, (k0_pay21 hid (View.ld B.w1 (Rect.unit (s := S1x1024x4096) ![0, 0, o] S1x1024x1024.size inb1)) (ix2 i m)
        * View.ld B.w2 (Rect.unit (s := S1x4096x1024) ![0, o, 0] S1x1024x1024.size inb) (ix3 0 m k) : EReal))
      = ∑ m : Fin 1024, (B.row n.val i).act ⟨o + m.val, by omega⟩ * (B.row n.val i).w2 ⟨o + m.val, by omega⟩ k :=
    Finset.sum_congr rfl fun m _ => congrArg₂ (fun a b : EReal => a * b) (e21 o inb1 m _ rfl) (ld3 B.w2 0 o 0 _ 0 m k 0 _ k rfl rfl (by omega))
  rw [Pay.pay20, Layer.four_parts]
  have e0 := e2 0 inb_S1x1024x4096_S1x1024x1024_0_0_0 inb_S1x4096x1024_S1x1024x1024_0_0_0 (by omega) k
  simp only [Nat.zero_add] at e0
  exact congrArg₂ (fun a b : EReal => a + b) (congrArg₂ (fun a b : EReal => a + b) (congrArg₂ (fun a b : EReal => a + b) e0 (e2 1024 _ _ (by omega) k)) (e2 2048 _ _ (by omega) k)) (e2 3072 _ _ (by omega) k)

/-- The perceptron and the last norm, on a row known after the mixers. -/
theorem fin_at (v : Vec Ideal S512x1024 .f32) (i : Fin 512) (hv : ∀ j, v (ix2 i j) = (B.row n.val i).mid j) (j : Fin 1024) :
    fin B.mod B.n2 B.w1 B.w2 B.nf v (ix2 i j) = (B.row n.val i).out j := by
  unfold fin
  rw [Pay.pay1, ld2 B.nf 0 0 _ 0 j 0 j rfl (by omega)]
  refine congrArg (fun r : Fin 1024 → EReal => Layer.nrm r j * B.nf (ix2 0 j)) (funext fun k => ?_)
  rw [hv, ld3 B.mod 0 5 0 _ 0 0 k 0 5 k rfl rfl (by omega), sum_at B n v i hv k]
  rfl

/-- The stream after the mixers, row by row. -/
theorem stream_at (i : Fin 512) (k : Fin 1024) :
    stream n.val B.x B.mod B.f B.cv B.pr B.nx B.at' B.gt B.cw B.wf B.wc B.wa B.wo (ix2 i k) = (B.row n.val i).mid k := by
  unfold stream
  have h2 : (![0, 0] : Fin 2 → ℕ) = fun _ => 0 := funext fun a => by fin_cases a <;> rfl
  rw [View.canon_unit_zero h2, View.ld_unit_zero h2]
  refine both_at _ (fun r l => (B.row n.val r).mid l) (fun g a b => ?_) (ix2 i k)
  exact half_at B n _ (fun r l => conv_at B n r l) g a b

/-- The whole block. -/
theorem out_at (i : Fin 512) (j : Fin 1024) :
    leaves n.val B.x B.mod B.f B.cv B.pr B.nx B.at' B.gt B.cw B.wf B.wc B.wa B.wo B.n2 B.w1 B.w2 B.nf (ix2 i j) = (B.row n.val i).out j := by
  unfold leaves
  have h2 : (![0, 0] : Fin 2 → ℕ) = fun _ => 0 := funext fun a => by fin_cases a <;> rfl
  rw [View.canon_unit_zero h2]
  exact fin_at B n _ i (stream_at B n i) j

end Cert.MergeIdeal.Blk

end
-- ==== Proof.MergeRef.lean ====
module

public import proofs.«01_k».proof.Proof.MergeSpec
public import proofs.«01_k».proof.Proof.Gen.MergeReferenceIdeal.Read
public import Idealize.ShloMosaic.Lib.Pointwise

@[expose] public section

set_option maxRecDepth 16384

/-! The reference of the layer's end, read a row at a time. -/

noncomputable section

namespace Cert.MergeReferenceIdeal.Value

open Cert.MergeReferenceIdeal Cert.MergeReferenceIdeal.Gen Cert.MergeReferenceIdeal.Read Idealize.ShloMosaic Idealize.ShloMosaic.TcCoe Idealize.SL.Sem Idealize.ShloMosaic.StableHlo

/-- The arguments. -/
structure Args where
  x : Vec Ideal S32768x1024 .f32
  mod : Vec Ideal S4x6x1024 .f32
  f : Vec Ideal S32768x256 .f32
  cv : Vec Ideal S32768x768 .bf16
  at' : Vec Ideal S32768x512 .bf16
  gt : Vec Ideal S32768x3072 .bf16
  cw : Vec Ideal S2x3x256 .f32
  wf : Vec Ideal S2x256x1024 .f32
  wc : Vec Ideal S2x256x1024 .f32
  wa : Vec Ideal S2x512x1024 .f32
  wo : Vec Ideal S2x1024x1024 .f32
  n2 : Vec Ideal S2x1024 .f32
  w1 : Vec Ideal S2x1024x4096 .f32
  w2 : Vec Ideal S2x4096x1024 .f32
  nf : Vec Ideal S1024 .f32

/-- The convolution's gated input at a row. -/
def Args.z (A : Args) (r : Fin 32768) (k : Fin 256) : EReal :=
  A.cv (ix2 r ⟨512 + k.val, by omega⟩) * A.cv (ix2 r ⟨k.val, by omega⟩)

/-- A row's data among the arguments. -/
def Args.row (A : Args) (r : Fin 32768) : Layer.Row where
  x j := A.x (ix2 r j)
  f k := A.f (ix2 r k)
  at' k := A.at' (ix2 r k)
  zp k := if h : 1 ≤ r.val % 8192 then A.z ⟨r.val - 1, by omega⟩ k else 0
  z k := A.z r k
  zn k := if h : r.val % 8192 < 8191 then A.z ⟨r.val + 1, by omega⟩ k else 0
  gb k := A.cv (ix2 r ⟨256 + k.val, by omega⟩)
  k0 k := A.cw (ix3 1 0 k)
  k1 k := A.cw (ix3 1 1 k)
  k2 k := A.cw (ix3 1 2 k)
  gf j := A.gt (ix2 r ⟨j.val, by omega⟩)
  gc j := A.gt (ix2 r ⟨1024 + j.val, by omega⟩)
  ga j := A.gt (ix2 r ⟨2048 + j.val, by omega⟩)
  wf k j := A.wf (ix3 1 k j)
  wc k j := A.wc (ix3 1 k j)
  wa k j := A.wa (ix3 1 k j)
  wo k j := A.wo (ix3 1 k j)
  g1 j := A.mod (ix3 ⟨r.val / 8192, by omega⟩ 2 j)
  sh j := A.mod (ix3 ⟨r.val / 8192, by omega⟩ 3 j)
  sc j := A.mod (ix3 ⟨r.val / 8192, by omega⟩ 4 j)
  g2 j := A.mod (ix3 ⟨r.val / 8192, by omega⟩ 5 j)
  n2 j := A.n2 (ix2 1 j)
  w1 k m := A.w1 (ix3 1 k m)
  w2 m j := A.w2 (ix3 1 m j)
  nf j := A.nf (ix1 j)

variable (A : Args) (b : Fin 4) (i : Fin 8192)

/-- The flat row. -/
abbrev rho (b : Fin 4) (i : Fin 8192) : Fin 32768 := ⟨b.val * 8192 + i.val, by omega⟩

theorem mod2 (j : Fin 1024) : val_main_v10 (F := Ideal) A.mod (ix3 b 0 j) = A.mod (ix3 b 2 j) := by
  pointwise [val_main_v10, val_main_v9, val_main_v8]

theorem mod3 (j : Fin 1024) : val_main_v13 (F := Ideal) A.mod (ix3 b 0 j) = A.mod (ix3 b 3 j) := by
  pointwise [val_main_v13, val_main_v12, val_main_v11]

theorem mod4 (j : Fin 1024) : val_main_v16 (F := Ideal) A.mod (ix3 b 0 j) = A.mod (ix3 b 4 j) := by
  pointwise [val_main_v16, val_main_v15, val_main_v14]

theorem mod5 (j : Fin 1024) : val_main_v19 (F := Ideal) A.mod (ix3 b 0 j) = A.mod (ix3 b 5 j) := by
  pointwise [val_main_v19, val_main_v18, val_main_v17]

theorem z_at (k : Fin 256) : val_main_v23 (F := Ideal) A.cv (ix3 b i k) = A.z (rho b i) k := by
  pointwise [val_main_v23, val_main_v22, val_main_v20, val_main_v3, val_main_v2]
  rfl

theorem conv_gate (k : Fin 256) : val_main_v21 (F := Ideal) A.cv (ix3 b i k) = A.cv (ix2 (rho b i) ⟨256 + k.val, by omega⟩) := by
  pointwise [val_main_v21, val_main_v3, val_main_v2]

theorem tap0 (k : Fin 256) : val_main_v29 (F := Ideal) A.cw (ix3 b i k) = A.cw (ix3 1 0 k) := by
  pointwise [val_main_v29, val_main_v28, val_main_v26, val_main_v25]

theorem tap1 (k : Fin 256) : val_main_v35 (F := Ideal) A.cw (ix3 b i k) = A.cw (ix3 1 1 k) := by
  pointwise [val_main_v35, val_main_v34, val_main_v32, val_main_v31]

theorem tap2 (k : Fin 256) : val_main_v42 (F := Ideal) A.cw (ix3 b i k) = A.cw (ix3 1 2 k) := by
  pointwise [val_main_v42, val_main_v41, val_main_v39, val_main_v38]

theorem width_word : Ideal.ofBits .f32 0x44800000#32 = ((1024 : ℝ) : EReal) := by
  simp [Ideal.ofBits, Ideal.ieee, -EReal.coe_mul]; norm_num

theorem no_int : (FloatOps.sitofp FTy.f32 0#32 : Ideal .f32) = (0 : EReal) := by
  show (((0#32 : BitVec 32).toInt : ℝ) : EReal) = 0
  simp

theorem in_batch : (⟨(rho b i).val / 8192, by omega⟩ : Fin 4) = b := Fin.ext (by have := i.isLt; show (b.val * 8192 + i.val) / 8192 = b.val; omega)

theorem row_g1 (j : Fin 1024) : (A.row (rho b i)).g1 j = A.mod (ix3 b 2 j) := congrArg (fun c => A.mod (ix3 c 2 j)) (in_batch b i)
theorem row_sh (j : Fin 1024) : (A.row (rho b i)).sh j = A.mod (ix3 b 3 j) := congrArg (fun c => A.mod (ix3 c 3 j)) (in_batch b i)
theorem row_sc (j : Fin 1024) : (A.row (rho b i)).sc j = A.mod (ix3 b 4 j) := congrArg (fun c => A.mod (ix3 c 4 j)) (in_batch b i)
theorem row_g2 (j : Fin 1024) : (A.row (rho b i)).g2 j = A.mod (ix3 b 5 j) := congrArg (fun c => A.mod (ix3 c 5 j)) (in_batch b i)

theorem pad_at (s : Fin 8194) (k : Fin 256) : val_main_v24 (F := Ideal) A.cv (ix3 b s k) =
    if h : 1 ≤ s.val ∧ s.val - 1 < 8192 then A.z (rho b ⟨s.val - 1, h.2⟩) k else 0 := by
  pointwise [val_main_v24, val_main_call0_v0, val_main_c]
  simp only [z_at, show (FloatOps.sitofp FTy.f32 0#32 : Ideal .f32) = (0 : EReal) from no_int]

theorem row_zp (r : Fin 32768) (k : Fin 256) : (A.row r).zp k = if h : 1 ≤ r.val % 8192 then A.z ⟨r.val - 1, by omega⟩ k else 0 := rfl
theorem row_zn (r : Fin 32768) (k : Fin 256) : (A.row r).zn k = if h : r.val % 8192 < 8191 then A.z ⟨r.val + 1, by omega⟩ k else 0 := rfl

theorem before (k : Fin 256) : val_main_v27 (F := Ideal) A.cv (ix3 b i k) = (A.row (rho b i)).zp k := by
  pointwise [val_main_v27]
  rw [pad_at, row_zp]
  have hi := i.isLt
  have e : (rho b i).val % 8192 = i.val := by show (b.val * 8192 + i.val) % 8192 = i.val; omega
  by_cases h : 1 ≤ i.val
  · have h1 : 1 ≤ (rho b i).val % 8192 := by rw [e]; exact h
    have h2 : i.val - 1 < 8192 := Nat.lt_of_le_of_lt (Nat.sub_le _ _) hi
    rw [dif_pos ⟨h, h2⟩, dif_pos h1]
    exact congrArg (fun r => A.z r k) (Fin.ext (by show b.val * 8192 + (i.val - 1) = b.val * 8192 + i.val - 1; omega))
  · have h1 : ¬ 1 ≤ (rho b i).val % 8192 := by rw [e]; exact h
    rw [dif_neg fun c => h c.1, dif_neg h1]

theorem here (k : Fin 256) : val_main_v33 (F := Ideal) A.cv (ix3 b i k) = (A.row (rho b i)).z k := by
  pointwise [val_main_v33]
  rw [pad_at]
  have hi := i.isLt
  refine (dif_pos ⟨by show 1 ≤ 1 + i.val; omega, by show 1 + i.val - 1 < 8192; omega⟩).trans ?_
  exact congrArg (fun r => A.z r k) (Fin.ext (by show b.val * 8192 + (1 + i.val - 1) = b.val * 8192 + i.val; omega))

theorem after (k : Fin 256) : val_main_v40 (F := Ideal) A.cv (ix3 b i k) = (A.row (rho b i)).zn k := by
  pointwise [val_main_v40]
  rw [pad_at, row_zn]
  have hi := i.isLt
  have e : (rho b i).val % 8192 = i.val := by show (b.val * 8192 + i.val) % 8192 = i.val; omega
  by_cases h : i.val < 8191
  · have h1 : (rho b i).val % 8192 < 8191 := by rw [e]; exact h
    refine (dif_pos ⟨by show 1 ≤ 2 + i.val; omega, by show 2 + i.val - 1 < 8192; omega⟩).trans (Eq.trans ?_ (dif_pos h1).symm)
    exact congrArg (fun r => A.z r k) (Fin.ext (by show b.val * 8192 + (2 + i.val - 1) = b.val * 8192 + i.val + 1; omega))
  · have h1 : ¬ (rho b i).val % 8192 < 8191 := by rw [e]; exact h
    rw [dif_neg fun c => h (by have : 2 + i.val - 1 < 8192 := c.2; omega), dif_neg h1]

theorem conv_at (k : Fin 256) : val_main_v45 (F := Ideal) A.cv A.cw (ix3 b i k) = (A.row (rho b i)).conv k := by
  pointwise [val_main_v45, val_main_v44, val_main_v43, val_main_v37, val_main_v36, val_main_v30]
  rw [conv_gate, tap0, tap1, tap2, before, here, after]
  rfl

theorem df_at (j : Fin 1024) : val_main_v55 (F := Ideal) A.f A.wf (ix3 b i j) = (A.row (rho b i)).df j := by
  pointwise [val_main_v55, val_main_v54, val_main_v53, val_main_v1]
  rfl

theorem dc_at (j : Fin 1024) : val_main_v66 (F := Ideal) A.cv A.cw A.wc (ix3 b i j) = (A.row (rho b i)).dc j := by
  pointwise [val_main_v66, val_main_v65, val_main_v64]
  simp only [conv_at]
  rfl

theorem da_at (j : Fin 1024) : val_main_v78 (F := Ideal) A.at' A.wa (ix3 b i j) = (A.row (rho b i)).da j := by
  pointwise [val_main_v78, val_main_v77, val_main_v76, val_main_v5, val_main_v4]
  rfl

theorem sig0 (j : Fin 1024) : val_main_v52 (F := Ideal) A.gt (ix3 b i j) = Layer.sig ((A.row (rho b i)).gf j) := by
  pointwise [val_main_v52, val_main_v51, val_main_v50, val_main_v49, val_main_v48, val_main_v47, val_main_v46, val_main_v7, val_main_v6, val_main_cst, val_main_cst_0]
  rfl

theorem sig1 (j : Fin 1024) : val_main_v63 (F := Ideal) A.gt (ix3 b i j) = Layer.sig ((A.row (rho b i)).gc j) := by
  pointwise [val_main_v63, val_main_v62, val_main_v61, val_main_v60, val_main_v59, val_main_v58, val_main_v57, val_main_v7, val_main_v6, val_main_cst_1, val_main_cst_2]
  rfl

theorem sig2 (j : Fin 1024) : val_main_v75 (F := Ideal) A.gt (ix3 b i j) = Layer.sig ((A.row (rho b i)).ga j) := by
  pointwise [val_main_v75, val_main_v74, val_main_v73, val_main_v72, val_main_v71, val_main_v70, val_main_v69, val_main_v7, val_main_v6, val_main_cst_3, val_main_cst_4]
  rfl

theorem mix_at (j : Fin 1024) : val_main_v80 (F := Ideal) A.f A.cv A.at' A.gt A.cw A.wf A.wc A.wa (ix3 b i j) = (A.row (rho b i)).mix j := by
  pointwise [val_main_v80, val_main_v79, val_main_v68, val_main_v67, val_main_v56]
  rw [sig0, sig1, sig2, df_at, dc_at, da_at]
  rfl

theorem mid_at (j : Fin 1024) : val_main_v86 (F := Ideal) A.x A.mod A.f A.cv A.at' A.gt A.cw A.wf A.wc A.wa A.wo (ix3 b i j) = (A.row (rho b i)).mid j := by
  pointwise [val_main_v86, val_main_v85, val_main_v84, val_main_v83, val_main_v82, val_main_v81, val_main_v0]
  simp only [mod2, mix_at]
  unfold Layer.Row.mid
  rw [row_g1]
  rfl

theorem sq_sum (v : FVec Ideal S4x8192x1024 .f32) (z : FVec Ideal S_ .f32) (hz : z ix0 = (0 : EReal)) :
    Host.reduceAdd v z reducesTo_S4x8192x1024_S4x8192_d2 h_S_ (ix2 b i) = ∑ k : Fin 1024, (v (ix3 b i k) : EReal) := by
  pointwise
  rw [show z (Shape.Idx.first h_S_) = (0 : EReal) from (congrArg z (funext fun a => a.elim0)).trans hz, zero_add]

theorem zero_at (z : FVec Ideal S_ .f32) (hz : z = constant S_ .f32 0x00000000#32) : z ix0 = (0 : EReal) := by
  subst hz
  pointwise

theorem mid_sq : val_main_v90 (F := Ideal) A.x A.mod A.f A.cv A.at' A.gt A.cw A.wf A.wc A.wa A.wo (ix2 b i) = ∑ k, (A.row (rho b i)).mid k * (A.row (rho b i)).mid k := by
  refine (sq_sum b i _ _ (zero_at _ rfl)).trans (Finset.sum_congr rfl fun k _ => ?_)
  pointwise [val_main_v89]
  rw [mid_at]

theorem hid_at (j : Fin 1024) : val_main_v107 (F := Ideal) A.x A.mod A.f A.cv A.at' A.gt A.cw A.wf A.wc A.wa A.wo A.n2 (ix3 b i j) = (A.row (rho b i)).hid j := by
  pointwise [val_main_v107, val_main_v106, val_main_v105, val_main_v104, val_main_v103, val_main_v102, val_main_v101, val_main_v100, val_main_v99, val_main_v98,
    val_main_v97, val_main_v96, val_main_v95, val_main_v94, val_main_v93, val_main_v92, val_main_v91, val_main_v88, val_main_v87, val_main_cst_6, val_main_cst_7, val_main_cst_8]
  rw [mid_at, mid_sq, mod3, mod4, width_word, ← row_sh A b i, ← row_sc A b i]
  rfl

theorem act_at (m : Fin 4096) : val_main_v112 (F := Ideal) A.x A.mod A.f A.cv A.at' A.gt A.cw A.wf A.wc A.wa A.wo A.n2 A.w1 (ix3 b i m) = (A.row (rho b i)).act m := by
  pointwise [val_main_v112, val_main_v111, val_main_v110, val_main_v109, val_main_v108, val_main_call1_v0, val_main_call1_cst]
  simp only [hid_at]
  rfl

theorem last_at (j : Fin 1024) : val_main_v118 (F := Ideal) A.x A.mod A.f A.cv A.at' A.gt A.cw A.wf A.wc A.wa A.wo A.n2 A.w1 A.w2 (ix3 b i j) = (A.row (rho b i)).last j := by
  pointwise [val_main_v118, val_main_v117, val_main_v116, val_main_v115, val_main_v114, val_main_v113]
  simp only [mod5, act_at]
  rw [mid_at, ← row_g2 A b i]
  rfl

theorem last_sq : val_main_v120 (F := Ideal) A.x A.mod A.f A.cv A.at' A.gt A.cw A.wf A.wc A.wa A.wo A.n2 A.w1 A.w2 (ix2 b i) = ∑ k, (A.row (rho b i)).last k * (A.row (rho b i)).last k := by
  refine (sq_sum b i _ _ (zero_at _ rfl)).trans (Finset.sum_congr rfl fun k _ => ?_)
  pointwise [val_main_v119]
  rw [last_at]

theorem out_at (j : Fin 1024) : val_main_v131 (F := Ideal) A.x A.mod A.f A.cv A.at' A.gt A.cw A.wf A.wc A.wa A.wo A.n2 A.w1 A.w2 A.nf (ix3 b i j) = (A.row (rho b i)).out j := by
  pointwise [val_main_v131, val_main_v130, val_main_v129, val_main_v128, val_main_v127, val_main_v126, val_main_v125, val_main_v124, val_main_v123, val_main_v122, val_main_v121,
    val_main_cst_10, val_main_cst_11]
  rw [last_at, last_sq, width_word]
  rfl

/-- The reference's result at a row. -/
theorem result (r : Fin 32768) (j : Fin 1024) :
    val_main_v132 (F := Ideal) A.x A.mod A.f A.cv A.at' A.gt A.cw A.wf A.wc A.wa A.wo A.n2 A.w1 A.w2 A.nf (ix2 r j) = (A.row r).out j := by
  have e : val_main_v132 (F := Ideal) A.x A.mod A.f A.cv A.at' A.gt A.cw A.wf A.wc A.wa A.wo A.n2 A.w1 A.w2 A.nf (ix2 r j)
      = val_main_v131 (F := Ideal) A.x A.mod A.f A.cv A.at' A.gt A.cw A.wf A.wc A.wa A.wo A.n2 A.w1 A.w2 A.nf (ix3 ⟨r.val / 8192, by omega⟩ ⟨r.val % 8192, by omega⟩ j) := by
    pointwise [val_main_v132]
  rw [e, out_at]
  exact congrArg (fun s => (A.row s).out j) (Fin.ext (by show r.val / 8192 * 8192 + r.val % 8192 = r.val; omega))

end Cert.MergeReferenceIdeal.Value

end
-- ==== Proof.MergeJoin.lean ====
module

public import proofs.«01_k».proof.Proof.MergeBlock
public import proofs.«01_k».proof.Proof.MergeRef
public import proofs.«01_k».proof.Proof.Gen.MergeIdeal.Value

@[expose] public section

set_option maxRecDepth 16384

/-! The launch's blocks among the arguments, and so the whole result: each of its rows is the layer's end on the row's data. -/

noncomputable section

namespace Cert.MergeIdeal.Join

open Cert.MergeIdeal Cert.MergeIdeal.Gen Cert.MergeIdeal.Blk Idealize.ShloMosaic Idealize.ShloMosaic.TcCoe Idealize.ShloMosaic.Tactic Idealize.SL.Sem Idealize.ShloMosaic.StableHlo

/-- The windows' block indices. -/
theorem idx : ∀ t : Fin cfg0.N,
    win0_0.index t = ![t.val, 0] ∧ win0_1.index t = ![t.val / 16, 0, 0] ∧ win0_2.index t = ![t.val, 0] ∧ win0_3.index t = ![t.val, 0] ∧
    win0_4.index t = ![32 * t.val - 1, 0] ∧ win0_5.index t = ![min (32 * t.val + 32) 2047, 0] ∧ win0_6.index t = ![t.val, 0] ∧ win0_7.index t = ![t.val, 0] ∧
    win0_8.index t = ![0, 0] ∧ win0_9.index t = ![1, 0, 0] ∧ win0_10.index t = ![1, 0, 0] ∧ win0_11.index t = ![1, 0, 0] ∧ win0_12.index t = ![1, 0, 0] ∧
    win0_13.index t = ![0, 0] ∧ win0_14.index t = ![1, 0, 0] ∧ win0_15.index t = ![1, 0, 0] ∧ win0_16.index t = ![0, 0] ∧ win0_17.index t = ![t.val, 0] := by
  decide +kernel

theorem coord : ∀ t : Fin cfg0.N, ((grid0.coords t) 0).val = t.val := by
  decide +kernel

theorem lt64 (t : Fin cfg0.N) : t.val < 64 := t.isLt

variable (m : (ℓ : Loc nD τ sig) → Buf (Elt Ideal) ℓ) (c : Dev nD) (t : Fin cfg0.N)

/-- The arguments. -/
def args : MergeReferenceIdeal.Value.Args where
  x := m ((c : Thread nD τ).loc main_arg0)
  mod := m ((c : Thread nD τ).loc main_arg1)
  f := m ((c : Thread nD τ).loc main_arg2)
  cv := m ((c : Thread nD τ).loc main_arg3)
  at' := m ((c : Thread nD τ).loc main_arg4)
  gt := m ((c : Thread nD τ).loc main_arg5)
  cw := m ((c : Thread nD τ).loc main_arg6)
  wf := m ((c : Thread nD τ).loc main_arg7)
  wc := m ((c : Thread nD τ).loc main_arg8)
  wa := m ((c : Thread nD τ).loc main_arg9)
  wo := m ((c : Thread nD τ).loc main_arg10)
  n2 := m ((c : Thread nD τ).loc main_arg11)
  w1 := m ((c : Thread nD τ).loc main_arg12)
  w2 := m ((c : Thread nD τ).loc main_arg13)
  nf := m ((c : Thread nD τ).loc main_arg14)

/-- A grid point's blocks. -/
def ins : Ins where
  x := iblk m c 0 t
  mod := iblk m c 1 t
  f := iblk m c 2 t
  cv := iblk m c 3 t
  pr := iblk m c 4 t
  nx := iblk m c 5 t
  at' := iblk m c 6 t
  gt := iblk m c 7 t
  cw := iblk m c 8 t
  wf := iblk m c 9 t
  wc := iblk m c 10 t
  wa := iblk m c 11 t
  wo := iblk m c 12 t
  n2 := iblk m c 13 t
  w1 := iblk m c 14 t
  w2 := iblk m c 15 t
  nf := iblk m c 16 t

/-! What the host hands the launch. -/

theorem v0 (j : Fin 1024) : (V m c main_v0 : Vec Ideal S1x1024 .f32) (ix2 0 j) = (args m c).nf (ix1 j) := by
  have e : (V m c main_v0 : Vec Ideal S1x1024 .f32) = shapeCast S1x1024 (args m c).nf shapeCasts_S1024_S1x1024 := by
    unfold_abbrev_sides
    after_results
    rfl
  rw [e]
  generalize (args m c).nf = a
  pointwise []

theorem v9 (j : Fin 1024) : (V m c main_v9 : Vec Ideal S1x1024 .f32) (ix2 0 j) = (args m c).n2 (ix2 1 j) := by
  have e : (V m c main_v9 : Vec Ideal S1x1024 .f32) = shapeCast S1x1024 (shapeCast S1024 (extractStridedSlice S1x1024 ![1, 0] (args m c).n2 slices_S2x1024_S1x1024_1_0) shapeCasts_S1x1024_S1024) shapeCasts_S1024_S1x1024 := by
    unfold_abbrev_sides
    after_results
    rfl
  rw [e]
  generalize (args m c).n2 = a
  pointwise []

theorem v11 (k : Fin 3) (j : Fin 256) : (V m c main_v11 : Vec Ideal S3x256 .f32) (ix2 k j) = (args m c).cw (ix3 1 k j) := by
  have e : (V m c main_v11 : Vec Ideal S3x256 .f32) = shapeCast S3x256 (extractStridedSlice S1x3x256 ![1, 0, 0] (args m c).cw slices_S2x3x256_S1x3x256_1_0_0) shapeCasts_S1x3x256_S3x256 := by
    unfold_abbrev_sides
    after_results
    rfl
  rw [e]
  generalize (args m c).cw = a
  pointwise []

theorem v1 : (V m c main_v1 : S2x256x1024.Idx → EReal) = (args m c).wf := by unfold_abbrev_sides; after_results; rfl
theorem v2 : (V m c main_v2 : S2x256x1024.Idx → EReal) = (args m c).wc := by unfold_abbrev_sides; after_results; rfl
theorem v3 : (V m c main_v3 : S2x512x1024.Idx → EReal) = (args m c).wa := by unfold_abbrev_sides; after_results; rfl
theorem v4 : (V m c main_v4 : S2x1024x1024.Idx → EReal) = (args m c).wo := by unfold_abbrev_sides; after_results; rfl
theorem v5 : (V m c main_v5 : S2x1024x4096.Idx → EReal) = (args m c).w1 := by unfold_abbrev_sides; after_results; rfl
theorem v6 : (V m c main_v6 : S2x4096x1024.Idx → EReal) = (args m c).w2 := by unfold_abbrev_sides; after_results; rfl

/-! The blocks. -/

theorem b0 (i : Fin 512) (j : Fin 1024) : (ins m c t).x (ix2 i j) = (args m c).x (ix2 ⟨t.val * 512 + i.val, by have := lt64 t; omega⟩ j) := by
  have e := (idx t).1
  have h : iblk m c 0 t (ix2 i j) = V m c main_arg0 (ix2 ⟨t.val * 512 + i.val, by have := lt64 t; omega⟩ j) := by blk_ext [iblk, e]
  exact h.trans (congrFun (V_main_arg0 m c) _)

theorem b1 (k : Fin 6) (j : Fin 1024) : (ins m c t).mod (ix3 0 k j) = (args m c).mod (ix3 ⟨t.val / 16, by have := lt64 t; omega⟩ k j) := by
  have e := (idx t).2.1
  have h : iblk m c 1 t (ix3 0 k j) = V m c main_arg1 (ix3 ⟨t.val / 16, by have := lt64 t; omega⟩ k j) := by blk_ext [iblk, e]
  exact h.trans (congrFun (V_main_arg1 m c) _)

theorem b2 (i : Fin 512) (j : Fin 256) : (ins m c t).f (ix2 i j) = (args m c).f (ix2 ⟨t.val * 512 + i.val, by have := lt64 t; omega⟩ j) := by
  have e := (idx t).2.2.1
  have h : iblk m c 2 t (ix2 i j) = V m c main_arg2 (ix2 ⟨t.val * 512 + i.val, by have := lt64 t; omega⟩ j) := by blk_ext [iblk, e]
  exact h.trans (congrFun (V_main_arg2 m c) _)

theorem b3 (i : Fin 512) (j : Fin 768) : (ins m c t).cv (ix2 i j) = (args m c).cv (ix2 ⟨t.val * 512 + i.val, by have := lt64 t; omega⟩ j) := by
  have e := (idx t).2.2.2.1
  have h : iblk m c 3 t (ix2 i j) = V m c main_arg3 (ix2 ⟨t.val * 512 + i.val, by have := lt64 t; omega⟩ j) := by blk_ext [iblk, e]
  exact h.trans (congrFun (V_main_arg3 m c) _)

theorem b4 (i : Fin 16) (j : Fin 768) : (ins m c t).pr (ix2 i j) = (args m c).cv (ix2 ⟨(32 * t.val - 1) * 16 + i.val, by have := lt64 t; omega⟩ j) := by
  have e := (idx t).2.2.2.2.1
  have h : iblk m c 4 t (ix2 i j) = V m c main_arg3 (ix2 ⟨(32 * t.val - 1) * 16 + i.val, by have := lt64 t; omega⟩ j) := by blk_ext [iblk, e]
  exact h.trans (congrFun (V_main_arg3 m c) _)

theorem b5 (i : Fin 16) (j : Fin 768) : (ins m c t).nx (ix2 i j) = (args m c).cv (ix2 ⟨min (32 * t.val + 32) 2047 * 16 + i.val, by have := lt64 t; omega⟩ j) := by
  have e := (idx t).2.2.2.2.2.1
  have h : iblk m c 5 t (ix2 i j) = V m c main_arg3 (ix2 ⟨min (32 * t.val + 32) 2047 * 16 + i.val, by have := lt64 t; omega⟩ j) := by blk_ext [iblk, e]
  exact h.trans (congrFun (V_main_arg3 m c) _)

theorem b6 (i : Fin 512) (j : Fin 512) : (ins m c t).at' (ix2 i j) = (args m c).at' (ix2 ⟨t.val * 512 + i.val, by have := lt64 t; omega⟩ j) := by
  have e := (idx t).2.2.2.2.2.2.1
  have h : iblk m c 6 t (ix2 i j) = V m c main_arg4 (ix2 ⟨t.val * 512 + i.val, by have := lt64 t; omega⟩ j) := by blk_ext [iblk, e]
  exact h.trans (congrFun (V_main_arg4 m c) _)

theorem b7 (i : Fin 512) (j : Fin 3072) : (ins m c t).gt (ix2 i j) = (args m c).gt (ix2 ⟨t.val * 512 + i.val, by have := lt64 t; omega⟩ j) := by
  have e := (idx t).2.2.2.2.2.2.2.1
  have h : iblk m c 7 t (ix2 i j) = V m c main_arg5 (ix2 ⟨t.val * 512 + i.val, by have := lt64 t; omega⟩ j) := by blk_ext [iblk, e]
  exact h.trans (congrFun (V_main_arg5 m c) _)

theorem b8 (k : Fin 3) (j : Fin 256) : (ins m c t).cw (ix2 k j) = (args m c).cw (ix3 1 k j) := by
  have e := (idx t).2.2.2.2.2.2.2.2.1
  have h : iblk m c 8 t (ix2 k j) = V m c main_v11 (ix2 k j) := by blk_ext [iblk, e]
  exact h.trans (v11 m c k j)

theorem b9 (k : Fin 256) (j : Fin 1024) : (ins m c t).wf (ix3 0 k j) = (args m c).wf (ix3 1 k j) := by
  have e := (idx t).2.2.2.2.2.2.2.2.2.1
  have h : iblk m c 9 t (ix3 0 k j) = V m c main_v1 (ix3 1 k j) := by blk_ext [iblk, e]
  exact h.trans (congrFun (v1 m c) _)

theorem b10 (k : Fin 256) (j : Fin 1024) : (ins m c t).wc (ix3 0 k j) = (args m c).wc (ix3 1 k j) := by
  have e := (idx t).2.2.2.2.2.2.2.2.2.2.1
  have h : iblk m c 10 t (ix3 0 k j) = V m c main_v2 (ix3 1 k j) := by blk_ext [iblk, e]
  exact h.trans (congrFun (v2 m c) _)

theorem b11 (k : Fin 512) (j : Fin 1024) : (ins m c t).wa (ix3 0 k j) = (args m c).wa (ix3 1 k j) := by
  have e := (idx t).2.2.2.2.2.2.2.2.2.2.2.1
  have h : iblk m c 11 t (ix3 0 k j) = V m c main_v3 (ix3 1 k j) := by blk_ext [iblk, e]
  exact h.trans (congrFun (v3 m c) _)

theorem b12 (k j : Fin 1024) : (ins m c t).wo (ix3 0 k j) = (args m c).wo (ix3 1 k j) := by
  have e := (idx t).2.2.2.2.2.2.2.2.2.2.2.2.1
  have h : iblk m c 12 t (ix3 0 k j) = V m c main_v4 (ix3 1 k j) := by blk_ext [iblk, e]
  exact h.trans (congrFun (v4 m c) _)

theorem b13 (j : Fin 1024) : (ins m c t).n2 (ix2 0 j) = (args m c).n2 (ix2 1 j) := by
  have e := (idx t).2.2.2.2.2.2.2.2.2.2.2.2.2.1
  have h : iblk m c 13 t (ix2 0 j) = V m c main_v9 (ix2 0 j) := by blk_ext [iblk, e]
  exact h.trans (v9 m c j)

theorem b14 (k : Fin 1024) (j : Fin 4096) : (ins m c t).w1 (ix3 0 k j) = (args m c).w1 (ix3 1 k j) := by
  have e := (idx t).2.2.2.2.2.2.2.2.2.2.2.2.2.2.1
  have h : iblk m c 14 t (ix3 0 k j) = V m c main_v5 (ix3 1 k j) := by blk_ext [iblk, e]
  exact h.trans (congrFun (v5 m c) _)

theorem b15 (k : Fin 4096) (j : Fin 1024) : (ins m c t).w2 (ix3 0 k j) = (args m c).w2 (ix3 1 k j) := by
  have e := (idx t).2.2.2.2.2.2.2.2.2.2.2.2.2.2.2.1
  have h : iblk m c 15 t (ix3 0 k j) = V m c main_v6 (ix3 1 k j) := by blk_ext [iblk, e]
  exact h.trans (congrFun (v6 m c) _)

theorem b16 (j : Fin 1024) : (ins m c t).nf (ix2 0 j) = (args m c).nf (ix1 j) := by
  have e := (idx t).2.2.2.2.2.2.2.2.2.2.2.2.2.2.2.2.1
  have h : iblk m c 16 t (ix2 0 j) = V m c main_v0 (ix2 0 j) := by blk_ext [iblk, e]
  exact h.trans (v0 m c j)

/-- The result's row of a block's row. -/
abbrev at_ (i : Fin 512) : Fin 32768 := ⟨t.val * 512 + i.val, by have := lt64 t; omega⟩

theorem mod_at (i : Fin 512) (k : Fin 6) (j : Fin 1024) : (ins m c t).mod (ix3 0 k j) = (args m c).mod (ix3 ⟨(at_ t i).val / 8192, by omega⟩ k j) :=
  (b1 m c t k j).trans (congrArg (fun b : Fin 4 => (args m c).mod (ix3 b k j)) (Fin.ext (by dsimp only; omega)))

/-! The convolution's input in the rows before and after, for any blocks that hold the arguments' rows. -/

/-- The result's row of a block's row, and the rows of the blocks before and after. -/
abbrev rowOf (n : ℕ) (hn : n < 64) (i : Fin 512) : Fin 32768 := ⟨n * 512 + i.val, by omega⟩
abbrev prevOf (n : ℕ) (hn : n < 64) (i : Fin 16) : Fin 32768 := ⟨(32 * n - 1) * 16 + i.val, by omega⟩
abbrev nextOf (n : ℕ) (hn : n < 64) (i : Fin 16) : Fin 32768 := ⟨min (32 * n + 32) 2047 * 16 + i.val, by omega⟩

section
variable (B : Ins) (A : MergeReferenceIdeal.Value.Args) (n : ℕ) (hn : n < 64)
  (h3 : ∀ (i : Fin 512) (j : Fin 768), B.cv (ix2 i j) = A.cv (ix2 (rowOf n hn i) j))

theorem z_of {r r' : Fin 32768} (h : r.val = r'.val) (k : Fin 256) : A.z r k = A.z r' k := by
  rw [Fin.ext h]

include h3

theorem z_eq (i : Fin 512) (k : Fin 256) : B.z i k = A.z (rowOf n hn i) k :=
  congrArg₂ (fun a b : EReal => a * b) (h3 i _) (h3 i _)

theorem zp_eq (h4 : ∀ (i : Fin 16) (j : Fin 768), B.pr (ix2 i j) = A.cv (ix2 (prevOf n hn i) j)) (i : Fin 512) (k : Fin 256) :
    (B.row n i).zp k = (A.row (rowOf n hn i)).zp k := by
  show (if i.val = 0 then (if n % 16 ≠ 0 then _ else 0) else _ : EReal) = if h : 1 ≤ (n * 512 + i.val) % 8192 then _ else 0
  by_cases h : i.val = 0
  · rw [if_pos h]
    by_cases h' : n % 16 ≠ 0
    · rw [if_pos h', dif_pos (by omega)]
      refine (congrArg₂ (fun a b : EReal => a * b) (h4 15 _) (h4 15 _)).trans (z_of A (r := prevOf n hn 15) ?_ k)
      show (32 * n - 1) * 16 + 15 = n * 512 + i.val - 1
      omega
    · rw [if_neg h', dif_neg (by omega)]
  · rw [if_neg h, dif_pos (by omega)]
    refine (z_eq B A n hn h3 _ k).trans (z_of A ?_ k)
    show n * 512 + (i.val + 511) % 512 = n * 512 + i.val - 1
    omega

theorem zn_eq (h5 : ∀ (i : Fin 16) (j : Fin 768), B.nx (ix2 i j) = A.cv (ix2 (nextOf n hn i) j)) (i : Fin 512) (k : Fin 256) :
    (B.row n i).zn k = (A.row (rowOf n hn i)).zn k := by
  show (if i.val = 511 then (if n % 16 ≠ 15 then _ else 0) else _ : EReal) = if h : (n * 512 + i.val) % 8192 < 8191 then _ else 0
  by_cases h : i.val = 511
  · rw [if_pos h]
    by_cases h' : n % 16 ≠ 15
    · rw [if_pos h', dif_pos (by omega)]
      refine (congrArg₂ (fun a b : EReal => a * b) (h5 0 _) (h5 0 _)).trans (z_of A (r := nextOf n hn 0) ?_ k)
      show min (32 * n + 32) 2047 * 16 + 0 = n * 512 + i.val + 1
      omega
    · rw [if_neg h', dif_neg (by omega)]
  · rw [if_neg h, dif_pos (by omega)]
    refine (z_eq B A n hn h3 _ k).trans (z_of A ?_ k)
    show n * 512 + (i.val + 1) % 512 = n * 512 + i.val + 1
    omega

end

/-- A block's row and the result's row have the same data when the blocks hold the arguments' entries. -/
theorem row_eq (B : Ins) (A : MergeReferenceIdeal.Value.Args) (n : ℕ) (i : Fin 512) (r : Fin 32768)
    (h0 : ∀ j, B.x (ix2 i j) = A.x (ix2 r j)) (h1 : ∀ k j, B.mod (ix3 0 k j) = A.mod (ix3 ⟨r.val / 8192, by omega⟩ k j)) (h2 : ∀ k, B.f (ix2 i k) = A.f (ix2 r k))
    (h3 : ∀ k, B.cv (ix2 i k) = A.cv (ix2 r k)) (hp : ∀ k, (B.row n i).zp k = (A.row r).zp k) (hn : ∀ k, (B.row n i).zn k = (A.row r).zn k)
    (h6 : ∀ k, B.at' (ix2 i k) = A.at' (ix2 r k)) (h7 : ∀ j, B.gt (ix2 i j) = A.gt (ix2 r j)) (h8 : ∀ k j, B.cw (ix2 k j) = A.cw (ix3 1 k j))
    (h9 : ∀ k j, B.wf (ix3 0 k j) = A.wf (ix3 1 k j)) (h10 : ∀ k j, B.wc (ix3 0 k j) = A.wc (ix3 1 k j)) (h11 : ∀ k j, B.wa (ix3 0 k j) = A.wa (ix3 1 k j))
    (h12 : ∀ k j, B.wo (ix3 0 k j) = A.wo (ix3 1 k j)) (h13 : ∀ j, B.n2 (ix2 0 j) = A.n2 (ix2 1 j)) (h14 : ∀ k j, B.w1 (ix3 0 k j) = A.w1 (ix3 1 k j))
    (h15 : ∀ k j, B.w2 (ix3 0 k j) = A.w2 (ix3 1 k j)) (h16 : ∀ j, B.nf (ix2 0 j) = A.nf (ix1 j)) : B.row n i = A.row r := by
  refine Layer.Row.ext (funext h0) (funext h2) (funext h6) (funext hp) (funext fun k => congrArg₂ (fun a b : EReal => a * b) (h3 _) (h3 _)) (funext hn) (funext fun k => h3 _)
    (funext fun k => h8 0 k) (funext fun k => h8 1 k) (funext fun k => h8 2 k) (funext fun j => h7 _) (funext fun j => h7 _) (funext fun j => h7 _)
    (funext fun k => funext fun j => h9 k j) (funext fun k => funext fun j => h10 k j) (funext fun k => funext fun j => h11 k j) (funext fun k => funext fun j => h12 k j)
    (funext fun j => h1 2 j) (funext fun j => h1 3 j) (funext fun j => h1 4 j) (funext fun j => h1 5 j) (funext h13)
    (funext fun k => funext fun j => h14 k j) (funext fun k => funext fun j => h15 k j) (funext h16)

theorem row_at (i : Fin 512) : (ins m c t).row t.val i = (args m c).row (at_ t i) :=
  row_eq _ _ _ _ _ (b0 m c t i) (mod_at m c t i) (b2 m c t i) (b3 m c t i) (zp_eq _ _ _ (lt64 t) (b3 m c t) (b4 m c t) i) (zn_eq _ _ _ (lt64 t) (b3 m c t) (b5 m c t) i) (b6 m c t i) (b7 m c t i) (b8 m c t) (b9 m c t) (b10 m c t)
    (b11 m c t) (b12 m c t) (b13 m c t) (b14 m c t) (b15 m c t) (b16 m c t)

/-- The result: each row the layer's end on the row's data. -/
def res (A : MergeReferenceIdeal.Value.Args) : Vec Ideal S32768x1024 .f32 := fun y => (A.row (y 0)).out (y 1)

theorem block_at (y0 : Fin 512) (y1 : Fin 1024) : outsAt0 m c t (ix2 y0 y1) = ((args m c).row (at_ t y0)).out y1 := by
  have hr := row_at m c t y0
  have e := out_eq m c t
  rw [coord] at e
  have e2 : outsAt0 m c t = leaves t.val (ins m c t).x (ins m c t).mod (ins m c t).f (ins m c t).cv (ins m c t).pr (ins m c t).nx (ins m c t).at' (ins m c t).gt (ins m c t).cw
      (ins m c t).wf (ins m c t).wc (ins m c t).wa (ins m c t).wo (ins m c t).n2 (ins m c t).w1 (ins m c t).w2 (ins m c t).nf := e
  generalize ins m c t = B at e2 hr
  rw [e2, ← hr]
  exact out_at B ⟨t.val, lt64 t⟩ y0 y1

/-- The launch leaves it. -/
theorem arr_eq : (dats m 0 c).arrAt 17 cfg0.N = res (args m c) := by
  refine (dats m 0 c).arrAt_eq_of_covers 17 _ (by decide +kernel) fun t hf y => ?_
  blk_simp
  rw [after0_17]
  have ht := lt64 t
  have e := (idx t).2.2.2.2.2.2.2.2.2.2.2.2.2.2.2.2.2
  change S512x1024.Idx at y
  obtain ⟨y0, y1, rfl⟩ : ∃ y0 y1, y = ix2 y0 y1 := ⟨_, _, eq_ix2 y⟩
  change Fin 512 at y0
  change Fin 1024 at y1
  have E : (win0_17.blk t).view.emb (ix2 y0 y1) = ix2 (at_ t y0) y1 := by
    blk_ext [e]
  rw [E]
  exact block_at m c t y0 y1

/-- The reference leaves it. -/
theorem ref_eq (A : MergeReferenceIdeal.Value.Args) : MergeReferenceIdeal.Read.val_main_v132 (F := Ideal) A.x A.mod A.f A.cv A.at' A.gt A.cw A.wf A.wc A.wa A.wo A.n2 A.w1 A.w2 A.nf = res A := by
  funext y
  change S32768x1024.Idx at y
  obtain ⟨y0, y1, rfl⟩ : ∃ y0 y1, y = ix2 y0 y1 := ⟨_, _, eq_ix2 y⟩
  exact MergeReferenceIdeal.Value.result A y0 y1

end Cert.MergeIdeal.Join

end
-- ==== Proof.ProjRef.lean ====
module

public import proofs.«01_k».proof.Proof.MergeHalf
public import proofs.«01_k».proof.Proof.Gen.ProjReferenceIdeal.Read
public import Idealize.ShloMosaic.Lib.Pointwise

@[expose] public section

set_option maxRecDepth 16384

/-! The layer's input projection: the modulated norm of a row, and its product with one column of the weights. The reference
is read an entry at a time. -/

noncomputable section

/-- A row's norm, scaled by `g` and modulated. -/
def Cert.Layer.modded (x g sc sh : Fin 1024 → EReal) (k : Fin 1024) : EReal := Cert.Layer.nrm x k * g k * (1 + sc k) + sh k

namespace Cert.ProjReferenceIdeal.Value

open Cert.ProjReferenceIdeal Cert.ProjReferenceIdeal.Gen Cert.ProjReferenceIdeal.Read Idealize.ShloMosaic Idealize.ShloMosaic.TcCoe Idealize.SL.Sem Idealize.ShloMosaic.StableHlo

/-- The arguments. -/
structure Args where
  x : Vec Ideal S32768x1024 .f32
  mod : Vec Ideal S4x6x1024 .f32
  g : Vec Ideal S2x1024 .f32
  w : Vec Ideal S2x1024x5632 .f32

/-- A row's input to the projection. -/
def Args.hid (A : Args) (r : Fin 32768) : Fin 1024 → EReal :=
  Layer.modded (fun j => A.x (ix2 r j)) (fun j => A.g (ix2 1 j)) (fun j => A.mod (ix3 ⟨r.val / 8192, by omega⟩ 1 j)) (fun j => A.mod (ix3 ⟨r.val / 8192, by omega⟩ 0 j))

/-- A row's projection at a column of the weights. -/
def Args.col (A : Args) (r : Fin 32768) (l : Fin 5632) : EReal := ∑ k, A.hid r k * A.w (ix3 1 k l)

variable (A : Args) (b : Fin 4) (i : Fin 8192)

/-- The flat row. -/
abbrev rho (b : Fin 4) (i : Fin 8192) : Fin 32768 := ⟨b.val * 8192 + i.val, by omega⟩

theorem in_batch : (⟨(rho b i).val / 8192, by omega⟩ : Fin 4) = b := Fin.ext (by have := i.isLt; show (b.val * 8192 + i.val) / 8192 = b.val; omega)

theorem shift (j : Fin 1024) : val_main_v3 (F := Ideal) A.mod (ix3 b 0 j) = A.mod (ix3 b 0 j) := by
  pointwise [val_main_v3, val_main_v2, val_main_v1]

theorem scale (j : Fin 1024) : val_main_v6 (F := Ideal) A.mod (ix3 b 0 j) = A.mod (ix3 b 1 j) := by
  pointwise [val_main_v6, val_main_v5, val_main_v4]

theorem stream (j : Fin 1024) : val_main_v0 (F := Ideal) A.x (ix3 b i j) = A.x (ix2 (rho b i) j) := by
  pointwise [val_main_v0]

theorem sq_sum (v : FVec Ideal S4x8192x1024 .f32) (z : FVec Ideal S_ .f32) (hz : z ix0 = (0 : EReal)) :
    Host.reduceAdd v z reducesTo_S4x8192x1024_S4x8192_d2 h_S_ (ix2 b i) = ∑ k : Fin 1024, (v (ix3 b i k) : EReal) := by
  pointwise
  rw [show z (Shape.Idx.first h_S_) = (0 : EReal) from (congrArg z (funext fun a => a.elim0)).trans hz, zero_add]

theorem zero_at (z : FVec Ideal S_ .f32) (hz : z = constant S_ .f32 0x00000000#32) : z ix0 = (0 : EReal) := by
  subst hz
  pointwise

theorem square : val_main_v8 (F := Ideal) A.x (ix2 b i) = ∑ k, (A.x (ix2 (rho b i) k) * A.x (ix2 (rho b i) k) : EReal) := by
  refine (sq_sum b i _ _ (zero_at _ rfl)).trans (Finset.sum_congr rfl fun k _ => ?_)
  pointwise [val_main_v7]
  rw [stream]

theorem hid_at (j : Fin 1024) : val_main_v27 (F := Ideal) A.x A.mod A.g (ix3 b i j) = A.hid (rho b i) j := by
  unfold Args.hid
  rw [in_batch b i]
  pointwise [val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_cst_0, val_main_cst_1, val_main_cst_2]
  rw [stream, square, shift, scale, Layer.width_word]
  rfl

theorem col_at (l : Fin 5632) : val_main_v30 (F := Ideal) A.x A.mod A.g A.w (ix3 b i l) = A.col (rho b i) l := by
  pointwise [val_main_v30, val_main_v29, val_main_v28]
  simp only [hid_at]
  rfl

/-- The projection at a flat row. -/
theorem flat (r : Fin 32768) (l : Fin 5632) : val_main_v31 (F := Ideal) A.x A.mod A.g A.w (ix2 r l) = A.col r l := by
  have e : val_main_v31 (F := Ideal) A.x A.mod A.g A.w (ix2 r l) = val_main_v30 (F := Ideal) A.x A.mod A.g A.w (ix3 ⟨r.val / 8192, by omega⟩ ⟨r.val % 8192, by omega⟩ l) := by
    pointwise [val_main_v31]
  rw [e, col_at]
  exact congrArg (fun s => A.col s l) (Fin.ext (by show r.val / 8192 * 8192 + r.val % 8192 = r.val; omega))

/-! The four results. -/

theorem fourier_at (r : Fin 32768) (l : Fin 256) : val_main_v32 (F := Ideal) A.x A.mod A.g A.w (ix2 r l) = A.col r ⟨0 + l.val, by omega⟩ := by
  pointwise [val_main_v32]
  exact flat A r _

theorem conv_at (r : Fin 32768) (l : Fin 768) : val_main_v36 (F := Ideal) A.x A.mod A.g A.w (ix2 r l) = A.col r ⟨256 + l.val, by omega⟩ := by
  pointwise [val_main_v36, val_main_v33]
  exact flat A r _

theorem attn_at (r : Fin 32768) (l : Fin 1536) : val_main_v37 (F := Ideal) A.x A.mod A.g A.w (ix2 r l) = A.col r ⟨1024 + l.val, by omega⟩ := by
  pointwise [val_main_v37, val_main_v34]
  exact flat A r _

theorem gates_at (r : Fin 32768) (l : Fin 3072) : val_main_v38 (F := Ideal) A.x A.mod A.g A.w (ix2 r l) = A.col r ⟨2560 + l.val, by omega⟩ := by
  pointwise [val_main_v38, val_main_v35]
  exact flat A r _

end Cert.ProjReferenceIdeal.Value

end
-- ==== Proof.ProjBlk.lean ====
module

public import proofs.«01_k».proof.Proof.ProjRef
public import proofs.«01_k».proof.Proof.Gen.ProjIdeal.Frame
public import Idealize.ShloMosaic.Lib.Pointwise
public import Idealize.ShloMosaic.Lib.Pipeline.ValueKit

@[expose] public section

set_option maxRecDepth 16384

/-! What a grid point leaves in its four output blocks: the projection of each of its rows, stored 512 columns at a time. -/

noncomputable section

namespace Cert.ProjIdeal.Blk

open Cert.ProjIdeal Cert.ProjIdeal.Gen Idealize.ShloMosaic Idealize.ShloMosaic.TcCoe Idealize.SL.Sem Idealize.ShloMosaic.StableHlo

variable {F : FTy → Type} [FloatOps F]

/-- The projection's input, from a point's blocks. -/
def hidden (x0 : Vec F S1024x1024 .f32) (x1 : Vec F S1x6x1024 .f32) (x2 : Vec F S1x1024 .f32) : FVec F S1024x1024 .bf16 :=
  k0_pay1 (View.ld x0 (Rect.unit (s := S1024x1024) ![0, 0] S1024x1024.size inb_S1024x1024_S1024x1024_0_0)) (View.ld x2 (Rect.unit (s := S1x1024) ![0, 0] S1x1024.size inb_S1x1024_S1x1024_0_0))
    (View.ld x1 (Rect.unit (s := S1x6x1024) ![0, 0, 0] S1x1x1024.size inb_S1x6x1024_S1x1x1024_0_0_0)) (View.ld x1 (Rect.unit (s := S1x6x1024) ![0, 1, 0] S1x1x1024.size inb_S1x6x1024_S1x1x1024_0_1_0))

/-- The weights' columns from column `o`. -/
abbrev cols (w o : ℕ) (h : o + w ≤ 5632) : Rect S1x1024x5632 :=
  Rect.unit ![0, 0, o] ![1, 1024, w] (by
    intro a
    match a with
    | ⟨0, _⟩ => exact Nat.le_refl 1
    | ⟨1, _⟩ => exact Nat.le_refl 1024
    | ⟨2, _⟩ => exact h)

/-- The projection's 512 columns from column `o`. -/
def tile (h : FVec F S1024x1024 .bf16) (x3 : Vec F S1x1024x5632 .bf16) (o : ℕ) (ho : o + 512 ≤ 5632) : FVec F S1024x512 .bf16 := k0_pay5 h (View.ld x3 (cols 512 o ho))

/-- The Fourier mixer's block. -/
def fourier (x0 : Vec F S1024x1024 .f32) (x1 : Vec F S1x6x1024 .f32) (x2 : Vec F S1x1024 .f32) (x3 : Vec F S1x1024x5632 .bf16) : Vec F S1024x256 .f32 :=
  View.canon [(⟨Rect.unit (s := S1024x256) ![0, 0] S1024x256.size inb_S1024x256_S1024x256_0_0, k0_pay2 (View.ld x0 (Rect.unit (s := S1024x1024) ![0, 0] S1024x1024.size inb_S1024x1024_S1024x1024_0_0)) (View.ld x2 (Rect.unit (s := S1x1024) ![0, 0] S1x1024.size inb_S1x1024_S1x1024_0_0))
      (View.ld x1 (Rect.unit (s := S1x6x1024) ![0, 0, 0] S1x1x1024.size inb_S1x6x1024_S1x1x1024_0_0_0)) (View.ld x1 (Rect.unit (s := S1x6x1024) ![0, 1, 0] S1x1x1024.size inb_S1x6x1024_S1x1x1024_0_1_0)) (View.ld x3 (cols 256 0 (by decide)))⟩ : View.Piece (Elt F) S1024x256 .f32)]

/-- The short convolution's block. -/
def conv (x0 : Vec F S1024x1024 .f32) (x1 : Vec F S1x6x1024 .f32) (x2 : Vec F S1x1024 .f32) (x3 : Vec F S1x1024x5632 .bf16) : Vec F S1024x768 .bf16 :=
  View.canon [(⟨Rect.unit (s := S1024x768) ![0, 512] S1024x256.size inb_S1024x768_S1024x256_0_512, k0_pay4 (hidden x0 x1 x2) (View.ld x3 (cols 256 768 (by decide)))⟩ : View.Piece (Elt F) S1024x768 .bf16),
    ⟨Rect.unit (s := S1024x768) ![0, 0] S1024x512.size inb_S1024x768_S1024x512_0_0, tile (hidden x0 x1 x2) x3 256 (by decide)⟩]

/-- The attention's block. -/
def attn (x0 : Vec F S1024x1024 .f32) (x1 : Vec F S1x6x1024 .f32) (x2 : Vec F S1x1024 .f32) (x3 : Vec F S1x1024x5632 .bf16) : Vec F S1024x1536 .bf16 :=
  View.canon [(⟨Rect.unit (s := S1024x1536) ![0, 1024] S1024x512.size inb_S1024x1536_S1024x512_0_1024, tile (hidden x0 x1 x2) x3 2048 (by decide)⟩ : View.Piece (Elt F) S1024x1536 .bf16),
    ⟨Rect.unit (s := S1024x1536) ![0, 512] S1024x512.size inb_S1024x1536_S1024x512_0_512, tile (hidden x0 x1 x2) x3 1536 (by decide)⟩,
    ⟨Rect.unit (s := S1024x1536) ![0, 0] S1024x512.size inb_S1024x1536_S1024x512_0_0, tile (hidden x0 x1 x2) x3 1024 (by decide)⟩]

/-- The branch gates' block. -/
def gates (x0 : Vec F S1024x1024 .f32) (x1 : Vec F S1x6x1024 .f32) (x2 : Vec F S1x1024 .f32) (x3 : Vec F S1x1024x5632 .bf16) : Vec F S1024x3072 .bf16 :=
  View.canon [(⟨Rect.unit (s := S1024x3072) ![0, 2560] S1024x512.size inb_S1024x3072_S1024x512_0_2560, tile (hidden x0 x1 x2) x3 5120 (by decide)⟩ : View.Piece (Elt F) S1024x3072 .bf16),
    ⟨Rect.unit (s := S1024x3072) ![0, 2048] S1024x512.size inb_S1024x3072_S1024x512_0_2048, tile (hidden x0 x1 x2) x3 4608 (by decide)⟩,
    ⟨Rect.unit (s := S1024x3072) ![0, 1536] S1024x512.size inb_S1024x3072_S1024x512_0_1536, tile (hidden x0 x1 x2) x3 4096 (by decide)⟩,
    ⟨Rect.unit (s := S1024x3072) ![0, 1024] S1024x512.size inb_S1024x3072_S1024x512_0_1024, tile (hidden x0 x1 x2) x3 3584 (by decide)⟩,
    ⟨Rect.unit (s := S1024x3072) ![0, 512] S1024x512.size inb_S1024x3072_S1024x512_0_512, tile (hidden x0 x1 x2) x3 3072 (by decide)⟩,
    ⟨Rect.unit (s := S1024x3072) ![0, 0] S1024x512.size inb_S1024x3072_S1024x512_0_0, tile (hidden x0 x1 x2) x3 2560 (by decide)⟩]

theorem load_eq {ι : Kind} {sp : Space} {s : Shape} {e : EltTy} (a : Memref sig ι sp s e) (h : a.IsWhole) (x : s.Idx → Elt F e) (r : Rect s) :
    View.readAt (Elt F) a.view r.toLoadRect (h.unread x) = View.ld x r := by
  have e1 : View.readAt (Elt F) a.view r.toLoadRect (h.unread x) = View.ld (a.view.read (Elt F) (h.unread x)) r := rfl
  rw [e1, Memref.IsWhole.read_unread]

variable (v24 : FVec F S1024x1024 .bf16) (v : Vec F S1x1024x512 .bf16)

theorem pay3 (v0 : Vec F S1024x1024 .f32) (v1 : Vec F S1x1024 .f32) (v3 v5 : Vec F S1x1x1024 .f32) : k0_pay3 v0 v1 v3 v5 v = k0_pay5 (k0_pay1 v0 v1 v3 v5) v := rfl
theorem pay6 : k0_pay6 v24 v = k0_pay5 v24 v := rfl
theorem pay7 : k0_pay7 v24 v = k0_pay5 v24 v := rfl
theorem pay8 : k0_pay8 v24 v = k0_pay5 v24 v := rfl
theorem pay9 : k0_pay9 v24 v = k0_pay5 v24 v := rfl
theorem pay10 : k0_pay10 v24 v = k0_pay5 v24 v := rfl
theorem pay11 : k0_pay11 v24 v = k0_pay5 v24 v := rfl
theorem pay12 : k0_pay12 v24 v = k0_pay5 v24 v := rfl
theorem pay13 : k0_pay13 v24 v = k0_pay5 v24 v := rfl

variable (m : (ℓ : Loc nD τ sig) → Buf (Elt F) ℓ) (c : Dev nD) (t : Fin cfg0.N)

theorem fourier_eq : (outsAt0 m c t).1 = fourier (iblk m c 0 t) (iblk m c 1 t) (iblk m c 2 t) (iblk m c 3 t) := by
  unfold outsAt0 out0_A_4
  dsimp only
  rw [View.read_writes_junk_eq_canon]
  unfold kernelRun0_A
  dsimp only
  simp only [load_eq]
  rfl

theorem conv_eq : (outsAt0 m c t).2.1 = conv (iblk m c 0 t) (iblk m c 1 t) (iblk m c 2 t) (iblk m c 3 t) := by
  unfold outsAt0 out0_A_5
  dsimp only
  rw [View.read_writes_junk_eq_canon]
  unfold kernelRun0_A
  dsimp only
  simp only [kernelRun0_A.sl.r, kernelRun0_A.sl.r_1, pay3, load_eq]
  rfl

theorem attn_eq : (outsAt0 m c t).2.2.1 = attn (iblk m c 0 t) (iblk m c 1 t) (iblk m c 2 t) (iblk m c 3 t) := by
  unfold outsAt0 out0_A_6
  dsimp only
  rw [View.read_writes_junk_eq_canon]
  unfold kernelRun0_A
  dsimp only
  simp only [kernelRun0_A.sl.r, pay6, pay7, load_eq]
  rfl

theorem gates_eq : (outsAt0 m c t).2.2.2 = gates (iblk m c 0 t) (iblk m c 1 t) (iblk m c 2 t) (iblk m c 3 t) := by
  unfold outsAt0 out0_A_7
  dsimp only
  rw [View.read_writes_junk_eq_canon]
  unfold kernelRun0_A
  dsimp only
  simp only [kernelRun0_A.sl.r, kernelRun0_A.sl.r_2, kernelRun0_A.sl.r_3, pay8, pay9, pay10, pay11, pay12, pay13, load_eq]
  rfl

end Cert.ProjIdeal.Blk

end
-- ==== Proof.ProjBlock.lean ====
module

public import proofs.«01_k».proof.Proof.ProjBlk
public import proofs.«01_k».proof.Proof.Loads

@[expose] public section

set_option maxRecDepth 16384

/-! A grid point's output blocks at an index: a row's projection at a column of the weights. -/

noncomputable section

namespace Cert.ProjIdeal.Blk

open Cert.ProjIdeal Cert.ProjIdeal.Gen Cert.Layer Idealize.ShloMosaic Idealize.ShloMosaic.TcCoe Idealize.SL.Sem Idealize.ShloMosaic.StableHlo

theorem pay1_at (v0 : Vec Ideal S1024x1024 .f32) (v1 : Vec Ideal S1x1024 .f32) (v3 v5 : Vec Ideal S1x1x1024 .f32) (i k : Fin 1024) :
    k0_pay1 v0 v1 v3 v5 (ix2 i k) = Layer.modded (fun j => v0 (ix2 i j)) (fun j => v1 (ix2 0 j)) (fun j => v5 (ix3 0 0 j)) (fun j => v3 (ix3 0 0 j)) k := by
  pointwise [k0_pay1]
  rw [Layer.width_word, ← mul_assoc]
  rfl

theorem pay5_at (v24 : FVec Ideal S1024x1024 .bf16) (v : Vec Ideal S1x1024x512 .bf16) (i : Fin 1024) (l : Fin 512) :
    k0_pay5 v24 v (ix2 i l) = ∑ k : Fin 1024, (v24 (ix2 i k) * v (ix3 0 k l) : EReal) := by
  pointwise [k0_pay5]

theorem pay4_at (v24 : FVec Ideal S1024x1024 .bf16) (v : Vec Ideal S1x1024x256 .bf16) (i : Fin 1024) (l : Fin 256) :
    k0_pay4 v24 v (ix2 i l) = ∑ k : Fin 1024, (v24 (ix2 i k) * v (ix3 0 k l) : EReal) := by
  pointwise [k0_pay4]

theorem pay2_at (v0 : Vec Ideal S1024x1024 .f32) (v1 : Vec Ideal S1x1024 .f32) (v3 v5 : Vec Ideal S1x1x1024 .f32) (v : Vec Ideal S1x1024x256 .bf16) (i : Fin 1024) (l : Fin 256) :
    k0_pay2 v0 v1 v3 v5 v (ix2 i l) = ∑ k : Fin 1024, (k0_pay1 v0 v1 v3 v5 (ix2 i k) * v (ix3 0 k l) : EReal) := by
  unfold k0_pay2
  generalize k0_pay1 v0 v1 v3 v5 = h
  pointwise []

/-- The input blocks of one grid point. -/
structure Ins where
  x : Vec Ideal S1024x1024 .f32
  mod : Vec Ideal S1x6x1024 .f32
  g : Vec Ideal S1x1024 .f32
  w : Vec Ideal S1x1024x5632 .bf16

/-- A row's input to the projection. -/
def Ins.hid (B : Ins) (i : Fin 1024) : Fin 1024 → EReal :=
  Layer.modded (fun j => B.x (ix2 i j)) (fun j => B.g (ix2 0 j)) (fun j => B.mod (ix3 0 1 j)) (fun j => B.mod (ix3 0 0 j))

/-- A row's projection at a column of the weights. -/
def Ins.col (B : Ins) (i : Fin 1024) (l : Fin 5632) : EReal := ∑ k, B.hid i k * B.w (ix3 0 k l)

variable (B : Ins)

theorem hidden_at (i k : Fin 1024) : hidden B.x B.mod B.g (ix2 i k) = B.hid i k := by
  unfold hidden Ins.hid
  rw [pay1_at]
  simp only [fun j => ld2 B.x 0 0 inb_S1024x1024_S1024x1024_0_0 i j i j (by omega) (by omega), fun j => ld2 B.g 0 0 inb_S1x1024_S1x1024_0_0 0 j 0 j rfl (by omega),
    fun j => ld3 B.mod 0 0 0 inb_S1x6x1024_S1x1x1024_0_0_0 0 0 j 0 0 j rfl rfl (by omega), fun j => ld3 B.mod 0 1 0 inb_S1x6x1024_S1x1x1024_0_1_0 0 0 j 0 1 j rfl rfl (by omega)]

/-- A sum of products with a piece of the weights. -/
theorem sum_at (w o : ℕ) (ho : o + w ≤ 5632) (i i' : Fin 1024) (l : Fin w) (b : Fin 5632) (hi : i'.val = i.val) (hb : b.val = o + l.val) :
    (∑ k : Fin 1024, (hidden B.x B.mod B.g (ix2 i k) * View.ld B.w (cols w o ho) (ix3 0 k l) : EReal)) = B.col i' b := by
  obtain rfl : i' = i := Fin.ext hi
  exact Finset.sum_congr rfl fun k _ => congrArg₂ (fun a b : EReal => a * b) (hidden_at B _ k) (ld3 B.w 0 0 o _ 0 k l 0 k b rfl (by omega) hb)

theorem tile_at (o : ℕ) (ho : o + 512 ≤ 5632) (i i' : Fin 1024) (l : Fin 512) (b : Fin 5632) (hi : i'.val = i.val) (hb : b.val = o + l.val) :
    tile (hidden B.x B.mod B.g) B.w o ho (ix2 i l) = B.col i' b := (pay5_at _ _ i l).trans (sum_at B 512 o ho i i' l b hi hb)

theorem fourier_at (i : Fin 1024) (l : Fin 256) : fourier B.x B.mod B.g B.w (ix2 i l) = B.col i ⟨0 + l.val, by omega⟩ := by
  unfold fourier
  have h2 : (![0, 0] : Fin 2 → ℕ) = fun _ => 0 := funext fun a => by fin_cases a <;> rfl
  rw [View.canon_unit_zero h2, pay2_at]
  exact sum_at B 256 0 _ i i l _ rfl rfl

theorem conv_at (y : S1024x768.Idx) : conv B.x B.mod B.g B.w y = B.col (y 0) ⟨256 + (y 1).val, by have : (y 1).val < 768 := (y 1).isLt; omega⟩ := by
  unfold conv
  refine View.canon_apply_of_pieces (Val := Elt Ideal) (e := .bf16) (fun y : S1024x768.Idx => B.col (y 0) ⟨256 + (y 1).val, by have : (y 1).val < 768 := (y 1).isLt; omega⟩) _ ?_ y
    (View.cover_of_tiledBy _ ![1024, 256] (by sl_kernel_rfl) y)
  intro pc hpc
  simp only [List.mem_cons, List.not_mem_nil, or_false] at hpc
  rcases hpc with rfl | rfl
  · intro x
    change S1024x256.Idx at x
    obtain ⟨i, l, rfl⟩ : ∃ i l, x = ix2 i l := ⟨_, _, eq_ix2 x⟩
    exact (pay4_at _ _ i l).trans (sum_at B 256 768 _ i _ l _ (by show 0 + 1 * i.val = i.val; omega) (by show 256 + (512 + 1 * l.val) = 768 + l.val; omega))
  · intro x
    change S1024x512.Idx at x
    obtain ⟨i, l, rfl⟩ : ∃ i l, x = ix2 i l := ⟨_, _, eq_ix2 x⟩
    exact tile_at B _ _ i _ l _ (by show 0 + 1 * i.val = i.val; omega) (by show 256 + (0 + 1 * l.val) = 256 + l.val; omega)

theorem attn_at (y : S1024x1536.Idx) : attn B.x B.mod B.g B.w y = B.col (y 0) ⟨1024 + (y 1).val, by have : (y 1).val < 1536 := (y 1).isLt; omega⟩ := by
  unfold attn
  refine View.canon_apply_of_pieces (Val := Elt Ideal) (e := .bf16) (fun y : S1024x1536.Idx => B.col (y 0) ⟨1024 + (y 1).val, by have : (y 1).val < 1536 := (y 1).isLt; omega⟩) _ ?_ y
    (View.cover_of_tiledBy _ ![1024, 512] (by sl_kernel_rfl) y)
  intro pc hpc
  simp only [List.mem_cons, List.not_mem_nil, or_false] at hpc
  rcases hpc with rfl | rfl | rfl
  all_goals
    intro x
    change S1024x512.Idx at x
    obtain ⟨i, l, rfl⟩ : ∃ i l, x = ix2 i l := ⟨_, _, eq_ix2 x⟩
    refine tile_at B _ _ i _ l _ (by show 0 + 1 * i.val = i.val; omega) ?_
    first | (show 1024 + (0 + 1 * l.val) = 1024 + l.val; omega) | (show 1024 + (512 + 1 * l.val) = 1536 + l.val; omega) | (show 1024 + (1024 + 1 * l.val) = 2048 + l.val; omega)

theorem gates_at (y : S1024x3072.Idx) : gates B.x B.mod B.g B.w y = B.col (y 0) ⟨2560 + (y 1).val, by have : (y 1).val < 3072 := (y 1).isLt; omega⟩ := by
  unfold gates
  refine View.canon_apply_of_pieces (Val := Elt Ideal) (e := .bf16) (fun y : S1024x3072.Idx => B.col (y 0) ⟨2560 + (y 1).val, by have : (y 1).val < 3072 := (y 1).isLt; omega⟩) _ ?_ y
    (View.cover_of_tiledBy _ ![1024, 512] (by sl_kernel_rfl) y)
  intro pc hpc
  simp only [List.mem_cons, List.not_mem_nil, or_false] at hpc
  rcases hpc with rfl | rfl | rfl | rfl | rfl | rfl
  all_goals
    intro x
    change S1024x512.Idx at x
    obtain ⟨i, l, rfl⟩ : ∃ i l, x = ix2 i l := ⟨_, _, eq_ix2 x⟩
    refine tile_at B _ _ i _ l _ (by show 0 + 1 * i.val = i.val; omega) ?_
    first | (show 2560 + (0 + 1 * l.val) = 2560 + l.val; omega) | (show 2560 + (512 + 1 * l.val) = 3072 + l.val; omega) | (show 2560 + (1024 + 1 * l.val) = 3584 + l.val; omega) | (show 2560 + (1536 + 1 * l.val) = 4096 + l.val; omega) | (show 2560 + (2048 + 1 * l.val) = 4608 + l.val; omega) | (show 2560 + (2560 + 1 * l.val) = 5120 + l.val; omega)

end Cert.ProjIdeal.Blk

end
-- ==== Proof.ProjJoin.lean ====
module

public import proofs.«01_k».proof.Proof.ProjBlock
public import proofs.«01_k».proof.Proof.Gen.ProjIdeal.Value

@[expose] public section

set_option maxRecDepth 16384

/-! The projection's blocks among the arguments, and so its four results. -/

noncomputable section

namespace Cert.ProjIdeal.Join

open Cert.ProjIdeal Cert.ProjIdeal.Gen Cert.ProjIdeal.Blk Idealize.ShloMosaic Idealize.ShloMosaic.TcCoe Idealize.ShloMosaic.Tactic Idealize.SL.Sem Idealize.ShloMosaic.StableHlo

open Cert.ProjReferenceIdeal.Value (Args)

/-- The windows' block indices. -/
theorem idx : ∀ t : Fin cfg0.N,
    win0_0.index t = ![t.val, 0] ∧ win0_1.index t = ![t.val / 8, 0, 0] ∧ win0_2.index t = ![0, 0] ∧ win0_3.index t = ![1, 0, 0] ∧
    win0_4.index t = ![t.val, 0] ∧ win0_5.index t = ![t.val, 0] ∧ win0_6.index t = ![t.val, 0] ∧ win0_7.index t = ![t.val, 0] := by
  decide +kernel

theorem lt32 (t : Fin cfg0.N) : t.val < 32 := t.isLt

variable (m : (ℓ : Loc nD τ sig) → Buf (Elt Ideal) ℓ) (c : Dev nD) (t : Fin cfg0.N)

/-- The arguments. -/
def args : Args where
  x := m ((c : Thread nD τ).loc main_arg0)
  mod := m ((c : Thread nD τ).loc main_arg1)
  g := m ((c : Thread nD τ).loc main_arg2)
  w := m ((c : Thread nD τ).loc main_arg3)

/-- A grid point's blocks. -/
def ins : Ins where
  x := iblk m c 0 t
  mod := iblk m c 1 t
  g := iblk m c 2 t
  w := iblk m c 3 t

/-! What the host hands the launch. -/

theorem v2 (j : Fin 1024) : (V m c main_v2 : Vec Ideal S1x1024 .f32) (ix2 0 j) = (args m c).g (ix2 1 j) := by
  have e : (V m c main_v2 : Vec Ideal S1x1024 .f32) = shapeCast S1x1024 (shapeCast S1024 (extractStridedSlice S1x1024 ![1, 0] (args m c).g slices_S2x1024_S1x1024_1_0) shapeCasts_S1x1024_S1024) shapeCasts_S1024_S1x1024 := by
    unfold_abbrev_sides
    after_results
    rfl
  rw [e]
  generalize (args m c).g = a
  pointwise []

theorem v3 : (V m c main_v3 : S2x1024x5632.Idx → EReal) = (args m c).w := by unfold_abbrev_sides; after_results; rfl

/-- The results' row of a block's row. -/
abbrev at_ (i : Fin 1024) : Fin 32768 := ⟨t.val * 1024 + i.val, by have := lt32 t; omega⟩

/-! The blocks. -/

theorem b0 (i : Fin 1024) (j : Fin 1024) : (ins m c t).x (ix2 i j) = (args m c).x (ix2 (at_ t i) j) := by
  have e := (idx t).1
  have h : iblk m c 0 t (ix2 i j) = V m c main_arg0 (ix2 (at_ t i) j) := by blk_ext [iblk, e]
  exact h.trans (congrFun (V_main_arg0 m c) _)

theorem b1 (i : Fin 1024) (k : Fin 6) (j : Fin 1024) : (ins m c t).mod (ix3 0 k j) = (args m c).mod (ix3 ⟨(at_ t i).val / 8192, by omega⟩ k j) := by
  have e := (idx t).2.1
  have ht := lt32 t
  have h : iblk m c 1 t (ix3 0 k j) = V m c main_arg1 (ix3 ⟨t.val / 8, by omega⟩ k j) := by blk_ext [iblk, e]
  exact (h.trans (congrFun (V_main_arg1 m c) _)).trans (congrArg (fun b : Fin 4 => (args m c).mod (ix3 b k j)) (Fin.ext (by dsimp only; omega)))

theorem b2 (j : Fin 1024) : (ins m c t).g (ix2 0 j) = (args m c).g (ix2 1 j) := by
  have e := (idx t).2.2.1
  have h : iblk m c 2 t (ix2 0 j) = V m c main_v2 (ix2 0 j) := by blk_ext [iblk, e]
  exact h.trans (v2 m c j)

theorem b3 (k : Fin 1024) (l : Fin 5632) : (ins m c t).w (ix3 0 k l) = (args m c).w (ix3 1 k l) := by
  have e := (idx t).2.2.2.1
  have h : iblk m c 3 t (ix3 0 k l) = V m c main_v3 (ix3 1 k l) := by blk_ext [iblk, e]
  exact h.trans (congrFun (v3 m c) _)

/-- A block's row and the results' row have the same projection when the blocks hold the arguments' entries. -/
theorem col_eq (B : Ins) (A : Args) (i : Fin 1024) (r : Fin 32768) (h0 : ∀ j, B.x (ix2 i j) = A.x (ix2 r j)) (h1 : ∀ k j, B.mod (ix3 0 k j) = A.mod (ix3 ⟨r.val / 8192, by omega⟩ k j))
    (h2 : ∀ j, B.g (ix2 0 j) = A.g (ix2 1 j)) (h3 : ∀ k l, B.w (ix3 0 k l) = A.w (ix3 1 k l)) (l : Fin 5632) : B.col i l = A.col r l := by
  have e : B.hid i = A.hid r := by
    unfold Ins.hid Args.hid
    rw [funext h0, funext (h1 0), funext (h1 1), funext h2]
  unfold Ins.col Args.col
  rw [e]
  exact Finset.sum_congr rfl fun k _ => congrArg (fun b : EReal => A.hid r k * b) (h3 k l)

theorem col_at (i : Fin 1024) (l : Fin 5632) : (ins m c t).col i l = (args m c).col (at_ t i) l :=
  col_eq _ _ _ _ (b0 m c t i) (b1 m c t i) (b2 m c t) (b3 m c t) l

/-- `n` columns of the projection from column `o`. -/
def part (A : Args) (o n : ℕ) (h : o + n ≤ 5632) : (⟨2, ![32768, n]⟩ : Shape).Idx → EReal :=
  fun y => A.col (y 0) ⟨o + (y 1).val, Nat.lt_of_lt_of_le (Nat.add_lt_add_left (y 1).isLt o) h⟩

/-! The launch leaves the four parts. -/

theorem fourier_block (i : Fin 1024) (l : Fin 256) : (outsAt0 m c t).1 (ix2 i l) = (args m c).col (at_ t i) ⟨0 + l.val, by omega⟩ := by
  have e : (outsAt0 m c t).1 = fourier (ins m c t).x (ins m c t).mod (ins m c t).g (ins m c t).w := fourier_eq m c t
  rw [e, ← col_at m c t]
  exact fourier_at (ins m c t) i l

theorem fourier_arr : (dats m 0 c).arrAt 4 cfg0.N = part (args m c) 0 256 (by decide) := by
  refine (dats m 0 c).arrAt_eq_of_covers 4 _ (by decide +kernel) fun t hf y => ?_
  blk_simp
  rw [after0_4]
  have ht := lt32 t
  have e := (idx t).2.2.2.2.1
  change S1024x256.Idx at y
  obtain ⟨i, l, rfl⟩ : ∃ i l, y = ix2 i l := ⟨_, _, eq_ix2 y⟩
  change Fin 1024 at i
  change Fin 256 at l
  have E : (win0_4.blk t).view.emb (ix2 i l) = ix2 (at_ t i) l := by
    blk_ext [e]
  rw [E]
  exact fourier_block m c t i l

theorem conv_block (i : Fin 1024) (l : Fin 768) : (outsAt0 m c t).2.1 (ix2 i l) = (args m c).col (at_ t i) ⟨256 + l.val, by omega⟩ := by
  have e : (outsAt0 m c t).2.1 = conv (ins m c t).x (ins m c t).mod (ins m c t).g (ins m c t).w := conv_eq m c t
  rw [e, ← col_at m c t]
  exact conv_at (ins m c t) (ix2 i l)

theorem conv_arr : (dats m 0 c).arrAt 5 cfg0.N = part (args m c) 256 768 (by decide) := by
  refine (dats m 0 c).arrAt_eq_of_covers 5 _ (by decide +kernel) fun t hf y => ?_
  blk_simp
  rw [after0_5]
  have ht := lt32 t
  have e := (idx t).2.2.2.2.2.1
  change S1024x768.Idx at y
  obtain ⟨i, l, rfl⟩ : ∃ i l, y = ix2 i l := ⟨_, _, eq_ix2 y⟩
  change Fin 1024 at i
  change Fin 768 at l
  have E : (win0_5.blk t).view.emb (ix2 i l) = ix2 (at_ t i) l := by
    blk_ext [e]
  rw [E]
  exact conv_block m c t i l

theorem attn_block (i : Fin 1024) (l : Fin 1536) : (outsAt0 m c t).2.2.1 (ix2 i l) = (args m c).col (at_ t i) ⟨1024 + l.val, by omega⟩ := by
  have e : (outsAt0 m c t).2.2.1 = attn (ins m c t).x (ins m c t).mod (ins m c t).g (ins m c t).w := attn_eq m c t
  rw [e, ← col_at m c t]
  exact attn_at (ins m c t) (ix2 i l)

theorem attn_arr : (dats m 0 c).arrAt 6 cfg0.N = part (args m c) 1024 1536 (by decide) := by
  refine (dats m 0 c).arrAt_eq_of_covers 6 _ (by decide +kernel) fun t hf y => ?_
  blk_simp
  rw [after0_6]
  have ht := lt32 t
  have e := (idx t).2.2.2.2.2.2.1
  change S1024x1536.Idx at y
  obtain ⟨i, l, rfl⟩ : ∃ i l, y = ix2 i l := ⟨_, _, eq_ix2 y⟩
  change Fin 1024 at i
  change Fin 1536 at l
  have E : (win0_6.blk t).view.emb (ix2 i l) = ix2 (at_ t i) l := by
    blk_ext [e]
  rw [E]
  exact attn_block m c t i l

theorem gates_block (i : Fin 1024) (l : Fin 3072) : (outsAt0 m c t).2.2.2 (ix2 i l) = (args m c).col (at_ t i) ⟨2560 + l.val, by omega⟩ := by
  have e : (outsAt0 m c t).2.2.2 = gates (ins m c t).x (ins m c t).mod (ins m c t).g (ins m c t).w := gates_eq m c t
  rw [e, ← col_at m c t]
  exact gates_at (ins m c t) (ix2 i l)

theorem gates_arr : (dats m 0 c).arrAt 7 cfg0.N = part (args m c) 2560 3072 (by decide) := by
  refine (dats m 0 c).arrAt_eq_of_covers 7 _ (by decide +kernel) fun t hf y => ?_
  blk_simp
  rw [after0_7]
  have ht := lt32 t
  have e := (idx t).2.2.2.2.2.2.2
  change S1024x3072.Idx at y
  obtain ⟨i, l, rfl⟩ : ∃ i l, y = ix2 i l := ⟨_, _, eq_ix2 y⟩
  change Fin 1024 at i
  change Fin 3072 at l
  have E : (win0_7.blk t).view.emb (ix2 i l) = ix2 (at_ t i) l := by
    blk_ext [e]
  rw [E]
  exact gates_block m c t i l

/-! The reference leaves them too. -/

theorem fourier_ref (A : Args) : ProjReferenceIdeal.Read.val_main_v32 (F := Ideal) A.x A.mod A.g A.w = part A 0 256 (by decide) := by
  funext y
  change S32768x256.Idx at y
  obtain ⟨r, l, rfl⟩ : ∃ r l, y = ix2 r l := ⟨_, _, eq_ix2 y⟩
  exact ProjReferenceIdeal.Value.fourier_at A r l

theorem conv_ref (A : Args) : ProjReferenceIdeal.Read.val_main_v36 (F := Ideal) A.x A.mod A.g A.w = part A 256 768 (by decide) := by
  funext y
  change S32768x768.Idx at y
  obtain ⟨r, l, rfl⟩ : ∃ r l, y = ix2 r l := ⟨_, _, eq_ix2 y⟩
  exact ProjReferenceIdeal.Value.conv_at A r l

theorem attn_ref (A : Args) : ProjReferenceIdeal.Read.val_main_v37 (F := Ideal) A.x A.mod A.g A.w = part A 1024 1536 (by decide) := by
  funext y
  change S32768x1536.Idx at y
  obtain ⟨r, l, rfl⟩ : ∃ r l, y = ix2 r l := ⟨_, _, eq_ix2 y⟩
  exact ProjReferenceIdeal.Value.attn_at A r l

theorem gates_ref (A : Args) : ProjReferenceIdeal.Read.val_main_v38 (F := Ideal) A.x A.mod A.g A.w = part A 2560 3072 (by decide) := by
  funext y
  change S32768x3072.Idx at y
  obtain ⟨r, l, rfl⟩ : ∃ r l, y = ix2 r l := ⟨_, _, eq_ix2 y⟩
  exact ProjReferenceIdeal.Value.gates_at A r l

end Cert.ProjIdeal.Join

end
-- ==== Proof.ModulRef.lean ====
module

public import proofs.«01_k».proof.Proof.MergeSpec
public import proofs.«01_k».proof.Proof.Gen.ModulReferenceIdeal.Read
public import Idealize.ShloMosaic.Lib.Pointwise

@[expose] public section

set_option maxRecDepth 16384

/-! The modulation: of every conditioning row, its entries gated by their own logistic, the product with one column of a
layer's weights, and that column's bias. The reference is read an entry at a time. -/

noncomputable section

/-- A row's product, gated entry by entry, with a column `w`, and the column's bias `b`. -/
def Cert.Layer.modOut (x w : Fin 1024 → EReal) (b : EReal) : EReal := (∑ k, (x k * Cert.Layer.sig (x k)) * w k) + b

namespace Cert.ModulReferenceIdeal.Value

open Cert.ModulReferenceIdeal Cert.ModulReferenceIdeal.Gen Cert.ModulReferenceIdeal.Read Idealize.ShloMosaic Idealize.ShloMosaic.TcCoe Idealize.SL.Sem Idealize.ShloMosaic.StableHlo

/-- The arguments. -/
structure Args where
  x : Vec Ideal S8x1024 .f32
  w : Vec Ideal S2x1024x6144 .f32
  b : Vec Ideal S2x6144 .f32

/-- Layer `l`'s modulation of row `i`, at column `n`. -/
def Args.out (A : Args) (l : Fin 2) (i : Fin 8) (n : Fin 6144) : EReal :=
  Layer.modOut (fun k => A.x (ix2 i k)) (fun k => A.w (ix3 l k n)) (A.b (ix2 l n))

variable (A : Args) (i : Fin 8) (n : Fin 6144)

theorem gated (k : Fin 1024) : val_main_v0 (F := Ideal) A.x (ix2 i k) = (A.x (ix2 i k) * Layer.sig (A.x (ix2 i k)) : EReal) := by
  pointwise [val_main_v0, val_main_call0_v5, val_main_call0_v4, val_main_call0_v3, val_main_call0_v2, val_main_call0_v1, val_main_call0_v0, val_main_call0_cst, val_main_call0_cst_0]
  rfl

/-- The reference gates the rows once a layer. -/
theorem gated_again (x : Vec Ideal S8x1024 .f32) : val_main_v9 (F := Ideal) x = val_main_v0 (F := Ideal) x := rfl

theorem first_at : val_main_v8 (F := Ideal) A.x A.w A.b (ix2 i n) = A.out 0 i n := by
  pointwise [val_main_v8, val_main_v7, val_main_v6, val_main_v5, val_main_v4, val_main_v3, val_main_v2, val_main_v1]
  simp only [gated]
  rfl

theorem second_at : val_main_v17 (F := Ideal) A.x A.w A.b (ix2 i n) = A.out 1 i n := by
  pointwise [val_main_v17, val_main_v16, val_main_v15, val_main_v14, val_main_v13, val_main_v12, val_main_v11, val_main_v10]
  simp only [gated_again, gated]
  rfl

/-- Both layers, one after the other. -/
theorem out_at (l : Fin 2) : val_main_v20 (F := Ideal) A.x A.w A.b (ix3 l i n) = A.out l i n := by
  match l with
  | ⟨0, _⟩ =>
    refine Eq.trans ?_ (first_at A i n)
    pointwise [val_main_v20, val_main_v18]
  | ⟨1, _⟩ =>
    refine Eq.trans ?_ (second_at A i n)
    pointwise [val_main_v20, val_main_v19]

end Cert.ModulReferenceIdeal.Value

end
-- ==== Proof.ModulJoin.lean ====
module

public import proofs.«01_k».proof.Proof.ModulRef
public import proofs.«01_k».proof.Proof.Loads
public import proofs.«01_k».proof.Proof.Gen.ModulIdeal.Value
public import Idealize.ShloMosaic.Lib.Pipeline.ValueKit

@[expose] public section

set_option maxRecDepth 16384

/-! The modulation's blocks: a grid point holds one layer's columns, 1536 at a time, of all the conditioning rows. -/

noncomputable section

namespace Cert.ModulIdeal.Join

open Cert.ModulIdeal Cert.ModulIdeal.Gen Cert.Layer Idealize.ShloMosaic Idealize.ShloMosaic.TcCoe Idealize.ShloMosaic.Tactic Idealize.SL.Sem Idealize.ShloMosaic.StableHlo

open Cert.ModulReferenceIdeal.Value (Args)

/-! A grid point's block at an index. -/

theorem pay_at (v0 : Vec Ideal S8x1024 .f32) (v9 : Vec Ideal S1x1024x1536 .f32) (v12 : Vec Ideal S1x1x1536 .f32) (i : Fin 8) (n : Fin 1536) :
    k0_pay1 v0 v9 v12 (ix3 0 i n) = Layer.modOut (fun k => v0 (ix2 i k)) (fun k => v9 (ix3 0 k n)) (v12 (ix3 0 0 n)) := by
  pointwise [k0_pay1]
  simp only [zero_sub]
  rfl

theorem out_at (x0 : Vec Ideal S8x1024 .f32) (x1 : Vec Ideal S1x1024x1536 .f32) (x2 : Vec Ideal S1x1x1536 .f32) (i : Fin 8) (n : Fin 1536) :
    out0_3 x0 x1 x2 (ix3 0 i n) = Layer.modOut (fun k => x0 (ix2 i k)) (fun k => x1 (ix3 0 k n)) (x2 (ix3 0 0 n)) := by
  have h2 : (![0, 0] : Fin 2 → ℕ) = fun _ => 0 := funext fun a => by fin_cases a <;> rfl
  have h3 : (![0, 0, 0] : Fin 3 → ℕ) = fun _ => 0 := funext fun a => by fin_cases a <;> rfl
  unfold out0_3
  rw [View.canon_unit_zero h3, View.ld_unit_zero h2, View.ld_unit_zero h3, View.ld_unit_zero h3]
  exact pay_at x0 x1 x2 i n

/-- The windows' block indices. -/
theorem idx : ∀ t : Fin cfg0.N, win0_0.index t = ![0, 0] ∧ win0_1.index t = ![t.val / 4, 0, t.val % 4] ∧ win0_2.index t = ![t.val / 4, 0, t.val % 4] ∧
    win0_3.index t = ![t.val / 4, 0, t.val % 4] := by
  decide +kernel

theorem lt8 (t : Fin cfg0.N) : t.val < 8 := t.isLt

variable (m : (ℓ : Loc nD τ sig) → Buf (Elt Ideal) ℓ) (c : Dev nD) (t : Fin cfg0.N)

/-- The arguments. -/
def args : Args where
  x := m ((c : Thread nD τ).loc main_arg0)
  w := m ((c : Thread nD τ).loc main_arg1)
  b := m ((c : Thread nD τ).loc main_arg2)

/-- The host hands the launch each layer's bias as a row. -/
theorem bias (l : Fin 2) (n : Fin 6144) : (V m c main_v0 : Vec Ideal S2x1x6144 .f32) (ix3 l 0 n) = (args m c).b (ix2 l n) := by
  have e : (V m c main_v0 : Vec Ideal S2x1x6144 .f32) = shapeCast S2x1x6144 (args m c).b shapeCasts_S2x6144_S2x1x6144 := by
    unfold_abbrev_sides
    after_results
    rfl
  rw [e]
  generalize (args m c).b = a
  pointwise []

/-- A point's layer, and the weights' column of a block's column. -/
abbrev lay : Fin 2 := ⟨t.val / 4, by have := lt8 t; omega⟩

abbrev col (n : Fin 1536) : Fin 6144 := ⟨t.val % 4 * 1536 + n.val, by omega⟩

theorem b0 (i : Fin 8) (k : Fin 1024) : (iblk m c 0 t : Vec Ideal S8x1024 .f32) (ix2 i k) = (args m c).x (ix2 i k) := by
  have e := (idx t).1
  have h : iblk m c 0 t (ix2 i k) = V m c main_arg0 (ix2 i k) := by blk_ext [iblk, e]
  exact h.trans (congrFun (V_main_arg0 m c) _)

theorem b1 (k : Fin 1024) (n : Fin 1536) : (iblk m c 1 t : Vec Ideal S1x1024x1536 .f32) (ix3 0 k n) = (args m c).w (ix3 (lay t) k (col t n)) := by
  have e := (idx t).2.1
  have ht := lt8 t
  have h : iblk m c 1 t (ix3 0 k n) = V m c main_arg1 (ix3 (lay t) k (col t n)) := by blk_ext [iblk, e]
  exact h.trans (congrFun (V_main_arg1 m c) _)

theorem b2 (n : Fin 1536) : (iblk m c 2 t : Vec Ideal S1x1x1536 .f32) (ix3 0 0 n) = (args m c).b (ix2 (lay t) (col t n)) := by
  have e := (idx t).2.2.1
  have ht := lt8 t
  have h : iblk m c 2 t (ix3 0 0 n) = V m c main_v0 (ix3 (lay t) 0 (col t n)) := by blk_ext [iblk, e]
  exact h.trans (bias m c _ _)

theorem block (i : Fin 8) (n : Fin 1536) : out0_3 (iblk m c 0 t) (iblk m c 1 t) (iblk m c 2 t) (ix3 0 i n) = (args m c).out (lay t) i (col t n) := by
  refine (out_at _ _ _ i n).trans ?_
  unfold Args.out
  rw [funext (b0 m c t i), funext fun k => b1 m c t k n, b2 m c t n]

/-- The whole modulation. -/
def res (A : Args) : S2x8x6144.Idx → EReal := fun y => A.out (y 0) (y 1) (y 2)

theorem arr_eq : (dats m 0 c).arrAt 3 cfg0.N = res (args m c) := by
  refine (dats m 0 c).arrAt_eq_of_covers 3 _ (by decide +kernel) fun t hf y => ?_
  blk_simp
  rw [after0_3]
  have ht := lt8 t
  have e := (idx t).2.2.2
  change S1x8x1536.Idx at y
  obtain ⟨a, i, n, rfl⟩ : ∃ a i n, y = ix3 a i n := ⟨_, _, _, eq_ix3 y⟩
  change Fin 1 at a
  change Fin 8 at i
  change Fin 1536 at n
  obtain rfl : a = 0 := Subsingleton.elim _ _
  have E : (win0_3.blk t).view.emb (ix3 0 i n) = ix3 (lay t) i (col t n) := by
    blk_ext [e]
  rw [E]
  exact block m c t i n

theorem ref_eq (A : Args) : ModulReferenceIdeal.Read.val_main_v20 (F := Ideal) A.x A.w A.b = res A := by
  funext y
  change S2x8x6144.Idx at y
  obtain ⟨l, i, n, rfl⟩ : ∃ l i n, y = ix3 l i n := ⟨_, _, _, eq_ix3 y⟩
  exact ModulReferenceIdeal.Value.out_at A i n l

end Cert.ModulIdeal.Join

end
-- ==== Proof.CtxRef.lean ====
module

public import proofs.«01_k».proof.Proof.RefValue
public import proofs.«01_k».proof.Proof.Finite
public import proofs.«01_k».proof.Proof.Gen.Pre_ctx_finite
public import proofs.«01_k».proof.Proof.Gen.CtxReferenceIdeal.Read
public import Idealize.ShloMosaic.Lib.ReduceAll

@[expose] public section

set_option maxRecDepth 16384

/-! The context tokens' attention among themselves, as one formula, and the reference read at an index. -/

noncomputable section

namespace Cert.CtxReferenceIdeal.Value

open Cert.CtxReferenceIdeal Cert.CtxReferenceIdeal.Gen Cert.CtxReferenceIdeal.Read Idealize.ShloMosaic Idealize.ShloMosaic.TcCoe Idealize.SL.Sem Idealize.ShloMosaic.StableHlo

variable (X : Vec Ideal S1024x1536 .bf16) (b : Fin 4) (h : Fin 8) (i : Fin 256)

/-- A row of the projections, and a head's lane of its part `s` (queries, keys, values). -/
abbrev row (b : Fin 4) (i : Fin 256) : Fin 1024 := ⟨b.val * 256 + i.val, by omega⟩

abbrev lane (s : Fin 3) (h : Fin 8) (d : Fin 64) : Fin 1536 := ⟨s.val * 512 + (h.val * 64 + d.val), by omega⟩

/-- The logit of a query and a key. -/
def logit (j : Fin 256) : EReal := (∑ d : Fin 64, X (ix2 (row b i) (lane 0 h d)) * X (ix2 (row b j) (lane 1 h d))) * ((1 / 8 : ℝ) : EReal)

/-- One output element. -/
def attn (d : Fin 64) : EReal := Soft.soft (logit X b h i) (fun j => X (ix2 (row b j) (lane 2 h d)))

/-- The queries and the keys are real numbers. -/
def Real' : Prop := ∀ (n : Fin 1024) (l : Fin 1536), l.val < 1024 → ∃ x : ℝ, X (ix2 n l) = x

variable {X}

theorem logit_real (hX : Real' X) (j : Fin 256) : ∃ x : ℝ, logit X b h i j = x := by
  obtain ⟨x, hx⟩ := Spec.sum_real (fun d : Fin 64 => hX (row b i) (lane 0 h d) (by show 0 * 512 + (h.val * 64 + d.val) < 1024; omega))
    (fun d : Fin 64 => hX (row b j) (lane 1 h d) (by show 1 * 512 + (h.val * 64 + d.val) < 1024; omega))
  exact ⟨x * (1 / 8), by rw [logit, hx, EReal.coe_mul]⟩

theorem logit_ne_top (hX : Real' X) (j : Fin 256) : logit X b h i j ≠ ⊤ := by
  obtain ⟨x, hx⟩ := logit_real b h i hX j
  rw [hx]
  exact EReal.coe_ne_top x

theorem logit_ne_bot (hX : Real' X) : ∃ j, logit X b h i j ≠ ⊥ := by
  obtain ⟨x, hx⟩ := logit_real b h i hX 0
  exact ⟨0, by rw [hx]; exact EReal.coe_ne_bot x⟩

theorem q_at (d : Fin 64) : val_main_v2 (F := Ideal) X (ix4 b i h d) = X (ix2 (row b i) (lane 0 h d)) := by
  pointwise [val_main_v2, val_main_v1, val_main_v0]
  all_goals exact congrArg X (congrArg (ix2 _) (Fin.ext (by show h.val * 64 + d.val = 0 * 512 + (h.val * 64 + d.val); omega)))

theorem k_at (d : Fin 64) : val_main_v4 (F := Ideal) X (ix4 b i h d) = X (ix2 (row b i) (lane 1 h d)) := by
  pointwise [val_main_v4, val_main_v3, val_main_v0]
  rfl

theorem v_at (d : Fin 64) : val_main_v6 (F := Ideal) X (ix4 b i h d) = X (ix2 (row b i) (lane 2 h d)) := by
  pointwise [val_main_v6, val_main_v5, val_main_v0]
  rfl

theorem logit_at (j : Fin 256) : val_main_v9 (F := Ideal) X (ix4 b h i j) = logit X b h i j := by
  pointwise [val_main_v9, val_main_v8, val_main_v7, val_main_cst]
  rw [ReferenceIdeal.Value.eighth]
  simp only [q_at, k_at, logit]

theorem rowMax (v : FVec Ideal S4x8x256x256 .f32) (z : FVec Ideal S_ .f32) :
    Host.reduce FloatOps.maximumf v z reducesTo_S4x8x256x256_S4x8x256_d3 h_S_ (ix3 b h i)
      = Finset.fold max (z (Shape.Idx.first h_S_)) (fun x => v (ix4 b h i x)) Finset.univ := by
  rw [Host.reduce_eq_fold, Shape.ReducesTo.fold_fiber_r4_a3]
  exact ReferenceIdeal.Value.fold_maximumf _ _ _

theorem max_at (a v : FVec Ideal S4x8x256 .f32) (y : S4x8x256.Idx) (m : EReal) (ha : a y = (⊥ : EReal)) (hv : v y = m) : maximumf a v y = m := by
  have : maximumf a v y = max (a y : EReal) (v y : EReal) := rfl
  rw [this, ha, hv]
  exact max_eq_right bot_le

theorem max_all (hX : Real' X) : ∃ m : ℝ, val_main_v12 (F := Ideal) X (ix3 b h i) = m := by
  obtain ⟨m, hm⟩ := Soft.fold_max_real (logit_ne_top b h i hX) (logit_ne_bot b h i hX)
  refine ⟨m, max_at _ _ _ _ ReferenceIdeal.Value.bottom ?_⟩
  exact (ReferenceIdeal.Value.fold_eq (rowMax b h i (val_main_v9 (F := Ideal) X) (val_main_cst_0 (F := Ideal))) ReferenceIdeal.Value.bottom fun x => logit_at b h i x).trans hm

theorem prob (hX : Real' X) (j : Fin 256) : val_main_v20 (F := Ideal) X (ix4 b h i j) =
    ((Soft.wt (logit X b h i j) / ∑ k, Soft.wt (logit X b h i k) : ℝ) : EReal) := by
  obtain ⟨m, hm⟩ := max_all b h i hX
  pointwise [val_main_v20, val_main_v19, val_main_v18, val_main_v17, val_main_v16, val_main_v15, val_main_v14, val_main_v13, val_main_cst_2]
  simp only [logit_at, hm]
  rw [← Soft.early_eq (logit_ne_top b h i hX) (logit_ne_bot b h i hX) m j]

theorem attn_at (hX : Real' X) (d : Fin 64) : val_main_v22 (F := Ideal) X (ix4 b i h d) = attn X b h i d := by
  pointwise [val_main_v22, val_main_v21]
  simp only [prob b h i hX, v_at]
  exact Finset.sum_congr rfl fun j _ => mul_comm _ _

/-- The whole output, a row for each token and a lane for each head and depth. -/
def out (X : Vec Ideal S1024x1536 .bf16) : S1024x512.Idx → EReal := fun y =>
  have h0 : (y 0).val < 1024 := (y 0).isLt
  have h1 : (y 1).val < 512 := (y 1).isLt
  attn X ⟨(y 0).val / 256, by omega⟩ ⟨(y 1).val / 64, by omega⟩ ⟨(y 0).val % 256, by omega⟩ ⟨(y 1).val % 64, by omega⟩

theorem result (hX : Real' X) : val_main_v24 (F := Ideal) X = out X := by
  funext y
  idx_vars y
  have e : val_main_v24 (F := Ideal) X (ix2 y0 y1) = val_main_v22 (F := Ideal) X (ix4 ⟨y0.val / 256, by omega⟩ ⟨y0.val % 256, by omega⟩ ⟨y1.val / 64, by omega⟩ ⟨y1.val % 64, by omega⟩) := by
    pointwise [val_main_v24, val_main_v23]
  rw [e, attn_at _ _ _ hX]
  rfl

theorem part (v : FVec Ideal S1024x1536 .bf16) (n : Fin 1024) (l : Fin 1536) (hl : l.val < 1024) :
    extf .f32 (extractStridedSlice Pre_ctx_finite.S1024x1024 ![0, 0] v Pre_ctx_finite.Facts.slices_S1024x1536_S1024x1024_0_0) Pre_ctx_finite.Facts.bitsLt_bf16_f32 (ix2 n ⟨l.val, hl⟩) = v (ix2 n l) := by
  pointwise

/-- What the precondition says. -/
theorem real_of_pre (h : Pre_ctx_finite.fn (F := Ideal) X = fun _ => 1#1) : Real' X := by
  have h0 := congrFun h (fun i => i.elim0)
  simp only [Pre_ctx_finite.fn] at h0
  exact fun n l hl => part X n l hl ▸ Finite.elt _ _ _ (Host.reduce_andi_all _ _ _ _ _ h0 (ix2 n ⟨l.val, hl⟩))

end Cert.CtxReferenceIdeal.Value

end
-- ==== Proof.CtxBlock.lean ====
module

public import proofs.«01_k».proof.Proof.AttnBlock
public import proofs.«01_k».proof.Proof.Gen.CtxIdeal.Frame

@[expose] public section

set_option maxRecDepth 16384

/-! The block that one grid point of the context tokens' attention writes: eight heads, two to a group of 128 lanes. -/

noncomputable section

namespace Cert.CtxIdeal.Blk

open Cert.CtxIdeal Cert.CtxIdeal.Gen Idealize.ShloMosaic Idealize.ShloMosaic.TcCoe Idealize.SL.Sem
open Cert.KernelIdeal.Attn (own off ownQ pw quot kvRect dot Fin' ownQ_apply select_ofBool sum_own pw_apply quot_apply dot_real kv_ld)

section
variable {F : FTy → Type} [FloatOps F] [Named F]

/-- The scaled queries of one head, zero on the other head's lanes. -/
def qm (hi : Bool) (q : Vec F S256x128 .bf16) : FVec F S256x128 .bf16 :=
  select (ownQ hi) (truncf .bf16 (mulf (extf .f32 q bitsLt_bf16_f32) (broadcast S256x128 (Named.named κ "qscale" 0x3E38AA3B#32))) bitsLt_bf16_f32)
    (broadcast S256x128 (Scalar.ofBits .bf16 0x0000#16))

/-- The logits. -/
def lc (hi : Bool) (q k : Vec F S256x128 .bf16) : FVec F S256x256 .f32 :=
  matmul dot_S256x128_S256x128_S256x256_1_1_0_0_n_n none (qm hi q) k (constant S256x256 .f32 0x00000000#32)

/-- Their row maxima. -/
def mx (s : FVec F S256x256 .f32) : FVec F S256x1 .f32 :=
  shapeCast S256x1 (multiReduction .maximumf [1] S256 s 0xFF800000#32 reduces_S256x256_S256 (.inl rfl) rfl) shapeCasts_S256_S256x1

/-- The weights times the values, and (on the other head's lanes) times one. -/
def acc (hi : Bool) (s : FVec F S256x256 .f32) (v : Vec F S256x128 .bf16) : FVec F S256x128 .f32 :=
  matmul dot_S256x256_S256x128_S256x128_1_0_0_1_n_n none (pw (mx s) s) (select (ownQ hi) v (broadcast S256x128 (Scalar.ofBits .bf16 0x3F80#16)))
    (constant S256x128 .f32 0x00000000#32)

/-- One head's output on its own lanes. -/
def head (hi : Bool) (q k v : Vec F S256x128 .bf16) : FVec F S256x128 .f32 := quot (acc hi (lc hi q k) v)

/-- A head pair. -/
def pair (q k v : Vec F S256x128 .bf16) : Vec F S256x128 .bf16 := truncf .bf16 (select (ownQ false) (head false q k v) (head true q k v)) bitsLt_bf16_f32

/-- The block is the four head pairs. -/
theorem out_eq (x0 x1 x2 : Vec F S256x512 .bf16) : out0_3 x0 x1 x2 = View.canon ((List.finRange 4).reverse.map fun p =>
    (⟨kvRect p, pair (View.ld x0 (kvRect p)) (View.ld x1 (kvRect p)) (View.ld x2 (kvRect p))⟩ : View.Piece (Elt F) S256x512 .bf16)) := by
  unfold_out out0_3
  rfl

/-- The whole block. -/
def whole (x0 x1 x2 : Vec F S256x512 .bf16) : S256x512.Idx → Elt F .bf16 := fun y =>
  have h0 : (y 0).val < 256 := (y 0).isLt
  have h1 : (y 1).val < 512 := (y 1).isLt
  pair (View.ld x0 (kvRect ⟨(y 1).val / 128, by omega⟩)) (View.ld x1 (kvRect ⟨(y 1).val / 128, by omega⟩)) (View.ld x2 (kvRect ⟨(y 1).val / 128, by omega⟩))
    (ix2 (y 0) ⟨(y 1).val % 128, by omega⟩)

theorem pair_at (x0 x1 x2 : Vec F S256x512 .bf16) {p p' : Fin 4} {i i' : Fin 256} {l l' : Fin 128} (hp : p.val = p'.val) (hi : i.val = i'.val) (hl : l.val = l'.val) :
    pair (View.ld x0 (kvRect p)) (View.ld x1 (kvRect p)) (View.ld x2 (kvRect p)) (ix2 i l) = pair (View.ld x0 (kvRect p')) (View.ld x1 (kvRect p')) (View.ld x2 (kvRect p')) (ix2 i' l') := by
  rw [Fin.ext hp, Fin.ext hi, Fin.ext hl]

theorem out_whole (x0 x1 x2 : Vec F S256x512 .bf16) (y : S256x512.Idx) : out0_3 x0 x1 x2 y = whole x0 x1 x2 y := by
  rw [out_eq]
  refine View.canon_apply_of_pieces (Val := Elt F) (e := .bf16) (whole x0 x1 x2) _ ?_ y ?_
  · intro pc hpc
    obtain ⟨p, -, rfl⟩ := List.mem_map.mp hpc
    intro x
    change S256x128.Idx at x
    obtain ⟨i, l, rfl⟩ : ∃ i l, x = ix2 i l := ⟨_, _, eq_ix2 x⟩
    change Fin 256 at i
    change Fin 128 at l
    have hl := l.isLt
    refine pair_at x0 x1 x2 ?_ ?_ ?_
    · show p.val = (128 * p.val + 1 * l.val) / 128
      omega
    · show i.val = 0 + 1 * i.val
      omega
    · show l.val = (128 * p.val + 1 * l.val) % 128
      omega
  · have h0 : (y 0).val < 256 := (y 0).isLt
    have h1 : (y 1).val < 512 := (y 1).isLt
    refine ⟨_, List.mem_map.mpr ⟨⟨(y 1).val / 128, by omega⟩, by simp, rfl⟩, ?_⟩
    dsimp only
    rw [Rect.mem_set_unit]
    intro a
    fin_cases a <;> simp <;> omega
end

theorem qscale_eq : (Named.named κ "qscale" 0x3E38AA3B#32 : Ideal .f32) = (((1 / 8) * (Real.log 2)⁻¹ : ℝ) : EReal) :=
  IdealRules.named_const.ideal_named_scalar _ _ _ _ rfl

/-- The logits are those of the neighbourhood attention's context keys. -/
theorem lc_eq (hi : Bool) (q k : Vec Ideal S256x128 .bf16) : lc hi q k = KernelIdeal.Attn.lc hi q k := by
  unfold lc qm KernelIdeal.Attn.lc KernelIdeal.Attn.qm
  rw [qscale_eq, KernelIdeal.Attn.qscale_eq]
  rfl

theorem mx_apply (s : FVec Ideal S256x256 .f32) (i : Fin 256) (hs : ∀ j, ∃ r : ℝ, s (ix2 i j) = r) : ∃ m : ℝ, mx s (ix2 i 0) = m := by
  pointwise [mx]
  rw [show Ideal.ofBits FTy.f32 4286578688#32 = (⊥ : EReal) from by decide +kernel]
  refine Soft.fold_max_real (fun j => ?_) ⟨0, ?_⟩
  · obtain ⟨r, hr⟩ := hs j
    rw [hr]
    exact EReal.coe_ne_top r
  · obtain ⟨r, hr⟩ := hs 0
    rw [hr]
    exact EReal.coe_ne_bot r

theorem acc_apply (hi : Bool) (s : FVec Ideal S256x256 .f32) (v : Vec Ideal S256x128 .bf16) (i : Fin 256) (l : Fin 128) :
    acc hi s v (ix2 i l) = ∑ x : Fin 256, Ideal.exp2 (s (ix2 i x) - mx s (ix2 i 0)) * (if own hi l.val then v (ix2 x l) else 1) := by
  pointwise [acc]
  refine Finset.sum_congr rfl fun x _ => ?_
  rw [ownQ_apply, select_ofBool]
  simp only [pw_apply]

/-- A head's output on its own lanes is the softmax-weighted sum of the values. -/
theorem head_apply (hi : Bool) (q k v : Vec Ideal S256x128 .bf16) (hq : Fin' q) (hk : Fin' k) (i : Fin 256) (l : Fin 128) (hl : own hi l.val = true) :
    head hi q k v (ix2 i l) = Soft.soft (fun j => dot hi q k i j * ((1 / 8 : ℝ) : EReal)) (fun j => v (ix2 j l)) := by
  have hr : ∀ j, ∃ r : ℝ, dot hi q k i j * ((1 / 8 : ℝ) : EReal) = r := fun j => by
    obtain ⟨r, hr⟩ := dot_real hi hq hk i j
    exact ⟨r * (1 / 8), by rw [hr, EReal.coe_mul]⟩
  have hs : ∀ j, lc hi q k (ix2 i j) = dot hi q k i j * ((1 / 8 : ℝ) : EReal) * (((Real.log 2)⁻¹ : ℝ) : EReal) := fun j => by
    rw [lc_eq]
    exact KernelIdeal.Attn.lc_apply hi hq hk i j
  obtain ⟨m, hm⟩ := mx_apply (lc hi q k) i fun j => by
    obtain ⟨r, h⟩ := hr j
    exact ⟨r * (Real.log 2)⁻¹, by rw [hs, h, EReal.coe_mul]⟩
  have hl' : own hi ((l.val + 128 - 64) % 128) = false := by
    have := l.isLt
    cases hi
    · simp [own] at hl ⊢; omega
    · simp [own] at hl ⊢; omega
  unfold head
  rw [quot_apply, acc_apply, acc_apply, hm]
  simp only [hs, hl, hl', if_true, Bool.false_eq_true, if_false, mul_one]
  refine Soft.late_eq _ (fun j => ?_) ⟨0, ?_⟩ m
  · obtain ⟨r, h⟩ := hr j
    rw [h]
    exact EReal.coe_ne_top r
  · obtain ⟨r, h⟩ := hr 0
    rw [h]
    exact EReal.coe_ne_bot r

/-- An output element. -/
theorem out_apply (x0 x1 x2 : Vec Ideal S256x512 .bf16) (p : Fin 4) (i : Fin 256) (l : Fin 128) (hi : Bool) (hl : own hi l.val = true)
    (hq : Fin' (View.ld x0 (kvRect p))) (hk : Fin' (View.ld x1 (kvRect p))) :
    out0_3 x0 x1 x2 (ix2 i ⟨128 * p.val + l.val, by omega⟩) =
      Soft.soft (fun j => dot hi (View.ld x0 (kvRect p)) (View.ld x1 (kvRect p)) i j * ((1 / 8 : ℝ) : EReal)) (fun j => x2 (ix2 j ⟨128 * p.val + l.val, by omega⟩)) := by
  have hh := head_apply hi (View.ld x0 (kvRect p)) (View.ld x1 (kvRect p)) (View.ld x2 (kvRect p)) hq hk i l hl
  rw [out_whole]
  have e : whole x0 x1 x2 (ix2 i ⟨128 * p.val + l.val, by omega⟩) = pair (View.ld x0 (kvRect p)) (View.ld x1 (kvRect p)) (View.ld x2 (kvRect p)) (ix2 i l) :=
    pair_at x0 x1 x2 (by show (128 * p.val + l.val) / 128 = p.val; omega) rfl (by show (128 * p.val + l.val) % 128 = l.val; omega)
  rw [e]
  refine Eq.trans ?_ (hh.trans (congrArg _ (funext fun x => kv_ld _ _ _ _)))
  show Scalar.select (ownQ false (ix2 i l)) _ _ = _
  rw [ownQ_apply, select_ofBool]
  cases hi
  · rw [if_pos hl]
  · rw [if_neg (by simp [own] at hl ⊢; omega)]

end Cert.CtxIdeal.Blk

end
-- ==== Proof.CtxJoin.lean ====
module

public import proofs.«01_k».proof.Proof.CtxRef
public import proofs.«01_k».proof.Proof.CtxBlock
public import proofs.«01_k».proof.Proof.Gen.CtxIdeal.Value

@[expose] public section

set_option maxRecDepth 16384

/-! The context tokens' attention: a grid point's block holds one batch's tokens, and its elements are the formula's. -/

noncomputable section

namespace Cert.CtxIdeal.Join

open Cert.CtxIdeal Cert.CtxIdeal.Gen Cert.CtxIdeal.Blk Idealize.ShloMosaic Idealize.ShloMosaic.TcCoe Idealize.ShloMosaic.Tactic Idealize.SL.Sem Idealize.ShloMosaic.StableHlo
open Cert.CtxReferenceIdeal.Value (row lane logit attn Real' out)
open Cert.KernelIdeal.Attn (own off kvRect dot Fin' kv_ld)

/-- The windows' block indices. -/
theorem idx : ∀ t : Fin cfg0.N, win0_0.index t = ![t.val, 0] ∧ win0_1.index t = ![t.val, 1] ∧ win0_2.index t = ![t.val, 2] ∧ win0_3.index t = ![t.val, 0] := by
  decide +kernel

/-- A grid point's batch. -/
abbrev batch (t : Fin cfg0.N) : Fin 4 := ⟨t.val, t.isLt⟩

/-- The lane of a part of the projections, from the lane within the part. -/
abbrev within (s : Fin 3) (l : Fin 512) : Fin 1536 := ⟨s.val * 512 + l.val, by omega⟩

/-- A head's lane: 128 lanes for two heads. -/
abbrev paired (p : Fin 4) (hi : Bool) (d : Fin 64) : Fin 128 := ⟨off hi + d.val, by cases hi <;> simp [off] <;> omega⟩

theorem own_paired (hi : Bool) (d : Fin 64) : own hi (off hi + d.val) = true := by
  have := d.isLt
  cases hi <;> simp [own, off] <;> omega

section
variable {X : Vec Ideal S1024x1536 .bf16} {x0 x1 x2 : Vec Ideal S256x512 .bf16} {b : Fin 4}

/-- The blocks of one batch hold its rows of the queries, the keys and the values. -/
structure Holds (X : Vec Ideal S1024x1536 .bf16) (x0 x1 x2 : Vec Ideal S256x512 .bf16) (b : Fin 4) : Prop where
  q : ∀ i l, x0 (ix2 i l) = X (ix2 (row b i) (within 0 l))
  k : ∀ i l, x1 (ix2 i l) = X (ix2 (row b i) (within 1 l))
  v : ∀ i l, x2 (ix2 i l) = X (ix2 (row b i) (within 2 l))

/-- The head of a pair's half. -/
abbrev headIx (p : Fin 4) (hi : Bool) : Fin 8 := ⟨2 * p.val + bif hi then 1 else 0, by cases hi <;> simp <;> omega⟩

theorem lane_eq (s : Fin 3) (p : Fin 4) (hi : Bool) (d : Fin 64) (hl : 128 * p.val + (off hi + d.val) < 512) : within s ⟨128 * p.val + (off hi + d.val), hl⟩ = lane s (headIx p hi) d :=
  Fin.ext (by cases hi <;> simp [off] <;> omega)

theorem real_of_holds {x : Vec Ideal S256x512 .bf16} (s : Fin 3) (hs : s.val < 2) (hX : Real' X) (h : ∀ i l, x (ix2 i l) = X (ix2 (row b i) (within s l))) (p : Fin 4) :
    Fin' (View.ld x (kvRect p)) := by
  intro y
  obtain ⟨i, l, rfl⟩ : ∃ i l, y = ix2 i l := ⟨_, _, eq_ix2 y⟩
  rw [kv_ld, h]
  exact hX _ _ (by show s.val * 512 + (128 * p.val + l.val) < 1024; have : l.val < 128 := l.isLt; omega)

theorem attn_at (hX : Real' X) (H : Holds X x0 x1 x2 b) (i : Fin 256) (p : Fin 4) (hi : Bool) (d : Fin 64) (hl : 128 * p.val + (off hi + d.val) < 512) :
    out0_3 x0 x1 x2 (ix2 i ⟨128 * p.val + (off hi + d.val), hl⟩) = attn X b (headIx p hi) i d := by
  refine (out_apply x0 x1 x2 p i (paired p hi d) hi (own_paired hi d) (real_of_holds 0 (by decide) hX H.q p) (real_of_holds 1 (by decide) hX H.k p)).trans ?_
  have hq (i : Fin 256) (d : Fin 64) : View.ld x0 (kvRect p) (ix2 i (paired p hi d)) = X (ix2 (row b i) (lane 0 (headIx p hi) d)) := by
    rw [kv_ld, H.q, lane_eq]
  have hk (i : Fin 256) (d : Fin 64) : View.ld x1 (kvRect p) (ix2 i (paired p hi d)) = X (ix2 (row b i) (lane 1 (headIx p hi) d)) := by
    rw [kv_ld, H.k, lane_eq]
  have hd (j : Fin 256) : dot hi (View.ld x0 (kvRect p)) (View.ld x1 (kvRect p)) i j
      = ∑ d, X (ix2 (row b i) (lane 0 (headIx p hi) d)) * X (ix2 (row b j) (lane 1 (headIx p hi) d)) :=
    Finset.sum_congr rfl fun d _ => congrArg₂ (· * ·) (hq i d) (hk j d)
  unfold attn logit
  simp only [hd, H.v, lane_eq]
end

variable (m : (ℓ : Loc nD τ sig) → Buf (Elt Ideal) ℓ) (c : Dev nD) (t : Fin cfg0.N)

theorem holds : Holds (m ((c : Thread nD τ).loc main_arg0)) (iblk m c 0 t) (iblk m c 1 t) (iblk m c 2 t) (batch t) where
  q i l := by
    have e := (idx t).1
    have h : iblk m c 0 t (ix2 i l) = V m c main_arg0 (ix2 (row (batch t) i) (within 0 l)) := by blk_ext [iblk, e]
    exact h.trans (congrFun (V_main_arg0 m c) _)
  k i l := by
    have e := (idx t).2.1
    have h : iblk m c 1 t (ix2 i l) = V m c main_arg0 (ix2 (row (batch t) i) (within 1 l)) := by blk_ext [iblk, e]
    exact h.trans (congrFun (V_main_arg0 m c) _)
  v i l := by
    have e := (idx t).2.2.1
    have h : iblk m c 2 t (ix2 i l) = V m c main_arg0 (ix2 (row (batch t) i) (within 2 l)) := by blk_ext [iblk, e]
    exact h.trans (congrFun (V_main_arg0 m c) _)

theorem block (hX : Real' (m ((c : Thread nD τ).loc main_arg0))) (i : Fin 256) (l : Fin 512) :
    out0_3 (iblk m c 0 t) (iblk m c 1 t) (iblk m c 2 t) (ix2 i l) = out (m ((c : Thread nD τ).loc main_arg0)) (ix2 (row (batch t) i) l) := by
  have key (p : Fin 4) (hi : Bool) (d : Fin 64) (hl : l.val = 128 * p.val + (off hi + d.val)) :
      out0_3 (iblk m c 0 t) (iblk m c 1 t) (iblk m c 2 t) (ix2 i l) = out (m ((c : Thread nD τ).loc main_arg0)) (ix2 (row (batch t) i) l) := by
    obtain ⟨l, hl'⟩ := l
    change l = _ at hl
    subst hl
    refine (attn_at hX (holds m c t) i p hi d _).trans ?_
    have e0 : batch t = ⟨(t.val * 256 + i.val) / 256, by have : t.val < 4 := t.isLt; omega⟩ := Fin.ext (by show t.val = (t.val * 256 + i.val) / 256; omega)
    have e1 : headIx p hi = ⟨(128 * p.val + (off hi + d.val)) / 64, by omega⟩ := Fin.ext (by cases hi <;> simp [off] <;> omega)
    have e2 : i = ⟨(t.val * 256 + i.val) % 256, by omega⟩ := Fin.ext (by show i.val = (t.val * 256 + i.val) % 256; omega)
    have e3 : d = ⟨(128 * p.val + (off hi + d.val)) % 64, by omega⟩ := Fin.ext (by cases hi <;> simp [off] <;> omega)
    show attn _ (batch t) (headIx p hi) i d = attn _ ⟨(t.val * 256 + i.val) / 256, _⟩ ⟨(128 * p.val + (off hi + d.val)) / 64, _⟩ ⟨(t.val * 256 + i.val) % 256, _⟩ ⟨(128 * p.val + (off hi + d.val)) % 64, _⟩
    rw [← e0, ← e1, ← e2, ← e3]
  by_cases hl : l.val % 128 < 64
  · exact key ⟨l.val / 128, by omega⟩ false ⟨l.val % 128, hl⟩ (by simp [off]; omega)
  · exact key ⟨l.val / 128, by omega⟩ true ⟨l.val % 128 - 64, by omega⟩ (by simp [off]; omega)

theorem arr_eq (hX : Real' (m ((c : Thread nD τ).loc main_arg0))) : (dats m 0 c).arrAt 3 cfg0.N = out (m ((c : Thread nD τ).loc main_arg0)) := by
  refine (dats m 0 c).arrAt_eq_of_covers 3 _ (by decide +kernel) fun t hf y => ?_
  blk_simp
  rw [after0_3]
  have ht : t.val < 4 := t.isLt
  have e := (idx t).2.2.2
  change S256x512.Idx at y
  obtain ⟨i, l, rfl⟩ : ∃ i l, y = ix2 i l := ⟨_, _, eq_ix2 y⟩
  change Fin 256 at i
  change Fin 512 at l
  have E : (win0_3.blk t).view.emb (ix2 i l) = ix2 (row (batch t) i) l := by
    blk_ext [e]
  rw [E]
  exact block m c t hX i l

end Cert.CtxIdeal.Join

end
-- ==== Proof.DftBlk.lean ====
module

public import proofs.«01_k».proof.Proof.Gen.DftIdeal.Frame
public import Idealize.ShloMosaic.Lib.Pipeline.ValueKit

@[expose] public section

set_option maxRecDepth 16384

/-! What a grid point of the Fourier mixer leaves in its output block, as a term over the point's input blocks. -/

noncomputable section

namespace Cert.DftIdeal.Blk

open Cert.DftIdeal Cert.DftIdeal.Gen Idealize.ShloMosaic Idealize.ShloMosaic.TcCoe Idealize.SL.Sem Idealize.ShloMosaic.StableHlo

variable {F : FTy → Type} [FloatOps F]

/-- Eight columns of the positions, all rows. -/
abbrev colsRect (g : Fin 16) : Rect S1x64x128x256 :=
  Rect.unit ![0, 0, 8 * g.val, 0] ![1, 64, 8, 256] (by
    intro a
    match a with
    | ⟨0, _⟩ => exact Nat.le_refl 1
    | ⟨1, _⟩ => exact Nat.le_refl 64
    | ⟨2, _⟩ => show 8 * g.val + 8 ≤ 128; have := g.isLt; omega
    | ⟨3, _⟩ => exact Nat.le_refl 256)

/-- The same eight columns of the first transform's result. -/
abbrev zRect (g : Fin 16) : Rect S2x16x128x256 :=
  Rect.unit ![0, 0, 8 * g.val, 0] ![2, 16, 8, 256] (by
    intro a
    match a with
    | ⟨0, _⟩ => exact Nat.le_refl 2
    | ⟨1, _⟩ => exact Nat.le_refl 16
    | ⟨2, _⟩ => show 8 * g.val + 8 ≤ 128; have := g.isLt; omega
    | ⟨3, _⟩ => exact Nat.le_refl 256)

/-- One row frequency of the first transform's result. -/
abbrev freqRect (j : Fin 16) : Rect S2x16x128x256 :=
  Rect.unit ![0, j.val, 0, 0] ![2, 1, 128, 256] (by
    intro a
    match a with
    | ⟨0, _⟩ => exact Nat.le_refl 2
    | ⟨1, _⟩ => exact j.isLt
    | ⟨2, _⟩ => exact Nat.le_refl 128
    | ⟨3, _⟩ => exact Nat.le_refl 256)

/-- One row frequency of the second transform's table. -/
abbrev tabRect (j : Fin 16) : Rect S16x256x256 :=
  Rect.unit ![j.val, 0, 0] ![1, 256, 256] (by
    intro a
    match a with
    | ⟨0, _⟩ => exact j.isLt
    | ⟨1, _⟩ => exact Nat.le_refl 256
    | ⟨2, _⟩ => exact Nat.le_refl 256)

/-- One row frequency of the output block. -/
abbrev outRect (j : Fin 16) : Rect S1x128x16x256 :=
  Rect.unit ![0, 0, j.val, 0] ![1, 128, 1, 256] (by
    intro a
    match a with
    | ⟨0, _⟩ => exact Nat.le_refl 1
    | ⟨1, _⟩ => exact Nat.le_refl 128
    | ⟨2, _⟩ => exact j.isLt
    | ⟨3, _⟩ => exact Nat.le_refl 256)

/-- The first transform of eight columns. -/
def stage (x0 : Vec F S1x64x128x256 .f32) (x1 : Vec F S2x16x8x512 .f32) (g : Fin 16) : FVec F S2x16x8x256 .f32 :=
  k0_pay20 (k0_pay2 (View.ld x1 (Rect.unit (s := S2x16x8x512) ![0, 0, 0, 0] S2x16x8x512.size inb_S2x16x8x512_S2x16x8x512_0_0_0_0))) (View.ld x0 (colsRect g))

/-- The row frequencies of a block, and its groups of eight columns, the last first. -/
def order : List (Fin 16) := [15, 14, 13, 12, 11, 10, 9, 8, 7, 6, 5, 4, 3, 2, 1, 0]

/-- The pieces of the first transform's result. -/
def zPieces (x0 : Vec F S1x64x128x256 .f32) (x1 : Vec F S2x16x8x512 .f32) : List (View.Piece (Elt F) S2x16x128x256 .f32) := order.map fun g => ⟨zRect g, stage x0 x1 g⟩

/-- The first transform's result. -/
def z (x0 : Vec F S1x64x128x256 .f32) (x1 : Vec F S2x16x8x512 .f32) : Vec F S2x16x128x256 .f32 := View.canon (zPieces x0 x1)

/-- The two later transforms of one row frequency. -/
def last (z : Vec F S2x16x128x256 .f32) (x2 : Vec F S16x256x256 .f32) (x3 : Vec F S2x256x256 .f32) (j : Fin 16) : FVec F S1x128x1x256 .f32 :=
  k0_pay27 (k0_pay21 (View.ld x3 (Rect.unit (s := S2x256x256) ![0, 0, 0] S1x256x256.size inb_S2x256x256_S1x256x256_0_0_0)))
    (k0_pay22 (View.ld x3 (Rect.unit (s := S2x256x256) ![1, 0, 0] S1x256x256.size inb_S2x256x256_S1x256x256_1_0_0)))
    (View.ld z (freqRect j)) (View.ld x2 (tabRect j))

/-- The pieces of the output block. -/
def outPieces (z : Vec F S2x16x128x256 .f32) (x2 : Vec F S16x256x256 .f32) (x3 : Vec F S2x256x256 .f32) : List (View.Piece (Elt F) S1x128x16x256 .f32) :=
  order.map fun j => ⟨outRect j, last z x2 x3 j⟩

/-- The output block. -/
def leaves (x0 : Vec F S1x64x128x256 .f32) (x1 : Vec F S2x16x8x512 .f32) (x2 : Vec F S16x256x256 .f32) (x3 : Vec F S2x256x256 .f32) : Vec F S1x128x16x256 .f32 :=
  View.canon (outPieces (z x0 x1) x2 x3)

theorem load_eq {ι : Kind} {sp : Space} {s : Shape} {e : EltTy} (a : Memref sig ι sp s e) (h : a.IsWhole) (x : s.Idx → Elt F e) (r : Rect s) :
    View.readAt (Elt F) a.view r.toLoadRect (h.unread x) = View.ld x r := by
  have e1 : View.readAt (Elt F) a.view r.toLoadRect (h.unread x) = View.ld (a.view.read (Elt F) (h.unread x)) r := rfl
  rw [e1, Memref.IsWhole.read_unread]

theorem back_eq {ι : Kind} {sp : Space} {s : Shape} {e : EltTy} (v : View sig ι sp s e) (L : List (View.Piece (Elt F) s e)) (r : Rect s) :
    View.readCov v L r.toLoadRect = View.ld (View.canon L) r := View.readCov_eq_canon' v L r.toLoadRect

variable (m : (ℓ : Loc nD τ sig) → Buf (Elt F) ℓ) (c : Dev nD) (t : Fin cfg0.N)

theorem out_eq : outsAt0 m c t = leaves (iblk m c 0 t) (iblk m c 1 t) (iblk m c 2 t) (iblk m c 3 t) := by
  unfold outsAt0 out0_A_4
  rw [View.read_writes_junk_eq_canon]
  unfold kernelRun0_A
  dsimp only
  generalize iblk m c 0 t = x0
  generalize iblk m c 1 t = x1
  generalize iblk m c 2 t = x2
  generalize iblk m c 3 t = x3
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.v154, kernelRun0_A.sl.v171, kernelRun0_A.sl.v188, kernelRun0_A.sl.v205, kernelRun0_A.sl.v222, kernelRun0_A.sl.v239,
    kernelRun0_A.sl.v256, kernelRun0_A.sl.v273, kernelRun0_A.sl.v290, kernelRun0_A.sl.v307, kernelRun0_A.sl.v324, kernelRun0_A.sl.v341, kernelRun0_A.sl.v358, kernelRun0_A.sl.v375,
    kernelRun0_A.sl.v392, kernelRun0_A.sl.v409, load_eq, back_eq]
  have hz : View.canon (kernelRun0_A.sl.HS0_16 c (ms0_0 t) (hs0_0 t) (ms0_1 t) (hs0_1 t) x0 x1) = z x0 x1 := by
    unfold kernelRun0_A.sl.HS0_16 z zPieces order
    simp only [kernelRun0_A.sl.r, kernelRun0_A.sl.r_1, kernelRun0_A.sl.r_2, kernelRun0_A.sl.r_3, kernelRun0_A.sl.r_4, load_eq, List.map_cons, List.map_nil]
    refine congrArg View.canon ?_
    repeat' refine congrArg₂ List.cons ?_ ?_
    all_goals rfl
  rw [hz]
  unfold leaves outPieces order
  generalize z x0 x1 = zz
  simp only [List.map_cons, List.map_nil]
  refine congrArg View.canon ?_
  repeat' refine congrArg₂ List.cons ?_ ?_
  all_goals rfl

end Cert.DftIdeal.Blk

end
-- ==== Proof.DftBlock.lean ====
module

public import proofs.«01_k».proof.Proof.DftBlk
public import proofs.«01_k».proof.Proof.Loads

@[expose] public section

set_option maxRecDepth 16384

/-! A grid point's output block at an index. -/

noncomputable section

namespace Cert.DftIdeal.Blk

open Cert.DftIdeal Cert.DftIdeal.Gen Cert.Layer Idealize.ShloMosaic Idealize.ShloMosaic.TcCoe Idealize.SL.Sem Idealize.ShloMosaic.StableHlo

/-- A sum over 512 pairs, a row and one of eight columns. -/
theorem sum512 (h : Fin 512 → EReal) : (∑ i, h i) = ∑ a : Fin 64, ∑ u : Fin 8, h ⟨a.val * 8 + u.val, by omega⟩ := by
  rw [← Finset.sum_product', ← Equiv.sum_comp (finProdFinEquiv : Fin 64 × Fin 8 ≃ Fin (64 * 8)) h]
  refine Finset.sum_congr rfl fun p _ => congrArg h (Fin.ext ?_)
  show p.2.val + 8 * p.1.val = p.1.val * 8 + p.2.val
  omega

/-- Of a sum over eight columns against one column's mark, that column's term is left. -/
theorem pick (w : EReal) (x : Fin 8 → EReal) (t : Fin 8) : (∑ u : Fin 8, w * (if t = u then 1 else 0) * x u) = w * x t := by
  rw [Finset.sum_eq_single t]
  · simp
  · intro u _ hu
    rw [if_neg hu.symm, mul_zero, zero_mul]
  · intro h
    exact absurd (Finset.mem_univ t) h

/-- A sum over the real parts and the imaginary parts. -/
theorem sum256 (h : Fin 256 → EReal) : (∑ n, h n) = (∑ m : Fin 128, h ⟨m.val, by omega⟩) + ∑ m : Fin 128, h ⟨128 + m.val, by omega⟩ :=
  Fin.sum_univ_add (a := 128) (b := 128) h

/-- The input blocks of one grid point; its first table holds `w` for each of eight columns. -/
structure Ins where
  x : Vec Ideal S1x64x128x256 .f32
  f : Vec Ideal S2x16x8x512 .f32
  g : Vec Ideal S16x256x256 .f32
  cs : Vec Ideal S2x256x256 .f32
  w : Fin 2 → Fin 16 → Fin 64 → EReal
  hw : ∀ s k t (i : Fin 512), f (ix4 s k t i) = w s k ⟨i.val / 8, by omega⟩ * if t = ⟨i.val % 8, by omega⟩ then 1 else 0

/-- The rows' transform. -/
def Ins.rows (B : Ins) (s : Fin 2) (k : Fin 16) (m : Fin 128) (c : Fin 256) : EReal := ∑ a : Fin 64, B.w s k a * B.x (ix4 0 a m c)

/-- The columns' transform, at one row of the table. -/
def Ins.cols (B : Ins) (k : Fin 16) (q : Fin 256) (c : Fin 256) : EReal :=
  (∑ m : Fin 128, B.g (ix3 k q ⟨m.val, by omega⟩) * B.rows 0 k m c) + ∑ m : Fin 128, B.g (ix3 k q ⟨128 + m.val, by omega⟩) * B.rows 1 k m c

/-- The real part of the channels' transform. -/
def Ins.out (B : Ins) (q : Fin 128) (k : Fin 16) (d : Fin 256) : EReal :=
  (∑ c : Fin 256, B.cols k ⟨q.val, by omega⟩ c * B.cs (ix3 0 c d)) + ∑ c : Fin 256, B.cols k ⟨128 + q.val, by omega⟩ c * B.cs (ix3 1 c d)

variable (B : Ins)

theorem stage_at (g : Fin 16) (s : Fin 2) (k : Fin 16) (t : Fin 8) (c : Fin 256) : stage B.x B.f g (ix4 s k t c) = B.rows s k ⟨8 * g.val + t.val, by omega⟩ c := by
  have hf (i : Fin 512) : View.ld B.f (Rect.unit (s := S2x16x8x512) ![0, 0, 0, 0] S2x16x8x512.size inb_S2x16x8x512_S2x16x8x512_0_0_0_0) (ix4 s k t i) = B.f (ix4 s k t i) :=
    ld4 B.f 0 0 0 0 _ s k t i s k t i (by omega) (by omega) (by omega) (by omega)
  have hx (a : Fin 64) (u : Fin 8) : View.ld B.x (colsRect g) (ix4 0 a u c) = B.x (ix4 0 a ⟨8 * g.val + u.val, by omega⟩ c) :=
    ld4 B.x 0 0 (8 * g.val) 0 _ 0 a u c 0 a _ c rfl (by omega) rfl (by omega)
  unfold stage
  generalize View.ld B.f _ = f at hf
  generalize View.ld B.x _ = x at hx
  pointwise [k0_pay20, k0_pay2]
  simp only [hf, hx, B.hw]
  rw [sum512]
  unfold Ins.rows
  refine Finset.sum_congr rfl fun a _ => ?_
  have e (u : Fin 8) : (⟨(⟨a.val * 8 + u.val, by omega⟩ : Fin 512).val / 8, by omega⟩ : Fin 64) = a := Fin.ext (by show (a.val * 8 + u.val) / 8 = a.val; omega)
  have e' (u : Fin 8) : (⟨(⟨a.val * 8 + u.val, by omega⟩ : Fin 512).val % 8, by omega⟩ : Fin 8) = u := Fin.ext (by show (a.val * 8 + u.val) % 8 = u.val; omega)
  have e'' (u : Fin 8) : (⟨8 * g.val + (⟨a.val * 8 + u.val, by omega⟩ : Fin 512).val % 8, by omega⟩ : Fin 128) = ⟨8 * g.val + u.val, by omega⟩ :=
    Fin.ext (by show 8 * g.val + (a.val * 8 + u.val) % 8 = 8 * g.val + u.val; omega)
  simp only [e, e', e'']
  exact pick (B.w s k a) (fun u => B.x (ix4 0 a ⟨8 * g.val + u.val, by omega⟩ c)) t

theorem z_at (y : S2x16x128x256.Idx) : z B.x B.f y = B.rows (y 0) (y 1) (y 2) (y 3) := by
  unfold z
  refine View.canon_apply_of_pieces (Val := Elt Ideal) (e := .f32) (fun y : S2x16x128x256.Idx => B.rows (y 0) (y 1) (y 2) (y 3)) _ ?_ y
    (View.cover_of_tiledBy _ ![2, 16, 8, 256] (by sl_kernel_rfl) y)
  intro pc hpc
  obtain ⟨g, _, rfl⟩ := List.mem_map.mp hpc
  intro x
  change S2x16x8x256.Idx at x
  obtain ⟨s, k, t, c, rfl⟩ : ∃ s k t c, x = ix4 s k t c := ⟨_, _, _, _, eq_ix4 x⟩
  refine (stage_at B g s k t c).trans ?_
  have h0 : s = (zRect g).emb (ix4 s k t c) 0 := Fin.ext (by show s.val = 0 + 1 * s.val; omega)
  have h1 : k = (zRect g).emb (ix4 s k t c) 1 := Fin.ext (by show k.val = 0 + 1 * k.val; omega)
  have h2 : (⟨8 * g.val + t.val, by omega⟩ : Fin 128) = (zRect g).emb (ix4 s k t c) 2 := Fin.ext (by show 8 * g.val + t.val = 8 * g.val + 1 * t.val; omega)
  have h3 : c = (zRect g).emb (ix4 s k t c) 3 := Fin.ext (by show c.val = 0 + 1 * c.val; omega)
  exact congr (congr (congr (congrArg B.rows h0) h1) h2) h3

theorem last_at (j : Fin 16) (q : Fin 128) (d : Fin 256) : last (z B.x B.f) B.g B.cs j (ix4 0 q 0 d) = B.out q j d := by
  have hz (s : Fin 2) (m : Fin 128) (c : Fin 256) : View.ld (z B.x B.f) (freqRect j) (ix4 s 0 m c) = B.rows s j m c :=
    (ld4 (z B.x B.f) 0 j.val 0 0 _ s 0 m c s j m c (by omega) rfl (by omega) (by omega)).trans (z_at B _)
  have hg (a b : Fin 256) : View.ld B.g (tabRect j) (ix3 0 a b) = B.g (ix3 j a b) := ld3 B.g j.val 0 0 _ 0 a b j a b rfl (by omega) (by omega)
  have hco (a b : Fin 256) : View.ld B.cs (Rect.unit (s := S2x256x256) ![0, 0, 0] S1x256x256.size inb_S2x256x256_S1x256x256_0_0_0) (ix3 0 a b) = B.cs (ix3 0 a b) :=
    ld3 B.cs 0 0 0 _ 0 a b 0 a b rfl (by omega) (by omega)
  have hsi (a b : Fin 256) : View.ld B.cs (Rect.unit (s := S2x256x256) ![1, 0, 0] S1x256x256.size inb_S2x256x256_S1x256x256_1_0_0) (ix3 0 a b) = B.cs (ix3 1 a b) :=
    ld3 B.cs 1 0 0 _ 0 a b 1 a b rfl (by omega) (by omega)
  unfold last
  generalize View.ld (z B.x B.f) _ = zz at hz
  generalize View.ld B.g _ = g at hg
  generalize View.ld B.cs _ = co at hco
  generalize View.ld B.cs _ = si at hsi
  pointwise [k0_pay27, k0_pay21, k0_pay22]
  simp only [hz, hg, hco, hsi]
  have e (p : Fin 256) (c : Fin 256) :
      (∑ n : Fin 256, (B.g (ix3 j p n) * B.rows ⟨n.val / 128, by omega⟩ j ⟨n.val % 128, by omega⟩ c : EReal)) = B.cols j p c := by
    rw [sum256]
    refine congrArg₂ (fun a b : EReal => a + b) (Finset.sum_congr rfl fun m _ => ?_) (Finset.sum_congr rfl fun m _ => ?_)
    · have h0 : (⟨m.val / 128, by omega⟩ : Fin 2) = 0 := Fin.ext (by show m.val / 128 = 0; omega)
      have h1 : (⟨m.val % 128, by omega⟩ : Fin 128) = m := Fin.ext (by show m.val % 128 = m.val; omega)
      exact congrArg (fun a : EReal => B.g (ix3 j p ⟨m.val, by omega⟩) * a) (congrArg₂ (fun s n => B.rows s j n c) h0 h1)
    · have h0 : (⟨(128 + m.val) / 128, by omega⟩ : Fin 2) = 1 := Fin.ext (by show (128 + m.val) / 128 = 1; omega)
      have h1 : (⟨(128 + m.val) % 128, by omega⟩ : Fin 128) = m := Fin.ext (by show (128 + m.val) % 128 = m.val; omega)
      exact congrArg (fun a : EReal => B.g (ix3 j p ⟨128 + m.val, by omega⟩) * a) (congrArg₂ (fun s n => B.rows s j n c) h0 h1)
  simp only [e]
  rfl

theorem leaves_at (y : S1x128x16x256.Idx) : leaves B.x B.f B.g B.cs y = B.out (y 1) (y 2) (y 3) := by
  unfold leaves
  refine View.canon_apply_of_pieces (Val := Elt Ideal) (e := .f32) (fun y : S1x128x16x256.Idx => B.out (y 1) (y 2) (y 3)) _ ?_ y
    (View.cover_of_tiledBy _ ![1, 128, 1, 256] (by sl_kernel_rfl) y)
  intro pc hpc
  obtain ⟨j, _, rfl⟩ := List.mem_map.mp hpc
  intro x
  change S1x128x1x256.Idx at x
  obtain ⟨a, q, b, d, rfl⟩ : ∃ a q b d, x = ix4 a q b d := ⟨_, _, _, _, eq_ix4 x⟩
  change Fin 1 at a
  change Fin 1 at b
  obtain rfl : a = 0 := Subsingleton.elim _ _
  obtain rfl : b = 0 := Subsingleton.elim _ _
  refine (last_at B j q d).trans ?_
  have h1 : q = (outRect j).emb (ix4 0 q 0 d) 1 := Fin.ext (by show q.val = 0 + 1 * q.val; omega)
  have h2 : j = (outRect j).emb (ix4 0 q 0 d) 2 := Fin.ext (by show j.val = j.val + 1 * 0; omega)
  have h3 : d = (outRect j).emb (ix4 0 q 0 d) 3 := Fin.ext (by show d.val = 0 + 1 * d.val; omega)
  exact congr (congr (congrArg B.out h1) h2) h3

end Cert.DftIdeal.Blk

end
-- ==== Proof.DftRef.lean ====
module

public import proofs.«01_k».proof.Proof.Gen.DftReferenceIdeal.Read
public import Idealize.ShloMosaic.Lib.Pointwise

@[expose] public section

set_option maxRecDepth 16384

/-! The Fourier mixer, from its tables: the transform of the positions' rows, that of their columns with the factors between
the two, and the channels'. The reference is read an entry at a time. -/

noncomputable section

namespace Cert.DftReferenceIdeal.Value

open Cert.DftReferenceIdeal Cert.DftReferenceIdeal.Gen Cert.DftReferenceIdeal.Read Idealize.ShloMosaic Idealize.ShloMosaic.TcCoe Idealize.SL.Sem Idealize.ShloMosaic.StableHlo

/-- The arguments. -/
structure Args where
  x : Vec Ideal S32768x256 .f32
  f : Vec Ideal S128x64 .f32
  g : Vec Ideal S64x256x256 .f32
  cs : Vec Ideal S2x256x256 .f32

/-- The position in row `a`, column `m` of sequence `b`. -/
abbrev pos (b : Fin 4) (a : Fin 64) (m : Fin 128) : Fin 32768 := ⟨b.val * 8192 + a.val * 128 + m.val, by omega⟩

/-- The table's row for row frequency `k`: the real part's, then the imaginary part's. -/
abbrev half (s : Fin 2) (k : Fin 64) : Fin 128 := ⟨s.val * 64 + k.val, by omega⟩

/-- The rows' transform at row frequency `k`. -/
def Args.rows (A : Args) (s : Fin 2) (b : Fin 4) (k : Fin 64) (m : Fin 128) (c : Fin 256) : EReal :=
  ∑ a : Fin 64, A.f (ix2 (half s k) a) * A.x (ix2 (pos b a m) c)

/-- The columns' transform, at one row of the table for row frequency `k`. -/
def Args.cols (A : Args) (b : Fin 4) (k : Fin 64) (q : Fin 256) (c : Fin 256) : EReal :=
  (∑ m : Fin 128, A.g (ix3 k q ⟨m.val, by omega⟩) * A.rows 0 b k m c) + ∑ m : Fin 128, A.g (ix3 k q ⟨128 + m.val, by omega⟩) * A.rows 1 b k m c

/-- The real part of the channels' transform. -/
def Args.out (A : Args) (b : Fin 4) (q : Fin 128) (k : Fin 64) (d : Fin 256) : EReal :=
  (∑ c : Fin 256, A.cols b k ⟨q.val, by omega⟩ c * A.cs (ix3 0 c d)) + ∑ c : Fin 256, A.cols b k ⟨128 + q.val, by omega⟩ c * A.cs (ix3 1 c d)

variable (A : Args) (b : Fin 4) (k : Fin 64) (c : Fin 256)

theorem v0_at (a : Fin 64) (m : Fin 128) : val_main_v0 (F := Ideal) A.x (ix4 b a m c) = A.x (ix2 (pos b a m) c) := by
  pointwise [val_main_v0]

theorem v3_at (m : Fin 128) : val_main_v3 (F := Ideal) A.x A.f (ix4 b k m c) = A.rows 0 b k m c := by
  pointwise [val_main_v3, val_main_v2, val_main_v1]
  simp only [v0_at]
  refine Finset.sum_congr rfl fun a _ => congrArg (fun i => A.f (ix2 i a) * A.x (ix2 (pos b a m) c) : Fin 128 → EReal) (Fin.ext ?_)
  show _ = 0 * 64 + k.val
  simp

theorem v6_at (m : Fin 128) : val_main_v6 (F := Ideal) A.x A.f (ix4 b k m c) = A.rows 1 b k m c := by
  pointwise [val_main_v6, val_main_v5, val_main_v4]
  simp only [v0_at]
  refine Finset.sum_congr rfl fun a _ => congrArg (fun i => A.f (ix2 i a) * A.x (ix2 (pos b a m) c) : Fin 128 → EReal) (Fin.ext ?_)
  show _ = 1 * 64 + k.val
  simp

theorem v13_at (q : Fin 256) : val_main_v13 (F := Ideal) A.x A.f A.g (ix4 b k q c) = A.cols b k q c := by
  pointwise [val_main_v13, val_main_v12, val_main_v11, val_main_v10, val_main_v9, val_main_v8, val_main_v7]
  simp only [v3_at, v6_at]
  rfl

theorem v18_at (q : Fin 128) (d : Fin 256) : val_main_v18 (F := Ideal) A.x A.f A.g A.cs (ix4 b q k d) = ∑ c : Fin 256, (A.cols b k ⟨q.val, by omega⟩ c * A.cs (ix3 0 c d) : EReal) := by
  pointwise [val_main_v18, val_main_v17, val_main_v16, val_main_v15, val_main_v14]
  simp only [v13_at]
  exact Finset.sum_congr rfl fun c _ => mul_comm (_ : EReal) _

theorem v23_at (q : Fin 128) (d : Fin 256) : val_main_v23 (F := Ideal) A.x A.f A.g A.cs (ix4 b q k d) = ∑ c : Fin 256, (A.cols b k ⟨128 + q.val, by omega⟩ c * A.cs (ix3 1 c d) : EReal) := by
  pointwise [val_main_v23, val_main_v22, val_main_v21, val_main_v20, val_main_v19]
  simp only [v13_at]
  exact Finset.sum_congr rfl fun c _ => mul_comm (_ : EReal) _

theorem out_at (q : Fin 128) (d : Fin 256) : val_main_v24 (F := Ideal) A.x A.f A.g A.cs (ix4 b q k d) = A.out b q k d := by
  pointwise [val_main_v24]
  rw [v18_at, v23_at]
  rfl

end Cert.DftReferenceIdeal.Value

end
-- ==== Proof.DftJoin.lean ====
module

public import proofs.«01_k».proof.Proof.DftBlock
public import proofs.«01_k».proof.Proof.DftRef
public import proofs.«01_k».proof.Proof.Gen.DftIdeal.Value

@[expose] public section

set_option maxRecDepth 16384

/-! The Fourier mixer's blocks among the arguments: a grid point holds a sequence and sixteen row frequencies. -/

noncomputable section

namespace Cert.DftIdeal.Join

open Cert.DftIdeal Cert.DftIdeal.Gen Cert.DftIdeal.Blk Idealize.ShloMosaic Idealize.ShloMosaic.TcCoe Idealize.ShloMosaic.Tactic Idealize.SL.Sem Idealize.ShloMosaic.StableHlo

open Cert.DftReferenceIdeal.Value (Args pos half)

/-- The windows' block indices. -/
theorem idx : ∀ t : Fin cfg0.N, win0_0.index t = ![t.val / 4, 0, 0, 0] ∧ win0_1.index t = ![0, t.val % 4, 0, 0] ∧ win0_2.index t = ![t.val % 4, 0, 0] ∧
    win0_3.index t = ![0, 0, 0] ∧ win0_4.index t = ![t.val / 4, 0, t.val % 4, 0] := by
  decide +kernel

theorem lt16 (t : Fin cfg0.N) : t.val < 16 := t.isLt

variable (m : (ℓ : Loc nD τ sig) → Buf (Elt Ideal) ℓ) (c : Dev nD) (t : Fin cfg0.N)

/-- The arguments. -/
def args : Args where
  x := m ((c : Thread nD τ).loc main_arg0)
  f := m ((c : Thread nD τ).loc main_arg1)
  g := m ((c : Thread nD τ).loc main_arg2)
  cs := m ((c : Thread nD τ).loc main_arg3)

/-! What the host hands the launch: the positions as rows and columns, and the first table for each of eight columns. -/

theorem v7 (b : Fin 4) (a : Fin 64) (n : Fin 128) (l : Fin 256) : (V m c main_v7 : Vec Ideal S4x64x128x256 .f32) (ix4 b a n l) = (args m c).x (ix2 (pos b a n) l) := by
  have e : (V m c main_v7 : Vec Ideal S4x64x128x256 .f32) = shapeCast S4x64x128x256 (args m c).x shapeCasts_S32768x256_S4x64x128x256 := by
    unfold_abbrev_sides
    simp only [List.flatten_cons, List.flatten_nil, List.append_nil, List.cons_append, List.nil_append]
    after_results
    rfl
  rw [e]
  generalize (args m c).x = a
  pointwise []

/-- The identity of eight columns. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_at (u v : Fin 8) : eye (ix2 u v) = (if u = v then 1 else 0 : EReal) := by
  have h : ∀ u v : Fin 8, IntOp.cmpi .eq (IntOp.addi (BitVec.ofNat 32 u.val) 0#32) (BitVec.ofNat 32 v.val) = if u = v then 1#1 else 0#1 := by decide
  pointwise [eye]
  rw [h u v]
  split
  · show (((1#1).toNat : ℝ) : EReal) = 1
    simp
  · show (((0#1).toNat : ℝ) : EReal) = 0
    simp

/-- The first table for each of eight columns. -/
def kron (f : Vec Ideal S128x64 .f32) (e : FVec Ideal S8x8 .f32) : Vec Ideal S2x64x8x512 .f32 :=
  shapeCast S2x64x8x512 (shapeCast S1024x512 (mulf
    (broadcastInDim S128x8x64x8 ![0, 1, 2, 3] bcast_S128x1x64x1_S128x8x64x8_0_1_2_3 (broadcastInDim S128x1x64x1 ![0, 2] bcast_S128x64_S128x1x64x1_0_2 f))
    (broadcastInDim S128x8x64x8 ![0, 1, 2, 3] bcast_S1x8x1x8_S128x8x64x8_0_1_2_3 (broadcastInDim S1x8x1x8 ![1, 3] bcast_S8x8_S1x8x1x8_1_3 e)))
    shapeCasts_S128x8x64x8_S1024x512) shapeCasts_S1024x512_S2x64x8x512

theorem kron_at (f : Vec Ideal S128x64 .f32) (e : FVec Ideal S8x8 .f32) (s : Fin 2) (k : Fin 64) (u : Fin 8) (i : Fin 512) :
    kron f e (ix4 s k u i) = (f (ix2 (half s k) ⟨i.val / 8, by omega⟩) * e (ix2 u ⟨i.val % 8, by omega⟩) : EReal) := by
  pointwise [kron]

theorem v8 (s : Fin 2) (k : Fin 64) (u : Fin 8) (i : Fin 512) : (V m c main_v8 : Vec Ideal S2x64x8x512 .f32) (ix4 s k u i) =
    ((args m c).f (ix2 (half s k) ⟨i.val / 8, by omega⟩) * if u = ⟨i.val % 8, by omega⟩ then 1 else 0 : EReal) := by
  have e : (V m c main_v8 : Vec Ideal S2x64x8x512 .f32) = kron (args m c).f eye := by
    unfold_abbrev_sides
    simp only [List.flatten_cons, List.flatten_nil, List.append_nil, List.cons_append, List.nil_append]
    after_results
    rfl
  rw [e, kron_at, eye_at]

/-- A point's sequence, and the row frequency of a block's. -/
abbrev seq_ : Fin 4 := ⟨t.val / 4, by have := lt16 t; omega⟩

abbrev freq (k : Fin 16) : Fin 64 := ⟨t.val % 4 * 16 + k.val, by omega⟩

theorem b0 (a : Fin 64) (n : Fin 128) (l : Fin 256) : (iblk m c 0 t : Vec Ideal S1x64x128x256 .f32) (ix4 0 a n l) = (args m c).x (ix2 (pos (seq_ t) a n) l) := by
  have e := (idx t).1
  have ht := lt16 t
  have h : iblk m c 0 t (ix4 0 a n l) = V m c main_v7 (ix4 (seq_ t) a n l) := by blk_ext [iblk, e]
  exact h.trans (v7 m c _ a n l)

theorem b1 (s : Fin 2) (k : Fin 16) (u : Fin 8) (i : Fin 512) : (iblk m c 1 t : Vec Ideal S2x16x8x512 .f32) (ix4 s k u i) =
    ((args m c).f (ix2 (half s (freq t k)) ⟨i.val / 8, by omega⟩) * if u = ⟨i.val % 8, by omega⟩ then 1 else 0 : EReal) := by
  have e := (idx t).2.1
  have h : iblk m c 1 t (ix4 s k u i) = V m c main_v8 (ix4 s (freq t k) u i) := by blk_ext [iblk, e]
  exact h.trans (v8 m c s _ u i)

theorem b2 (k : Fin 16) (q n : Fin 256) : (iblk m c 2 t : Vec Ideal S16x256x256 .f32) (ix3 k q n) = (args m c).g (ix3 (freq t k) q n) := by
  have e := (idx t).2.2.1
  have h : iblk m c 2 t (ix3 k q n) = V m c main_arg2 (ix3 (freq t k) q n) := by blk_ext [iblk, e]
  exact h.trans (congrFun (V_main_arg2 m c) _)

theorem b3 (s : Fin 2) (l d : Fin 256) : (iblk m c 3 t : Vec Ideal S2x256x256 .f32) (ix3 s l d) = (args m c).cs (ix3 s l d) := by
  have e := (idx t).2.2.2.1
  have h : iblk m c 3 t (ix3 s l d) = V m c main_arg3 (ix3 s l d) := by blk_ext [iblk, e]
  exact h.trans (congrFun (V_main_arg3 m c) _)

/-- A grid point's blocks. -/
def ins : Ins where
  x := iblk m c 0 t
  f := iblk m c 1 t
  g := iblk m c 2 t
  cs := iblk m c 3 t
  w := fun s k a => (args m c).f (ix2 (half s (freq t k)) a)
  hw := b1 m c t

theorem rows_at (s : Fin 2) (k : Fin 16) (n : Fin 128) (l : Fin 256) : (ins m c t).rows s k n l = (args m c).rows s (seq_ t) (freq t k) n l :=
  Finset.sum_congr rfl fun a _ => congrArg (fun b : EReal => (args m c).f (ix2 (half s (freq t k)) a) * b) (b0 m c t a n l)

theorem cols_at (k : Fin 16) (q l : Fin 256) : (ins m c t).cols k q l = (args m c).cols (seq_ t) (freq t k) q l := by
  unfold Ins.cols Args.cols
  exact congrArg₂ (fun a b : EReal => a + b)
    (Finset.sum_congr rfl fun n _ => congrArg₂ (fun a b : EReal => a * b) (b2 m c t k q _) (rows_at m c t 0 k n l))
    (Finset.sum_congr rfl fun n _ => congrArg₂ (fun a b : EReal => a * b) (b2 m c t k q _) (rows_at m c t 1 k n l))

theorem out_at (q : Fin 128) (k : Fin 16) (d : Fin 256) : (ins m c t).out q k d = (args m c).out (seq_ t) q (freq t k) d := by
  unfold Ins.out Args.out
  exact congrArg₂ (fun a b : EReal => a + b)
    (Finset.sum_congr rfl fun l _ => congrArg₂ (fun a b : EReal => a * b) (cols_at m c t k _ l) (b3 m c t 0 l d))
    (Finset.sum_congr rfl fun l _ => congrArg₂ (fun a b : EReal => a * b) (cols_at m c t k _ l) (b3 m c t 1 l d))

/-- The whole mixer. -/
def res (A : Args) : S4x128x64x256.Idx → EReal := fun y => A.out (y 0) (y 1) (y 2) (y 3)

theorem block (q : Fin 128) (k : Fin 16) (d : Fin 256) : outsAt0 m c t (ix4 0 q k d) = (args m c).out (seq_ t) q (freq t k) d := by
  rw [out_eq m c t]
  exact (leaves_at (ins m c t) (ix4 0 q k d)).trans (out_at m c t q k d)

theorem arr_eq : (dats m 0 c).arrAt 4 cfg0.N = res (args m c) := by
  refine (dats m 0 c).arrAt_eq_of_covers 4 _ (by decide +kernel) fun t hf y => ?_
  blk_simp
  rw [after0_4]
  have ht := lt16 t
  have e := (idx t).2.2.2.2
  change S1x128x16x256.Idx at y
  obtain ⟨a, q, k, d, rfl⟩ : ∃ a q k d, y = ix4 a q k d := ⟨_, _, _, _, eq_ix4 y⟩
  change Fin 1 at a
  change Fin 128 at q
  change Fin 16 at k
  change Fin 256 at d
  obtain rfl : a = 0 := Subsingleton.elim _ _
  have E : (win0_4.blk t).view.emb (ix4 0 q k d) = ix4 (seq_ t) q (freq t k) d := by
    blk_ext [e]
  rw [E]
  exact block m c t q k d

theorem ref_eq (A : Args) : DftReferenceIdeal.Read.val_main_v24 (F := Ideal) A.x A.f A.g A.cs = res A := by
  funext y
  change S4x128x64x256.Idx at y
  obtain ⟨b, q, k, d, rfl⟩ : ∃ b q k d, y = ix4 b q k d := ⟨_, _, _, _, eq_ix4 y⟩
  exact DftReferenceIdeal.Value.out_at A b k q d

end Cert.DftIdeal.Join

end
-- ==== Proof.MergeFirstBlk.lean ====
module

public import proofs.«01_k».proof.Proof.MergeBlk
public import proofs.«01_k».proof.Proof.Gen.MergeFirstIdeal.Frame
public import Idealize.ShloMosaic.Lib.Pipeline.ValueKit

@[expose] public section

set_option maxRecDepth 16384

/-! What a grid point of the first layer's end leaves in its output block: the last layer's term without the last norm. -/

noncomputable section

namespace Cert.MergeFirstIdeal.Blk

open Cert.MergeFirstIdeal Cert.MergeFirstIdeal.Gen Idealize.ShloMosaic Idealize.ShloMosaic.TcCoe Idealize.SL.Sem Idealize.ShloMosaic.StableHlo

variable {F : FTy → Type} [FloatOps F]

/-! The values the two layers' launches have in common. -/

theorem pay2 : @k0_pay2 F _ = MergeIdeal.Gen.k0_pay2 := rfl
theorem pay3 : @k0_pay3 F _ = MergeIdeal.Gen.k0_pay3 := rfl
theorem pay4 : @k0_pay4 F _ = MergeIdeal.Gen.k0_pay4 := rfl
theorem pay5 : @k0_pay5 F _ = MergeIdeal.Gen.k0_pay5 := rfl
theorem pay6 : @k0_pay6 F = MergeIdeal.Gen.k0_pay6 := rfl
theorem pay7 : @k0_pay7 F _ = MergeIdeal.Gen.k0_pay7 := rfl
theorem pay8 : @k0_pay8 F _ = MergeIdeal.Gen.k0_pay8 := rfl
theorem pay9 : @k0_pay9 F _ = MergeIdeal.Gen.k0_pay9 := rfl
theorem pay10 : @k0_pay10 F _ = MergeIdeal.Gen.k0_pay10 := rfl
theorem pay11 : @k0_pay11 F _ = MergeIdeal.Gen.k0_pay11 := rfl
theorem pay12 : @k0_pay12 F _ = MergeIdeal.Gen.k0_pay12 := rfl
theorem pay13 : @k0_pay13 F _ = MergeIdeal.Gen.k0_pay13 := rfl
theorem pay14 : @k0_pay14 F _ = MergeIdeal.Gen.k0_pay14 := rfl
theorem pay15 : @k0_pay15 F _ = MergeIdeal.Gen.k0_pay15 := rfl
theorem pay16 : @k0_pay16 F _ = MergeIdeal.Gen.k0_pay16 := rfl
theorem pay17 : @k0_pay17 F _ = MergeIdeal.Gen.k0_pay17 := rfl
theorem pay18 : @k0_pay18 F _ = MergeIdeal.Gen.k0_pay18 := rfl
theorem pay19 : @k0_pay19 F _ = MergeIdeal.Gen.k0_pay19 := rfl
theorem pay20 : @k0_pay20 F _ = MergeIdeal.Gen.k0_pay20 := rfl
theorem pay21 : @k0_pay21 F _ = MergeIdeal.Gen.k0_pay21 := rfl

/-- The perceptron and its residual, from the stream after the mixers. -/
def fin (x1 : Vec F S1x6x1024 .f32) (x13 : Vec F S1x1024 .f32) (x14 : Vec F S1x1024x4096 .bf16) (x15 : Vec F S1x4096x1024 .bf16) (v : Vec F S512x1024 .f32) : FVec F S512x1024 .f32 :=
  k0_pay1 v (MergeIdeal.Blk.three x1 x13 x14 x15 v) (MergeIdeal.Blk.fourth x1 x13 x14 v)
    (View.ld x15 (Rect.unit (s := S1x4096x1024) ![0, 3072, 0] S1x1024x1024.size inb_S1x4096x1024_S1x1024x1024_0_3072_0))
    (View.ld x1 (Rect.unit (s := S1x6x1024) ![0, 5, 0] S1x1x1024.size inb_S1x6x1024_S1x1x1024_0_5_0))

/-- The block a grid point leaves, from its input blocks. -/
def leaves (n : ℕ) (x0 : Vec F S512x1024 .f32) (x1 : Vec F S1x6x1024 .f32) (x2 : Vec F S512x256 .f32) (x3 : Vec F S512x768 .bf16) (x4 x5 : Vec F S16x768 .bf16) (x6 : Vec F S512x512 .bf16)
    (x7 : Vec F S512x3072 .bf16) (x8 : Vec F S3x256 .f32) (x9 x10 : Vec F S1x256x1024 .bf16) (x11 : Vec F S1x512x1024 .bf16) (x12 : Vec F S1x1024x1024 .bf16)
    (x13 : Vec F S1x1024 .f32) (x14 : Vec F S1x1024x4096 .bf16) (x15 : Vec F S1x4096x1024 .bf16) : Vec F S512x1024 .f32 :=
  View.canon [(⟨Rect.unit (s := S512x1024) ![0, 0] S512x1024.size inb_S512x1024_S512x1024_0_0,
    fin x1 x13 x14 x15 (MergeIdeal.Blk.stream n x0 x1 x2 x3 x4 x5 x6 x7 x8 x9 x10 x11 x12)⟩ : View.Piece (Elt F) S512x1024 .f32)]

variable (m : (ℓ : Loc nD τ sig) → Buf (Elt F) ℓ) (c : Dev nD) (t : Fin cfg0.N)

theorem out_eq : outsAt0 m c t = leaves ((grid0.coords t) 0).val (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) := by
  unfold outsAt0 out0_A_17
  rw [View.read_writes_junk_eq_canon]
  unfold kernelRun0_A
  dsimp only
  simp only [kernelRun0_A.sl.v181, kernelRun0_A.sl.r_18, kernelRun0_A.sl.r_19, kernelRun0_A.sl.HS1_2, kernelRun0_A.sl.HS0_1, kernelRun0_A.sl.r_16, kernelRun0_A.sl.r_17,
    kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8,
    kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r,
    kernelRun0_A.sl.v82, kernelRun0_A.sl.v95, MergeIdeal.Blk.load_eq, MergeIdeal.Blk.back_eq, pay2, pay3, pay4, pay5, pay6, pay7, pay8, pay9, pay10, pay11, pay12, pay13, pay14,
    pay15, pay16, pay17, pay18, pay19, pay20, pay21, MergeIdeal.Blk.pay10, MergeIdeal.Blk.pay11, MergeIdeal.Blk.pay12, MergeIdeal.Blk.second_half]
  rfl

end Cert.MergeFirstIdeal.Blk

end
-- ==== Proof.MergeFirstBlock.lean ====
module

public import proofs.«01_k».proof.Proof.MergeFirstBlk
public import proofs.«01_k».proof.Proof.MergeBlock

@[expose] public section

set_option maxRecDepth 16384

/-! A grid point's block of the first layer's end, row by row: each row is the layer's end before the last norm. -/

noncomputable section

namespace Cert.MergeFirstIdeal.Blk

open Cert.MergeFirstIdeal Cert.MergeFirstIdeal.Gen Cert.Layer Idealize.ShloMosaic Idealize.ShloMosaic.TcCoe Idealize.SL.Sem Idealize.ShloMosaic.StableHlo

theorem pay1 (v181 : Vec Ideal S512x1024 .f32) (v237 : FVec Ideal S512x1024 .f32) (v244 : FVec Ideal S512x1024 .bf16) (v245 : Vec Ideal S1x1024x1024 .bf16) (v249 : Vec Ideal S1x1x1024 .f32)
    (i : Fin 512) (k : Fin 1024) : k0_pay1 v181 v237 v244 v245 v249 (ix2 i k) =
      v181 (ix2 i k) + v249 (ix3 0 0 k) * (v237 (ix2 i k) + ∑ m : Fin 1024, (v244 (ix2 i m) * v245 (ix3 0 m k) : EReal)) := by
  pointwise [k0_pay1]

variable (B : MergeIdeal.Blk.Ins) (n : Fin 64)

theorem last_at (i : Fin 512) (j : Fin 1024) :
    leaves n.val B.x B.mod B.f B.cv B.pr B.nx B.at' B.gt B.cw B.wf B.wc B.wa B.wo B.n2 B.w1 B.w2 (ix2 i j) = (B.row n.val i).last j := by
  unfold leaves fin
  have h2 : (![0, 0] : Fin 2 → ℕ) = fun _ => 0 := funext fun a => by fin_cases a <;> rfl
  have hv := MergeIdeal.Blk.stream_at B n i
  rw [View.canon_unit_zero h2, pay1, hv, ld3 B.mod 0 5 0 _ 0 0 j 0 5 j rfl rfl (by omega)]
  exact congrArg (fun s : EReal => (B.row n.val i).mid j + B.mod (ix3 0 5 j) * s) (MergeIdeal.Blk.sum_at B n _ i hv j)

end Cert.MergeFirstIdeal.Blk

end
-- ==== Proof.MergeFirstRef.lean ====
module

public import proofs.«01_k».proof.Proof.MergeRef
public import proofs.«01_k».proof.Proof.Gen.MergeFirstReferenceIdeal.Read

@[expose] public section

set_option maxRecDepth 16384

/-! The reference of the first layer's end: the last layer's, before its last norm, on arguments whose second layer's weights are the first's. -/

noncomputable section

namespace Cert.MergeFirstReferenceIdeal.Value

open Cert.MergeFirstReferenceIdeal Cert.MergeFirstReferenceIdeal.Gen Cert.MergeFirstReferenceIdeal.Read Idealize.ShloMosaic Idealize.ShloMosaic.TcCoe Idealize.SL.Sem Idealize.ShloMosaic.StableHlo

/-- Both layers' weights set to the first's. -/
def low {a b : ℕ} (w : FVec Ideal (⟨3, ![2, a, b]⟩ : Shape) .f32) : FVec Ideal (⟨3, ![2, a, b]⟩ : Shape) .f32 := fun y => w (ix3 0 (y 1) (y 2))

def low1 {a : ℕ} (w : FVec Ideal (⟨2, ![2, a]⟩ : Shape) .f32) : FVec Ideal (⟨2, ![2, a]⟩ : Shape) .f32 := fun y => w (ix2 0 (y 1))

/-- The arguments with the first layer's weights for the second's. -/
def first (A : MergeReferenceIdeal.Value.Args) : MergeReferenceIdeal.Value.Args :=
  { A with cw := low A.cw, wf := low A.wf, wc := low A.wc, wa := low A.wa, wo := low A.wo, n2 := low1 A.n2, w1 := low A.w1, w2 := low A.w2 }

variable (A : MergeReferenceIdeal.Value.Args)

/-! The weights' slices. -/

/-- The first layer's slice of weights is the second's where both layers' weights are the first's. -/
theorem slab {a b d e o : ℕ} (w : FVec Ideal (⟨3, ![2, a, b]⟩ : Shape) .f32) (h0 : (⟨3, ![2, a, b]⟩ : Shape).Slices ![0, o, 0] (⟨3, ![1, d, e]⟩ : Shape))
    (h1 : (⟨3, ![2, a, b]⟩ : Shape).Slices ![1, o, 0] (⟨3, ![1, d, e]⟩ : Shape)) :
    extractStridedSlice (⟨3, ![1, d, e]⟩ : Shape) ![0, o, 0] w h0 = extractStridedSlice (⟨3, ![1, d, e]⟩ : Shape) ![1, o, 0] (low w) h1 := by
  funext y
  obtain ⟨i, j, k, rfl⟩ : ∃ i j k, y = ix3 i j k := ⟨_, _, _, eq_ix3 y⟩
  refine congrArg w (funext fun x => ?_)
  fin_cases x
  · exact Fin.ext (by show 0 + i.val = 0; omega)
  · rfl
  · rfl

theorem slab1 {a : ℕ} (w : FVec Ideal (⟨2, ![2, a]⟩ : Shape) .f32) (h0 : (⟨2, ![2, a]⟩ : Shape).Slices ![0, 0] (⟨2, ![1, a]⟩ : Shape))
    (h1 : (⟨2, ![2, a]⟩ : Shape).Slices ![1, 0] (⟨2, ![1, a]⟩ : Shape)) :
    extractStridedSlice (⟨2, ![1, a]⟩ : Shape) ![0, 0] w h0 = extractStridedSlice (⟨2, ![1, a]⟩ : Shape) ![1, 0] (low1 w) h1 := by
  funext y
  obtain ⟨i, j, rfl⟩ : ∃ i j, y = ix2 i j := ⟨_, _, eq_ix2 y⟩
  refine congrArg w (funext fun x => ?_)
  fin_cases x
  · exact Fin.ext (by show 0 + i.val = 0; omega)
  · rfl

/-! The modulation's rows and the branch gates. -/

theorem mod2 : val_main_v14 (F := Ideal) A.mod = MergeReferenceIdeal.Read.val_main_v10 (F := Ideal) A.mod := by
  funext y
  change S4x1x1024.Idx at y
  obtain ⟨b, z, j, rfl⟩ : ∃ b z j, y = ix3 b z j := ⟨_, _, _, eq_ix3 y⟩
  obtain rfl : z = 0 := Subsingleton.elim _ _
  refine Eq.trans ?_ (MergeReferenceIdeal.Value.mod2 A b j).symm
  pointwise [val_main_v14]

theorem mod3 : val_main_v15 (F := Ideal) A.mod = MergeReferenceIdeal.Read.val_main_v13 (F := Ideal) A.mod := by
  funext y
  change S4x1x1024.Idx at y
  obtain ⟨b, z, j, rfl⟩ : ∃ b z j, y = ix3 b z j := ⟨_, _, _, eq_ix3 y⟩
  obtain rfl : z = 0 := Subsingleton.elim _ _
  refine Eq.trans ?_ (MergeReferenceIdeal.Value.mod3 A b j).symm
  pointwise [val_main_v15]

theorem mod4 : val_main_v16 (F := Ideal) A.mod = MergeReferenceIdeal.Read.val_main_v16 (F := Ideal) A.mod := by
  funext y
  change S4x1x1024.Idx at y
  obtain ⟨b, z, j, rfl⟩ : ∃ b z j, y = ix3 b z j := ⟨_, _, _, eq_ix3 y⟩
  obtain rfl : z = 0 := Subsingleton.elim _ _
  refine Eq.trans ?_ (MergeReferenceIdeal.Value.mod4 A b j).symm
  pointwise [val_main_v16]

theorem mod5 : val_main_v17 (F := Ideal) A.mod = MergeReferenceIdeal.Read.val_main_v19 (F := Ideal) A.mod := by
  funext y
  change S4x1x1024.Idx at y
  obtain ⟨b, z, j, rfl⟩ : ∃ b z j, y = ix3 b z j := ⟨_, _, _, eq_ix3 y⟩
  obtain rfl : z = 0 := Subsingleton.elim _ _
  refine Eq.trans ?_ (MergeReferenceIdeal.Value.mod5 A b j).symm
  pointwise [val_main_v17]

theorem sig_at (b : Fin 4) (i : Fin 8192) (j : Fin 3072) : val_main_v13 (F := Ideal) A.gt (ix3 b i j) = Layer.sig (A.gt (ix2 (MergeReferenceIdeal.Value.rho b i) j)) := by
  pointwise [val_main_v13, val_main_v12, val_main_v11, val_main_v10, val_main_v9, val_main_v8, val_main_v7, val_main_v6, val_main_cst, val_main_cst_0]
  rfl

theorem sig0 : val_main_v44 (F := Ideal) A.gt = MergeReferenceIdeal.Read.val_main_v52 (F := Ideal) A.gt := by
  funext y
  change S4x8192x1024.Idx at y
  obtain ⟨b, i, j, rfl⟩ : ∃ b i j, y = ix3 b i j := ⟨_, _, _, eq_ix3 y⟩
  refine Eq.trans ?_ (MergeReferenceIdeal.Value.sig0 A b i j).symm
  pointwise [val_main_v44]
  exact sig_at A b i _

theorem sig1 : val_main_v49 (F := Ideal) A.gt = MergeReferenceIdeal.Read.val_main_v63 (F := Ideal) A.gt := by
  funext y
  change S4x8192x1024.Idx at y
  obtain ⟨b, i, j, rfl⟩ : ∃ b i j, y = ix3 b i j := ⟨_, _, _, eq_ix3 y⟩
  refine Eq.trans ?_ (MergeReferenceIdeal.Value.sig1 A b i j).symm
  pointwise [val_main_v49]
  exact sig_at A b i _

theorem sig2 : val_main_v55 (F := Ideal) A.gt = MergeReferenceIdeal.Read.val_main_v75 (F := Ideal) A.gt := by
  funext y
  change S4x8192x1024.Idx at y
  obtain ⟨b, i, j, rfl⟩ : ∃ b i j, y = ix3 b i j := ⟨_, _, _, eq_ix3 y⟩
  refine Eq.trans ?_ (MergeReferenceIdeal.Value.sig2 A b i j).symm
  pointwise [val_main_v55]
  exact sig_at A b i _

/-! The stages, each the last layer's. -/

theorem conv_eq : val_main_v43 (F := Ideal) A.cv A.cw = MergeReferenceIdeal.Read.val_main_v45 (F := Ideal) A.cv (low A.cw) := by
  have h0 : val_main_v23 (F := Ideal) A.cw = MergeReferenceIdeal.Read.val_main_v25 (F := Ideal) (low A.cw) := slab A.cw _ _
  have h1 : val_main_v29 (F := Ideal) A.cw = MergeReferenceIdeal.Read.val_main_v31 (F := Ideal) (low A.cw) := slab A.cw _ _
  have h2 : val_main_v36 (F := Ideal) A.cw = MergeReferenceIdeal.Read.val_main_v38 (F := Ideal) (low A.cw) := slab A.cw _ _
  unfold val_main_v43 val_main_v42 val_main_v41 val_main_v40 val_main_v39 val_main_v37 val_main_v35 val_main_v34 val_main_v33 val_main_v32 val_main_v30 val_main_v28 val_main_v27
    val_main_v26 val_main_v24
  rw [h0, h1, h2]
  rfl

theorem df_eq : val_main_v47 (F := Ideal) A.f A.wf = MergeReferenceIdeal.Read.val_main_v55 (F := Ideal) A.f (low A.wf) := by
  have h : val_main_v45 (F := Ideal) A.wf = MergeReferenceIdeal.Read.val_main_v53 (F := Ideal) (low A.wf) := slab A.wf _ _
  unfold val_main_v47 val_main_v46
  rw [h]
  rfl

theorem dc_eq : val_main_v52 (F := Ideal) A.cv A.cw A.wc = MergeReferenceIdeal.Read.val_main_v66 (F := Ideal) A.cv (low A.cw) (low A.wc) := by
  have h : val_main_v50 (F := Ideal) A.wc = MergeReferenceIdeal.Read.val_main_v64 (F := Ideal) (low A.wc) := slab A.wc _ _
  unfold val_main_v52 val_main_v51
  rw [h, conv_eq]
  rfl

theorem da_eq : val_main_v58 (F := Ideal) A.at' A.wa = MergeReferenceIdeal.Read.val_main_v78 (F := Ideal) A.at' (low A.wa) := by
  have h : val_main_v56 (F := Ideal) A.wa = MergeReferenceIdeal.Read.val_main_v76 (F := Ideal) (low A.wa) := slab A.wa _ _
  unfold val_main_v58 val_main_v57
  rw [h]
  rfl

theorem mix_eq : val_main_v60 (F := Ideal) A.f A.cv A.at' A.gt A.cw A.wf A.wc A.wa
    = MergeReferenceIdeal.Read.val_main_v80 (F := Ideal) A.f A.cv A.at' A.gt (low A.cw) (low A.wf) (low A.wc) (low A.wa) := by
  unfold val_main_v60 val_main_v59 val_main_v54 val_main_v53 val_main_v48
  rw [sig0, sig1, sig2, df_eq, dc_eq, da_eq]
  rfl

theorem mid_eq : val_main_v66 (F := Ideal) A.x A.mod A.f A.cv A.at' A.gt A.cw A.wf A.wc A.wa A.wo
    = MergeReferenceIdeal.Read.val_main_v86 (F := Ideal) A.x A.mod A.f A.cv A.at' A.gt (low A.cw) (low A.wf) (low A.wc) (low A.wa) (low A.wo) := by
  have h : val_main_v61 (F := Ideal) A.wo = MergeReferenceIdeal.Read.val_main_v81 (F := Ideal) (low A.wo) := slab A.wo _ _
  unfold val_main_v66 val_main_v65 val_main_v64 val_main_v63 val_main_v62
  rw [h, mod2, mix_eq]
  rfl

theorem hid_eq : val_main_v87 (F := Ideal) A.x A.mod A.f A.cv A.at' A.gt A.cw A.wf A.wc A.wa A.wo A.n2
    = MergeReferenceIdeal.Read.val_main_v107 (F := Ideal) A.x A.mod A.f A.cv A.at' A.gt (low A.cw) (low A.wf) (low A.wc) (low A.wa) (low A.wo) (low1 A.n2) := by
  have h : val_main_v67 (F := Ideal) A.n2 = MergeReferenceIdeal.Read.val_main_v87 (F := Ideal) (low1 A.n2) := slab1 A.n2 _ _
  unfold val_main_v87 val_main_v86 val_main_v85 val_main_v84 val_main_v83 val_main_v81 val_main_v80 val_main_v79 val_main_v78 val_main_v77 val_main_v76 val_main_v75 val_main_v73
    val_main_v71 val_main_v70 val_main_v69 val_main_v68
  rw [h, mod3, mod4, mid_eq]
  rfl

theorem act_eq : val_main_v92 (F := Ideal) A.x A.mod A.f A.cv A.at' A.gt A.cw A.wf A.wc A.wa A.wo A.n2 A.w1
    = MergeReferenceIdeal.Read.val_main_v112 (F := Ideal) A.x A.mod A.f A.cv A.at' A.gt (low A.cw) (low A.wf) (low A.wc) (low A.wa) (low A.wo) (low1 A.n2) (low A.w1) := by
  have h : val_main_v88 (F := Ideal) A.w1 = MergeReferenceIdeal.Read.val_main_v108 (F := Ideal) (low A.w1) := slab A.w1 _ _
  unfold val_main_v92 val_main_v91 val_main_v90 val_main_v89
  rw [h, hid_eq]
  rfl

theorem last_eq : val_main_v98 (F := Ideal) A.x A.mod A.f A.cv A.at' A.gt A.cw A.wf A.wc A.wa A.wo A.n2 A.w1 A.w2
    = MergeReferenceIdeal.Read.val_main_v118 (F := Ideal) A.x A.mod A.f A.cv A.at' A.gt (low A.cw) (low A.wf) (low A.wc) (low A.wa) (low A.wo) (low1 A.n2) (low A.w1) (low A.w2) := by
  have h : val_main_v93 (F := Ideal) A.w2 = MergeReferenceIdeal.Read.val_main_v113 (F := Ideal) (low A.w2) := slab A.w2 _ _
  unfold val_main_v98 val_main_v97 val_main_v96 val_main_v95 val_main_v94
  rw [h, mod5, mid_eq, act_eq]
  rfl

/-- The reference's result at a row. -/
theorem result (r : Fin 32768) (j : Fin 1024) :
    val_main_v99 (F := Ideal) A.x A.mod A.f A.cv A.at' A.gt A.cw A.wf A.wc A.wa A.wo A.n2 A.w1 A.w2 (ix2 r j) = ((first A).row r).last j := by
  have e : val_main_v99 (F := Ideal) A.x A.mod A.f A.cv A.at' A.gt A.cw A.wf A.wc A.wa A.wo A.n2 A.w1 A.w2 (ix2 r j)
      = val_main_v98 (F := Ideal) A.x A.mod A.f A.cv A.at' A.gt A.cw A.wf A.wc A.wa A.wo A.n2 A.w1 A.w2 (ix3 ⟨r.val / 8192, by omega⟩ ⟨r.val % 8192, by omega⟩ j) := by
    pointwise [val_main_v99]
  rw [e, last_eq]
  refine (MergeReferenceIdeal.Value.last_at (first A) _ _ j).trans ?_
  exact congrArg (fun s => ((first A).row s).last j) (Fin.ext (by show r.val / 8192 * 8192 + r.val % 8192 = r.val; omega))

end Cert.MergeFirstReferenceIdeal.Value

end
-- ==== Proof.MergeFirstJoin.lean ====
module

public import proofs.«01_k».proof.Proof.MergeFirstBlock
public import proofs.«01_k».proof.Proof.MergeFirstRef
public import proofs.«01_k».proof.Proof.MergeJoin
public import proofs.«01_k».proof.Proof.Gen.MergeFirstIdeal.Value

@[expose] public section

set_option maxRecDepth 16384

/-! The first layer's launch: its blocks among the arguments, and so the whole result: each of its rows is the layer's end, before
the last norm, on the row's data with the first layer's weights. -/

noncomputable section

namespace Cert.MergeFirstIdeal.Join

open Cert.MergeFirstIdeal Cert.MergeFirstIdeal.Gen Cert.MergeFirstIdeal.Blk Idealize.ShloMosaic Idealize.ShloMosaic.TcCoe Idealize.ShloMosaic.Tactic Idealize.SL.Sem Idealize.ShloMosaic.StableHlo

/-- The windows' block indices. -/
theorem idx : ∀ t : Fin cfg0.N,
    win0_0.index t = ![t.val, 0] ∧ win0_1.index t = ![t.val / 16, 0, 0] ∧ win0_2.index t = ![t.val, 0] ∧ win0_3.index t = ![t.val, 0] ∧
    win0_4.index t = ![32 * t.val - 1, 0] ∧ win0_5.index t = ![min (32 * t.val + 32) 2047, 0] ∧ win0_6.index t = ![t.val, 0] ∧ win0_7.index t = ![t.val, 0] ∧
    win0_8.index t = ![0, 0] ∧ win0_9.index t = ![0, 0, 0] ∧ win0_10.index t = ![0, 0, 0] ∧ win0_11.index t = ![0, 0, 0] ∧ win0_12.index t = ![0, 0, 0] ∧
    win0_13.index t = ![0, 0] ∧ win0_14.index t = ![0, 0, 0] ∧ win0_15.index t = ![0, 0, 0] ∧ win0_16.index t = ![0, 0] ∧ win0_17.index t = ![t.val, 0] := by
  decide +kernel

theorem coord : ∀ t : Fin cfg0.N, ((grid0.coords t) 0).val = t.val := by
  decide +kernel

theorem lt64 (t : Fin cfg0.N) : t.val < 64 := t.isLt

variable (m : (ℓ : Loc nD τ sig) → Buf (Elt Ideal) ℓ) (c : Dev nD) (t : Fin cfg0.N)

/-- The arguments. -/
def args : MergeReferenceIdeal.Value.Args where
  x := m ((c : Thread nD τ).loc main_arg0)
  mod := m ((c : Thread nD τ).loc main_arg1)
  f := m ((c : Thread nD τ).loc main_arg2)
  cv := m ((c : Thread nD τ).loc main_arg3)
  at' := m ((c : Thread nD τ).loc main_arg4)
  gt := m ((c : Thread nD τ).loc main_arg5)
  cw := m ((c : Thread nD τ).loc main_arg6)
  wf := m ((c : Thread nD τ).loc main_arg7)
  wc := m ((c : Thread nD τ).loc main_arg8)
  wa := m ((c : Thread nD τ).loc main_arg9)
  wo := m ((c : Thread nD τ).loc main_arg10)
  n2 := m ((c : Thread nD τ).loc main_arg11)
  w1 := m ((c : Thread nD τ).loc main_arg12)
  w2 := m ((c : Thread nD τ).loc main_arg13)
  nf := m ((c : Thread nD τ).loc main_arg14)

/-- A grid point's blocks. -/
def ins : MergeIdeal.Blk.Ins where
  x := iblk m c 0 t
  mod := iblk m c 1 t
  f := iblk m c 2 t
  cv := iblk m c 3 t
  pr := iblk m c 4 t
  nx := iblk m c 5 t
  at' := iblk m c 6 t
  gt := iblk m c 7 t
  cw := iblk m c 8 t
  wf := iblk m c 9 t
  wc := iblk m c 10 t
  wa := iblk m c 11 t
  wo := iblk m c 12 t
  n2 := iblk m c 13 t
  w1 := iblk m c 14 t
  w2 := iblk m c 15 t
  nf := iblk m c 16 t

/-! What the host hands the launch. -/

theorem v0 (j : Fin 1024) : (V m c main_v0 : Vec Ideal S1x1024 .f32) (ix2 0 j) = (args m c).nf (ix1 j) := by
  have e : (V m c main_v0 : Vec Ideal S1x1024 .f32) = shapeCast S1x1024 (args m c).nf shapeCasts_S1024_S1x1024 := by
    unfold_abbrev_sides
    after_results
    rfl
  rw [e]
  generalize (args m c).nf = a
  pointwise []

theorem v9 (j : Fin 1024) : (V m c main_v9 : Vec Ideal S1x1024 .f32) (ix2 0 j) = (args m c).n2 (ix2 0 j) := by
  have e : (V m c main_v9 : Vec Ideal S1x1024 .f32) = shapeCast S1x1024 (shapeCast S1024 (extractStridedSlice S1x1024 ![0, 0] (args m c).n2 slices_S2x1024_S1x1024_0_0) shapeCasts_S1x1024_S1024) shapeCasts_S1024_S1x1024 := by
    unfold_abbrev_sides
    after_results
    rfl
  rw [e]
  generalize (args m c).n2 = a
  pointwise []

theorem v11 (k : Fin 3) (j : Fin 256) : (V m c main_v11 : Vec Ideal S3x256 .f32) (ix2 k j) = (args m c).cw (ix3 0 k j) := by
  have e : (V m c main_v11 : Vec Ideal S3x256 .f32) = shapeCast S3x256 (extractStridedSlice S1x3x256 ![0, 0, 0] (args m c).cw slices_S2x3x256_S1x3x256_0_0_0) shapeCasts_S1x3x256_S3x256 := by
    unfold_abbrev_sides
    after_results
    rfl
  rw [e]
  generalize (args m c).cw = a
  pointwise []

theorem v1 : (V m c main_v1 : S2x256x1024.Idx → EReal) = (args m c).wf := by unfold_abbrev_sides; after_results; rfl
theorem v2 : (V m c main_v2 : S2x256x1024.Idx → EReal) = (args m c).wc := by unfold_abbrev_sides; after_results; rfl
theorem v3 : (V m c main_v3 : S2x512x1024.Idx → EReal) = (args m c).wa := by unfold_abbrev_sides; after_results; rfl
theorem v4 : (V m c main_v4 : S2x1024x1024.Idx → EReal) = (args m c).wo := by unfold_abbrev_sides; after_results; rfl
theorem v5 : (V m c main_v5 : S2x1024x4096.Idx → EReal) = (args m c).w1 := by unfold_abbrev_sides; after_results; rfl
theorem v6 : (V m c main_v6 : S2x4096x1024.Idx → EReal) = (args m c).w2 := by unfold_abbrev_sides; after_results; rfl

/-! The blocks. -/

theorem b0 (i : Fin 512) (j : Fin 1024) : (ins m c t).x (ix2 i j) = (args m c).x (ix2 ⟨t.val * 512 + i.val, by have := lt64 t; omega⟩ j) := by
  have e := (idx t).1
  have h : iblk m c 0 t (ix2 i j) = V m c main_arg0 (ix2 ⟨t.val * 512 + i.val, by have := lt64 t; omega⟩ j) := by blk_ext [iblk, e]
  exact h.trans (congrFun (V_main_arg0 m c) _)

theorem b1 (k : Fin 6) (j : Fin 1024) : (ins m c t).mod (ix3 0 k j) = (args m c).mod (ix3 ⟨t.val / 16, by have := lt64 t; omega⟩ k j) := by
  have e := (idx t).2.1
  have h : iblk m c 1 t (ix3 0 k j) = V m c main_arg1 (ix3 ⟨t.val / 16, by have := lt64 t; omega⟩ k j) := by blk_ext [iblk, e]
  exact h.trans (congrFun (V_main_arg1 m c) _)

theorem b2 (i : Fin 512) (j : Fin 256) : (ins m c t).f (ix2 i j) = (args m c).f (ix2 ⟨t.val * 512 + i.val, by have := lt64 t; omega⟩ j) := by
  have e := (idx t).2.2.1
  have h : iblk m c 2 t (ix2 i j) = V m c main_arg2 (ix2 ⟨t.val * 512 + i.val, by have := lt64 t; omega⟩ j) := by blk_ext [iblk, e]
  exact h.trans (congrFun (V_main_arg2 m c) _)

theorem b3 (i : Fin 512) (j : Fin 768) : (ins m c t).cv (ix2 i j) = (args m c).cv (ix2 ⟨t.val * 512 + i.val, by have := lt64 t; omega⟩ j) := by
  have e := (idx t).2.2.2.1
  have h : iblk m c 3 t (ix2 i j) = V m c main_arg3 (ix2 ⟨t.val * 512 + i.val, by have := lt64 t; omega⟩ j) := by blk_ext [iblk, e]
  exact h.trans (congrFun (V_main_arg3 m c) _)

theorem b4 (i : Fin 16) (j : Fin 768) : (ins m c t).pr (ix2 i j) = (args m c).cv (ix2 ⟨(32 * t.val - 1) * 16 + i.val, by have := lt64 t; omega⟩ j) := by
  have e := (idx t).2.2.2.2.1
  have h : iblk m c 4 t (ix2 i j) = V m c main_arg3 (ix2 ⟨(32 * t.val - 1) * 16 + i.val, by have := lt64 t; omega⟩ j) := by blk_ext [iblk, e]
  exact h.trans (congrFun (V_main_arg3 m c) _)

theorem b5 (i : Fin 16) (j : Fin 768) : (ins m c t).nx (ix2 i j) = (args m c).cv (ix2 ⟨min (32 * t.val + 32) 2047 * 16 + i.val, by have := lt64 t; omega⟩ j) := by
  have e := (idx t).2.2.2.2.2.1
  have h : iblk m c 5 t (ix2 i j) = V m c main_arg3 (ix2 ⟨min (32 * t.val + 32) 2047 * 16 + i.val, by have := lt64 t; omega⟩ j) := by blk_ext [iblk, e]
  exact h.trans (congrFun (V_main_arg3 m c) _)

theorem b6 (i : Fin 512) (j : Fin 512) : (ins m c t).at' (ix2 i j) = (args m c).at' (ix2 ⟨t.val * 512 + i.val, by have := lt64 t; omega⟩ j) := by
  have e := (idx t).2.2.2.2.2.2.1
  have h : iblk m c 6 t (ix2 i j) = V m c main_arg4 (ix2 ⟨t.val * 512 + i.val, by have := lt64 t; omega⟩ j) := by blk_ext [iblk, e]
  exact h.trans (congrFun (V_main_arg4 m c) _)

theorem b7 (i : Fin 512) (j : Fin 3072) : (ins m c t).gt (ix2 i j) = (args m c).gt (ix2 ⟨t.val * 512 + i.val, by have := lt64 t; omega⟩ j) := by
  have e := (idx t).2.2.2.2.2.2.2.1
  have h : iblk m c 7 t (ix2 i j) = V m c main_arg5 (ix2 ⟨t.val * 512 + i.val, by have := lt64 t; omega⟩ j) := by blk_ext [iblk, e]
  exact h.trans (congrFun (V_main_arg5 m c) _)

theorem b8 (k : Fin 3) (j : Fin 256) : (ins m c t).cw (ix2 k j) = (args m c).cw (ix3 0 k j) := by
  have e := (idx t).2.2.2.2.2.2.2.2.1
  have h : iblk m c 8 t (ix2 k j) = V m c main_v11 (ix2 k j) := by blk_ext [iblk, e]
  exact h.trans (v11 m c k j)

theorem b9 (k : Fin 256) (j : Fin 1024) : (ins m c t).wf (ix3 0 k j) = (args m c).wf (ix3 0 k j) := by
  have e := (idx t).2.2.2.2.2.2.2.2.2.1
  have h : iblk m c 9 t (ix3 0 k j) = V m c main_v1 (ix3 0 k j) := by blk_ext [iblk, e]
  exact h.trans (congrFun (v1 m c) _)

theorem b10 (k : Fin 256) (j : Fin 1024) : (ins m c t).wc (ix3 0 k j) = (args m c).wc (ix3 0 k j) := by
  have e := (idx t).2.2.2.2.2.2.2.2.2.2.1
  have h : iblk m c 10 t (ix3 0 k j) = V m c main_v2 (ix3 0 k j) := by blk_ext [iblk, e]
  exact h.trans (congrFun (v2 m c) _)

theorem b11 (k : Fin 512) (j : Fin 1024) : (ins m c t).wa (ix3 0 k j) = (args m c).wa (ix3 0 k j) := by
  have e := (idx t).2.2.2.2.2.2.2.2.2.2.2.1
  have h : iblk m c 11 t (ix3 0 k j) = V m c main_v3 (ix3 0 k j) := by blk_ext [iblk, e]
  exact h.trans (congrFun (v3 m c) _)

theorem b12 (k j : Fin 1024) : (ins m c t).wo (ix3 0 k j) = (args m c).wo (ix3 0 k j) := by
  have e := (idx t).2.2.2.2.2.2.2.2.2.2.2.2.1
  have h : iblk m c 12 t (ix3 0 k j) = V m c main_v4 (ix3 0 k j) := by blk_ext [iblk, e]
  exact h.trans (congrFun (v4 m c) _)

theorem b13 (j : Fin 1024) : (ins m c t).n2 (ix2 0 j) = (args m c).n2 (ix2 0 j) := by
  have e := (idx t).2.2.2.2.2.2.2.2.2.2.2.2.2.1
  have h : iblk m c 13 t (ix2 0 j) = V m c main_v9 (ix2 0 j) := by blk_ext [iblk, e]
  exact h.trans (v9 m c j)

theorem b14 (k : Fin 1024) (j : Fin 4096) : (ins m c t).w1 (ix3 0 k j) = (args m c).w1 (ix3 0 k j) := by
  have e := (idx t).2.2.2.2.2.2.2.2.2.2.2.2.2.2.1
  have h : iblk m c 14 t (ix3 0 k j) = V m c main_v5 (ix3 0 k j) := by blk_ext [iblk, e]
  exact h.trans (congrFun (v5 m c) _)

theorem b15 (k : Fin 4096) (j : Fin 1024) : (ins m c t).w2 (ix3 0 k j) = (args m c).w2 (ix3 0 k j) := by
  have e := (idx t).2.2.2.2.2.2.2.2.2.2.2.2.2.2.2.1
  have h : iblk m c 15 t (ix3 0 k j) = V m c main_v6 (ix3 0 k j) := by blk_ext [iblk, e]
  exact h.trans (congrFun (v6 m c) _)

theorem b16 (j : Fin 1024) : (ins m c t).nf (ix2 0 j) = (args m c).nf (ix1 j) := by
  have e := (idx t).2.2.2.2.2.2.2.2.2.2.2.2.2.2.2.2.1
  have h : iblk m c 16 t (ix2 0 j) = V m c main_v0 (ix2 0 j) := by blk_ext [iblk, e]
  exact h.trans (v0 m c j)

/-- The result's row of a block's row. -/
abbrev at_ (i : Fin 512) : Fin 32768 := ⟨t.val * 512 + i.val, by have := lt64 t; omega⟩

theorem mod_at (i : Fin 512) (k : Fin 6) (j : Fin 1024) : (ins m c t).mod (ix3 0 k j) = (args m c).mod (ix3 ⟨(at_ t i).val / 8192, by omega⟩ k j) :=
  (b1 m c t k j).trans (congrArg (fun b : Fin 4 => (args m c).mod (ix3 b k j)) (Fin.ext (by dsimp only; omega)))

open MergeFirstReferenceIdeal.Value (first)

theorem row_at (i : Fin 512) : (ins m c t).row t.val i = (first (args m c)).row (at_ t i) :=
  MergeIdeal.Join.row_eq _ _ _ _ _ (b0 m c t i) (mod_at m c t i) (b2 m c t i) (b3 m c t i)
    (MergeIdeal.Join.zp_eq _ (first (args m c)) _ (lt64 t) (b3 m c t) (b4 m c t) i) (MergeIdeal.Join.zn_eq _ (first (args m c)) _ (lt64 t) (b3 m c t) (b5 m c t) i)
    (b6 m c t i) (b7 m c t i) (b8 m c t) (b9 m c t) (b10 m c t) (b11 m c t) (b12 m c t) (b13 m c t) (b14 m c t) (b15 m c t) (b16 m c t)

/-- The result: each row the layer's end, before the last norm, on the row's data. -/
def res (A : MergeReferenceIdeal.Value.Args) : Vec Ideal S32768x1024 .f32 := fun y => ((first A).row (y 0)).last (y 1)

theorem block_at (y0 : Fin 512) (y1 : Fin 1024) : outsAt0 m c t (ix2 y0 y1) = ((first (args m c)).row (at_ t y0)).last y1 := by
  have hr := row_at m c t y0
  have e := out_eq m c t
  rw [coord] at e
  have e2 : outsAt0 m c t = leaves t.val (ins m c t).x (ins m c t).mod (ins m c t).f (ins m c t).cv (ins m c t).pr (ins m c t).nx (ins m c t).at' (ins m c t).gt (ins m c t).cw
      (ins m c t).wf (ins m c t).wc (ins m c t).wa (ins m c t).wo (ins m c t).n2 (ins m c t).w1 (ins m c t).w2 := e
  generalize ins m c t = B at e2 hr
  rw [e2, ← hr]
  exact last_at B ⟨t.val, lt64 t⟩ y0 y1

/-- The launch leaves it. -/
theorem arr_eq : (dats m 0 c).arrAt 17 cfg0.N = res (args m c) := by
  refine (dats m 0 c).arrAt_eq_of_covers 17 _ (by decide +kernel) fun t hf y => ?_
  blk_simp
  rw [after0_17]
  have ht := lt64 t
  have e := (idx t).2.2.2.2.2.2.2.2.2.2.2.2.2.2.2.2.2
  change S512x1024.Idx at y
  obtain ⟨y0, y1, rfl⟩ : ∃ y0 y1, y = ix2 y0 y1 := ⟨_, _, eq_ix2 y⟩
  change Fin 512 at y0
  change Fin 1024 at y1
  have E : (win0_17.blk t).view.emb (ix2 y0 y1) = ix2 (at_ t y0) y1 := by
    blk_ext [e]
  rw [E]
  exact block_at m c t y0 y1

/-- The reference leaves it. -/
theorem ref_eq (A : MergeReferenceIdeal.Value.Args) : MergeFirstReferenceIdeal.Read.val_main_v99 (F := Ideal) A.x A.mod A.f A.cv A.at' A.gt A.cw A.wf A.wc A.wa A.wo A.n2 A.w1 A.w2 = res A := by
  funext y
  change S32768x1024.Idx at y
  obtain ⟨y0, y1, rfl⟩ : ∃ y0 y1, y = ix2 y0 y1 := ⟨_, _, eq_ix2 y⟩
  exact MergeFirstReferenceIdeal.Value.result A y0 y1

end Cert.MergeFirstIdeal.Join

end
-- ==== Proof.lean ====
/- The proof of the claims. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Modul
public import proofs.«01_k».proof.Proof.Gen.Modul.Frame
public import proofs.«01_k».proof.Proof.Gen.ModulIdeal
public import proofs.«01_k».proof.Proof.Gen.ModulIdeal.Frame
public import proofs.«01_k».proof.Proof.Gen.ModulIdeal.Value
public import proofs.«01_k».proof.Proof.Gen.ModulReferenceIdeal
public import proofs.«01_k».proof.Proof.Gen.ModulReferenceIdeal.Run
public import proofs.«01_k».proof.Proof.Gen.ModulReferenceIdeal.Read
public import proofs.«01_k».proof.Proof.Gen.Ctx
public import proofs.«01_k».proof.Proof.Gen.Ctx.Frame
public import proofs.«01_k».proof.Proof.Gen.CtxIdeal
public import proofs.«01_k».proof.Proof.Gen.CtxIdeal.Frame
public import proofs.«01_k».proof.Proof.Gen.CtxIdeal.Value
public import proofs.«01_k».proof.Proof.Gen.CtxReferenceIdeal
public import proofs.«01_k».proof.Proof.Gen.CtxReferenceIdeal.Run
public import proofs.«01_k».proof.Proof.Gen.CtxReferenceIdeal.Read
public import proofs.«01_k».proof.Proof.Gen.Pre_ctx_finite
public import proofs.«01_k».proof.Proof.Gen.Dft
public import proofs.«01_k».proof.Proof.Gen.Dft.Frame
public import proofs.«01_k».proof.Proof.Gen.DftIdeal
public import proofs.«01_k».proof.Proof.Gen.DftIdeal.Frame
public import proofs.«01_k».proof.Proof.Gen.DftIdeal.Value
public import proofs.«01_k».proof.Proof.Gen.DftReferenceIdeal
public import proofs.«01_k».proof.Proof.Gen.DftReferenceIdeal.Run
public import proofs.«01_k».proof.Proof.Gen.DftReferenceIdeal.Read
public import proofs.«01_k».proof.Proof.Gen.MergeFirst
public import proofs.«01_k».proof.Proof.Gen.MergeFirst.Frame
public import proofs.«01_k».proof.Proof.Gen.MergeFirstIdeal
public import proofs.«01_k».proof.Proof.Gen.MergeFirstIdeal.Frame
public import proofs.«01_k».proof.Proof.Gen.MergeFirstIdeal.Value
public import proofs.«01_k».proof.Proof.Gen.MergeFirstReferenceIdeal
public import proofs.«01_k».proof.Proof.Gen.MergeFirstReferenceIdeal.Run
public import proofs.«01_k».proof.Proof.Gen.MergeFirstReferenceIdeal.Read
public import proofs.«01_k».proof.Proof.Finite
public import proofs.«01_k».proof.Proof.Run
public import proofs.«01_k».proof.Proof.Join
public import proofs.«01_k».proof.Proof.RefValue
public import proofs.«01_k».proof.Proof.MergeJoin
public import proofs.«01_k».proof.Proof.ProjJoin
public import proofs.«01_k».proof.Proof.ModulJoin
public import proofs.«01_k».proof.Proof.CtxJoin
public import proofs.«01_k».proof.Proof.DftJoin
public import proofs.«01_k».proof.Proof.MergeFirstJoin
public import Idealize.ShloMosaic.Adequacy
public import Idealize.ShloMosaic.Init

@[expose] public section

noncomputable section

namespace Cert.Proof

open Idealize.ShloMosaic Idealize.SL.Sem

/-- The reference's run leaves the arguments as they were; it has no semaphore. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run ReferenceIdeal.defs _ _).mono (fun r h => ⟨fun c => (h c).2, sem_eq_zero_of_no_sems (by decide) r.2⟩) (ReferenceIdeal.Value.run (F := Ideal) m g)

/-- On finite queries, keys and biases, the kernel and the reference leave the same array. -/
theorem algebraic : Cert.algebraic_KernelIdeal_ReferenceIdeal_pre_finite := by
  intro m g m' g' hm hargs
  refine ⟨fun c => (KernelIdeal.Gen.dat1 (KernelIdeal.Gen.V2 m g) c).arrAt 17 KernelIdeal.cfg1.N, KernelIdeal.Run.run m g,
    (θ_run ReferenceIdeal.defs _ _).mono (fun r h c => ⟨(h c).1.trans ?_, (h c).2⟩) (ReferenceIdeal.Value.run (F := Ideal) m' g')⟩
  have hX := Finite.real (hm c)
  obtain ⟨e0, e1, e2⟩ := hargs c
  refine (ReferenceIdeal.Read.val_main_v127_eq m' c).trans ?_
  rw [e0, e1, e2]
  exact (ReferenceIdeal.Value.result hX).trans (KernelIdeal.Join.arr_eq (m := m) (c := c) g hX).symm

/-- The second reference's run, the same way. -/
theorem merge_reference_frame : Cert.quiescent_MergeReferenceIdeal := fun m g _ =>
  (θ_run MergeReferenceIdeal.defs _ _).mono (fun r h => ⟨fun c => (h c).2, sem_eq_zero_of_no_sems (by decide) r.2⟩) (MergeReferenceIdeal.Value.run (F := Ideal) m g)

/-- The second reference's arguments. -/
def mergeArgs (m : (ℓ : Loc MergeReferenceIdeal.nD MergeReferenceIdeal.τ MergeReferenceIdeal.sig) → Buf (Elt Ideal) ℓ) (c : Dev MergeReferenceIdeal.nD) : MergeReferenceIdeal.Value.Args where
  x := m ((c.tc : Thread MergeReferenceIdeal.nD MergeReferenceIdeal.τ).loc MergeReferenceIdeal.main_arg0)
  mod := m ((c.tc : Thread MergeReferenceIdeal.nD MergeReferenceIdeal.τ).loc MergeReferenceIdeal.main_arg1)
  f := m ((c.tc : Thread MergeReferenceIdeal.nD MergeReferenceIdeal.τ).loc MergeReferenceIdeal.main_arg2)
  cv := m ((c.tc : Thread MergeReferenceIdeal.nD MergeReferenceIdeal.τ).loc MergeReferenceIdeal.main_arg3)
  at' := m ((c.tc : Thread MergeReferenceIdeal.nD MergeReferenceIdeal.τ).loc MergeReferenceIdeal.main_arg4)
  gt := m ((c.tc : Thread MergeReferenceIdeal.nD MergeReferenceIdeal.τ).loc MergeReferenceIdeal.main_arg5)
  cw := m ((c.tc : Thread MergeReferenceIdeal.nD MergeReferenceIdeal.τ).loc MergeReferenceIdeal.main_arg6)
  wf := m ((c.tc : Thread MergeReferenceIdeal.nD MergeReferenceIdeal.τ).loc MergeReferenceIdeal.main_arg7)
  wc := m ((c.tc : Thread MergeReferenceIdeal.nD MergeReferenceIdeal.τ).loc MergeReferenceIdeal.main_arg8)
  wa := m ((c.tc : Thread MergeReferenceIdeal.nD MergeReferenceIdeal.τ).loc MergeReferenceIdeal.main_arg9)
  wo := m ((c.tc : Thread MergeReferenceIdeal.nD MergeReferenceIdeal.τ).loc MergeReferenceIdeal.main_arg10)
  n2 := m ((c.tc : Thread MergeReferenceIdeal.nD MergeReferenceIdeal.τ).loc MergeReferenceIdeal.main_arg11)
  w1 := m ((c.tc : Thread MergeReferenceIdeal.nD MergeReferenceIdeal.τ).loc MergeReferenceIdeal.main_arg12)
  w2 := m ((c.tc : Thread MergeReferenceIdeal.nD MergeReferenceIdeal.τ).loc MergeReferenceIdeal.main_arg13)
  nf := m ((c.tc : Thread MergeReferenceIdeal.nD MergeReferenceIdeal.τ).loc MergeReferenceIdeal.main_arg14)

/-- The layer's end: the kernel and the reference leave the same array. -/
theorem merge_algebraic : Cert.algebraic_MergeIdeal_MergeReferenceIdeal := by
  intro m g m' g' _ hargs
  refine ⟨fun c => (MergeIdeal.Gen.dats m 0 c).arrAt 17 MergeIdeal.cfg0.N, MergeIdeal.Value.run_blocks m g,
    (θ_run MergeReferenceIdeal.defs _ _).mono (fun r h c => ⟨(h c).1.trans ?_, (h c).2⟩) (MergeReferenceIdeal.Value.run (F := Ideal) m' g')⟩
  obtain ⟨e0, e1, e2, e3, e4, e5, e6, e7, e8, e9, e10, e11, e12, e13, e14⟩ := hargs c
  have hA : mergeArgs m' c = MergeIdeal.Join.args m c := by
    unfold mergeArgs
    rw [e0, e1, e2, e3, e4, e5, e6, e7, e8, e9, e10, e11, e12, e13, e14]
    rfl
  refine (MergeReferenceIdeal.Read.val_main_v132_eq (StableHlo.launchContents m' c)).trans ?_
  refine Eq.trans ?_ (MergeIdeal.Join.arr_eq m c).symm
  exact (MergeIdeal.Join.ref_eq (mergeArgs m' c)).trans (congrArg MergeIdeal.Join.res hA)

/-- The third reference's run, the same way. -/
theorem proj_reference_frame : Cert.quiescent_ProjReferenceIdeal := fun m g _ =>
  (θ_run ProjReferenceIdeal.defs _ _).mono (fun r h => ⟨fun c => (h c).2.2.2.2, sem_eq_zero_of_no_sems (by decide) r.2⟩) (ProjReferenceIdeal.Value.run (F := Ideal) m g)

/-- The third reference's arguments. -/
def projArgs (m : (ℓ : Loc ProjReferenceIdeal.nD ProjReferenceIdeal.τ ProjReferenceIdeal.sig) → Buf (Elt Ideal) ℓ) (c : Dev ProjReferenceIdeal.nD) : ProjReferenceIdeal.Value.Args where
  x := m ((c.tc : Thread ProjReferenceIdeal.nD ProjReferenceIdeal.τ).loc ProjReferenceIdeal.main_arg0)
  mod := m ((c.tc : Thread ProjReferenceIdeal.nD ProjReferenceIdeal.τ).loc ProjReferenceIdeal.main_arg1)
  g := m ((c.tc : Thread ProjReferenceIdeal.nD ProjReferenceIdeal.τ).loc ProjReferenceIdeal.main_arg2)
  w := m ((c.tc : Thread ProjReferenceIdeal.nD ProjReferenceIdeal.τ).loc ProjReferenceIdeal.main_arg3)

/-- The layer's input projection: the kernel and the reference leave the same four arrays. -/
theorem proj_algebraic : Cert.algebraic_ProjIdeal_ProjReferenceIdeal := by
  intro m g m' g' _ hargs
  have hA (c : Dev ProjIdeal.nD) : projArgs m' c = ProjIdeal.Join.args m c := by
    obtain ⟨e0, e1, e2, e3⟩ := hargs c
    unfold projArgs
    rw [e0, e1, e2, e3]
    rfl
  refine ⟨fun c => (ProjIdeal.Gen.dats m 0 c).arrAt 4 ProjIdeal.cfg0.N, fun c => (ProjIdeal.Gen.dats m 0 c).arrAt 5 ProjIdeal.cfg0.N,
    fun c => (ProjIdeal.Gen.dats m 0 c).arrAt 6 ProjIdeal.cfg0.N, fun c => (ProjIdeal.Gen.dats m 0 c).arrAt 7 ProjIdeal.cfg0.N, ProjIdeal.Value.run_blocks m g,
    (θ_run ProjReferenceIdeal.defs _ _).mono (fun r h c => ⟨(h c).1.trans ?_, (h c).2.1.trans ?_, (h c).2.2.1.trans ?_, (h c).2.2.2.1.trans ?_, (h c).2.2.2.2⟩)
      (ProjReferenceIdeal.Value.run (F := Ideal) m' g')⟩
  · refine Eq.trans ?_ (ProjIdeal.Join.fourier_arr m c).symm
    exact (ProjReferenceIdeal.Read.val_main_v32_eq _ _ _ _).trans ((ProjIdeal.Join.fourier_ref (projArgs m' c)).trans (congrArg (fun A => ProjIdeal.Join.part A 0 256 (by decide)) (hA c)))
  · refine Eq.trans ?_ (ProjIdeal.Join.conv_arr m c).symm
    exact (ProjReferenceIdeal.Read.val_main_v36_eq _ _ _ _).trans ((ProjIdeal.Join.conv_ref (projArgs m' c)).trans (congrArg (fun A => ProjIdeal.Join.part A 256 768 (by decide)) (hA c)))
  · refine Eq.trans ?_ (ProjIdeal.Join.attn_arr m c).symm
    exact (ProjReferenceIdeal.Read.val_main_v37_eq _ _ _ _).trans ((ProjIdeal.Join.attn_ref (projArgs m' c)).trans (congrArg (fun A => ProjIdeal.Join.part A 1024 1536 (by decide)) (hA c)))
  · refine Eq.trans ?_ (ProjIdeal.Join.gates_arr m c).symm
    exact (ProjReferenceIdeal.Read.val_main_v38_eq _ _ _ _).trans ((ProjIdeal.Join.gates_ref (projArgs m' c)).trans (congrArg (fun A => ProjIdeal.Join.part A 2560 3072 (by decide)) (hA c)))

/-- The fourth reference's run, the same way. -/
theorem modul_reference_frame : Cert.quiescent_ModulReferenceIdeal := fun m g _ =>
  (θ_run ModulReferenceIdeal.defs _ _).mono (fun r h => ⟨fun c => (h c).2, sem_eq_zero_of_no_sems (by decide) r.2⟩) (ModulReferenceIdeal.Value.run (F := Ideal) m g)

/-- The fourth reference's arguments. -/
def modulArgs (m : (ℓ : Loc ModulReferenceIdeal.nD ModulReferenceIdeal.τ ModulReferenceIdeal.sig) → Buf (Elt Ideal) ℓ) (c : Dev ModulReferenceIdeal.nD) : ModulReferenceIdeal.Value.Args where
  x := m ((c.tc : Thread ModulReferenceIdeal.nD ModulReferenceIdeal.τ).loc ModulReferenceIdeal.main_arg0)
  w := m ((c.tc : Thread ModulReferenceIdeal.nD ModulReferenceIdeal.τ).loc ModulReferenceIdeal.main_arg1)
  b := m ((c.tc : Thread ModulReferenceIdeal.nD ModulReferenceIdeal.τ).loc ModulReferenceIdeal.main_arg2)

/-- The modulation: the kernel and the reference leave the same array. -/
theorem modul_algebraic : Cert.algebraic_ModulIdeal_ModulReferenceIdeal := by
  intro m g m' g' _ hargs
  refine ⟨fun c => (ModulIdeal.Gen.dats m 0 c).arrAt 3 ModulIdeal.cfg0.N, ModulIdeal.Value.run_blocks m g,
    (θ_run ModulReferenceIdeal.defs _ _).mono (fun r h c => ⟨(h c).1.trans ?_, (h c).2⟩) (ModulReferenceIdeal.Value.run (F := Ideal) m' g')⟩
  obtain ⟨e0, e1, e2⟩ := hargs c
  have hA : modulArgs m' c = ModulIdeal.Join.args m c := by
    unfold modulArgs
    rw [e0, e1, e2]
    rfl
  refine Eq.trans ?_ (ModulIdeal.Join.arr_eq m c).symm
  exact (ModulReferenceIdeal.Read.val_main_v20_eq _ _ _).trans ((ModulIdeal.Join.ref_eq (modulArgs m' c)).trans (congrArg ModulIdeal.Join.res hA))

/-- The fifth reference's run, the same way. -/
theorem ctx_reference_frame : Cert.quiescent_CtxReferenceIdeal := fun m g _ =>
  (θ_run CtxReferenceIdeal.defs _ _).mono (fun r h => ⟨fun c => (h c).2, sem_eq_zero_of_no_sems (by decide) r.2⟩) (CtxReferenceIdeal.Value.run (F := Ideal) m g)

/-- The context tokens' attention: on finite queries and keys, the kernel and the reference leave the same array. -/
theorem ctx_algebraic : Cert.algebraic_CtxIdeal_CtxReferenceIdeal_pre_ctx_finite := by
  intro m g m' g' hm hargs
  refine ⟨fun c => (CtxIdeal.Gen.dats m 0 c).arrAt 3 CtxIdeal.cfg0.N, CtxIdeal.Value.run_blocks m g,
    (θ_run CtxReferenceIdeal.defs _ _).mono (fun r h c => ⟨(h c).1.trans ?_, (h c).2⟩) (CtxReferenceIdeal.Value.run (F := Ideal) m' g')⟩
  have hX := CtxReferenceIdeal.Value.real_of_pre (hm c)
  refine (CtxReferenceIdeal.Read.val_main_v24_eq _).trans ?_
  rw [hargs c]
  exact (CtxReferenceIdeal.Value.result hX).trans (CtxIdeal.Join.arr_eq m c hX).symm

/-- The sixth reference's run, the same way. -/
theorem dft_reference_frame : Cert.quiescent_DftReferenceIdeal := fun m g _ =>
  (θ_run DftReferenceIdeal.defs _ _).mono (fun r h => ⟨fun c => (h c).2, sem_eq_zero_of_no_sems (by decide) r.2⟩) (DftReferenceIdeal.Value.run (F := Ideal) m g)

/-- The sixth reference's arguments. -/
def dftArgs (m : (ℓ : Loc DftReferenceIdeal.nD DftReferenceIdeal.τ DftReferenceIdeal.sig) → Buf (Elt Ideal) ℓ) (c : Dev DftReferenceIdeal.nD) : DftReferenceIdeal.Value.Args where
  x := m ((c.tc : Thread DftReferenceIdeal.nD DftReferenceIdeal.τ).loc DftReferenceIdeal.main_arg0)
  f := m ((c.tc : Thread DftReferenceIdeal.nD DftReferenceIdeal.τ).loc DftReferenceIdeal.main_arg1)
  g := m ((c.tc : Thread DftReferenceIdeal.nD DftReferenceIdeal.τ).loc DftReferenceIdeal.main_arg2)
  cs := m ((c.tc : Thread DftReferenceIdeal.nD DftReferenceIdeal.τ).loc DftReferenceIdeal.main_arg3)

/-- The Fourier mixer: the kernel and the reference leave the same array. -/
theorem dft_algebraic : Cert.algebraic_DftIdeal_DftReferenceIdeal := by
  intro m g m' g' _ hargs
  refine ⟨fun c => (DftIdeal.Gen.dats m 0 c).arrAt 4 DftIdeal.cfg0.N, DftIdeal.Value.run_blocks m g,
    (θ_run DftReferenceIdeal.defs _ _).mono (fun r h c => ⟨(h c).1.trans ?_, (h c).2⟩) (DftReferenceIdeal.Value.run (F := Ideal) m' g')⟩
  obtain ⟨e0, e1, e2, e3⟩ := hargs c
  have hA : dftArgs m' c = DftIdeal.Join.args m c := by
    unfold dftArgs
    rw [e0, e1, e2, e3]
    rfl
  refine Eq.trans ?_ (DftIdeal.Join.arr_eq m c).symm
  exact (DftReferenceIdeal.Read.val_main_v24_eq _ _ _ _).trans ((DftIdeal.Join.ref_eq (dftArgs m' c)).trans (congrArg DftIdeal.Join.res hA))

/-- The seventh reference's run, the same way. -/
theorem merge_first_reference_frame : Cert.quiescent_MergeFirstReferenceIdeal := fun m g _ =>
  (θ_run MergeFirstReferenceIdeal.defs _ _).mono (fun r h => ⟨fun c => (h c).2, sem_eq_zero_of_no_sems (by decide) r.2⟩) (MergeFirstReferenceIdeal.Value.run (F := Ideal) m g)

/-- The seventh reference's arguments. -/
def mergeFirstArgs (m : (ℓ : Loc MergeFirstReferenceIdeal.nD MergeFirstReferenceIdeal.τ MergeFirstReferenceIdeal.sig) → Buf (Elt Ideal) ℓ) (c : Dev MergeFirstReferenceIdeal.nD) : MergeReferenceIdeal.Value.Args where
  x := m ((c.tc : Thread MergeFirstReferenceIdeal.nD MergeFirstReferenceIdeal.τ).loc MergeFirstReferenceIdeal.main_arg0)
  mod := m ((c.tc : Thread MergeFirstReferenceIdeal.nD MergeFirstReferenceIdeal.τ).loc MergeFirstReferenceIdeal.main_arg1)
  f := m ((c.tc : Thread MergeFirstReferenceIdeal.nD MergeFirstReferenceIdeal.τ).loc MergeFirstReferenceIdeal.main_arg2)
  cv := m ((c.tc : Thread MergeFirstReferenceIdeal.nD MergeFirstReferenceIdeal.τ).loc MergeFirstReferenceIdeal.main_arg3)
  at' := m ((c.tc : Thread MergeFirstReferenceIdeal.nD MergeFirstReferenceIdeal.τ).loc MergeFirstReferenceIdeal.main_arg4)
  gt := m ((c.tc : Thread MergeFirstReferenceIdeal.nD MergeFirstReferenceIdeal.τ).loc MergeFirstReferenceIdeal.main_arg5)
  cw := m ((c.tc : Thread MergeFirstReferenceIdeal.nD MergeFirstReferenceIdeal.τ).loc MergeFirstReferenceIdeal.main_arg6)
  wf := m ((c.tc : Thread MergeFirstReferenceIdeal.nD MergeFirstReferenceIdeal.τ).loc MergeFirstReferenceIdeal.main_arg7)
  wc := m ((c.tc : Thread MergeFirstReferenceIdeal.nD MergeFirstReferenceIdeal.τ).loc MergeFirstReferenceIdeal.main_arg8)
  wa := m ((c.tc : Thread MergeFirstReferenceIdeal.nD MergeFirstReferenceIdeal.τ).loc MergeFirstReferenceIdeal.main_arg9)
  wo := m ((c.tc : Thread MergeFirstReferenceIdeal.nD MergeFirstReferenceIdeal.τ).loc MergeFirstReferenceIdeal.main_arg10)
  n2 := m ((c.tc : Thread MergeFirstReferenceIdeal.nD MergeFirstReferenceIdeal.τ).loc MergeFirstReferenceIdeal.main_arg11)
  w1 := m ((c.tc : Thread MergeFirstReferenceIdeal.nD MergeFirstReferenceIdeal.τ).loc MergeFirstReferenceIdeal.main_arg12)
  w2 := m ((c.tc : Thread MergeFirstReferenceIdeal.nD MergeFirstReferenceIdeal.τ).loc MergeFirstReferenceIdeal.main_arg13)
  nf := m ((c.tc : Thread MergeFirstReferenceIdeal.nD MergeFirstReferenceIdeal.τ).loc MergeFirstReferenceIdeal.main_arg14)

/-- The first layer's end: the kernel and the reference leave the same array. -/
theorem merge_first_algebraic : Cert.algebraic_MergeFirstIdeal_MergeFirstReferenceIdeal := by
  intro m g m' g' _ hargs
  refine ⟨fun c => (MergeFirstIdeal.Gen.dats m 0 c).arrAt 17 MergeFirstIdeal.cfg0.N, MergeFirstIdeal.Value.run_blocks m g,
    (θ_run MergeFirstReferenceIdeal.defs _ _).mono (fun r h c => ⟨(h c).1.trans ?_, (h c).2⟩) (MergeFirstReferenceIdeal.Value.run (F := Ideal) m' g')⟩
  obtain ⟨e0, e1, e2, e3, e4, e5, e6, e7, e8, e9, e10, e11, e12, e13, e14⟩ := hargs c
  have hA : mergeFirstArgs m' c = MergeFirstIdeal.Join.args m c := by
    unfold mergeFirstArgs
    rw [e0, e1, e2, e3, e4, e5, e6, e7, e8, e9, e10, e11, e12, e13, e14]
    rfl
  refine (MergeFirstReferenceIdeal.Read.val_main_v99_eq m' c).trans ?_
  refine Eq.trans ?_ (MergeFirstIdeal.Join.arr_eq m c).symm
  exact (MergeFirstIdeal.Join.ref_eq (mergeFirstArgs m' c)).trans (congrArg MergeFirstIdeal.Join.res hA)

/-- All the claims. -/
theorem claim : Cert.Claim :=
  ⟨Kernel.Gen.facts, KernelIdeal.Gen.facts, ReferenceIdeal.Gen.facts, Merge.Gen.facts, MergeIdeal.Gen.facts, MergeReferenceIdeal.Gen.facts, Proj.Gen.facts, ProjIdeal.Gen.facts,
    ProjReferenceIdeal.Gen.facts, Modul.Gen.facts, ModulIdeal.Gen.facts, ModulReferenceIdeal.Gen.facts,
    Ctx.Gen.facts, CtxIdeal.Gen.facts, CtxReferenceIdeal.Gen.facts, Dft.Gen.facts, DftIdeal.Gen.facts, DftReferenceIdeal.Gen.facts,
    MergeFirst.Gen.facts, MergeFirstIdeal.Gen.facts, MergeFirstReferenceIdeal.Gen.facts, Pre_finite.Gen.facts, Pre_ctx_finite.Gen.facts,
    fun m g _ => Kernel.Gen.frame m g, fun m g _ => KernelIdeal.Gen.frame m g, fun m g _ => KernelIdeal.Gen.frame m g,
    fun m g _ => reference_frame m g, fun m g _ => reference_frame m g,
    fun m g _ => Merge.Gen.frame m g, fun m g _ => MergeIdeal.Gen.frame m g, merge_reference_frame,
    fun m g _ => Proj.Gen.frame m g, fun m g _ => ProjIdeal.Gen.frame m g, proj_reference_frame,
    fun m g _ => Modul.Gen.frame m g, fun m g _ => ModulIdeal.Gen.frame m g, modul_reference_frame,
    fun m g _ => Ctx.Gen.frame m g, fun m g _ => CtxIdeal.Gen.frame m g, fun m g _ => CtxIdeal.Gen.frame m g,
    ctx_reference_frame, fun m g _ => ctx_reference_frame m g trivial,
    fun m g _ => Dft.Gen.frame m g, fun m g _ => DftIdeal.Gen.frame m g, dft_reference_frame,
    fun m g _ => MergeFirst.Gen.frame m g, fun m g _ => MergeFirstIdeal.Gen.frame m g, merge_first_reference_frame,
    ⟨IdealRules.named_const.statement KernelIdeal.κ "mask" .f32 0xF149F2CA#32 _ rfl,
     IdealRules.named_const.statement KernelIdeal.κ "log2e" .f32 0x3FB8AA3B#32 _ rfl,
     IdealRules.named_const.statement KernelIdeal.κ "qscale" .f32 0x3E38AA3B#32 _ rfl⟩,
    algebraic, trivial, merge_algebraic, trivial, proj_algebraic, trivial, modul_algebraic,
    IdealRules.named_const.statement CtxIdeal.κ "qscale" .f32 0x3E38AA3B#32 _ rfl, ctx_algebraic, trivial, dft_algebraic, trivial, merge_first_algebraic⟩

end Cert.Proof

end
